-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxReferenceIdeal (m : (ℓ : Loc Cert.FfnCtxReferenceIdeal.nD Cert.FfnCtxReferenceIdeal.τ Cert.FfnCtxReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4)
      ∧ r.2.mem ((c.tc : Thread Cert.FfnFirstReferenceIdeal.nD Cert.FfnFirstReferenceIdeal.τ).loc Cert.FfnFirstReferenceIdeal.main_arg5) = m ((c.tc : Thread Cert.FfnFirstReferenceIdeal.nD Cert.FfnFirstReferenceIdeal.τ).loc Cert.FfnFirstReferenceIdeal.main_arg5)
      ∧ r.2.mem ((c.tc : Thread Cert.FfnFirstReferenceIdeal.nD Cert.FfnFirstReferenceIdeal.τ).loc Cert.FfnFirstReferenceIdeal.main_arg6) = m ((c.tc : Thread Cert.FfnFirstReferenceIdeal.nD Cert.FfnFirstReferenceIdeal.τ).loc Cert.FfnFirstReferenceIdeal.main_arg6))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5)
      ∧ r.2.mem ((c.tc : Thread Cert.FfnCtx.nD Cert.FfnCtx.τ).loc Cert.FfnCtx.main_arg6) = m ((c.tc : Thread Cert.FfnCtx.nD Cert.FfnCtx.τ).loc Cert.FfnCtx.main_arg6))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ r.2.sem = fun _ => 0)

def quiescent_FfnCtxReferenceIdeal [hFfnCtxReferenceIdeal : Cert.FfnCtxReferenceIdeal.Facts] : Prop :=
  ∀ (m : (ℓ : Loc Cert.FfnCtxReferenceIdeal.nD Cert.FfnCtxReferenceIdeal.τ Cert.FfnCtxReferenceIdeal.sig) → Buf (Elt Ideal) ℓ) (g : Dev Cert.FfnCtxReferenceIdeal.nD → PrngReg), Pre_FfnCtxReferenceIdeal m →
    θ_run (Cert.FfnCtxReferenceIdeal.defs (F := Ideal)) (onTc (τ := Cert.FfnCtxReferenceIdeal.τ) (Cert.FfnCtxReferenceIdeal.main (F := Ideal))) ⟨m, fun _ => 0, g⟩ (fun r => (∀ c : Dev Cert.FfnCtxReferenceIdeal.nD,
      r.2.mem ((c.tc : Thread Cert.FfnCtxReferenceIdeal.nD Cert.FfnCtxReferenceIdeal.τ).loc Cert.FfnCtxReferenceIdeal.main_arg0) = m ((c.tc : Thread Cert.FfnCtxReferenceIdeal.nD Cert.FfnCtxReferenceIdeal.τ).loc Cert.FfnCtxReferenceIdeal.main_arg0)
      ∧ r.2.mem ((c.tc : Thread Cert.FfnCtxReferenceIdeal.nD Cert.FfnCtxReferenceIdeal.τ).loc Cert.FfnCtxReferenceIdeal.main_arg1) = m ((c.tc : Thread Cert.FfnCtxReferenceIdeal.nD Cert.FfnCtxReferenceIdeal.τ).loc Cert.FfnCtxReferenceIdeal.main_arg1)
      ∧ r.2.mem ((c.tc : Thread Cert.FfnCtxReferenceIdeal.nD Cert.FfnCtxReferenceIdeal.τ).loc Cert.FfnCtxReferenceIdeal.main_arg2) = m ((c.tc : Thread Cert.FfnCtxReferenceIdeal.nD Cert.FfnCtxReferenceIdeal.τ).loc Cert.FfnCtxReferenceIdeal.main_arg2)
      ∧ r.2.mem ((c.tc : Thread Cert.FfnCtxReferenceIdeal.nD Cert.FfnCtxReferenceIdeal.τ).loc Cert.FfnCtxReferenceIdeal.main_arg3) = m ((c.tc : Thread Cert.FfnCtxReferenceIdeal.nD Cert.FfnCtxReferenceIdeal.τ).loc Cert.FfnCtxReferenceIdeal.main_arg3)
      ∧ r.2.mem ((c.tc : Thread Cert.FfnCtxReferenceIdeal.nD Cert.FfnCtxReferenceIdeal.τ).loc Cert.FfnCtxReferenceIdeal.main_arg4) = m ((c.tc : Thread Cert.FfnCtxReferenceIdeal.nD Cert.FfnCtxReferenceIdeal.τ).loc Cert.FfnCtxReferenceIdeal.main_arg4)
      ∧ r.2.mem ((c.tc : Thread Cert.FfnCtxReferenceIdeal.nD Cert.FfnCtxReferenceIdeal.τ).loc Cert.FfnCtxReferenceIdeal.main_arg5) = m ((c.tc : Thread Cert.FfnCtxReferenceIdeal.nD Cert.FfnCtxReferenceIdeal.τ).loc Cert.FfnCtxReferenceIdeal.main_arg5)
      ∧ r.2.mem ((c.tc : Thread Cert.FfnCtxReferenceIdeal.nD Cert.FfnCtxReferenceIdeal.τ).loc Cert.FfnCtxReferenceIdeal.main_arg6) = m ((c.tc : Thread Cert.FfnCtxReferenceIdeal.nD Cert.FfnCtxReferenceIdeal.τ).loc Cert.FfnCtxReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v58) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)
      ∧ m' ((c.tc : Thread Cert.FfnFirstReferenceIdeal.nD Cert.FfnFirstReferenceIdeal.τ).loc Cert.FfnFirstReferenceIdeal.main_arg5) = m ((c.tc : Thread Cert.FfnFirstIdeal.nD Cert.FfnFirstIdeal.τ).loc Cert.FfnFirstIdeal.main_arg5)
      ∧ m' ((c.tc : Thread Cert.FfnFirstReferenceIdeal.nD Cert.FfnFirstReferenceIdeal.τ).loc Cert.FfnFirstReferenceIdeal.main_arg6) = m ((c.tc : Thread Cert.FfnFirstIdeal.nD Cert.FfnFirstIdeal.τ).loc Cert.FfnFirstIdeal.main_arg6)) →
    ∃ (v0 : (c : Dev Cert.FfnFirstIdeal.nD) → Buf (Elt Ideal) ((c.tc : Thread Cert.FfnFirstIdeal.nD Cert.FfnFirstIdeal.τ).loc Cert.FfnFirstIdeal.main_v5)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v5) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v43) = v0 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4)
          ∧ r.2.mem ((c.tc : Thread Cert.FfnFirstReferenceIdeal.nD Cert.FfnFirstReferenceIdeal.τ).loc Cert.FfnFirstReferenceIdeal.main_arg5) = m' ((c.tc : Thread Cert.FfnFirstReferenceIdeal.nD Cert.FfnFirstReferenceIdeal.τ).loc Cert.FfnFirstReferenceIdeal.main_arg5)
          ∧ r.2.mem ((c.tc : Thread Cert.FfnFirstReferenceIdeal.nD Cert.FfnFirstReferenceIdeal.τ).loc Cert.FfnFirstReferenceIdeal.main_arg6) = m' ((c.tc : Thread Cert.FfnFirstReferenceIdeal.nD Cert.FfnFirstReferenceIdeal.τ).loc Cert.FfnFirstReferenceIdeal.main_arg6))

def preserves_FfnCtx_FfnCtxIdeal : Prop :=
  True

def algebraic_FfnCtxIdeal_FfnCtxReferenceIdeal [hFfnCtxIdeal : Cert.FfnCtxIdeal.Facts] [hFfnCtxReferenceIdeal : Cert.FfnCtxReferenceIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxReferenceIdeal.nD Cert.FfnCtxReferenceIdeal.τ Cert.FfnCtxReferenceIdeal.sig) → Buf (Elt Ideal) ℓ) (g' : Dev Cert.FfnCtxReferenceIdeal.nD → PrngReg), Pre_FfnCtxIdeal m →
    (∀ c : Dev Cert.FfnCtxIdeal.nD,
      m' ((c.tc : Thread Cert.FfnCtxReferenceIdeal.nD Cert.FfnCtxReferenceIdeal.τ).loc Cert.FfnCtxReferenceIdeal.main_arg0) = m ((c.tc : Thread Cert.FfnCtxIdeal.nD Cert.FfnCtxIdeal.τ).loc Cert.FfnCtxIdeal.main_arg0)
      ∧ m' ((c.tc : Thread Cert.FfnCtxReferenceIdeal.nD Cert.FfnCtxReferenceIdeal.τ).loc Cert.FfnCtxReferenceIdeal.main_arg1) = m ((c.tc : Thread Cert.FfnCtxIdeal.nD Cert.FfnCtxIdeal.τ).loc Cert.FfnCtxIdeal.main_arg1)
      ∧ m' ((c.tc : Thread Cert.FfnCtxReferenceIdeal.nD Cert.FfnCtxReferenceIdeal.τ).loc Cert.FfnCtxReferenceIdeal.main_arg2) = m ((c.tc : Thread Cert.FfnCtxIdeal.nD Cert.FfnCtxIdeal.τ).loc Cert.FfnCtxIdeal.main_arg2)
      ∧ m' ((c.tc : Thread Cert.FfnCtxReferenceIdeal.nD Cert.FfnCtxReferenceIdeal.τ).loc Cert.FfnCtxReferenceIdeal.main_arg3) = m ((c.tc : Thread Cert.FfnCtxIdeal.nD Cert.FfnCtxIdeal.τ).loc Cert.FfnCtxIdeal.main_arg3)
      ∧ m' ((c.tc : Thread Cert.FfnCtxReferenceIdeal.nD Cert.FfnCtxReferenceIdeal.τ).loc Cert.FfnCtxReferenceIdeal.main_arg4) = m ((c.tc : Thread Cert.FfnCtxIdeal.nD Cert.FfnCtxIdeal.τ).loc Cert.FfnCtxIdeal.main_arg4)
      ∧ m' ((c.tc : Thread Cert.FfnCtxReferenceIdeal.nD Cert.FfnCtxReferenceIdeal.τ).loc Cert.FfnCtxReferenceIdeal.main_arg5) = m ((c.tc : Thread Cert.FfnCtxIdeal.nD Cert.FfnCtxIdeal.τ).loc Cert.FfnCtxIdeal.main_arg5)
      ∧ m' ((c.tc : Thread Cert.FfnCtxReferenceIdeal.nD Cert.FfnCtxReferenceIdeal.τ).loc Cert.FfnCtxReferenceIdeal.main_arg6) = m ((c.tc : Thread Cert.FfnCtxIdeal.nD Cert.FfnCtxIdeal.τ).loc Cert.FfnCtxIdeal.main_arg6)) →
    ∃ (v0 : (c : Dev Cert.FfnCtxIdeal.nD) → Buf (Elt Ideal) ((c.tc : Thread Cert.FfnCtxIdeal.nD Cert.FfnCtxIdeal.τ).loc Cert.FfnCtxIdeal.main_v6)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v6) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
          ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ θ_run (Cert.FfnCtxReferenceIdeal.defs (F := Ideal)) (onTc (τ := Cert.FfnCtxReferenceIdeal.τ) (Cert.FfnCtxReferenceIdeal.main (F := Ideal))) ⟨m', fun _ => 0, g'⟩ (fun r => ∀ c : Dev Cert.FfnCtxReferenceIdeal.nD,
          r.2.mem ((c.tc : Thread Cert.FfnCtxReferenceIdeal.nD Cert.FfnCtxReferenceIdeal.τ).loc Cert.FfnCtxReferenceIdeal.main_v44) = v0 c
          ∧ r.2.mem ((c.tc : Thread Cert.FfnCtxReferenceIdeal.nD Cert.FfnCtxReferenceIdeal.τ).loc Cert.FfnCtxReferenceIdeal.main_arg0) = m' ((c.tc : Thread Cert.FfnCtxReferenceIdeal.nD Cert.FfnCtxReferenceIdeal.τ).loc Cert.FfnCtxReferenceIdeal.main_arg0)
          ∧ r.2.mem ((c.tc : Thread Cert.FfnCtxReferenceIdeal.nD Cert.FfnCtxReferenceIdeal.τ).loc Cert.FfnCtxReferenceIdeal.main_arg1) = m' ((c.tc : Thread Cert.FfnCtxReferenceIdeal.nD Cert.FfnCtxReferenceIdeal.τ).loc Cert.FfnCtxReferenceIdeal.main_arg1)
          ∧ r.2.mem ((c.tc : Thread Cert.FfnCtxReferenceIdeal.nD Cert.FfnCtxReferenceIdeal.τ).loc Cert.FfnCtxReferenceIdeal.main_arg2) = m' ((c.tc : Thread Cert.FfnCtxReferenceIdeal.nD Cert.FfnCtxReferenceIdeal.τ).loc Cert.FfnCtxReferenceIdeal.main_arg2)
          ∧ r.2.mem ((c.tc : Thread Cert.FfnCtxReferenceIdeal.nD Cert.FfnCtxReferenceIdeal.τ).loc Cert.FfnCtxReferenceIdeal.main_arg3) = m' ((c.tc : Thread Cert.FfnCtxReferenceIdeal.nD Cert.FfnCtxReferenceIdeal.τ).loc Cert.FfnCtxReferenceIdeal.main_arg3)
          ∧ r.2.mem ((c.tc : Thread Cert.FfnCtxReferenceIdeal.nD Cert.FfnCtxReferenceIdeal.τ).loc Cert.FfnCtxReferenceIdeal.main_arg4) = m' ((c.tc : Thread Cert.FfnCtxReferenceIdeal.nD Cert.FfnCtxReferenceIdeal.τ).loc Cert.FfnCtxReferenceIdeal.main_arg4)
          ∧ r.2.mem ((c.tc : Thread Cert.FfnCtxReferenceIdeal.nD Cert.FfnCtxReferenceIdeal.τ).loc Cert.FfnCtxReferenceIdeal.main_arg5) = m' ((c.tc : Thread Cert.FfnCtxReferenceIdeal.nD Cert.FfnCtxReferenceIdeal.τ).loc Cert.FfnCtxReferenceIdeal.main_arg5)
          ∧ r.2.mem ((c.tc : Thread Cert.FfnCtxReferenceIdeal.nD Cert.FfnCtxReferenceIdeal.τ).loc Cert.FfnCtxReferenceIdeal.main_arg6) = m' ((c.tc : Thread Cert.FfnCtxReferenceIdeal.nD Cert.FfnCtxReferenceIdeal.τ).loc Cert.FfnCtxReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v119) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v45) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFirst : Cert.FfnFirst.Facts) (hFfnFirstIdeal : Cert.FfnFirstIdeal.Facts) (hFfnFirstReferenceIdeal : Cert.FfnFirstReferenceIdeal.Facts) (hFfnCtx : Cert.FfnCtx.Facts) (hFfnCtxIdeal : Cert.FfnCtxIdeal.Facts) (hFfnCtxReferenceIdeal : Cert.FfnCtxReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_FfnCtx (hFfnCtx := hFfnCtx)
    ∧ quiescent_FfnCtxIdeal (hFfnCtxIdeal := hFfnCtxIdeal)
    ∧ quiescent_FfnCtxReferenceIdeal (hFfnCtxReferenceIdeal := hFfnCtxReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_FfnCtx_FfnCtxIdeal
    ∧ algebraic_FfnCtxIdeal_FfnCtxReferenceIdeal (hFfnCtxIdeal := hFfnCtxIdeal) (hFfnCtxReferenceIdeal := hFfnCtxReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
-- ==== Pre_finite_scores.lean ====
abbrev S4x4096x11264 : Shape := ⟨3, ![4, 4096, 11264]⟩
abbrev S4x256x3072 : Shape := ⟨3, ![4, 256, 3072]⟩
abbrev S4x4096x2560 : Shape := ⟨3, ![4, 4096, 2560]⟩
abbrev S_ : Shape := ⟨0, ![]⟩
abbrev S4x256x512 : Shape := ⟨3, ![4, 256, 512]⟩

class Facts : Prop where
  slices_S4x4096x11264_S4x4096x2560_0_0_0 : S4x4096x11264.Slices ![0, 0, 0] S4x4096x2560
  bitsLt_bf16_f32 : FTy.bits .bf16 < FTy.bits .f32
  bcast_S_S4x4096x2560 : S_.BroadcastsInDim S4x4096x2560 (![] : Fin 0 → Fin S4x4096x2560.rank)
  slices_S4x256x3072_S4x256x512_0_0_0 : S4x256x3072.Slices ![0, 0, 0] S4x256x512
  bcast_S_S4x256x512 : S_.BroadcastsInDim S4x256x512 (![] : Fin 0 → Fin S4x256x512.rank)
  reducesTo_S4x4096x2560_S_d0_1_2 : S4x4096x2560.ReducesTo [0, 1, 2] S_
  h_S_ : 0 < S_.numel
  reducesTo_S4x256x512_S_d0_1_2 : S4x256x512.ReducesTo [0, 1, 2] S_

variable [Facts]

def fn {F : FTy → Type} [FloatOps F] (main_arg0 : FVec F S4x4096x11264 .bf16) (main_arg1 : FVec F S4x256x3072 .bf16) : IVec S_ 1 :=
  let main_v0 : FVec F S4x4096x2560 .bf16 := (extractStridedSlice S4x4096x2560 ![0, 0, 0] · slices_S4x4096x11264_S4x4096x2560_0_0_0) main_arg0
  let main_v1 : FVec F S4x4096x2560 .f32 := (extf .f32 · bitsLt_bf16_f32) main_v0
  let main_v2 : FVec F S4x4096x2560 .f32 := Host.absf main_v1
  let main_cst : FVec F S_ .f32 := constant S_ .f32 0x7F800000#32
  let main_v3 : FVec F S4x4096x2560 .f32 := broadcastInDim S4x4096x2560 ![] bcast_S_S4x4096x2560 main_cst
  let main_v4 : IVec S4x4096x2560 1 := cmpf .olt main_v2 main_v3
  let main_v5 : FVec F S4x256x512 .bf16 := (extractStridedSlice S4x256x512 ![0, 0, 0] · slices_S4x256x3072_S4x256x512_0_0_0) main_arg1
  let main_v6 : FVec F S4x256x512 .f32 := (extf .f32 · bitsLt_bf16_f32) main_v5
  let main_v7 : FVec F S4x256x512 .f32 := Host.absf main_v6
  let main_cst_0 : FVec F S_ .f32 := constant S_ .f32 0x7F800000#32
  let main_v8 : FVec F S4x256x512 .f32 := broadcastInDim S4x256x512 ![] bcast_S_S4x256x512 main_cst_0
  let main_v9 : IVec S4x256x512 1 := cmpf .olt main_v7 main_v8
  let main_c : IVec S_ 1 := constantI S_ 1 1#1
  let main_v10 : IVec S_ 1 := (fun x v => Host.reduce IntOp.andi x v reducesTo_S4x4096x2560_S_d0_1_2 h_S_) main_v4 main_c
  let main_c_1 : IVec S_ 1 := constantI S_ 1 1#1
  let main_v11 : IVec S_ 1 := (fun x v => Host.reduce IntOp.andi x v reducesTo_S4x256x512_S_d0_1_2 h_S_) main_v9 main_c_1
  let main_v12 : IVec S_ 1 := andi main_v10 main_v11
  main_v12
-- ==== Kernel.lean ====
abbrev S4x4096x11264 : Shape := ⟨3, ![4, 4096, 11264]⟩
abbrev S4x256x3072 : Shape := ⟨3, ![4, 256, 3072]⟩
abbrev S_ : Shape := ⟨0, ![]⟩
abbrev S4x4096x2048 : Shape := ⟨3, ![4, 4096, 2048]⟩
abbrev S4x4096x9216 : Shape := ⟨3, ![4, 4096, 9216]⟩
abbrev S1x1024x512 : Shape := ⟨3, ![1, 1024, 512]⟩
abbrev S1x256x256 : Shape := ⟨3, ![1, 256, 256]⟩
abbrev S1x4096x128 : Shape := ⟨3, ![1, 4096, 128]⟩
abbrev S1x256x128 : Shape := ⟨3, ![1, 256, 128]⟩
abbrev S128x4096 : Shape := ⟨2, ![128, 4096]⟩
abbrev S128x256 : Shape := ⟨2, ![128, 256]⟩
abbrev S2x4352x512 : Shape := ⟨3, ![2, 4352, 512]⟩
abbrev S2x1x512 : Shape := ⟨3, ![2, 1, 512]⟩
abbrev S4096x128 : Shape := ⟨2, ![4096, 128]⟩
abbrev S256x128 : Shape := ⟨2, ![256, 128]⟩
abbrev S512x128 : Shape := ⟨2, ![512, 128]⟩
abbrev S256x512 : Shape := ⟨2, ![256, 512]⟩
abbrev S1x256x512 : Shape := ⟨3, ![1, 256, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S1x1x512 : Shape := ⟨3, ![1, 1, 512]⟩
abbrev S128x512 : Shape := ⟨2, ![128, 512]⟩

abbrev nBuf : Space → Nat
  | .hbm => 17
  | .vmem => 18
  | .smem => 0
  | _ => 0

abbrev bufTy : (tb : Table) → Fin (tcTables nBuf tb) → BufTy
  | .hbm, ⟨0, _⟩ => ⟨S4x4096x11264, .bf16⟩
  | .hbm, ⟨1, _⟩ => ⟨S4x256x3072, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x2048, .bf16⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .bf16⟩
  | .hbm, ⟨14, _⟩ => ⟨S4x4096x9216, .bf16⟩
  | .hbm, ⟨15, _⟩ => ⟨S4x4096x11264, .bf16⟩
  | .hbm, ⟨16, _⟩ => ⟨S4x4096x2048, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x1024x512, .bf16⟩
  | .local _ .vmem, ⟨13, _⟩ => ⟨S1x1024x512, .bf16⟩
  | .local _ .vmem, ⟨14, _⟩ => ⟨S128x4096, .bf16⟩
  | .local _ .vmem, ⟨15, _⟩ => ⟨S128x256, .bf16⟩
  | .local _ .vmem, ⟨16, _⟩ => ⟨S2x4352x512, .f32⟩
  | .local _ .vmem, ⟨17, _⟩ => ⟨S2x1x512, .f32⟩
  | _, _ => ⟨S4x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c3_i32 : BitVec 32 := 3#32
  let v1 : BitVec 32 := Scalar.minsi v0 c3_i32
  let c4_i32 : BitVec 32 := 4#32
  let v2 : BitVec 32 := Scalar.muli v1 c4_i32
  let c2_i32 : BitVec 32 := 2#32
  let v3 : BitVec 32 := Scalar.muli c2_i32 arg1
  let c0_i32 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x4096x11264 : Shape := ⟨3, ![4, 4096, 11264]⟩
abbrev S4x256x3072 : Shape := ⟨3, ![4, 256, 3072]⟩
abbrev S4x4096x2048 : Shape := ⟨3, ![4, 4096, 2048]⟩
abbrev S4x4096x16x128 : Shape := ⟨4, ![4, 4096, 16, 128]⟩
abbrev S4x16x4096x128 : Shape := ⟨4, ![4, 16, 4096, 128]⟩
abbrev S4x4x4x4096x128 : Shape := ⟨5, ![4, 4, 4, 4096, 128]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x256x512 : Shape := ⟨3, ![4, 256, 512]⟩
abbrev S4x256x4x128 : Shape := ⟨4, ![4, 256, 4, 128]⟩
abbrev S4x4x256x128 : Shape := ⟨4, ![4, 4, 256, 128]⟩
abbrev S4x4x4352x128 : Shape := ⟨4, ![4, 4, 4352, 128]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4096x4x4x128 : Shape := ⟨5, ![4, 4096, 4, 4, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x11264, .bf16⟩
  | .hbm, ⟨1, _⟩ => ⟨S4x256x3072, .bf16⟩
  | .hbm, ⟨2, _⟩ => ⟨S4x4096x11264, .f32⟩
  | .hbm, ⟨3, _⟩ => ⟨S4x256x3072, .f32⟩
  | .hbm, ⟨4, _⟩ => ⟨S4x4096x2048, .f32⟩
  | .hbm, ⟨5, _⟩ => ⟨S4x4096x16x128, .f32⟩
  | .hbm, ⟨6, _⟩ => ⟨S4x16x4096x128, .f32⟩
  | .hbm, ⟨7, _⟩ => ⟨S4x4x4x4096x128, .f32⟩
  | .hbm, ⟨8, _⟩ => ⟨S4x4096x512, .f32⟩
  | .hbm, ⟨9, _⟩ => ⟨S4x4096x4x128, .f32⟩
  | .hbm, ⟨10, _⟩ => ⟨S4x4x4096x128, .f32⟩
  | .hbm, ⟨11, _⟩ => ⟨S4x4096x512, .f32⟩
  | .hbm, ⟨12, _⟩ => ⟨S4x4096x4x128, .f32⟩
  | .hbm, ⟨13, _⟩ => ⟨S4x4x4096x128, .f32⟩
  | .hbm, ⟨14, _⟩ => ⟨S4x256x512, .f32⟩
  | .hbm, ⟨15, _⟩ => ⟨S4x256x4x128, .f32⟩
  | .hbm, ⟨16, _⟩ => ⟨S4x4x256x128, .f32⟩
  | .hbm, ⟨17, _⟩ => ⟨S4x256x512, .f32⟩
  | .hbm, ⟨18, _⟩ => ⟨S4x256x4x128, .f32⟩
  | .hbm, ⟨19, _⟩ => ⟨S4x4x256x128, .f32⟩
  | .hbm, ⟨20, _⟩ => ⟨S4x4x4352x128, .f32⟩
  | .hbm, ⟨21, _⟩ => ⟨S4x4x4352x128, .f32⟩
  | .hbm, ⟨22, _⟩ => ⟨S4x4x4x4096x4352, .f32⟩
  | .hbm, ⟨23, _⟩ => ⟨S_, .f32⟩
  | .hbm, ⟨24, _⟩ => ⟨S_, .f32⟩
  | .hbm, ⟨25, _⟩ => ⟨S4x4x4x4096x4352, .f32⟩
  | .hbm, ⟨26, _⟩ => ⟨S4x4x4x4096x4352, .f32⟩
  | .hbm, ⟨27, _⟩ => ⟨S_, .f32⟩
  | .hbm, ⟨28, _⟩ => ⟨S4x4x4x4096, .f32⟩
  | .hbm, ⟨29, _⟩ => ⟨S_, .f32⟩
  | .hbm, ⟨30, _⟩ => ⟨S4x4x4x4096, .f32⟩
  | .hbm, ⟨31, _⟩ => ⟨S4x4x4x4096, .f32⟩
  | .hbm, ⟨32, _⟩ => ⟨S4x4x4x4096x1, .f32⟩
  | .hbm, ⟨33, _⟩ => ⟨S4x4x4x4096x4352, .f32⟩
  | .hbm, ⟨34, _⟩ => ⟨S4x4x4x4096x4352, .f32⟩
  | .hbm, ⟨35, _⟩ => ⟨S4x4x4x4096x4352, .f32⟩
  | .hbm, ⟨36, _⟩ => ⟨S_, .f32⟩
  | .hbm, ⟨37, _⟩ => ⟨S4x4x4x4096, .f32⟩
  | .hbm, ⟨38, _⟩ => ⟨S4x4x4x4096x1, .f32⟩
  | .hbm, ⟨39, _⟩ => ⟨S4x4x4x4096x4352, .f32⟩
  | .hbm, ⟨40, _⟩ => ⟨S4x4x4x4096x4352, .f32⟩
  | .hbm, ⟨41, _⟩ => ⟨S4x4x4x4096x128, .f32⟩
  | .hbm, ⟨42, _⟩ => ⟨S4x4096x4x4x128, .f32⟩
  | .hbm, ⟨43, _⟩ => ⟨S4x4096x2048, .f32⟩
  | .hbm, ⟨44, _⟩ => ⟨S4x4096x2048, .bf16⟩
  | _, _ => ⟨S4x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Ffn.lean ====
abbrev S4x4096x2048 : Shape := ⟨3, ![4, 4096, 2048]⟩
abbrev S8x9x2048 : Shape := ⟨3, ![8, 9, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1x512x2048 : Shape := ⟨3, ![1, 512, 2048]⟩
abbrev S1x9x2048 : Shape := ⟨3, ![1, 9, 2048]⟩
abbrev S1x2048x512 : Shape := ⟨3, ![1, 2048, 512]⟩
abbrev S512x2048 : Shape := ⟨2, ![512, 2048]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S8x9x2048, .f32⟩
  | .hbm, ⟨3, _⟩ => ⟨S2048, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S2048, .f32⟩
  | .hbm, ⟨8, _⟩ => ⟨S2x2048x5632, .bf16⟩
  | .hbm, ⟨9, _⟩ => ⟨S2x2048x5632, .bf16⟩
  | .hbm, ⟨10, _⟩ => ⟨S2x5632x2048, .bf16⟩
  | .hbm, ⟨11, _⟩ => ⟨S1x2048, .f32⟩
  | .hbm, ⟨12, _⟩ => ⟨S1x2048, .f32⟩
  | .hbm, ⟨13, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S1x9x2048, .f32⟩
  | .local _ .vmem, ⟨5, _⟩ => ⟨S1x9x2048, .f32⟩
  | .local _ .vmem, ⟨6, _⟩ => ⟨S1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x2048, .f32⟩
  | .local _ .vmem, ⟨14, _⟩ => ⟨S1x512x2048, .f32⟩
  | .local _ .vmem, ⟨15, _⟩ => ⟨S1x512x2048, .f32⟩
  | .local _ .vmem, ⟨16, _⟩ => ⟨S512x2048, .bf16⟩
  | .local _ .vmem, ⟨17, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_27 : BitVec 32 := 0#32
  let c32_i32 : BitVec 32 := 32#32
  let v37 : BitVec 32 := Scalar.addi c0_i32_27 c32_i32
  let c1_i32 : BitVec 32 := 1#32
  ⟨c0_i32_27, v37, c1_i32⟩
def k0_mult1 (k0_t1 : Fin k0_t1_loop.trips) : BitVec 32 :=
  let c0_i32_27 : BitVec 32 := 0#32
  let c1_i32 : BitVec 32 := 1#32
  let arg14 : BitVec 32 := Scf.iv c0_i32_27 c1_i32 k0_t1
  let c16_i32 : BitVec 32 := 16#32
  let v38 : BitVec 32 := Scalar.muli arg14 c16_i32
  v38
def k0_off1 (k0_t1 : Fin k0_t1_loop.trips) : Fin 3 → Nat :=
  let c0_29 : Index := 0#32
  let c0_i32_27 : BitVec 32 := 0#32
  let c1_i32 : BitVec 32 := 1#32
  let arg14 : BitVec 32 := Scf.iv c0_i32_27 c1_i32 k0_t1
  let c16_i32 : BitVec 32 := 16#32
  let v38 : BitVec 32 := Scalar.muli arg14 c16_i32
  let v39 : BitVec 32 := v38
  let v40 : Index := Scalar.indexCast v39
  let c0_30 : Index := 0#32
  ![0, v40.toNat, 0]
def k0_off2 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c16_i32 : BitVec 32 := 16#32
  let v38 : BitVec 32 := Scalar.muli arg14 c16_i32
  let v39 : BitVec 32 := v38
  let v63 : Index := Scalar.indexCast v39
  let c0_36 : Index := 0#32
  ![v63.toNat, 0]
def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_19 : BitVec 32 := 0#32
  let v27 : BitVec 1 := Scalar.cmpi .ne v26 c0_i32_19
  v27

@[reducible] def k0_t2_loop : Scf.Loop 32 :=
  let c0_i32_23 : BitVec 32 := 0#32
  let c32_i32 : BitVec 32 := 32#32
  let v32 : BitVec 32 := Scalar.addi c0_i32_23 c32_i32
  let c1_i32 : BitVec 32 := 1#32
  ⟨c0_i32_23, v32, c1_i32⟩
def k0_mult2 (k0_t2 : Fin k0_t2_loop.trips) : BitVec 32 :=
  let c0_i32_23 : BitVec 32 := 0#32
  let c1_i32 : BitVec 32 := 1#32
  let arg14 : BitVec 32 := Scf.iv c0_i32_23 c1_i32 k0_t2
  let c16_i32 : BitVec 32 := 16#32
  let v33 : BitVec 32 := Scalar.muli arg14 c16_i32
  v33
def k0_off3 (k0_t2 : Fin k0_t2_loop.trips) : Fin 3 → Nat :=
  let c0_25 : Index := 0#32
  let c0_i32_23 : BitVec 32 := 0#32
  let c1_i32 : BitVec 32 := 1#32
  let arg14 : BitVec 32 := Scf.iv c0_i32_23 c1_i32 k0_t2
  let c16_i32 : BitVec 32 := 16#32
  let v33 : BitVec 32 := Scalar.muli arg14 c16_i32
  let v34 : BitVec 32 := v33
  let v35 : Index := Scalar.indexCast v34
  let c0_26 : Index := 0#32
  ![0, v35.toNat, 0]
def k0_off4 (k0_t2 : Fin k0_t2_loop.trips) : Fin 2 → Nat :=
  let c0_i32_23 : BitVec 32 := 0#32
  let c1_i32 : BitVec 32 := 1#32
  let arg14 : BitVec 32 := Scf.iv c0_i32_23 c1_i32 k0_t2
  let c16_i32 : BitVec 32 := 16#32
  let v33 : BitVec 32 := Scalar.muli arg14 c16_i32
  let v34 : BitVec 32 := v33
  let v43 : Index := Scalar.indexCast v34
  let c0_29 : Index := 0#32
  ![v43.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnReferenceIdeal.lean ====
abbrev S4x4096x2048 : Shape := ⟨3, ![4, 4096, 2048]⟩
abbrev S8x9x2048 : Shape := ⟨3, ![8, 9, 2048]⟩
abbrev S2048 : Shape := ⟨1, ![2048]⟩
abbrev S2x2048x5632 : Shape := ⟨3, ![2, 2048, 5632]⟩
abbrev S2x5632x2048 : Shape := ⟨3, ![2, 5632, 2048]⟩
abbrev S4x1x2048 : Shape := ⟨3, ![4, 1, 2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x4096x5632 : Shape := ⟨3, ![4, 4096, 5632]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S8x9x2048, .f32⟩
  | .hbm, ⟨3, _⟩ => ⟨S2048, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S2048, .f32⟩
  | .hbm, ⟨8, _⟩ => ⟨S4x1x2048, .f32⟩
  | .hbm, ⟨9, _⟩ => ⟨S4x2048, .f32⟩
  | .hbm, ⟨10, _⟩ => ⟨S4x1x2048, .f32⟩
  | .hbm, ⟨11, _⟩ => ⟨S4x1x2048, .f32⟩
  | .hbm, ⟨12, _⟩ => ⟨S4x2048, .f32⟩
  | .hbm, ⟨13, _⟩ => ⟨S4x1x2048, .f32⟩
  | .hbm, ⟨14, _⟩ => ⟨S4x1x2048, .f32⟩
  | .hbm, ⟨15, _⟩ => ⟨S4x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x1x2048, .f32⟩
  | .hbm, ⟨21, _⟩ => ⟨S4x1x2048, .f32⟩
  | .hbm, ⟨22, _⟩ => ⟨S4x4096x2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x1x2048, .f32⟩
  | .hbm, ⟨40, _⟩ => ⟨S4x1x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S1x2048x5632, .f32⟩
  | .hbm, ⟨46, _⟩ => ⟨S2048x5632, .f32⟩
  | .hbm, ⟨47, _⟩ => ⟨S1x2048x5632, .f32⟩
  | .hbm, ⟨48, _⟩ => ⟨S2048x5632, .f32⟩
  | .hbm, ⟨49, _⟩ => ⟨S1x5632x2048, .f32⟩
  | .hbm, ⟨50, _⟩ => ⟨S5632x2048, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S_, .f32⟩
  | .hbm, ⟨55, _⟩ => ⟨S4x4096x5632, .f32⟩
  | .hbm, ⟨56, _⟩ => ⟨S4x4096x5632, .f32⟩
  | .hbm, ⟨57, _⟩ => ⟨S_, .f32⟩
  | .hbm, ⟨58, _⟩ => ⟨S4x4096x5632, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S4x4096x5632, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x2048, .f32⟩
  | .hbm, ⟨79, _⟩ => ⟨S4x4096x2048, .f32⟩
  | .hbm, ⟨80, _⟩ => ⟨S1x1x2048, .f32⟩
  | .hbm, ⟨81, _⟩ => ⟨S4x4096x2048, .f32⟩
  | .hbm, ⟨82, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== FfnFirst.lean ====
abbrev S4x4096x2048 : Shape := ⟨3, ![4, 4096, 2048]⟩
abbrev S8x9x2048 : Shape := ⟨3, ![8, 9, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1x512x2048 : Shape := ⟨3, ![1, 512, 2048]⟩
abbrev S1x9x2048 : Shape := ⟨3, ![1, 9, 2048]⟩
abbrev S1x2048x512 : Shape := ⟨3, ![1, 2048, 512]⟩
abbrev S512x2048 : Shape := ⟨2, ![512, 2048]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S8x9x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S2048, .f32⟩
  | .hbm, ⟨7, _⟩ => ⟨S2x2048x5632, .bf16⟩
  | .hbm, ⟨8, _⟩ => ⟨S2x2048x5632, .bf16⟩
  | .hbm, ⟨9, _⟩ => ⟨S2x5632x2048, .bf16⟩
  | .hbm, ⟨10, _⟩ => ⟨S1x2048, .f32⟩
  | .hbm, ⟨11, _⟩ => ⟨S1x2048, .f32⟩
  | .hbm, ⟨12, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x2048, .f32⟩
  | .local _ .vmem, ⟨12, _⟩ => ⟨S1x512x2048, .f32⟩
  | .local _ .vmem, ⟨13, _⟩ => ⟨S1x512x2048, .f32⟩
  | .local _ .vmem, ⟨14, _⟩ => ⟨S512x2048, .bf16⟩
  | .local _ .vmem, ⟨15, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c32_i32 : BitVec 32 := 32#32
  let v37 : BitVec 32 := Scalar.addi c0_i32_28 c32_i32
  let c1_i32 : BitVec 32 := 1#32
  ⟨c0_i32_28, v37, c1_i32⟩
def k0_mult1 (k0_t1 : Fin k0_t1_loop.trips) : BitVec 32 :=
  let c0_i32_28 : BitVec 32 := 0#32
  let c1_i32 : BitVec 32 := 1#32
  let arg13 : BitVec 32 := Scf.iv c0_i32_28 c1_i32 k0_t1
  let c16_i32 : BitVec 32 := 16#32
  let v38 : BitVec 32 := Scalar.muli arg13 c16_i32
  v38
def k0_off1 (k0_t1 : Fin k0_t1_loop.trips) : Fin 3 → Nat :=
  let c0_30 : Index := 0#32
  let c0_i32_28 : BitVec 32 := 0#32
  let c1_i32 : BitVec 32 := 1#32
  let arg13 : BitVec 32 := Scf.iv c0_i32_28 c1_i32 k0_t1
  let c16_i32 : BitVec 32 := 16#32
  let v38 : BitVec 32 := Scalar.muli arg13 c16_i32
  let v39 : BitVec 32 := v38
  let v40 : Index := Scalar.indexCast v39
  let c0_31 : Index := 0#32
  ![0, v40.toNat, 0]
def k0_off2 (k0_t1 : Fin k0_t1_loop.trips) : Fin 2 → Nat :=
  let c0_i32_28 : BitVec 32 := 0#32
  let c1_i32 : BitVec 32 := 1#32
  let arg13 : BitVec 32 := Scf.iv c0_i32_28 c1_i32 k0_t1
  let c16_i32 : BitVec 32 := 16#32
  let v38 : BitVec 32 := Scalar.muli arg13 c16_i32
  let v39 : BitVec 32 := v38
  let v58 : Index := Scalar.indexCast v39
  let c0_35 : Index := 0#32
  ![v58.toNat, 0]
def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_19 : BitVec 32 := 0#32
  let v27 : BitVec 1 := Scalar.cmpi .ne v26 c0_i32_19
  v27

@[reducible] def k0_t2_loop : Scf.Loop 32 :=
  let c0_i32_23 : BitVec 32 := 0#32
  let c32_i32 : BitVec 32 := 32#32
  let v32 : BitVec 32 := Scalar.addi c0_i32_23 c32_i32
  let c1_i32 : BitVec 32 := 1#32
  ⟨c0_i32_23, v32, c1_i32⟩
def k0_mult2 (k0_t2 : Fin k0_t2_loop.trips) : BitVec 32 :=
  let c0_i32_23 : BitVec 32 := 0#32
  let c1_i32 : BitVec 32 := 1#32
  let arg13 : BitVec 32 := Scf.iv c0_i32_23 c1_i32 k0_t2
  let c16_i32 : BitVec 32 := 16#32
  let v33 : BitVec 32 := Scalar.muli arg13 c16_i32
  v33
def k0_off3 (k0_t2 : Fin k0_t2_loop.trips) : Fin 3 → Nat :=
  let c0_25 : Index := 0#32
  let c0_i32_23 : BitVec 32 := 0#32
  let c1_i32 : BitVec 32 := 1#32
  let arg13 : BitVec 32 := Scf.iv c0_i32_23 c1_i32 k0_t2
  let c16_i32 : BitVec 32 := 16#32
  let v33 : BitVec 32 := Scalar.muli arg13 c16_i32
  let v34 : BitVec 32 := v33
  let v35 : Index := Scalar.indexCast v34
  let c0_26 : Index := 0#32
  ![0, v35.toNat, 0]
def k0_off4 (k0_t2 : Fin k0_t2_loop.trips) : Fin 2 → Nat :=
  let c0_i32_23 : BitVec 32 := 0#32
  let c1_i32 : BitVec 32 := 1#32
  let arg13 : BitVec 32 := Scf.iv c0_i32_23 c1_i32 k0_t2
  let c16_i32 : BitVec 32 := 16#32
  let v33 : BitVec 32 := Scalar.muli arg13 c16_i32
  let v34 : BitVec 32 := v33
  let v38 : Index := Scalar.indexCast v34
  let c0_27 : Index := 0#32
  ![v38.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnFirstReferenceIdeal.lean ====
abbrev S4x4096x2048 : Shape := ⟨3, ![4, 4096, 2048]⟩
abbrev S8x9x2048 : Shape := ⟨3, ![8, 9, 2048]⟩
abbrev S2048 : Shape := ⟨1, ![2048]⟩
abbrev S2x2048x5632 : Shape := ⟨3, ![2, 2048, 5632]⟩
abbrev S2x5632x2048 : Shape := ⟨3, ![2, 5632, 2048]⟩
abbrev S4x1x2048 : Shape := ⟨3, ![4, 1, 2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x4096x5632 : Shape := ⟨3, ![4, 4096, 5632]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x9x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x2048, .f32⟩
  | .hbm, ⟨15, _⟩ => ⟨S4x1x2048, .f32⟩
  | .hbm, ⟨16, _⟩ => ⟨S_, .f32⟩
  | .hbm, ⟨17, _⟩ => ⟨S4x1x2048, .f32⟩
  | .hbm, ⟨18, _⟩ => ⟨S4x1x2048, .f32⟩
  | .hbm, ⟨19, _⟩ => ⟨S4x4096x2048, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x2048, .f32⟩
  | .hbm, ⟨31, _⟩ => ⟨S4x4096x2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S1x2048x5632, .f32⟩
  | .hbm, ⟨43, _⟩ => ⟨S2048x5632, .f32⟩
  | .hbm, ⟨44, _⟩ => ⟨S1x2048x5632, .f32⟩
  | .hbm, ⟨45, _⟩ => ⟨S2048x5632, .f32⟩
  | .hbm, ⟨46, _⟩ => ⟨S1x5632x2048, .f32⟩
  | .hbm, ⟨47, _⟩ => ⟨S5632x2048, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S_, .f32⟩
  | .hbm, ⟨52, _⟩ => ⟨S4x4096x5632, .f32⟩
  | .hbm, ⟨53, _⟩ => ⟨S4x4096x5632, .f32⟩
  | .hbm, ⟨54, _⟩ => ⟨S_, .f32⟩
  | .hbm, ⟨55, _⟩ => ⟨S4x4096x5632, .f32⟩
  | .hbm, ⟨56, _⟩ => ⟨S4x4096x5632, .f32⟩
  | .hbm, ⟨57, _⟩ => ⟨S4x4096x5632, .f32⟩
  | .hbm, ⟨58, _⟩ => ⟨S4x4096x5632, .f32⟩
  | .hbm, ⟨59, _⟩ => ⟨S4x4096x5632, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== FfnCtx.lean ====
abbrev S4x256x2048 : Shape := ⟨3, ![4, 256, 2048]⟩
abbrev S8x9x2048 : Shape := ⟨3, ![8, 9, 2048]⟩
abbrev S2048 : Shape := ⟨1, ![2048]⟩
abbrev S2x2048x5632 : Shape := ⟨3, ![2, 2048, 5632]⟩
abbrev S2x5632x2048 : Shape := ⟨3, ![2, 5632, 2048]⟩
abbrev S1x1024x2048 : Shape := ⟨3, ![1, 1024, 2048]⟩
abbrev S1x2048 : Shape := ⟨2, ![1, 2048]⟩
abbrev S1x512x2048 : Shape := ⟨3, ![1, 512, 2048]⟩
abbrev S1x9x2048 : Shape := ⟨3, ![1, 9, 2048]⟩
abbrev S1x2048x512 : Shape := ⟨3, ![1, 2048, 512]⟩
abbrev S512x2048 : Shape := ⟨2, ![512, 2048]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩

abbrev nBuf : Space → Nat
  | .hbm => 14
  | .vmem => 15
  | .smem => 0
  | _ => 0

abbrev bufTy : (tb : Table) → Fin (tcTables nBuf tb) → BufTy
  | .hbm, ⟨0, _⟩ => ⟨S4x256x2048, .f32⟩
  | .hbm, ⟨1, _⟩ => ⟨S8x9x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S2048, .f32⟩
  | .hbm, ⟨7, _⟩ => ⟨S2x2048x5632, .bf16⟩
  | .hbm, ⟨8, _⟩ => ⟨S2x2048x5632, .bf16⟩
  | .hbm, ⟨9, _⟩ => ⟨S2x5632x2048, .bf16⟩
  | .hbm, ⟨10, _⟩ => ⟨S1x1024x2048, .f32⟩
  | .hbm, ⟨11, _⟩ => ⟨S1x2048, .f32⟩
  | .hbm, ⟨12, _⟩ => ⟨S1x2048, .f32⟩
  | .hbm, ⟨13, _⟩ => ⟨S1x1024x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x9x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | .local _ .vmem, ⟨13, _⟩ => ⟨S512x2048, .bf16⟩
  | .local _ .vmem, ⟨14, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![1, 2, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c32_i32 : BitVec 32 := 32#32
  let v37 : BitVec 32 := Scalar.addi c0_i32_28 c32_i32
  let c1_i32 : BitVec 32 := 1#32
  ⟨c0_i32_28, v37, c1_i32⟩
def k0_mult1 (k0_t1 : Fin k0_t1_loop.trips) : BitVec 32 :=
  let c0_i32_28 : BitVec 32 := 0#32
  let c1_i32 : BitVec 32 := 1#32
  let arg13 : BitVec 32 := Scf.iv c0_i32_28 c1_i32 k0_t1
  let c16_i32 : BitVec 32 := 16#32
  let v38 : BitVec 32 := Scalar.muli arg13 c16_i32
  v38
def k0_off1 (k0_t1 : Fin k0_t1_loop.trips) : Fin 3 → Nat :=
  let c0_30 : Index := 0#32
  let c0_i32_28 : BitVec 32 := 0#32
  let c1_i32 : BitVec 32 := 1#32
  let arg13 : BitVec 32 := Scf.iv c0_i32_28 c1_i32 k0_t1
  let c16_i32 : BitVec 32 := 16#32
  let v38 : BitVec 32 := Scalar.muli arg13 c16_i32
  let v39 : BitVec 32 := v38
  let v40 : Index := Scalar.indexCast v39
  let c0_31 : Index := 0#32
  ![0, v40.toNat, 0]
def k0_off2 (k0_t1 : Fin k0_t1_loop.trips) : Fin 2 → Nat :=
  let c0_i32_28 : BitVec 32 := 0#32
  let c1_i32 : BitVec 32 := 1#32
  let arg13 : BitVec 32 := Scf.iv c0_i32_28 c1_i32 k0_t1
  let c16_i32 : BitVec 32 := 16#32
  let v38 : BitVec 32 := Scalar.muli arg13 c16_i32
  let v39 : BitVec 32 := v38
  let v58 : Index := Scalar.indexCast v39
  let c0_35 : Index := 0#32
  ![v58.toNat, 0]
def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_19 : BitVec 32 := 0#32
  let v27 : BitVec 1 := Scalar.cmpi .ne v26 c0_i32_19
  v27

@[reducible] def k0_t2_loop : Scf.Loop 32 :=
  let c0_i32_23 : BitVec 32 := 0#32
  let c32_i32 : BitVec 32 := 32#32
  let v32 : BitVec 32 := Scalar.addi c0_i32_23 c32_i32
  let c1_i32 : BitVec 32 := 1#32
  ⟨c0_i32_23, v32, c1_i32⟩
def k0_mult2 (k0_t2 : Fin k0_t2_loop.trips) : BitVec 32 :=
  let c0_i32_23 : BitVec 32 := 0#32
  let c1_i32 : BitVec 32 := 1#32
  let arg13 : BitVec 32 := Scf.iv c0_i32_23 c1_i32 k0_t2
  let c16_i32 : BitVec 32 := 16#32
  let v33 : BitVec 32 := Scalar.muli arg13 c16_i32
  v33
def k0_off3 (k0_t2 : Fin k0_t2_loop.trips) : Fin 3 → Nat :=
  let c0_25 : Index := 0#32
  let c0_i32_23 : BitVec 32 := 0#32
  let c1_i32 : BitVec 32 := 1#32
  let arg13 : BitVec 32 := Scf.iv c0_i32_23 c1_i32 k0_t2
  let c16_i32 : BitVec 32 := 16#32
  let v33 : BitVec 32 := Scalar.muli arg13 c16_i32
  let v34 : BitVec 32 := v33
  let v35 : Index := Scalar.indexCast v34
  let c0_26 : Index := 0#32
  ![0, v35.toNat, 0]
def k0_off4 (k0_t2 : Fin k0_t2_loop.trips) : Fin 2 → Nat :=
  let c0_i32_23 : BitVec 32 := 0#32
  let c1_i32 : BitVec 32 := 1#32
  let arg13 : BitVec 32 := Scf.iv c0_i32_23 c1_i32 k0_t2
  let c16_i32 : BitVec 32 := 16#32
  let v33 : BitVec 32 := Scalar.muli arg13 c16_i32
  let v34 : BitVec 32 := v33
  let v38 : Index := Scalar.indexCast v34
  let c0_27 : Index := 0#32
  ![v38.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x9x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnCtxReferenceIdeal.lean ====
abbrev S4x256x2048 : Shape := ⟨3, ![4, 256, 2048]⟩
abbrev S8x9x2048 : Shape := ⟨3, ![8, 9, 2048]⟩
abbrev S2048 : Shape := ⟨1, ![2048]⟩
abbrev S2x2048x5632 : Shape := ⟨3, ![2, 2048, 5632]⟩
abbrev S2x5632x2048 : Shape := ⟨3, ![2, 5632, 2048]⟩
abbrev S1x1x2048 : Shape := ⟨3, ![1, 1, 2048]⟩
abbrev S_ : Shape := ⟨0, ![]⟩
abbrev S4x256 : Shape := ⟨2, ![4, 256]⟩
abbrev S4x256x1 : Shape := ⟨3, ![4, 256, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x256x5632 : Shape := ⟨3, ![4, 256, 5632]⟩
abbrev S1x1024x2048 : Shape := ⟨3, ![1, 1024, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S8x9x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S4x256x2048, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x2048, .f32⟩
  | .hbm, ⟨28, _⟩ => ⟨S4x256x2048, .f32⟩
  | .hbm, ⟨29, _⟩ => ⟨S1x1x2048, .f32⟩
  | .hbm, ⟨30, _⟩ => ⟨S4x256x2048, .f32⟩
  | .hbm, ⟨31, _⟩ => ⟨S4x256x2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S1x1x2048, .f32⟩
  | .hbm, ⟨36, _⟩ => ⟨S4x256x2048, .f32⟩
  | .hbm, ⟨37, _⟩ => ⟨S4x256x2048, .f32⟩
  | .hbm, ⟨38, _⟩ => ⟨S1x1x2048, .f32⟩
  | .hbm, ⟨39, _⟩ => ⟨S4x256x2048, .f32⟩
  | .hbm, ⟨40, _⟩ => ⟨S4x256x2048, .f32⟩
  | .hbm, ⟨41, _⟩ => ⟨S1x2048x5632, .f32⟩
  | .hbm, ⟨42, _⟩ => ⟨S2048x5632, .f32⟩
  | .hbm, ⟨43, _⟩ => ⟨S1x2048x5632, .f32⟩
  | .hbm, ⟨44, _⟩ => ⟨S2048x5632, .f32⟩
  | .hbm, ⟨45, _⟩ => ⟨S1x5632x2048, .f32⟩
  | .hbm, ⟨46, _⟩ => ⟨S5632x2048, .f32⟩
  | .hbm, ⟨47, _⟩ => ⟨S4x256x5632, .f32⟩
  | .hbm, ⟨48, _⟩ => ⟨S4x256x5632, .f32⟩
  | .hbm, ⟨49, _⟩ => ⟨S4x256x5632, .f32⟩
  | .hbm, ⟨50, _⟩ => ⟨S_, .f32⟩
  | .hbm, ⟨51, _⟩ => ⟨S4x256x5632, .f32⟩
  | .hbm, ⟨52, _⟩ => ⟨S4x256x5632, .f32⟩
  | .hbm, ⟨53, _⟩ => ⟨S_, .f32⟩
  | .hbm, ⟨54, _⟩ => ⟨S4x256x5632, .f32⟩
  | .hbm, ⟨55, _⟩ => ⟨S4x256x5632, .f32⟩
  | .hbm, ⟨56, _⟩ => ⟨S4x256x5632, .f32⟩
  | .hbm, ⟨57, _⟩ => ⟨S4x256x5632, .f32⟩
  | .hbm, ⟨58, _⟩ => ⟨S4x256x5632, .f32⟩
  | .hbm, ⟨59, _⟩ => ⟨S4x256x2048, .f32⟩
  | .hbm, ⟨60, _⟩ => ⟨S1x1x2048, .f32⟩
  | .hbm, ⟨61, _⟩ => ⟨S4x256x2048, .f32⟩
  | .hbm, ⟨62, _⟩ => ⟨S4x256x2048, .f32⟩
  | .hbm, ⟨63, _⟩ => ⟨S4x256x2048, .f32⟩
  | .hbm, ⟨64, _⟩ => ⟨S1x1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Proj.lean ====
abbrev S4x4096x2048 : Shape := ⟨3, ![4, 4096, 2048]⟩
abbrev S8x9x2048 : Shape := ⟨3, ![8, 9, 2048]⟩
abbrev S2048 : Shape := ⟨1, ![2048]⟩
abbrev S2048x11264 : Shape := ⟨2, ![2048, 11264]⟩
abbrev S128 : Shape := ⟨1, ![128]⟩
abbrev S4096x64 : Shape := ⟨2, ![4096, 64]⟩
abbrev S1x64x2 : Shape := ⟨3, ![1, 64, 2]⟩
abbrev S1x2x64 : Shape := ⟨3, ![1, 2, 64]⟩
abbrev S1x128 : Shape := ⟨2, ![1, 128]⟩
abbrev S2x128 : Shape := ⟨2, ![2, 128]⟩
abbrev S4096x128 : Shape := ⟨2, ![4096, 128]⟩
abbrev S1x2048 : Shape := ⟨2, ![1, 2048]⟩
abbrev S4x4096x11264 : Shape := ⟨3, ![4, 4096, 11264]⟩
abbrev S1x1024x2048 : Shape := ⟨3, ![1, 1024, 2048]⟩
abbrev S1x9x2048 : Shape := ⟨3, ![1, 9, 2048]⟩
abbrev S2048x1024 : Shape := ⟨2, ![2048, 1024]⟩
abbrev S1024x128 : Shape := ⟨2, ![1024, 128]⟩
abbrev S1x1024x1024 : Shape := ⟨3, ![1, 1024, 1024]⟩
abbrev S1024x2048 : Shape := ⟨2, ![1024, 2048]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1024x1024 : Shape := ⟨2, ![1024, 1024]⟩
abbrev S128x128 : Shape := ⟨2, ![128, 128]⟩
abbrev S1x1024x128 : Shape := ⟨3, ![1, 1024, 128]⟩
abbrev S1024x512 : Shape := ⟨2, ![1024, 512]⟩
abbrev S1x1024x512 : Shape := ⟨3, ![1, 1024, 512]⟩

abbrev nBuf : Space → Nat
  | .hbm => 22
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S8x9x2048, .f32⟩
  | .hbm, ⟨2, _⟩ => ⟨S2048, .f32⟩
  | .hbm, ⟨3, _⟩ => ⟨S2048x11264, .bf16⟩
  | .hbm, ⟨4, _⟩ => ⟨S128, .f32⟩
  | .hbm, ⟨5, _⟩ => ⟨S128, .f32⟩
  | .hbm, ⟨6, _⟩ => ⟨S4096x64, .f32⟩
  | .hbm, ⟨7, _⟩ => ⟨S4096x64, .f32⟩
  | .hbm, ⟨8, _⟩ => ⟨S1x64x2, .f32⟩
  | .hbm, ⟨9, _⟩ => ⟨S1x2x64, .f32⟩
  | .hbm, ⟨10, _⟩ => ⟨S128, .f32⟩
  | .hbm, ⟨11, _⟩ => ⟨S1x64x2, .f32⟩
  | .hbm, ⟨12, _⟩ => ⟨S1x2x64, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S2x128, .f32⟩
  | .hbm, ⟨17, _⟩ => ⟨S4096x128, .f32⟩
  | .hbm, ⟨18, _⟩ => ⟨S4096x64, .f32⟩
  | .hbm, ⟨19, _⟩ => ⟨S4096x128, .f32⟩
  | .hbm, ⟨20, _⟩ => ⟨S1x2048, .f32⟩
  | .hbm, ⟨21, _⟩ => ⟨S4x4096x11264, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 11], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

@[reducible] def k0_t1_loop : Scf.Loop 32 :=
  let c0_i32_17 : BitVec 32 := 0#32
  let c64_i32 : BitVec 32 := 64#32
  let v25 : BitVec 32 := Scalar.addi c0_i32_17 c64_i32
  let c1_i32 : BitVec 32 := 1#32
  ⟨c0_i32_17, v25, c1_i32⟩
def k0_mult1 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c16_i32 : BitVec 32 := 16#32
  let v26 : BitVec 32 := Scalar.muli arg12 c16_i32
  v26
def k0_off1 (k0_t1 : Fin k0_t1_loop.trips) : Fin 3 → Nat :=
  let c0_19 : Index := 0#32
  let c0_i32_17 : BitVec 32 := 0#32
  let c1_i32 : BitVec 32 := 1#32
  let arg12 : BitVec 32 := Scf.iv c0_i32_17 c1_i32 k0_t1
  let c16_i32 : BitVec 32 := 16#32
  let v26 : BitVec 32 := Scalar.muli arg12 c16_i32
  let v27 : BitVec 32 := v26
  let v28 : Index := Scalar.indexCast v27
  let c0_20 : Index := 0#32
  ![0, v28.toNat, 0]
def k0_off2 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c16_i32 : BitVec 32 := 16#32
  let v26 : BitVec 32 := Scalar.muli arg12 c16_i32
  let v27 : BitVec 32 := v26
  let v46 : Index := Scalar.indexCast v27
  let c0_24 : Index := 0#32
  ![v46.toNat, 0]
def k0_cond2 (i : grid0.Coords) : BitVec 1 :=
  let arg2 : BitVec 32 := BitVec.ofNat 32 (i 2).val
  let c0_i32 : BitVec 32 := 0#32
  let v0 : BitVec 32 := Scalar.addi arg2 c0_i32
  let c2_i32 : BitVec 32 := 2#32
  let v7 : BitVec 1 := Scalar.cmpi .slt v0 c2_i32
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c0_i32 : BitVec 32 := 0#32
  let v0 : BitVec 32 := Scalar.addi arg2 c0_i32
  let c2_i32_6 : BitVec 32 := 2#32
  let v10 : BitVec 1 := Scalar.cmpi .eq v0 c2_i32_6
  let v11 : BitVec 32 := Scalar.extui v10
  let c0_i32_7 : BitVec 32 := 0#32
  let v12 : BitVec 1 := Scalar.cmpi .ne v11 c0_i32_7
  v12

def k0_cond4 (i : grid0.Coords) : BitVec 1 :=
  let arg2 : BitVec 32 := BitVec.ofNat 32 (i 2).val
  let c0_i32 : BitVec 32 := 0#32
  let v0 : BitVec 32 := Scalar.addi arg2 c0_i32
  let c2_i32_8 : BitVec 32 := 2#32
  let v13 : BitVec 1 := Scalar.cmpi .sgt v0 c2_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ProjReferenceIdeal.lean ====
abbrev S4x4096x2048 : Shape := ⟨3, ![4, 4096, 2048]⟩
abbrev S8x9x2048 : Shape := ⟨3, ![8, 9, 2048]⟩
abbrev S2048 : Shape := ⟨1, ![2048]⟩
abbrev S2048x11264 : Shape := ⟨2, ![2048, 11264]⟩
abbrev S128 : Shape := ⟨1, ![128]⟩
abbrev S4096x64 : Shape := ⟨2, ![4096, 64]⟩
abbrev S2048x2560 : Shape := ⟨2, ![2048, 2560]⟩
abbrev S2048x20x2x64 : Shape := ⟨4, ![2048, 20, 2, 64]⟩
abbrev S2048x20x64x2 : Shape := ⟨4, ![2048, 20, 64, 2]⟩
abbrev S2048x8704 : Shape := ⟨2, ![2048, 8704]⟩
abbrev S4x1x2048 : Shape := ⟨3, ![4, 1, 2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x16x128 : Shape := ⟨4, ![4, 4096, 16, 128]⟩
abbrev S4x16x4096x128 : Shape := ⟨4, ![4, 16, 4096, 128]⟩
abbrev S4x16x4096 : Shape := ⟨3, ![4, 16, 4096]⟩
abbrev S4x16x4096x1 : Shape := ⟨4, ![4, 16, 4096, 1]⟩
abbrev S1x1x1x128 : Shape := ⟨4, ![1, 1, 1, 128]⟩
abbrev S4x16x4096x64x2 : Shape := ⟨5, ![4, 16, 4096, 64, 2]⟩
abbrev S4x16x4096x64x1 : Shape := ⟨5, ![4, 16, 4096, 64, 1]⟩
abbrev S4x16x4096x64 : Shape := ⟨4, ![4, 16, 4096, 64]⟩
abbrev S1x1x4096x64 : Shape := ⟨4, ![1, 1, 4096, 64]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x4x4096 : Shape := ⟨3, ![4, 4, 4096]⟩
abbrev S4x4x4096x1 : Shape := ⟨4, ![4, 4, 4096, 1]⟩
abbrev S4x4x4096x64x2 : Shape := ⟨5, ![4, 4, 4096, 64, 2]⟩
abbrev S4x4x4096x64x1 : Shape := ⟨5, ![4, 4, 4096, 64, 1]⟩
abbrev S4x4x4096x64 : Shape := ⟨4, ![4, 4, 4096, 64]⟩
abbrev S4x4096x16x2x64 : Shape := ⟨5, ![4, 4096, 16, 2, 64]⟩
abbrev S4x4096x4x2x64 : Shape := ⟨5, ![4, 4096, 4, 2, 64]⟩
abbrev S4x4096x8704 : Shape := ⟨3, ![4, 4096, 8704]⟩

abbrev nBuf : Space → Nat
  | .hbm => 138
  | .vmem => 0
  | .smem => 0
  | _ => 0

abbrev hbmTy0_0 (i : Nat) : BufTy := match i % 128 with
  | 0 => ⟨S4x4096x2048, .f32⟩
  | 1 => ⟨S8x9x2048, .f32⟩
  | 2 => ⟨S2048, .f32⟩
  | 3 => ⟨S2048x11264, .bf16⟩
  | 4 => ⟨S128, .f32⟩
  | 5 => ⟨S128, .f32⟩
  | 6 => ⟨S4096x64, .f32⟩
  | 7 => ⟨S4096x64, .f32⟩
  | 8 => ⟨S2048x11264, .f32⟩
  | 9 => ⟨S2048x2560, .f32⟩
  | 10 => ⟨S2048x20x2x64, .f32⟩
  | 11 => ⟨S2048x20x64x2, .f32⟩
  | 12 => ⟨S2048x2560, .f32⟩
  | 13 => ⟨S2048x8704, .f32⟩
  | 14 => ⟨S2048x11264, .f32⟩
  | 15 => ⟨S4x1x2048, .f32⟩
  | 16 => ⟨S4x2048, .f32⟩
  | 17 => ⟨S4x1x2048, .f32⟩
  | 18 => ⟨S4x1x2048, .f32⟩
  | 19 => ⟨S4x2048, .f32⟩
  | 20 => ⟨S4x1x2048, .f32⟩
  | 21 => ⟨S4x4096x2048, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S_, .f32⟩
  | 29 => ⟨S4x4096x1, .f32⟩
  | 30 => ⟨S4x4096x1, .f32⟩
  | 31 => ⟨S4x4096x1, .f32⟩
  | 32 => ⟨S4x4096x2048, .f32⟩
  | 33 => ⟨S4x4096x2048, .f32⟩
  | 34 => ⟨S1x1x2048, .f32⟩
  | 35 => ⟨S4x4096x2048, .f32⟩
  | 36 => ⟨S4x4096x2048, .f32⟩
  | 37 => ⟨S_, .f32⟩
  | 38 => ⟨S4x1x2048, .f32⟩
  | 39 => ⟨S4x1x2048, .f32⟩
  | 40 => ⟨S4x4096x2048, .f32⟩
  | 41 => ⟨S4x4096x2048, .f32⟩
  | 42 => ⟨S4x4096x2048, .f32⟩
  | 43 => ⟨S4x4096x2048, .f32⟩
  | 44 => ⟨S4x4096x11264, .f32⟩
  | 45 => ⟨S4x4096x2048, .f32⟩
  | 46 => ⟨S4x4096x16x128, .f32⟩
  | 47 => ⟨S4x16x4096x128, .f32⟩
  | 48 => ⟨S4x16x4096x128, .f32⟩
  | 49 => ⟨S_, .f32⟩
  | 50 => ⟨S4x16x4096, .f32⟩
  | 51 => ⟨S4x16x4096x1, .f32⟩
  | 52 => ⟨S_, .f32⟩
  | 53 => ⟨S4x16x4096x1, .f32⟩
  | 54 => ⟨S4x16x4096x1, .f32⟩
  | 55 => ⟨S_, .f32⟩
  | 56 => ⟨S4x16x4096x1, .f32⟩
  | 57 => ⟨S4x16x4096x1, .f32⟩
  | 58 => ⟨S4x16x4096x1, .f32⟩
  | 59 => ⟨S4x16x4096x128, .f32⟩
  | 60 => ⟨S4x16x4096x128, .f32⟩
  | 61 => ⟨S1x1x1x128, .f32⟩
  | 62 => ⟨S4x16x4096x128, .f32⟩
  | 63 => ⟨S4x16x4096x128, .f32⟩
  | 64 => ⟨S4x16x4096x64x2, .f32⟩
  | 65 => ⟨S4x16x4096x64x1, .f32⟩
  | 66 => ⟨S4x16x4096x64, .f32⟩
  | 67 => ⟨S4x16x4096x64x1, .f32⟩
  | 68 => ⟨S4x16x4096x64, .f32⟩
  | 69 => ⟨S1x1x4096x64, .f32⟩
  | 70 => ⟨S4x16x4096x64, .f32⟩
  | 71 => ⟨S4x16x4096x64, .f32⟩
  | 72 => ⟨S1x1x4096x64, .f32⟩
  | 73 => ⟨S4x16x4096x64, .f32⟩
  | 74 => ⟨S4x16x4096x64, .f32⟩
  | 75 => ⟨S4x16x4096x64, .f32⟩
  | 76 => ⟨S1x1x4096x64, .f32⟩
  | 77 => ⟨S4x16x4096x64, .f32⟩
  | 78 => ⟨S4x16x4096x64, .f32⟩
  | 79 => ⟨S1x1x4096x64, .f32⟩
  | 80 => ⟨S4x16x4096x64, .f32⟩
  | 81 => ⟨S4x16x4096x64, .f32⟩
  | 82 => ⟨S4x16x4096x64, .f32⟩
  | 83 => ⟨S4x16x4096x64x1, .f32⟩
  | 84 => ⟨S4x16x4096x64x1, .f32⟩
  | 85 => ⟨S4x16x4096x64x2, .f32⟩
  | 86 => ⟨S4x16x4096x128, .f32⟩
  | 87 => ⟨S4x4096x512, .f32⟩
  | 88 => ⟨S4x4096x4x128, .f32⟩
  | 89 => ⟨S4x4x4096x128, .f32⟩
  | 90 => ⟨S4x4x4096x128, .f32⟩
  | 91 => ⟨S_, .f32⟩
  | 92 => ⟨S4x4x4096, .f32⟩
  | 93 => ⟨S4x4x4096x1, .f32⟩
  | 94 => ⟨S_, .f32⟩
  | 95 => ⟨S4x4x4096x1, .f32⟩
  | 96 => ⟨S4x4x4096x1, .f32⟩
  | 97 => ⟨S_, .f32⟩
  | 98 => ⟨S4x4x4096x1, .f32⟩
  | 99 => ⟨S4x4x4096x1, .f32⟩
  | 100 => ⟨S4x4x4096x1, .f32⟩
  | 101 => ⟨S4x4x4096x128, .f32⟩
  | 102 => ⟨S4x4x4096x128, .f32⟩
  | 103 => ⟨S1x1x1x128, .f32⟩
  | 104 => ⟨S4x4x4096x128, .f32⟩
  | 105 => ⟨S4x4x4096x128, .f32⟩
  | 106 => ⟨S4x4x4096x64x2, .f32⟩
  | 107 => ⟨S4x4x4096x64x1, .f32⟩
  | 108 => ⟨S4x4x4096x64, .f32⟩
  | 109 => ⟨S4x4x4096x64x1, .f32⟩
  | 110 => ⟨S4x4x4096x64, .f32⟩
  | 111 => ⟨S1x1x4096x64, .f32⟩
  | 112 => ⟨S4x4x4096x64, .f32⟩
  | 113 => ⟨S4x4x4096x64, .f32⟩
  | 114 => ⟨S1x1x4096x64, .f32⟩
  | 115 => ⟨S4x4x4096x64, .f32⟩
  | 116 => ⟨S4x4x4096x64, .f32⟩
  | 117 => ⟨S4x4x4096x64, .f32⟩
  | 118 => ⟨S1x1x4096x64, .f32⟩
  | 119 => ⟨S4x4x4096x64, .f32⟩
  | 120 => ⟨S4x4x4096x64, .f32⟩
  | 121 => ⟨S1x1x4096x64, .f32⟩
  | 122 => ⟨S4x4x4096x64, .f32⟩
  | 123 => ⟨S4x4x4096x64, .f32⟩
  | 124 => ⟨S4x4x4096x64, .f32⟩
  | 125 => ⟨S4x4x4096x64x1, .f32⟩
  | 126 => ⟨S4x4x4096x64x1, .f32⟩
  | 127 => ⟨S4x4x4096x64x2, .f32⟩
  | _ => ⟨S4x4096x2048, .f32⟩

abbrev hbmTy0_1 (i : Nat) : BufTy := match i % 128 with
  | 0 => ⟨S4x4x4096x128, .f32⟩
  | 1 => ⟨S4x16x4096x64x2, .f32⟩
  | 2 => ⟨S4x4096x16x2x64, .f32⟩
  | 3 => ⟨S4x4096x2048, .f32⟩
  | 4 => ⟨S4x4x4096x64x2, .f32⟩
  | 5 => ⟨S4x4096x4x2x64, .f32⟩
  | 6 => ⟨S4x4096x512, .f32⟩
  | 7 => ⟨S4x4096x8704, .f32⟩
  | 8 => ⟨S4x4096x11264, .f32⟩
  | 9 => ⟨S4x4096x11264, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_6 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩

abbrev nD : Nat := 1
abbrev τ : Topo := Topo.v7x

variable {F : FTy → Type} [FloatOps F]
-- ==== Merge.lean ====
abbrev S8x9x2048 : Shape := ⟨3, ![8, 9, 2048]⟩
abbrev S4x4096x2048 : Shape := ⟨3, ![4, 4096, 2048]⟩
abbrev S4x4096x11264 : Shape := ⟨3, ![4, 4096, 11264]⟩
abbrev S2048x2048 : Shape := ⟨2, ![2048, 2048]⟩
abbrev S_ : Shape := ⟨0, ![]⟩
abbrev S1x9x2048 : Shape := ⟨3, ![1, 9, 2048]⟩
abbrev S1x1024x1024 : Shape := ⟨3, ![1, 1024, 1024]⟩
abbrev S1x1024x2048 : Shape := ⟨3, ![1, 1024, 2048]⟩
abbrev S1024x2048 : Shape := ⟨2, ![1024, 2048]⟩
abbrev S1x128x1024 : Shape := ⟨3, ![1, 128, 1024]⟩
abbrev S128x1024 : Shape := ⟨2, ![128, 1024]⟩
abbrev S128x2048 : Shape := ⟨2, ![128, 2048]⟩
abbrev S1x1x2048 : Shape := ⟨3, ![1, 1, 2048]⟩
abbrev S1x2048 : Shape := ⟨2, ![1, 2048]⟩
abbrev S1x128x2048 : Shape := ⟨3, ![1, 128, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8x9x2048, .f32⟩
  | .hbm, ⟨1, _⟩ => ⟨S4x4096x2048, .bf16⟩
  | .hbm, ⟨2, _⟩ => ⟨S4x4096x2048, .bf16⟩
  | .hbm, ⟨3, _⟩ => ⟨S4x4096x11264, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S4x4096x2048, .bf16⟩
  | .local _ .vmem, ⟨0, _⟩ => ⟨S1x9x2048, .f32⟩
  | .local _ .vmem, ⟨1, _⟩ => ⟨S1x9x2048, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S2048x2048, .bf16⟩
  | .local _ .vmem, ⟨13, _⟩ => ⟨S1x1024x2048, .bf16⟩
  | .local _ .vmem, ⟨14, _⟩ => ⟨S1x1024x2048, .bf16⟩
  | .local _ .vmem, ⟨15, _⟩ => ⟨S1024x2048, .f32⟩
  | _, _ => ⟨S8x9x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg2
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg2
  let c0_i32 : BitVec 32 := 0#32
  ![arg0.toNat, arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x9x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MergeReferenceIdeal.lean ====
abbrev S8x9x2048 : Shape := ⟨3, ![8, 9, 2048]⟩
abbrev S4x4096x2048 : Shape := ⟨3, ![4, 4096, 2048]⟩
abbrev S4x4096x11264 : Shape := ⟨3, ![4, 4096, 11264]⟩
abbrev S2048x2048 : Shape := ⟨2, ![2048, 2048]⟩
abbrev S4x1x2048 : Shape := ⟨3, ![4, 1, 2048]⟩
abbrev S4x2048 : Shape := ⟨2, ![4, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8x9x2048, .f32⟩
  | .hbm, ⟨1, _⟩ => ⟨S4x4096x2048, .bf16⟩
  | .hbm, ⟨2, _⟩ => ⟨S4x4096x2048, .bf16⟩
  | .hbm, ⟨3, _⟩ => ⟨S4x4096x11264, .bf16⟩
  | .hbm, ⟨4, _⟩ => ⟨S2048x2048, .f32⟩
  | .hbm, ⟨5, _⟩ => ⟨S4x4096x2048, .f32⟩
  | .hbm, ⟨6, _⟩ => ⟨S4x4096x2048, .f32⟩
  | .hbm, ⟨7, _⟩ => ⟨S4x4096x11264, .f32⟩
  | .hbm, ⟨8, _⟩ => ⟨S4x1x2048, .f32⟩
  | .hbm, ⟨9, _⟩ => ⟨S4x2048, .f32⟩
  | .hbm, ⟨10, _⟩ => ⟨S4x1x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x2048, .f32⟩
  | .hbm, ⟨42, _⟩ => ⟨S4x4096x2048, .f32⟩
  | .hbm, ⟨43, _⟩ => ⟨S_, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096x2048, .f32⟩
  | .hbm, ⟨51, _⟩ => ⟨S4x4096x2048, .f32⟩
  | .hbm, ⟨52, _⟩ => ⟨S_, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .bf16⟩
  | _, _ => ⟨S8x9x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Unit.lean ====
/- The kernel's body as a function: one query unit (256 rows of two heads) against the seventeen key chunks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

variable {F : FTy → Type} [FloatOps F]

/-- Rows `256 u'` of the query block, one head's columns. -/
def qLoad (x0 : Vec F S1x1024x512 .bf16) (u e : ℕ) : Vec F S1x256x128 .bf16 :=
  View.ld x0 (Rect.unit ![0, 256 * (u % 4), 256 * (u / 4 % 2) + 128 * (e % 2)] S1x256x128.size (by
    intro a; fin_cases a <;> simp <;> omega))

/-- The same of the block that is fetched ahead. -/
def qnLoad (x1 : Vec F S1x256x256 .bf16) (e : ℕ) : Vec F S1x256x128 .bf16 :=
  View.ld x1 (Rect.unit ![0, 0, 128 * (e % 2)] S1x256x128.size (by
    intro a; fin_cases a <;> simp <;> omega))

/-- Key chunk `j` of the latents. -/
def kLoad (x2 : Vec F S1x4096x128 .bf16) (j : ℕ) : Vec F S1x256x128 .bf16 :=
  View.ld x2 (Rect.unit ![0, 256 * (j % 16), 0] S1x256x128.size (by
    intro a; fin_cases a <;> simp <;> omega))

/-- Chunk `j` of the transposed values. -/
def vLoad (vt : Vec F S128x4096 .bf16) (j : ℕ) : Vec F S128x256 .bf16 :=
  View.ld vt (Rect.unit ![0, 256 * (j % 16)] S128x256.size (by
    intro a; fin_cases a <;> simp <;> omega))

/-- Chunk `j` of the scores held in slot 0. -/
def sLoad (xs : Vec F S2x4352x512 .f32) (j : ℕ) : Vec F S1x256x512 .f32 :=
  View.ld xs (Rect.unit ![0, 256 * (j % 17), 0] S1x256x512.size (by
    intro a; fin_cases a <;> simp <;> omega))

/-- The column maxima held in slot 0. -/
def mLoad (xs : Vec F S2x1x512 .f32) : Vec F S1x1x512 .f32 :=
  View.ld xs (Rect.unit ![0, 0, 0] S1x1x512.size (by
    intro a; fin_cases a <;> simp))

/-- Two heads' queries stacked. -/
def stack (a b : Vec F S1x256x128 .bf16) : FVec F S512x128 .bf16 :=
  concatenate S512x128 0 [⟨S256x128, shapeCast S256x128 a shapeCasts_S1x256x128_S256x128⟩,
    ⟨S256x128, shapeCast S256x128 b shapeCasts_S1x256x128_S256x128⟩] concatenates_S256x128_S256x128_S512x128_d0

/-- The scores of one key chunk. -/
def sc (q : FVec F S512x128 .bf16) (k : Vec F S1x256x128 .bf16) : FVec F S256x512 .f32 :=
  matmul dot_S256x128_S512x128_S256x512_1_1_0_0_n_n none (shapeCast S256x128 k shapeCasts_S1x256x128_S256x128) q
    (constant S256x512 .f32 0x00000000#32)

/-- As stored. -/
def scS (q : FVec F S512x128 .bf16) (k : Vec F S1x256x128 .bf16) : FVec F S1x256x512 .f32 :=
  shapeCast S1x256x512 (sc q k) shapeCasts_S256x512_S1x256x512

/-- Maximum over the rows, down to eight. -/
def max8 (s : FVec F S256x512 .f32) : FVec F S8x512 .f32 :=
  multiReduction .maximumf [0] S8x512 (shapeCast S32x8x512 s shapeCasts_S256x512_S32x8x512) 0xFF800000#32 reduces_S32x8x512_S8x512 (.inl rfl) rfl

/-- Sum over the rows, down to eight. -/
def sum8 (s : FVec F S256x512 .f32) : FVec F S8x512 .f32 :=
  multiReduction .add [0] S8x512 (shapeCast S32x8x512 s shapeCasts_S256x512_S32x8x512) 0x00000000#32 reduces_S32x8x512_S8x512 (.inl rfl) rfl

/-- The running maximum over the latent chunks `0 … n`. -/
def maxF (s : ℕ → FVec F S256x512 .f32) : ℕ → FVec F S8x512 .f32
  | 0 => max8 (s 0)
  | n + 1 => maximumf (maxF s n) (max8 (s (n + 1)))

/-- The column maxima of a unit's scores. -/
def maxU (q : FVec F S512x128 .bf16) (x2 : Vec F S1x4096x128 .bf16) (x4 : Vec F S1x256x128 .bf16) : FVec F S1x1x512 .f32 :=
  shapeCast S1x1x512 (shapeCast S1x512 (multiReduction .maximumf [0] S512
    (maximumf (maxF (fun j => sc q (kLoad x2 j)) 15) (max8 (sc q x4))) 0xFF800000#32 reduces_S8x512_S512 (.inl rfl) rfl)
    shapeCasts_S512_S1x512) shapeCasts_S1x512_S1x1x512

/-- The weights of one chunk, before they are divided. -/
def pU (m : Vec F S1x1x512 .f32) (s : Vec F S1x256x512 .f32) : FVec F S256x512 .f32 :=
  exp2 (subf (shapeCast S256x512 s shapeCasts_S1x256x512_S256x512)
    (broadcastTo S256x512 (shapeCast S1x512 m shapeCasts_S1x1x512_S1x512) broadcasts_S1x512_S256x512))

/-- One chunk's weighted values. -/
def pv (v : Vec F S128x256 .bf16) (p : FVec F S256x512 .f32) : FVec F S128x512 .f32 :=
  matmul dot_S128x256_S256x512_S128x512_1_0_0_1_n_n none v (truncf .bf16 p bitsLt_bf16_f32) (constant S128x512 .f32 0x00000000#32)

def sumF (p : ℕ → FVec F S256x512 .f32) : ℕ → FVec F S8x512 .f32
  | 0 => sum8 (p 0)
  | n + 1 => addf (sumF p n) (sum8 (p (n + 1)))

def pvF (v : ℕ → Vec F S128x256 .bf16) (p : ℕ → FVec F S256x512 .f32) : ℕ → FVec F S128x512 .f32
  | 0 => pv (v 0) (p 0)
  | n + 1 => addf (pvF v p n) (pv (v (n + 1)) (p (n + 1)))

/-- A unit's result, transposed: from the values, the chunk scores (the latents' and the context's) and the maxima. -/
def otU (vt : Vec F S128x4096 .bf16) (vct : Vec F S128x256 .bf16) (s : ℕ → Vec F S1x256x512 .f32) (sC : Vec F S1x256x512 .f32)
    (m : Vec F S1x1x512 .f32) : FVec F S128x512 .f32 :=
  mulf (addf (pvF (vLoad vt) (fun j => pU m (s j)) 15) (pv vct (pU m sC)))
    (broadcastTo S128x512 (divf (broadcast S1x512 (Scalar.ofBits .f32 0x3F800000#32))
      (shapeCast S1x512 (multiReduction .add [0] S512 (addf (sumF (fun j => pU m (s j)) 15) (sum8 (pU m sC)))
        0x00000000#32 reduces_S8x512_S512 (.inl rfl) rfl) shapeCasts_S512_S1x512)) broadcasts_S1x512_S128x512)

def half0 (w : FVec F S128x512 .f32) : FVec F S1x256x128 .bf16 :=
  shapeCast S1x256x128 (truncf .bf16 (transpose S256x128 [1, 0] (extractStridedSlice S128x256 ![0, 0] w slices_S128x512_o0_0_S128x256)
    transposes_S128x256_p1_0_S256x128) bitsLt_bf16_f32) shapeCasts_S256x128_S1x256x128

def half1 (w : FVec F S128x512 .f32) : FVec F S1x256x128 .bf16 :=
  shapeCast S1x256x128 (truncf .bf16 (transpose S256x128 [1, 0] (extractStridedSlice S128x256 ![0, 256] w slices_S128x512_o0_256_S128x256)
    transposes_S128x256_p1_0_S256x128) bitsLt_bf16_f32) shapeCasts_S256x128_S1x256x128

/-- A unit's two stores, the later first. -/
def putU (u : ℕ) (w : FVec F S128x512 .f32) (L : List (View.Piece (Elt F) S1x1024x512 .bf16)) : List (View.Piece (Elt F) S1x1024x512 .bf16) :=
  ⟨Rect.unit ![0, 256 * (u % 4), 256 * (u / 4 % 2) + 128] S1x256x128.size (by intro a; fin_cases a <;> simp <;> omega), half1 w⟩ ::
  ⟨Rect.unit ![0, 256 * (u % 4), 256 * (u / 4 % 2)] S1x256x128.size (by intro a; fin_cases a <;> simp <;> omega), half0 w⟩ :: L

/-- The queries of unit `u`. -/
def qU (x0 : Vec F S1x1024x512 .bf16) (u : ℕ) : FVec F S512x128 .bf16 := stack (qLoad x0 u 0) (qLoad x0 u 1)

/-- A unit's result from its queries. -/
def resU (vt : Vec F S128x4096 .bf16) (vct : Vec F S128x256 .bf16) (x2 : Vec F S1x4096x128 .bf16) (x4 : Vec F S1x256x128 .bf16)
    (q : FVec F S512x128 .bf16) : FVec F S128x512 .f32 :=
  otU vt vct (fun j => scS q (kLoad x2 j)) (scS q x4) (maxU q x2 x4)

/-- The stores of units `1 … n` over those of unit 0. -/
def putF (vt : Vec F S128x4096 .bf16) (vct : Vec F S128x256 .bf16) (x0 : Vec F S1x1024x512 .bf16) (x2 : Vec F S1x4096x128 .bf16)
    (x4 : Vec F S1x256x128 .bf16) (w0 : FVec F S128x512 .f32) : ℕ → List (View.Piece (Elt F) S1x1024x512 .bf16)
  | 0 => putU 0 w0 []
  | n + 1 => putU (n + 1) (resU vt vct x2 x4 (qU x0 (n + 1))) (putF vt vct x0 x2 x4 w0 n)

/-- The queries fetched ahead: the next block's unit 0. -/
def qN (x1 : Vec F S1x256x256 .bf16) : FVec F S512x128 .bf16 := stack (qnLoad x1 0) (qnLoad x1 1)

/-- The stores of the scores of the latent chunks `0 … n` into slot 0. -/
def putS (q : FVec F S512x128 .bf16) (x2 : Vec F S1x4096x128 .bf16) (L : List (View.Piece (Elt F) S2x4352x512 .f32)) :
    ℕ → List (View.Piece (Elt F) S2x4352x512 .f32)
  | 0 => ⟨Rect.unit ![0, 0, 0] S1x256x512.size (by intro a; fin_cases a <;> simp), scS q (kLoad x2 0)⟩ :: L
  | n + 1 => ⟨Rect.unit ![0, 256 * ((n + 1) % 17), 0] S1x256x512.size (by intro a; fin_cases a <;> simp <;> omega), scS q (kLoad x2 (n + 1))⟩ ::
      putS q x2 L n

/-- The stores of all of a unit's scores into slot 0. -/
def putSU (q : FVec F S512x128 .bf16) (x2 : Vec F S1x4096x128 .bf16) (x4 : Vec F S1x256x128 .bf16)
    (L : List (View.Piece (Elt F) S2x4352x512 .f32)) : List (View.Piece (Elt F) S2x4352x512 .f32) :=
  ⟨Rect.unit ![0, 4096, 0] S1x256x512.size (by intro a; fin_cases a <;> simp), scS q x4⟩ :: putS q x2 L 15

/-- The store of a unit's maxima into slot 0. -/
def putM (m : Vec F S1x1x512 .f32) (L : List (View.Piece (Elt F) S2x1x512 .f32)) : List (View.Piece (Elt F) S2x1x512 .f32) :=
  ⟨Rect.unit ![0, 0, 0] S1x1x512.size (by intro a; fin_cases a <;> simp), m⟩ :: L

/-- A load of what the last store stored. -/
theorem ld_hit {S : Shape} {e : EltTy} (r : Rect S) (w : r.shape.Idx → Elt F e) (L : List (View.Piece (Elt F) S e)) :
    View.ld (View.canon (⟨r, w⟩ :: L)) r = w :=
  funext fun y => View.canon_cons_emb r w L y

/-- A load of what the last store did not meet. -/
theorem ld_skip {S : Shape} {e : EltTy} (r : Rect S) (w : r.shape.Idx → Elt F e) (L : List (View.Piece (Elt F) S e)) (r' : Rect S)
    (h : LoadRect.disj r r'.toLoadRect = true) : View.ld (View.canon (⟨r, w⟩ :: L)) r' = View.ld (View.canon L) r' :=
  funext fun y => View.canon_cons_of_not_mem ⟨r, w⟩ L (LoadRect.idx_not_mem_of_disj h y)

theorem mLoad_putM (m : Vec F S1x1x512 .f32) (L : List (View.Piece (Elt F) S2x1x512 .f32)) : mLoad (View.canon (putM m L)) = m := by
  unfold mLoad putM
  exact ld_hit _ _ _

theorem sLoad_putSU_ctx (q : FVec F S512x128 .bf16) (x2 : Vec F S1x4096x128 .bf16) (x4 : Vec F S1x256x128 .bf16)
    (L : List (View.Piece (Elt F) S2x4352x512 .f32)) : sLoad (View.canon (putSU q x2 x4 L)) 16 = scS q x4 := by
  unfold sLoad putSU
  exact ld_hit _ _ _

theorem sLoad_putSU (q : FVec F S512x128 .bf16) (x2 : Vec F S1x4096x128 .bf16) (x4 : Vec F S1x256x128 .bf16)
    (L : List (View.Piece (Elt F) S2x4352x512 .f32)) (j : ℕ) (hj : j < 16) :
    sLoad (View.canon (putSU q x2 x4 L)) j = scS q (kLoad x2 j) := by
  unfold sLoad
  interval_cases j <;>
  · simp (disch := decide) only [putSU, putS, ld_skip]
    exact ld_hit _ _ _

end Cert.KernelIdeal.Att

end
-- ==== Proof.Soft.lean ====
/- The softmax average over the extended reals: the kernel's form (base two, one division at the end) and the reference's. -/
module

public import Idealize.ShloMosaic.Lib.Pointwise
public import Idealize.ShloMosaic.Lib.IdealHost
public import Idealize.ShloMosaic.Lib.Pipeline.ValueKit

@[expose] public section

noncomputable section

namespace Cert.Soft

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum times a real that is not negative. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (by exact_mod_cast hr) (EReal.coe_ne_top r)]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A maximum of finite numbers, over at least one, is finite. -/
theorem fold_max_real {ι : Type*} [Fintype ι] [Nonempty ι] (f : ι → EReal) (h : ∀ i, ∃ r : ℝ, f i = r) :
    ∃ r : ℝ, Finset.univ.fold max (⊥ : EReal) f = r := by
  classical
  choose g hg using h
  have key : ∀ s : Finset ι, s.Nonempty → ∃ r : ℝ, s.fold max (⊥ : EReal) f = r := by
    intro s hs
    induction hs using Finset.Nonempty.cons_induction with
    | singleton a => exact ⟨g a, by simp [hg]⟩
    | cons a s ha hs ih =>
      obtain ⟨r, hr⟩ := ih
      refine ⟨max (g a) r, ?_⟩
      rw [Finset.fold_cons, hr, hg, EReal.coe_strictMono.monotone.map_max]
  exact key _ Finset.univ_nonempty

theorem max_real {a b : EReal} (ha : ∃ r : ℝ, a = r) (hb : ∃ r : ℝ, b = r) : ∃ r : ℝ, max a b = r := by
  obtain ⟨x, rfl⟩ := ha
  obtain ⟨y, rfl⟩ := hb
  exact ⟨max x y, (EReal.coe_strictMono.monotone.map_max).symm⟩

/-- The two averages agree: exponents in base two of scores scaled by `1 / log 2`, whatever finite number is taken off on
    either side. -/
theorem soft_eq {ι : Type*} [Fintype ι] [Nonempty ι] (v : ι → EReal) (s' s : ι → ℝ) (m' m : ℝ) (h : ∀ i, s' i * Real.log 2 = s i) :
    (∑ i, v i * Ideal.exp2 ((s' i : EReal) - m')) * Ideal.div 1 (∑ i, Ideal.exp2 ((s' i : EReal) - m'))
      = ∑ i, Ideal.div (Ideal.exp ((s i : EReal) - m)) (∑ i, Ideal.exp ((s i : EReal) - m)) * v i := by
  have hp : ∀ i, Ideal.exp2 ((s' i : EReal) - m') = ((Real.exp (s i) * Real.exp (-(m' * Real.log 2)) : ℝ) : EReal) := by
    intro i
    rw [← EReal.coe_sub, Ideal.exp2_coe]
    congr 1
    rw [← Real.exp_add, show Real.rpow 2 (s' i - m') = (2 : ℝ) ^ (s' i - m') from rfl, Real.rpow_def_of_pos (by norm_num)]
    congr 1
    rw [← h i]; ring
  have he : ∀ i, Ideal.exp ((s i : EReal) - m) = ((Real.exp (s i) * Real.exp (-m) : ℝ) : EReal) := by
    intro i
    rw [← EReal.coe_sub, Ideal.exp_coe]
    congr 1
    rw [← Real.exp_add, sub_eq_add_neg]
  simp only [hp, he]
  rw [coe_sum, coe_sum, ← Finset.sum_mul, ← Finset.sum_mul]
  have hS : 0 < ∑ i, Real.exp (s i) := Finset.sum_pos (fun i _ => Real.exp_pos _) Finset.univ_nonempty
  have h1 : (1 : EReal) = ((1 : ℝ) : EReal) := rfl
  rw [h1, div_coe _ _ (mul_pos hS (Real.exp_pos _)).ne', sum_mul_coe _ _ _ (by positivity)]
  refine Finset.sum_congr rfl fun i _ => ?_
  rw [div_coe _ _ (mul_pos hS (Real.exp_pos _)).ne', mul_assoc, ← EReal.coe_mul, mul_comm]
  congr 2
  have h2 := (Real.exp_pos (-(m' * Real.log 2))).ne'
  have h3 := (Real.exp_pos (-m)).ne'
  field_simp

/-- The scale of the queries in the kernel. -/
def scale : EReal := Ideal.div (Ideal.ofBits .f32 0x3F800000#32) (Ideal.sqrt (Ideal.ofBits .f32 0x43000000#32) * Ideal.log (Ideal.ofBits .f32 0x40000000#32))

theorem lit_128 : Ideal.ofBits .f32 0x43000000#32 = ((128 : ℝ) : EReal) := by
  simp [Ideal.ofBits, Ideal.ieee, -EReal.coe_mul]; norm_num

theorem lit_2 : Ideal.ofBits .f32 0x40000000#32 = ((2 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee]

theorem sqrt_128 : Ideal.sqrt (Ideal.ofBits .f32 0x43000000#32) = ((Real.sqrt 128 : ℝ) : EReal) := by
  rw [lit_128, Ideal.sqrt_coe, if_neg (by norm_num)]

theorem scale_eq : scale = ((1 / (Real.sqrt 128 * Real.log 2) : ℝ) : EReal) := by
  have hl : 0 < Real.log 2 := Real.log_pos (by norm_num)
  have hs : 0 < Real.sqrt 128 := Real.sqrt_pos.mpr (by norm_num)
  unfold scale
  rw [sqrt_128, lit_2, Ideal.log_coe, if_neg (by norm_num), ← EReal.coe_mul, Ideal.ofBits_one_f32]
  exact div_coe 1 _ (mul_pos hs hl).ne'

/-- One output element: the kernel's form from scaled queries against the reference's. -/
theorem attn_eq {ι : Type*} [Fintype ι] [Nonempty ι] (q : Fin 128 → EReal) (k : ι → Fin 128 → EReal) (v : ι → EReal) (M' M : EReal)
    (hq : ∀ d, ∃ r : ℝ, q d = r) (hk : ∀ i d, ∃ r : ℝ, k i d = r) (hM' : ∃ r : ℝ, M' = r) (hM : ∃ r : ℝ, M = r) :
    (∑ i, v i * Ideal.exp2 ((∑ d, k i d * (q d * scale)) - M')) * Ideal.div 1 (∑ i, Ideal.exp2 ((∑ d, k i d * (q d * scale)) - M'))
      = ∑ i, Ideal.div (Ideal.exp (Ideal.div (∑ d, q d * k i d) (Ideal.sqrt (Ideal.ofBits .f32 0x43000000#32)) - M))
          (∑ i, Ideal.exp (Ideal.div (∑ d, q d * k i d) (Ideal.sqrt (Ideal.ofBits .f32 0x43000000#32)) - M)) * v i := by
  choose q' hq' using hq
  choose k' hk' using hk
  obtain ⟨m', rfl⟩ := hM'
  obtain ⟨m, rfl⟩ := hM
  have hl : 0 < Real.log 2 := Real.log_pos (by norm_num)
  have hs : 0 < Real.sqrt 128 := Real.sqrt_pos.mpr (by norm_num)
  simp only [hq', hk', scale_eq, sqrt_128, ← EReal.coe_mul, coe_sum, div_coe _ _ hs.ne']
  refine soft_eq v _ _ m' m fun i => ?_
  rw [Finset.sum_mul, Finset.sum_div]
  refine Finset.sum_congr rfl fun d _ => ?_
  field_simp

/-- One output element: the values averaged by the softmax of the scores, written with nothing taken off in the exponent. -/
def attR {ι : Type*} [Fintype ι] (q : Fin 128 → EReal) (k : ι → Fin 128 → EReal) (v : ι → EReal) : EReal :=
  ∑ i, Ideal.div (Ideal.exp (Ideal.div (∑ d, q d * k i d) (Ideal.sqrt (Ideal.ofBits .f32 0x43000000#32)) - 0))
    (∑ i, Ideal.exp (Ideal.div (∑ d, q d * k i d) (Ideal.sqrt (Ideal.ofBits .f32 0x43000000#32)) - 0)) * v i

/-- The kernel's form is it. -/
theorem ker_attR {ι : Type*} [Fintype ι] [Nonempty ι] (q : Fin 128 → EReal) (k : ι → Fin 128 → EReal) (v : ι → EReal) (M' : EReal)
    (hq : ∀ d, ∃ r : ℝ, q d = r) (hk : ∀ i d, ∃ r : ℝ, k i d = r) (hM' : ∃ r : ℝ, M' = r) :
    (∑ i, v i * Ideal.exp2 ((∑ d, k i d * (q d * scale)) - M')) * Ideal.div 1 (∑ i, Ideal.exp2 ((∑ d, k i d * (q d * scale)) - M'))
      = attR q k v :=
  attn_eq q k v M' 0 hq hk hM' ⟨0, rfl⟩

/-- The reference's form is it. -/
theorem ref_attR {ι : Type*} [Fintype ι] [Nonempty ι] (q : Fin 128 → EReal) (k : ι → Fin 128 → EReal) (v : ι → EReal) (M : EReal)
    (hq : ∀ d, ∃ r : ℝ, q d = r) (hk : ∀ i d, ∃ r : ℝ, k i d = r) (hM : ∃ r : ℝ, M = r) :
    ∑ i, Ideal.div (Ideal.exp (Ideal.div (∑ d, q d * k i d) (Ideal.sqrt (Ideal.ofBits .f32 0x43000000#32)) - M))
      (∑ i, Ideal.exp (Ideal.div (∑ d, q d * k i d) (Ideal.sqrt (Ideal.ofBits .f32 0x43000000#32)) - M)) * v i = attR q k v :=
  (attn_eq q k v 0 M hq hk ⟨0, rfl⟩ hM).symm.trans (ker_attR q k v 0 hq hk ⟨0, rfl⟩)

theorem attR_equiv {ι κ : Type*} [Fintype ι] [Fintype κ] (f : κ ≃ ι) (q : Fin 128 → EReal) (k : ι → Fin 128 → EReal) (v : ι → EReal) :
    attR q k v = attR q (fun i => k (f i)) fun i => v (f i) := by
  unfold attR
  rw [← Equiv.sum_comp f]
  simp only [Equiv.sum_comp f fun i => Ideal.exp (Ideal.div (∑ d, q d * k i d) (Ideal.sqrt (Ideal.ofBits .f32 0x43000000#32)) - 0)]

/-- The attention of every head: batch `b`, query row `a`, column `c` of sixteen heads of 128, the latents `X` holding the queries, the
    keys from column 2048 and the values from column 2560, the context `Y` its keys and then its values. -/
def attArr (X : Fin 4 → Fin 4096 → Fin 11264 → EReal) (Y : Fin 4 → Fin 256 → Fin 3072 → EReal) (b : Fin 4) (a : Fin 4096) (c : Fin 2048) : EReal :=
  attR (fun e : Fin 128 => X b a ⟨128 * (c.val / 128) + e.val, by omega⟩)
    (Sum.elim (fun (r : Fin 4096) (e : Fin 128) => X b r ⟨2048 + 128 * (c.val / 512) + e.val, by omega⟩)
      (fun (r : Fin 256) (e : Fin 128) => Y b r ⟨128 * (c.val / 512) + e.val, by omega⟩))
    (Sum.elim (fun r : Fin 4096 => X b r ⟨2560 + 128 * (c.val / 512) + c.val % 128, by omega⟩)
      (fun r : Fin 256 => Y b r ⟨512 + 128 * (c.val / 512) + c.val % 128, by omega⟩))

/-- A score is finite. -/
theorem score_real (q k : Fin 128 → EReal) (hq : ∀ d, ∃ r : ℝ, q d = r) (hk : ∀ d, ∃ r : ℝ, k d = r) :
    ∃ r : ℝ, ∑ d, k d * (q d * scale) = r := by
  choose q' hq' using hq
  choose k' hk' using hk
  exact ⟨∑ d, k' d * (q' d * (1 / (Real.sqrt 128 * Real.log 2))), by simp only [hq', hk', scale_eq, ← EReal.coe_mul, coe_sum]⟩

theorem quot_real (q k : Fin 128 → EReal) (hq : ∀ d, ∃ r : ℝ, q d = r) (hk : ∀ d, ∃ r : ℝ, k d = r) :
    ∃ r : ℝ, Ideal.div (∑ d, q d * k d) (Ideal.sqrt (Ideal.ofBits .f32 0x43000000#32)) = r := by
  choose q' hq' using hq
  choose k' hk' using hk
  have hs : 0 < Real.sqrt 128 := Real.sqrt_pos.mpr (by norm_num)
  exact ⟨(∑ d, q' d * k' d) / Real.sqrt 128, by simp only [hq', hk', sqrt_128, ← EReal.coe_mul, coe_sum, div_coe _ _ hs.ne']⟩

/-- A sum over all rows, sixteen chunks of 256. -/
theorem sum_chunks (g : ℕ → EReal) : ∑ j ∈ Finset.range 16, ∑ r : Fin 256, g (j * 256 + r.val) = ∑ r : Fin 4096, g r.val := by
  rw [← Fin.sum_univ_eq_sum_range (fun j => ∑ r : Fin 256, g (j * 256 + r.val)) 16]
  exact Fin.sum_univ_univ_mul_add 16 256 g

/-- A chunk summed by sublanes. -/
theorem sum_sublanes (g : ℕ → EReal) : ∑ e : Fin 8, ∑ a : Fin 32, g (a.val * 8 + e.val) = ∑ r : Fin 256, g r.val := by
  rw [Finset.sum_comm]
  exact Fin.sum_univ_univ_mul_add 32 8 g

end Cert.Soft

end
-- ==== Proof.UnitVal.lean ====
/- A unit's results, element by element, over the extended reals. -/
module

public import proofs.«01_k».proof.Proof.Unit
public import Idealize.ShloMosaic.Lib.Pointwise
public import proofs.«01_k».proof.Proof.Soft

@[expose] public section

set_option maxRecDepth 16384

noncomputable section

namespace Cert.KernelIdeal.Att

open Idealize.ShloMosaic Idealize.ShloMosaic.TcCoe Idealize.ShloMosaic.Tactic
open Cert Cert.KernelIdeal Cert.KernelIdeal.Gen

theorem sc_apply (q : FVec Ideal S512x128 .bf16) (k : Vec Ideal S1x256x128 .bf16) (r : Fin 256) (col : Fin 512) :
    sc q k (ix2 r col) = ∑ d : Fin 128, k (ix3 0 r d) * q (ix2 col d) := by
  pointwise [sc]

theorem scS_apply (q : FVec Ideal S512x128 .bf16) (k : Vec Ideal S1x256x128 .bf16) (r : Fin 256) (col : Fin 512) :
    scS q k (ix3 0 r col) = ∑ d : Fin 128, k (ix3 0 r d) * q (ix2 col d) := by
  pointwise [scS, sc_apply]

theorem pU_apply (m : Vec Ideal S1x1x512 .f32) (s : Vec Ideal S1x256x512 .f32) (r : Fin 256) (col : Fin 512) :
    pU m s (ix2 r col) = Ideal.exp2 (s (ix3 0 r col) - m (ix3 0 0 col)) := by
  pointwise [pU]
  rfl

theorem pv_apply (v : Vec Ideal S128x256 .bf16) (p : FVec Ideal S256x512 .f32) (d : Fin 128) (col : Fin 512) :
    pv v p (ix2 d col) = ∑ r : Fin 256, v (ix2 d r) * p (ix2 r col) := by
  pointwise [pv]

theorem sum8_apply (p : FVec Ideal S256x512 .f32) (e : Fin 8) (col : Fin 512) :
    sum8 p (ix2 e col) = ∑ a : Fin 32, p (ix2 ⟨a.val * 8 + e.val, by omega⟩ col) := by
  pointwise [sum8]

theorem max8_apply (p : FVec Ideal S256x512 .f32) (e : Fin 8) (col : Fin 512) :
    max8 p (ix2 e col) = Finset.univ.fold max ⊥ fun a : Fin 32 => p (ix2 ⟨a.val * 8 + e.val, by omega⟩ col) := by
  pointwise [max8]
  rw [Soft.lit_neg_inf]

theorem half0_apply (w : FVec Ideal S128x512 .f32) (r : Fin 256) (d : Fin 128) : half0 w (ix3 0 r d) = w (ix2 d ⟨r.val, by omega⟩) := by
  pointwise [half0]

theorem half1_apply (w : FVec Ideal S128x512 .f32) (r : Fin 256) (d : Fin 128) : half1 w (ix3 0 r d) = w (ix2 d ⟨256 + r.val, by omega⟩) := by
  pointwise [half1]

theorem stack_apply0 (a b : Vec Ideal S1x256x128 .bf16) (r : Fin 256) (d : Fin 128) : stack a b (ix2 ⟨r.val, by omega⟩ d) = a (ix3 0 r d) := by
  pointwise [stack]

theorem stack_apply1 (a b : Vec Ideal S1x256x128 .bf16) (r : Fin 256) (d : Fin 128) : stack a b (ix2 ⟨256 + r.val, by omega⟩ d) = b (ix3 0 r d) := by
  pointwise [stack]

theorem sumF_apply (p : ℕ → FVec Ideal S256x512 .f32) (n : ℕ) (e : Fin 8) (col : Fin 512) :
    sumF p n (ix2 e col) = ∑ j ∈ Finset.range (n + 1), ∑ a : Fin 32, p j (ix2 ⟨a.val * 8 + e.val, by omega⟩ col) := by
  induction n with
  | zero => simp only [sumF, sum8_apply, zero_add, Finset.sum_range_one]
  | succ n ih =>
    rw [Finset.sum_range_succ, ← ih, ← sum8_apply]
    rfl

theorem pvF_apply (v : ℕ → Vec Ideal S128x256 .bf16) (p : ℕ → FVec Ideal S256x512 .f32) (n : ℕ) (d : Fin 128) (col : Fin 512) :
    pvF v p n (ix2 d col) = ∑ j ∈ Finset.range (n + 1), ∑ r : Fin 256, v j (ix2 d r) * p j (ix2 r col) := by
  induction n with
  | zero => simp only [pvF, pv_apply, zero_add, Finset.sum_range_one]
  | succ n ih =>
    rw [Finset.sum_range_succ, ← ih, ← pv_apply]
    rfl

theorem vLoad_apply (vt : Vec Ideal S128x4096 .bf16) (j : ℕ) (d : Fin 128) (r : Fin 256) :
    vLoad vt j (ix2 d r) = vt (ix2 d ⟨256 * (j % 16) + r.val, by omega⟩) := by
  pointwise [vLoad]

theorem kLoad_apply (x2 : Vec Ideal S1x4096x128 .bf16) (j : ℕ) (d : Fin 128) (r : Fin 256) :
    kLoad x2 j (ix3 0 r d) = x2 (ix3 0 ⟨256 * (j % 16) + r.val, by omega⟩ d) := by
  pointwise [kLoad]

theorem qLoad_apply (x0 : Vec Ideal S1x1024x512 .bf16) (u e : ℕ) (d : Fin 128) (r : Fin 256) :
    qLoad x0 u e (ix3 0 r d) = x0 (ix3 0 ⟨256 * (u % 4) + r.val, by omega⟩ ⟨256 * (u / 4 % 2) + 128 * (e % 2) + d.val, by omega⟩) := by
  pointwise [qLoad]

theorem qnLoad_apply (x1 : Vec Ideal S1x256x256 .bf16) (e : ℕ) (d : Fin 128) (r : Fin 256) :
    qnLoad x1 e (ix3 0 r d) = x1 (ix3 0 r ⟨128 * (e % 2) + d.val, by omega⟩) := by
  pointwise [qnLoad]

theorem pay3_apply (x3 : Vec Ideal S1x4096x128 .bf16) (d : Fin 128) (r : Fin 4096) : k0_pay3 x3 (ix2 d r) = x3 (ix3 0 r d) := by
  pointwise [k0_pay3]

theorem pay4_apply (x5 : Vec Ideal S1x256x128 .bf16) (d : Fin 128) (r : Fin 256) : k0_pay4 x5 (ix2 d r) = x5 (ix3 0 r d) := by
  pointwise [k0_pay4]

/-- The maxima are finite where the scores are. -/
theorem maxU_real (q : FVec Ideal S512x128 .bf16) (x2 : Vec Ideal S1x4096x128 .bf16) (x4 : Vec Ideal S1x256x128 .bf16) (col : Fin 512)
    (h : ∀ j < 16, ∀ r : Fin 256, ∃ t : ℝ, sc q (kLoad x2 j) (ix2 r col) = t) (hC : ∀ r : Fin 256, ∃ t : ℝ, sc q x4 (ix2 r col) = t) :
    ∃ t : ℝ, maxU q x2 x4 (ix3 0 0 col) = t := by
  have h8 : ∀ (p : FVec Ideal S256x512 .f32), (∀ r : Fin 256, ∃ t : ℝ, p (ix2 r col) = t) → ∀ e : Fin 8, ∃ t : ℝ, max8 p (ix2 e col) = t := by
    intro p hp e
    rw [max8_apply]
    exact Soft.fold_max_real _ fun a => hp _
  have hF : ∀ n < 16, ∀ e : Fin 8, ∃ t : ℝ, maxF (fun j => sc q (kLoad x2 j)) n (ix2 e col) = t := by
    intro n
    induction n with
    | zero => exact fun _ e => h8 _ (h 0 (by omega)) e
    | succ n ih => exact fun hn e => Soft.max_real (ih (by omega) e) (h8 _ (h (n + 1) hn) e)
  pointwise [maxU]
  rw [Soft.lit_neg_inf]
  exact Soft.fold_max_real _ fun e => Soft.max_real (hF 15 (by omega) e) (h8 _ hC e)

theorem sum4096 (g : Fin 4096 → EReal) :
    ∑ j ∈ Finset.range 16, ∑ r : Fin 256, g ⟨(j * 256 + r.val) % 4096, Nat.mod_lt _ (by omega)⟩ = ∑ r, g r := by
  rw [Soft.sum_chunks fun n => g ⟨n % 4096, Nat.mod_lt _ (by omega)⟩]
  exact Finset.sum_congr rfl fun r _ => congrArg g (Fin.ext (Nat.mod_eq_of_lt r.isLt))

theorem sum256 (g : Fin 256 → EReal) : ∑ e : Fin 8, ∑ a : Fin 32, g ⟨a.val * 8 + e.val, by omega⟩ = ∑ r : Fin 256, g r := by
  have := Soft.sum_sublanes fun n => g ⟨n % 256, Nat.mod_lt _ (by omega)⟩
  refine Eq.trans (Finset.sum_congr rfl fun e _ => Finset.sum_congr rfl fun a _ => ?_) (this.trans (Finset.sum_congr rfl fun r _ => ?_))
  · exact congrArg g (Fin.ext (Nat.mod_eq_of_lt (by dsimp only; omega)).symm)
  · exact congrArg g (Fin.ext (Nat.mod_eq_of_lt r.isLt))

theorem otU_raw (vt : Vec Ideal S128x4096 .bf16) (vct : Vec Ideal S128x256 .bf16) (s : ℕ → Vec Ideal S1x256x512 .f32)
    (sC : Vec Ideal S1x256x512 .f32) (m : Vec Ideal S1x1x512 .f32) (d : Fin 128) (col : Fin 512) :
    otU vt vct s sC m (ix2 d col)
      = (pvF (vLoad vt) (fun j => pU m (s j)) 15 (ix2 d col) + pv vct (pU m sC) (ix2 d col))
        * Ideal.div 1 (∑ x : Fin 8, (sumF (fun j => pU m (s j)) 15 (ix2 x col) + sum8 (pU m sC) (ix2 x col))) := by
  pointwise [otU]

theorem den_apply (p : ℕ → FVec Ideal S256x512 .f32) (pC : FVec Ideal S256x512 .f32) (col : Fin 512) :
    ∑ x : Fin 8, (sumF p 15 (ix2 x col) + sum8 pC (ix2 x col))
      = ∑ j ∈ Finset.range 16, ∑ r : Fin 256, p j (ix2 r col) + ∑ r : Fin 256, pC (ix2 r col) := by
  rw [Finset.sum_add_distrib]
  refine congrArg₂ (· + ·) ?_ ?_
  · refine (Finset.sum_congr rfl fun e _ => sumF_apply p 15 e col).trans (Finset.sum_comm.trans (Finset.sum_congr rfl fun j _ => ?_))
    exact sum256 fun r => p j (ix2 r col)
  · exact (Finset.sum_congr rfl fun e _ => sum8_apply pC e col).trans (sum256 fun r => pC (ix2 r col))

/-- A unit's result at an element, from the transposed values, scores `S` by key row, and the maximum. -/
theorem otU_apply (vt : Vec Ideal S128x4096 .bf16) (vct : Vec Ideal S128x256 .bf16) (s : ℕ → Vec Ideal S1x256x512 .f32)
    (sC : Vec Ideal S1x256x512 .f32) (m : Vec Ideal S1x1x512 .f32) (d : Fin 128) (col : Fin 512) (S : Fin 4096 → EReal)
    (hS : ∀ j (hj : j < 16) (r : Fin 256), s j (ix3 0 r col) = S ⟨j * 256 + r.val, by omega⟩) :
    otU vt vct s sC m (ix2 d col)
      = (∑ r, vt (ix2 d r) * Ideal.exp2 (S r - m (ix3 0 0 col)) + ∑ r, vct (ix2 d r) * Ideal.exp2 (sC (ix3 0 r col) - m (ix3 0 0 col)))
        * Ideal.div 1 (∑ r, Ideal.exp2 (S r - m (ix3 0 0 col)) + ∑ r, Ideal.exp2 (sC (ix3 0 r col) - m (ix3 0 0 col))) := by
  have hx : ∀ (j : ℕ) (r : Fin 256), j < 16 → (⟨256 * (j % 16) + r.val, by omega⟩ : Fin 4096) = ⟨(j * 256 + r.val) % 4096, Nat.mod_lt _ (by omega)⟩ :=
    fun j r _ => Fin.ext (by dsimp only; omega)
  have hy : ∀ (j : ℕ) (hj : j < 16) (r : Fin 256), (⟨j * 256 + r.val, by omega⟩ : Fin 4096) = ⟨(j * 256 + r.val) % 4096, Nat.mod_lt _ (by omega)⟩ :=
    fun j _ r => Fin.ext (by dsimp only; omega)
  have hp : ∀ j ∈ Finset.range 16, ∀ r : Fin 256, pU m (s j) (ix2 r col)
      = Ideal.exp2 (S ⟨(j * 256 + r.val) % 4096, Nat.mod_lt _ (by omega)⟩ - m (ix3 0 0 col)) := by
    intro j hj r
    have hj' := Finset.mem_range.mp hj
    rw [pU_apply, hS j hj', hy j hj' r]
  have hC : ∀ r : Fin 256, pU m sC (ix2 r col) = Ideal.exp2 (sC (ix3 0 r col) - m (ix3 0 0 col)) := fun r => pU_apply _ _ _ _
  rw [otU_raw, den_apply, pvF_apply, pv_apply]
  refine congrArg₂ (fun a b : EReal => a * Ideal.div 1 b) (congrArg₂ (· + ·) ?_ ?_) (congrArg₂ (· + ·) ?_ ?_)
  · refine Eq.trans (Finset.sum_congr rfl fun j hj => Finset.sum_congr rfl fun r _ => ?_) (sum4096 fun r => vt (ix2 d r) * Ideal.exp2 (S r - m (ix3 0 0 col)))
    rw [hp j hj r, vLoad_apply, hx j r (Finset.mem_range.mp hj)]
  · exact Finset.sum_congr rfl fun r _ => congrArg (vct (ix2 d r) * ·) (hC r)
  · refine Eq.trans (Finset.sum_congr rfl fun j hj => Finset.sum_congr rfl fun r _ => ?_) (sum4096 fun r => Ideal.exp2 (S r - m (ix3 0 0 col)))
    rw [hp j hj r]
  · exact Finset.sum_congr rfl fun r _ => hC r

end Cert.KernelIdeal.Att

end
-- ==== Proof.BlockVal.lean ====
/- What the kernel leaves in an output block, element by element. -/
module

public import proofs.«01_k».proof.Proof.UnitVal

@[expose] public section

set_option maxRecDepth 16384

noncomputable section

namespace Cert.KernelIdeal.Att

open Idealize.ShloMosaic Idealize.ShloMosaic.TcCoe Idealize.ShloMosaic.Tactic
open Cert Cert.KernelIdeal Cert.KernelIdeal.Gen

/-- The keys one group attends to: the latents', then the context's. -/
def keys (x2 : Vec Ideal S1x4096x128 .bf16) (x4 : Vec Ideal S1x256x128 .bf16) : Fin 4096 ⊕ Fin 256 → Fin 128 → EReal :=
  Sum.elim (fun r e => x2 (ix3 0 r e)) (fun r e => x4 (ix3 0 r e))

/-- Column `d` of their values. -/
def vals (vt : Vec Ideal S128x4096 .bf16) (vct : Vec Ideal S128x256 .bf16) (d : Fin 128) : Fin 4096 ⊕ Fin 256 → EReal :=
  Sum.elim (fun r => vt (ix2 d r)) (fun r => vct (ix2 d r))

/-- A unit's result is the softmax average, its queries being `qr` scaled. -/
theorem resU_apply (vt : Vec Ideal S128x4096 .bf16) (vct : Vec Ideal S128x256 .bf16) (x2 : Vec Ideal S1x4096x128 .bf16)
    (x4 : Vec Ideal S1x256x128 .bf16) (q : FVec Ideal S512x128 .bf16) (d : Fin 128) (col : Fin 512) (qr : Fin 128 → EReal)
    (hqr : ∀ e, q (ix2 col e) = qr e * Soft.scale) (hq : ∀ e, ∃ t : ℝ, qr e = t) (hk : ∀ i e, ∃ t : ℝ, keys x2 x4 i e = t) :
    resU vt vct x2 x4 q (ix2 d col) = Soft.attR qr (keys x2 x4) (vals vt vct d) := by
  have hsk : ∀ j < 16, ∀ r : Fin 256, sc q (kLoad x2 j) (ix2 r col)
      = ∑ e, keys x2 x4 (.inl ⟨256 * (j % 16) + r.val, by omega⟩) e * (qr e * Soft.scale) := by
    intro j _ r
    rw [sc_apply]
    exact Finset.sum_congr rfl fun e _ => by rw [kLoad_apply, hqr]; rfl
  have hsc : ∀ r : Fin 256, sc q x4 (ix2 r col) = ∑ e, keys x2 x4 (.inr r) e * (qr e * Soft.scale) := by
    intro r
    rw [sc_apply]
    exact Finset.sum_congr rfl fun e _ => by rw [hqr]; rfl
  have hM := maxU_real q x2 x4 col (fun j hj r => by rw [hsk j hj r]; exact Soft.score_real _ _ hq (hk _))
    (fun r => by rw [hsc r]; exact Soft.score_real _ _ hq (hk _))
  unfold resU
  rw [otU_apply vt vct _ _ _ d col fun r => ∑ e, keys x2 x4 (.inl r) e * (qr e * Soft.scale)]
  · rw [← Soft.ker_attR qr _ (vals vt vct d) _ hq hk hM]
    have hC : ∀ r : Fin 256, scS q x4 (ix3 0 r col) = ∑ e, keys x2 x4 (.inr r) e * (qr e * Soft.scale) :=
      fun r => (scS_apply q x4 r col).trans ((sc_apply q x4 r col).symm.trans (hsc r))
    simp only [hC, Fintype.sum_sum_type, vals, Sum.elim_inl, Sum.elim_inr]
  · intro j hj r
    refine (scS_apply _ _ _ _).trans ((sc_apply _ _ _ _).symm.trans ((hsk j hj r).trans ?_))
    have : (⟨256 * (j % 16) + r.val, by omega⟩ : Fin 4096) = ⟨j * 256 + r.val, by omega⟩ := Fin.ext (by dsimp only; omega)
    rw [this]

/-- The queries of unit `u`, stacked. -/
theorem qU_apply0 (x0 : Vec Ideal S1x1024x512 .bf16) (u : ℕ) (r : Fin 256) (e : Fin 128) :
    qU x0 u (ix2 ⟨r.val, by omega⟩ e) = x0 (ix3 0 ⟨256 * (u % 4) + r.val, by omega⟩ ⟨256 * (u / 4 % 2) + e.val, by omega⟩) :=
  (stack_apply0 _ _ r e).trans ((qLoad_apply x0 u 0 e r).trans (by congr 2))

theorem qU_apply1 (x0 : Vec Ideal S1x1024x512 .bf16) (u : ℕ) (r : Fin 256) (e : Fin 128) :
    qU x0 u (ix2 ⟨256 + r.val, by omega⟩ e) = x0 (ix3 0 ⟨256 * (u % 4) + r.val, by omega⟩ ⟨256 * (u / 4 % 2) + 128 + e.val, by omega⟩) :=
  (stack_apply1 _ _ r e).trans ((qLoad_apply x0 u 1 e r).trans (by congr 2))

/-- What an output block holds: row `a`, column `c`, of the queries `X`. -/
def blockOf (X : Fin 1024 → Fin 512 → EReal) (vt : Vec Ideal S128x4096 .bf16) (vct : Vec Ideal S128x256 .bf16)
    (x2 : Vec Ideal S1x4096x128 .bf16) (x4 : Vec Ideal S1x256x128 .bf16) (a : Fin 1024) (c : Fin 512) : EReal :=
  Soft.attR (fun e => X a ⟨128 * (c.val / 128) + e.val, by omega⟩) (keys x2 x4) (vals vt vct ⟨c.val % 128, Nat.mod_lt _ (by omega)⟩)

section
variable (vt : Vec Ideal S128x4096 .bf16) (vct : Vec Ideal S128x256 .bf16) (x0 : Vec Ideal S1x1024x512 .bf16)
  (x2 : Vec Ideal S1x4096x128 .bf16) (x4 : Vec Ideal S1x256x128 .bf16) (X : Fin 1024 → Fin 512 → EReal)
  (hX : ∀ a c, x0 (ix3 0 a c) = X a c * Soft.scale) (hq : ∀ a c, ∃ t : ℝ, X a c = t) (hk : ∀ i e, ∃ t : ℝ, keys x2 x4 i e = t)

include hX hq hk in
theorem half0_block (u : ℕ) (r : Fin 256) (d : Fin 128) :
    half0 (resU vt vct x2 x4 (qU x0 u)) (ix3 0 r d)
      = blockOf X vt vct x2 x4 ⟨256 * (u % 4) + r.val, by omega⟩ ⟨256 * (u / 4 % 2) + d.val, by omega⟩ := by
  rw [half0_apply, resU_apply vt vct x2 x4 _ d _ (fun e => X ⟨256 * (u % 4) + r.val, by omega⟩ ⟨256 * (u / 4 % 2) + e.val, by omega⟩)
    (fun e => (qU_apply0 x0 u r e).trans (hX _ _)) (fun e => hq _ _) hk]
  have h1 : ∀ e : Fin 128, (⟨256 * (u / 4 % 2) + e.val, by omega⟩ : Fin 512) = ⟨128 * ((256 * (u / 4 % 2) + d.val) / 128) + e.val, by omega⟩ :=
    fun e => Fin.ext (by dsimp only; omega)
  have h2 : d = ⟨(256 * (u / 4 % 2) + d.val) % 128, Nat.mod_lt _ (by omega)⟩ := Fin.ext (by dsimp only; omega)
  unfold blockOf
  simp only [h1]
  exact congrArg (fun z => Soft.attR _ (keys x2 x4) (vals vt vct z)) h2

include hX hq hk in
theorem half1_block (u : ℕ) (r : Fin 256) (d : Fin 128) :
    half1 (resU vt vct x2 x4 (qU x0 u)) (ix3 0 r d)
      = blockOf X vt vct x2 x4 ⟨256 * (u % 4) + r.val, by omega⟩ ⟨256 * (u / 4 % 2) + 128 + d.val, by omega⟩ := by
  rw [half1_apply, resU_apply vt vct x2 x4 _ d _ (fun e => X ⟨256 * (u % 4) + r.val, by omega⟩ ⟨256 * (u / 4 % 2) + 128 + e.val, by omega⟩)
    (fun e => (qU_apply1 x0 u r e).trans (hX _ _)) (fun e => hq _ _) hk]
  have h1 : ∀ e : Fin 128, (⟨256 * (u / 4 % 2) + 128 + e.val, by omega⟩ : Fin 512)
      = ⟨128 * ((256 * (u / 4 % 2) + 128 + d.val) / 128) + e.val, by omega⟩ :=
    fun e => Fin.ext (by dsimp only; omega)
  have h2 : d = ⟨(256 * (u / 4 % 2) + 128 + d.val) % 128, Nat.mod_lt _ (by omega)⟩ := Fin.ext (by dsimp only; omega)
  unfold blockOf
  simp only [h1]
  exact congrArg (fun z => Soft.attR _ (keys x2 x4) (vals vt vct z)) h2

/-- Every store of unit `u` is a block of `blockOf`. -/
theorem pieces_putU (u : ℕ) (L : List (View.Piece (Elt Ideal) S1x1024x512 .bf16))
    (h : View.PiecesOf (fun y : S1x1024x512.Idx => blockOf X vt vct x2 x4 (y 1) (y 2)) L) (w : FVec Ideal S128x512 .f32)
    (h0 : ∀ r d, half0 w (ix3 0 r d) = blockOf X vt vct x2 x4 ⟨256 * (u % 4) + r.val, by omega⟩ ⟨256 * (u / 4 % 2) + d.val, by omega⟩)
    (h1 : ∀ r d, half1 w (ix3 0 r d) = blockOf X vt vct x2 x4 ⟨256 * (u % 4) + r.val, by omega⟩ ⟨256 * (u / 4 % 2) + 128 + d.val, by omega⟩) :
    View.PiecesOf (fun y : S1x1024x512.Idx => blockOf X vt vct x2 x4 (y 1) (y 2)) (putU u w L) := by
  refine ⟨fun x => ?_, fun x => ?_, h⟩
  · have hx : x = ix3 0 (x 1) (x 2) := funext fun a => by fin_cases a <;> first | rfl | exact Fin.ext (by have := (x 0).isLt; change (x 0).val < 1 at this; change (x 0).val = 0; omega)
    rw [hx]
    refine (h1 (x 1) (x 2)).trans ?_
    congr 1 <;> exact Fin.ext (by simp [Rect.emb, Rect.unit])
  · have hx : x = ix3 0 (x 1) (x 2) := funext fun a => by fin_cases a <;> first | rfl | exact Fin.ext (by have := (x 0).isLt; change (x 0).val < 1 at this; change (x 0).val = 0; omega)
    rw [hx]
    refine (h0 (x 1) (x 2)).trans ?_
    congr 1 <;> exact Fin.ext (by simp [Rect.emb, Rect.unit])

include hX hq hk in
theorem pieces_putF (n : ℕ) : View.PiecesOf (fun y : S1x1024x512.Idx => blockOf X vt vct x2 x4 (y 1) (y 2))
    (putF vt vct x0 x2 x4 (resU vt vct x2 x4 (qU x0 0)) n) := by
  induction n with
  | zero => exact pieces_putU vt vct x2 x4 X 0 [] trivial _ (half0_block vt vct x0 x2 x4 X hX hq hk 0) (half1_block vt vct x0 x2 x4 X hX hq hk 0)
  | succ n ih => exact pieces_putU vt vct x2 x4 X (n + 1) _ ih _ (half0_block vt vct x0 x2 x4 X hX hq hk _) (half1_block vt vct x0 x2 x4 X hX hq hk _)

/-- The stores of units `0 … n` cover those units' rows and columns. -/
theorem putF_covers (w0 : FVec Ideal S128x512 .f32) (n : ℕ) (y : S1x1024x512.Idx) (hy : (y 1).val / 256 + 4 * ((y 2).val / 256) ≤ n) :
    ∃ p ∈ putF vt vct x0 x2 x4 w0 n, y ∈ p.1.set := by
  have key : ∀ (u : ℕ) (w : FVec Ideal S128x512 .f32) (L : List (View.Piece (Elt Ideal) S1x1024x512 .bf16)),
      (y 1).val / 256 + 4 * ((y 2).val / 256) = u → ∃ p ∈ putU u w L, y ∈ p.1.set := by
    intro u w L hu
    have y0 : (y 0).val < 1 := (y 0).isLt
    have y1 : (y 1).val < 1024 := (y 1).isLt
    have y2 : (y 2).val < 512 := (y 2).isLt
    by_cases hh : (y 2).val / 128 % 2 = 1
    · refine ⟨_, List.mem_cons_self, ?_⟩
      rw [Rect.mem_set_unit]
      intro a
      fin_cases a <;> simp <;> omega
    · refine ⟨_, List.mem_cons_of_mem _ List.mem_cons_self, ?_⟩
      rw [Rect.mem_set_unit]
      intro a
      fin_cases a <;> simp <;> omega
  induction n with
  | zero => exact key 0 _ _ (by omega)
  | succ n ih =>
    rcases Nat.lt_or_ge ((y 1).val / 256 + 4 * ((y 2).val / 256)) (n + 1) with h | h
    · obtain ⟨p, hp, hyp⟩ := ih (by omega)
      exact ⟨p, List.mem_cons_of_mem _ (List.mem_cons_of_mem _ hp), hyp⟩
    · exact key (n + 1) _ _ (by omega)

include hX hq hk in
/-- The block the stores leave. -/
theorem putF_canon (y : S1x1024x512.Idx) : View.canon (putF vt vct x0 x2 x4 (resU vt vct x2 x4 (qU x0 0)) 7) y
    = blockOf X vt vct x2 x4 (y 1) (y 2) :=
  View.canon_apply_of_pieces (fun y : S1x1024x512.Idx => blockOf X vt vct x2 x4 (y 1) (y 2)) _ (pieces_putF vt vct x0 x2 x4 X hX hq hk 7).mem y
    (putF_covers vt vct x0 x2 x4 _ 7 y (by
      have y1 : (y 1).val < 1024 := (y 1).isLt
      have y2 : (y 2).val < 512 := (y 2).isLt
      omega))
end

end Cert.KernelIdeal.Att

end
-- ==== Proof.BodyA.lean ====
/- The body at a point that is the first of its group: what it stores, in terms of `Unit.lean`. -/
module

public import proofs.«01_k».proof.Proof.Unit

@[expose] public section

set_option maxRecDepth 65536

noncomputable section

namespace Cert.KernelIdeal.Att

open Idealize.ShloMosaic Idealize.ShloMosaic.TcCoe Idealize.ShloMosaic.Tactic
open Cert.KernelIdeal Cert.KernelIdeal.Gen

variable {F : FTy → Type} [FloatOps F]
variable (c : Dev nD) (i : grid0.Coords)
  (arg3 : Memref sig .tc .vmem S1x1024x512 .bf16) (harg3 : arg3.IsWhole)
  (arg4 : Memref sig .tc .vmem S1x256x256 .bf16) (harg4 : arg4.IsWhole)
  (arg5 : Memref sig .tc .vmem S1x4096x128 .bf16) (harg5 : arg5.IsWhole)
  (arg6 : Memref sig .tc .vmem S1x4096x128 .bf16) (harg6 : arg6.IsWhole)
  (arg7 : Memref sig .tc .vmem S1x256x128 .bf16) (harg7 : arg7.IsWhole)
  (arg8 : Memref sig .tc .vmem S1x256x128 .bf16) (harg8 : arg8.IsWhole)
  (arg9 : Memref sig .tc .vmem S1x1024x512 .bf16) (harg9 : arg9.IsWhole)
  (arg10 : Memref sig .tc .vmem S128x4096 .bf16) (harg10 : arg10.IsWhole)
  (arg11 : Memref sig .tc .vmem S128x256 .bf16) (harg11 : arg11.IsWhole)
  (arg12 : Memref sig .tc .vmem S2x4352x512 .f32) (harg12 : arg12.IsWhole)
  (arg13 : Memref sig .tc .vmem S2x1x512 .f32) (harg13 : arg13.IsWhole)
  (hc0 : cond0_0 i)
  (x0 : Vec F S1x1024x512 .bf16) (x1 : Vec F S1x256x256 .bf16) (x2 : Vec F S1x4096x128 .bf16) (x3 : Vec F S1x4096x128 .bf16)
  (x4 : Vec F S1x256x128 .bf16) (x5 : Vec F S1x256x128 .bf16)

set_option maxHeartbeats 2000000 in
theorem out_A : out0_A_6 c i arg3 harg3 arg4 harg4 arg5 harg5 arg6 harg6 arg7 harg7 arg8 harg8 arg9 harg9 arg10 harg10 arg11 harg11
      arg12 harg12 arg13 harg13 hc0 x0 x1 x2 x3 x4 x5
    = View.canon (putF (k0_pay3 x3) (k0_pay4 x5) x0 x2 x4 (resU (k0_pay3 x3) (k0_pay4 x5) x2 x4 (qU x0 0)) 7) := by
  frame_open
  simp (disch := decide) only [View.read_writes_junk_eq_canon, ↓ View.readCov_skip, ↓ View.readCov_cons_toLoadRect, ↓ View.readCov_fill,
    View.readAt_eq_ld, Memref.IsWhole.read_unread]
  refine congrArg View.canon ?_
  simp only [putF, putU]
  iterate 16
    refine congr (congrArg List.cons (congrArg (Sigma.mk _) ?_)) ?_
    · first | refine congrArg half1 ?_ | refine congrArg half0 ?_
      open_payloads
      simp only [resU, otU, pvF, sumF, pU, pv, sum8, sLoad, vLoad, mLoad, qU, stack, qLoad, kLoad, scS, sc, maxU, maxF, max8]
      try rfl
  rfl

theorem vt_A : sout0_A_0 c i arg3 harg3 arg4 harg4 arg5 harg5 arg6 harg6 arg7 harg7 arg8 harg8 arg9 harg9 arg10 harg10 arg11 harg11
      arg12 harg12 arg13 harg13 hc0 x0 x1 x2 x3 x4 x5 = k0_pay3 x3 := by
  frame_out

theorem vct_A : sout0_A_1 c i arg3 harg3 arg4 harg4 arg5 harg5 arg6 harg6 arg7 harg7 arg8 harg8 arg9 harg9 arg10 harg10 arg11 harg11
      arg12 harg12 arg13 harg13 hc0 x0 x1 x2 x3 x4 x5 = k0_pay4 x5 := by
  frame_out

set_option maxHeartbeats 2000000 in
theorem s_A : ∃ L, sout0_A_2 c i arg3 harg3 arg4 harg4 arg5 harg5 arg6 harg6 arg7 harg7 arg8 harg8 arg9 harg9 arg10 harg10 arg11 harg11
      arg12 harg12 arg13 harg13 hc0 x0 x1 x2 x3 x4 x5
    = View.canon (putSU (qN x1) x2 x4 L) := by
  refine ⟨?_, ?_⟩
  rotate_left
  · frame_open
    simp (disch := decide) only [View.read_writes_junk_eq_canon, View.readAt_eq_ld, Memref.IsWhole.read_unread]
    refine congrArg View.canon ?_
    simp only [putSU, putS]
    iterate 17
      refine congr (congrArg List.cons (congrArg (Sigma.mk _) ?_)) ?_
      · open_payloads
        simp only [qN, stack, qnLoad, kLoad, scS, sc]
        try rfl
    exact rfl

set_option maxHeartbeats 2000000 in
theorem m_A : ∃ L, sout0_A_3 c i arg3 harg3 arg4 harg4 arg5 harg5 arg6 harg6 arg7 harg7 arg8 harg8 arg9 harg9 arg10 harg10 arg11 harg11
      arg12 harg12 arg13 harg13 hc0 x0 x1 x2 x3 x4 x5
    = View.canon (putM (maxU (qN x1) x2 x4) L) := by
  refine ⟨?_, ?_⟩
  rotate_left
  · frame_open
    simp (disch := decide) only [View.read_writes_junk_eq_canon, View.readAt_eq_ld, Memref.IsWhole.read_unread]
    refine congrArg View.canon ?_
    simp only [putM]
    refine congr (congrArg List.cons (congrArg (Sigma.mk _) ?_)) ?_
    · open_payloads
      simp only [qN, stack, qnLoad, kLoad, scS, sc, maxU, maxF, max8]
      try rfl
    exact rfl

end Cert.KernelIdeal.Att

end
-- ==== Proof.BodyB.lean ====
/- The body at a point that is not the first of its group: what it stores, in terms of `Unit.lean`. -/
module

public import proofs.«01_k».proof.Proof.Unit

@[expose] public section

set_option maxRecDepth 65536

noncomputable section

namespace Cert.KernelIdeal.Att

open Idealize.ShloMosaic Idealize.ShloMosaic.TcCoe Idealize.ShloMosaic.Tactic
open Cert.KernelIdeal Cert.KernelIdeal.Gen

variable {F : FTy → Type} [FloatOps F]
variable (c : Dev nD) (i : grid0.Coords)
  (arg3 : Memref sig .tc .vmem S1x1024x512 .bf16) (harg3 : arg3.IsWhole)
  (arg4 : Memref sig .tc .vmem S1x256x256 .bf16) (harg4 : arg4.IsWhole)
  (arg5 : Memref sig .tc .vmem S1x4096x128 .bf16) (harg5 : arg5.IsWhole)
  (arg6 : Memref sig .tc .vmem S1x4096x128 .bf16) (harg6 : arg6.IsWhole)
  (arg7 : Memref sig .tc .vmem S1x256x128 .bf16) (harg7 : arg7.IsWhole)
  (arg8 : Memref sig .tc .vmem S1x256x128 .bf16) (harg8 : arg8.IsWhole)
  (arg9 : Memref sig .tc .vmem S1x1024x512 .bf16) (harg9 : arg9.IsWhole)
  (arg10 : Memref sig .tc .vmem S128x4096 .bf16) (harg10 : arg10.IsWhole)
  (arg11 : Memref sig .tc .vmem S128x256 .bf16) (harg11 : arg11.IsWhole)
  (arg12 : Memref sig .tc .vmem S2x4352x512 .f32) (harg12 : arg12.IsWhole)
  (arg13 : Memref sig .tc .vmem S2x1x512 .f32) (harg13 : arg13.IsWhole)
  (hc0 : ¬cond0_0 i)
  (x0 : Vec F S1x1024x512 .bf16) (x1 : Vec F S1x256x256 .bf16) (x2 : Vec F S1x4096x128 .bf16) (x3 : Vec F S1x4096x128 .bf16)
  (x4 : Vec F S1x256x128 .bf16) (x5 : Vec F S1x256x128 .bf16) (xs0 : Vec F S128x4096 .bf16) (xs1 : Vec F S128x256 .bf16)
  (xs2 : Vec F S2x4352x512 .f32) (xs3 : Vec F S2x1x512 .f32)

set_option maxHeartbeats 2000000 in
theorem out_B : out0_B_6 c i arg3 harg3 arg4 harg4 arg5 harg5 arg6 harg6 arg7 harg7 arg8 harg8 arg9 harg9 arg10 harg10 arg11 harg11
      arg12 harg12 arg13 harg13 hc0 x0 x1 x2 x3 x4 x5 xs0 xs1 xs2 xs3
    = View.canon (putF xs0 xs1 x0 x2 x4 (otU xs0 xs1 (sLoad xs2) (sLoad xs2 16) (mLoad xs3)) 7) := by
  frame_open
  simp (disch := decide) only [View.read_writes_junk_eq_canon, ↓ View.readCov_skip, ↓ View.readCov_cons_toLoadRect,
    View.readAt_eq_ld, Memref.IsWhole.read_unread]
  refine congrArg View.canon ?_
  simp only [putF, putU]
  iterate 16
    refine congr (congrArg List.cons (congrArg (Sigma.mk _) ?_)) ?_
    · first | refine congrArg half1 ?_ | refine congrArg half0 ?_
      open_payloads
      simp only [resU, otU, pvF, sumF, pU, pv, sum8, sLoad, vLoad, mLoad, qU, stack, qLoad, kLoad, scS, sc, maxU, maxF, max8]
      try rfl
  rfl

set_option maxHeartbeats 2000000 in
theorem s_B : ∃ L, sout0_B_2 c i arg3 harg3 arg4 harg4 arg5 harg5 arg6 harg6 arg7 harg7 arg8 harg8 arg9 harg9 arg10 harg10 arg11 harg11
      arg12 harg12 arg13 harg13 hc0 x0 x1 x2 x3 x4 x5 xs0 xs1 xs2 xs3
    = View.canon (putSU (qN x1) x2 x4 L) := by
  refine ⟨?_, ?_⟩
  rotate_left
  · frame_open
    simp (disch := decide) only [View.read_writes_junk_eq_canon, View.readAt_eq_ld, Memref.IsWhole.read_unread]
    refine congrArg View.canon ?_
    simp only [putSU, putS]
    iterate 17
      refine congr (congrArg List.cons (congrArg (Sigma.mk _) ?_)) ?_
      · open_payloads
        simp only [qN, stack, qnLoad, kLoad, scS, sc]
        try rfl
    exact rfl

set_option maxHeartbeats 2000000 in
theorem m_B : ∃ L, sout0_B_3 c i arg3 harg3 arg4 harg4 arg5 harg5 arg6 harg6 arg7 harg7 arg8 harg8 arg9 harg9 arg10 harg10 arg11 harg11
      arg12 harg12 arg13 harg13 hc0 x0 x1 x2 x3 x4 x5 xs0 xs1 xs2 xs3
    = View.canon (putM (maxU (qN x1) x2 x4) L) := by
  refine ⟨?_, ?_⟩
  rotate_left
  · frame_open
    simp (disch := decide) only [View.read_writes_junk_eq_canon, View.readAt_eq_ld, Memref.IsWhole.read_unread]
    refine congrArg View.canon ?_
    simp only [putM]
    refine congr (congrArg List.cons (congrArg (Sigma.mk _) ?_)) ?_
    · open_payloads
      simp only [qN, stack, qnLoad, kLoad, scS, sc, maxU, maxF, max8]
      try rfl
    exact rfl

end Cert.KernelIdeal.Att

end
-- ==== Proof.Points.lean ====
/- What each grid point finds and leaves: its blocks' places in the arrays, and the scratch carried between points. -/
module

public import proofs.«01_k».proof.Proof.BodyA
public import proofs.«01_k».proof.Proof.BodyB
public import proofs.«01_k».proof.Proof.UnitVal
public import Idealize.ShloMosaic.Lib.Tactic.IndexArith

@[expose] public section

set_option maxRecDepth 16384

noncomputable section

namespace Cert.KernelIdeal.Att

open Idealize.ShloMosaic Idealize.ShloMosaic.TcCoe Idealize.ShloMosaic.Tactic
open Cert.KernelIdeal Cert.KernelIdeal.Gen

/-- The blocks that grid point `t` uses. -/
theorem idx : ∀ t : Fin cfg0.N, win0_0.index t = ![t.val / 16, t.val % 4, t.val / 4 % 4]
    ∧ win0_1.index t = ![t.val / 16, 4 * min (t.val % 4 + 1) 3, 2 * (t.val / 4 % 4)]
    ∧ win0_2.index t = ![t.val / 16, 0, 16 + t.val / 4 % 4] ∧ win0_3.index t = ![t.val / 16, 0, 20 + t.val / 4 % 4]
    ∧ win0_4.index t = ![t.val / 16, 0, t.val / 4 % 4] ∧ win0_5.index t = ![t.val / 16, 0, 4 + t.val / 4 % 4]
    ∧ win0_6.index t = ![t.val / 16, t.val % 4, t.val / 4 % 4] := by
  decide +kernel

variable (m : (ℓ : Loc nD τ sig) → Buf (Elt Ideal) ℓ)

/-- The kernel's array: the queries scaled, the rest as it is. -/
def hostV (x : Vec Ideal S4x4096x11264 .bf16) : Vec Ideal S4x4096x11264 .bf16 :=
  concatenate S4x4096x11264 2 [⟨S4x4096x2048, truncf (F := Ideal) .bf16 (mulf (extf .f32 (extractStridedSlice S4x4096x2048 ![0, 0, 0] x slices_S4x4096x11264_S4x4096x2048_0_0_0) bitsLt_bf16_f32)
      (broadcastInDim S4x4096x2048 ![] bcast_S_S4x4096x2048 (Host.divf (constant S_ .f32 0x3F800000#32)
        (mulf (Host.sqrt (constant S_ .f32 0x43000000#32)) (Host.log (constant S_ .f32 0x40000000#32)))))) bitsLt_bf16_f32⟩,
    ⟨S4x4096x9216, extractStridedSlice S4x4096x9216 ![0, 0, 2048] x slices_S4x4096x11264_S4x4096x9216_0_0_2048⟩]
    concatenates_S4x4096x2048_S4x4096x9216_S4x4096x11264_d2

theorem V_main_v10 (c : Dev nD) : V m c main_v10 = hostV (m ((c : Thread nD τ).loc main_arg0)) := by
  unfold_abbrev_sides
  after_results
  rfl

/-! ## Points of one group share the keys and values -/

section
variable (c : Dev nD) (t t' : Fin cfg0.N)

theorem same2 (h : t.val / 4 = t'.val / 4) : iblk m c 2 t = iblk m c 2 t' := by
  obtain ⟨h0, h1, h2, h3, h4, h5, h6⟩ := idx t
  obtain ⟨h0', h1', h2', h3', h4', h5', h6'⟩ := idx t'
  funext y
  blk_ext [iblk, h2, h2']

theorem same3 (h : t.val / 4 = t'.val / 4) : iblk m c 3 t = iblk m c 3 t' := by
  obtain ⟨h0, h1, h2, h3, h4, h5, h6⟩ := idx t
  obtain ⟨h0', h1', h2', h3', h4', h5', h6'⟩ := idx t'
  funext y
  blk_ext [iblk, h3, h3']

theorem same4 (h : t.val / 4 = t'.val / 4) : iblk m c 4 t = iblk m c 4 t' := by
  obtain ⟨h0, h1, h2, h3, h4, h5, h6⟩ := idx t
  obtain ⟨h0', h1', h2', h3', h4', h5', h6'⟩ := idx t'
  funext y
  blk_ext [iblk, h4, h4']

theorem same5 (h : t.val / 4 = t'.val / 4) : iblk m c 5 t = iblk m c 5 t' := by
  obtain ⟨h0, h1, h2, h3, h4, h5, h6⟩ := idx t
  obtain ⟨h0', h1', h2', h3', h4', h5', h6'⟩ := idx t'
  funext y
  blk_ext [iblk, h5, h5']

/-- The queries fetched ahead are the next point's first unit's. -/
theorem ahead (h : t.val / 4 = t'.val / 4) (h1 : t'.val + 1 = t.val) : qN (iblk m c 1 t') = qU (iblk m c 0 t) 0 := by
  obtain ⟨h0, _, h2, h3, h4, h5, h6⟩ := idx t
  obtain ⟨h0', h1', h2', h3', h4', h5', h6'⟩ := idx t'
  have key : ∀ e, qnLoad (iblk m c 1 t') e = qLoad (iblk m c 0 t) 0 e := by
    intro e
    funext y
    have hx : y = ix3 0 (y 1) (y 2) := funext fun a => by
      fin_cases a <;> first | rfl | exact Fin.ext (by have := (y 0).isLt; change (y 0).val < 1 at this; change (y 0).val = 0; omega)
    rw [hx]
    refine (qnLoad_apply _ e (y 2) (y 1)).trans (Eq.trans ?_ (qLoad_apply _ 0 e (y 2) (y 1)).symm)
    blk_ext [iblk, h0, h1']
  unfold qN qU
  rw [key, key]
end

/-! ## The unit whose scores the point before left -/

theorem pvF_congr (v : ℕ → Vec Ideal S128x256 .bf16) (p p' : ℕ → FVec Ideal S256x512 .f32) (n : ℕ) (h : ∀ j ≤ n, p j = p' j) :
    pvF v p n = pvF v p' n := by
  induction n with
  | zero => unfold pvF; rw [h 0 le_rfl]
  | succ n ih => unfold pvF; rw [ih fun j hj => h j (by omega), h (n + 1) le_rfl]

theorem sumF_congr (p p' : ℕ → FVec Ideal S256x512 .f32) (n : ℕ) (h : ∀ j ≤ n, p j = p' j) : sumF p n = sumF p' n := by
  induction n with
  | zero => unfold sumF; rw [h 0 le_rfl]
  | succ n ih => unfold sumF; rw [ih fun j hj => h j (by omega), h (n + 1) le_rfl]

theorem otU_congr (vt : Vec Ideal S128x4096 .bf16) (vct : Vec Ideal S128x256 .bf16) (s s' : ℕ → Vec Ideal S1x256x512 .f32)
    (sC : Vec Ideal S1x256x512 .f32) (mx : Vec Ideal S1x1x512 .f32) (h : ∀ j < 16, s j = s' j) : otU vt vct s sC mx = otU vt vct s' sC mx := by
  have hp : ∀ j ≤ 15, pU mx (s j) = pU mx (s' j) := fun j hj => by rw [h j (by omega)]
  unfold otU
  rw [pvF_congr _ _ _ 15 hp, sumF_congr _ _ 15 hp]

/-- What the carried scratch holds after point `t`. -/
def Left (c : Dev nD) (t : Fin cfg0.N) : Prop :=
  (outsAt0 m c t.val t.isLt).2.1 = k0_pay3 (iblk m c 3 t) ∧ (outsAt0 m c t.val t.isLt).2.2.1 = k0_pay4 (iblk m c 5 t)
    ∧ (∃ L, (outsAt0 m c t.val t.isLt).2.2.2.1 = View.canon (putSU (qN (iblk m c 1 t)) (iblk m c 2 t) (iblk m c 4 t) L))
    ∧ ∃ L, (outsAt0 m c t.val t.isLt).2.2.2.2 = View.canon (putM (maxU (qN (iblk m c 1 t)) (iblk m c 2 t) (iblk m c 4 t)) L)

theorem left_all (c : Dev nD) (n : ℕ) : ∀ hn : n < cfg0.N, Left m c ⟨n, hn⟩ := by
  induction n with
  | zero =>
    intro hn
    unfold Left
    rw [outsAt0_A m c ⟨0, hn⟩ (Nat.zero_mod 4)]
    dsimp only
    exact ⟨vt_A (F := Ideal) .., vct_A (F := Ideal) .., s_A (F := Ideal) .., m_A (F := Ideal) ..⟩
  | succ n ih =>
    intro hn
    by_cases h0 : (n + 1) % 4 = 0
    · unfold Left
      rw [outsAt0_A m c ⟨n + 1, hn⟩ h0]
      dsimp only
      exact ⟨vt_A (F := Ideal) .., vct_A (F := Ideal) .., s_A (F := Ideal) .., m_A (F := Ideal) ..⟩
    · obtain ⟨a, b, -, -⟩ := ih (by omega)
      unfold Left
      rw [outsAt0_B m c ⟨n + 1, hn⟩ h0]
      dsimp only
      refine ⟨?_, ?_, s_B (F := Ideal) .., m_B (F := Ideal) ..⟩
      · rw [same3 m c ⟨n + 1, hn⟩ ⟨n, by omega⟩ (by dsimp only; omega)]
        exact a
      · rw [same5 m c ⟨n + 1, hn⟩ ⟨n, by omega⟩ (by dsimp only; omega)]
        exact b

/-- What point `t` leaves in the output block. -/
theorem out_all (c : Dev nD) (t : Fin cfg0.N) : (outsAt0 m c t.val t.isLt).1
    = View.canon (putF (k0_pay3 (iblk m c 3 t)) (k0_pay4 (iblk m c 5 t)) (iblk m c 0 t) (iblk m c 2 t) (iblk m c 4 t)
        (resU (k0_pay3 (iblk m c 3 t)) (k0_pay4 (iblk m c 5 t)) (iblk m c 2 t) (iblk m c 4 t) (qU (iblk m c 0 t) 0)) 7) := by
  by_cases h0 : t.val % 4 = 0
  · rw [outsAt0_A m c t h0]
    dsimp only
    exact out_A (F := Ideal) ..
  · have hb : t.val - 1 < cfg0.N := Nat.lt_of_le_of_lt (Nat.sub_le _ _) t.isLt
    have hg : t.val / 4 = (⟨t.val - 1, hb⟩ : Fin cfg0.N).val / 4 := by dsimp only; omega
    obtain ⟨ha, hv, ⟨L, hs⟩, ⟨L', hm⟩⟩ := left_all m c (t.val - 1) hb
    rw [outsAt0_B m c t h0]
    dsimp only
    refine (out_B (F := Ideal) ..).trans ?_
    dsimp only at ha hv hs hm
    rw [ha, hv, hs, hm, sLoad_putSU_ctx, mLoad_putM, otU_congr _ _ _ _ _ _ fun j hj => sLoad_putSU _ _ _ L j hj]
    rw [← same2 m c t _ hg, ← same3 m c t _ hg, ← same4 m c t _ hg, ← same5 m c t _ hg,
      ahead m c t ⟨t.val - 1, hb⟩ hg (by dsimp only; omega)]
    rfl

/-! ## The blocks' places -/

section
variable (c : Dev nD) (t : Fin cfg0.N)

theorem batch_lt : t.val / 16 < 4 := by
  have := t.isLt
  have : cfg0.N = 64 := by decide
  omega

theorem q_apply (r : Fin 1024) (e : Fin 512) : iblk m c 0 t (ix3 0 r e)
    = V m c main_v10 (ix3 ⟨t.val / 16, batch_lt t⟩ ⟨1024 * (t.val % 4) + r.val, by omega⟩ ⟨512 * (t.val / 4 % 4) + e.val, by omega⟩) := by
  obtain ⟨h0, h1, h2, h3, h4, h5, h6⟩ := idx t
  blk_ext [iblk, h0]

theorem k_apply (r : Fin 4096) (e : Fin 128) : iblk m c 2 t (ix3 0 r e)
    = V m c main_v10 (ix3 ⟨t.val / 16, batch_lt t⟩ r ⟨2048 + 128 * (t.val / 4 % 4) + e.val, by omega⟩) := by
  obtain ⟨h0, h1, h2, h3, h4, h5, h6⟩ := idx t
  blk_ext [iblk, h2]

theorem v_apply (r : Fin 4096) (e : Fin 128) : iblk m c 3 t (ix3 0 r e)
    = V m c main_v10 (ix3 ⟨t.val / 16, batch_lt t⟩ r ⟨2560 + 128 * (t.val / 4 % 4) + e.val, by omega⟩) := by
  obtain ⟨h0, h1, h2, h3, h4, h5, h6⟩ := idx t
  blk_ext [iblk, h3]

theorem kc_apply (r : Fin 256) (e : Fin 128) : iblk m c 4 t (ix3 0 r e)
    = V m c main_arg1 (ix3 ⟨t.val / 16, batch_lt t⟩ r ⟨128 * (t.val / 4 % 4) + e.val, by omega⟩) := by
  obtain ⟨h0, h1, h2, h3, h4, h5, h6⟩ := idx t
  blk_ext [iblk, h4]

theorem vc_apply (r : Fin 256) (e : Fin 128) : iblk m c 5 t (ix3 0 r e)
    = V m c main_arg1 (ix3 ⟨t.val / 16, batch_lt t⟩ r ⟨512 + 128 * (t.val / 4 % 4) + e.val, by omega⟩) := by
  obtain ⟨h0, h1, h2, h3, h4, h5, h6⟩ := idx t
  blk_ext [iblk, h5]
end

end Cert.KernelIdeal.Att

end
-- ==== Proof.Arr.lean ====
/- The kernel's output array, element by element. -/
module

public import proofs.«01_k».proof.Proof.BlockVal
public import proofs.«01_k».proof.Proof.Points
public import Idealize.ShloMosaic.Lib.IdealHost

@[expose] public section

set_option maxRecDepth 16384

noncomputable section

namespace Cert.KernelIdeal.Att

open Idealize.ShloMosaic Idealize.ShloMosaic.TcCoe Idealize.ShloMosaic.Tactic
open Cert Cert.KernelIdeal Cert.KernelIdeal.Gen

theorem hostV_q (x : Vec Ideal S4x4096x11264 .bf16) (b : Fin 4) (r : Fin 4096) (e : Fin 2048) :
    hostV x (ix3 b r ⟨e.val, by omega⟩) = x (ix3 b r ⟨e.val, by omega⟩) * Soft.scale := by
  pointwise [hostV]
  unfold Soft.scale
  rw [Ideal.ofBits_one_f32]

theorem hostV_rest (x : Vec Ideal S4x4096x11264 .bf16) (b : Fin 4) (r : Fin 4096) (e : Fin 9216) :
    hostV x (ix3 b r ⟨2048 + e.val, by omega⟩) = x (ix3 b r ⟨2048 + e.val, by omega⟩) := by
  pointwise [hostV]

/-- The array after the run: the attention, its queries and keys being finite. -/
theorem arr_eq (m : (ℓ : Loc nD τ sig) → Buf (Elt Ideal) ℓ) (c : Dev nD) (x : Vec Ideal S4x4096x11264 .bf16) (y : Vec Ideal S4x256x3072 .bf16)
    (hx : m ((c.tc : Thread nD τ).loc main_arg0) = x) (hy : m ((c.tc : Thread nD τ).loc main_arg1) = y)
    (hX : ∀ (b : Fin 4) (r : Fin 4096) (e : Fin 2560), ∃ t : ℝ, x (ix3 b r ⟨e.val, by omega⟩) = t)
    (hY : ∀ (b : Fin 4) (r : Fin 256) (e : Fin 512), ∃ t : ℝ, y (ix3 b r ⟨e.val, by omega⟩) = t) :
    (dats m 0 c).arrAt 6 cfg0.N
      = fun i : S4x4096x2048.Idx => Soft.attArr (fun b r e => x (ix3 b r e)) (fun b r e => y (ix3 b r e)) (i 0) (i 1) (i 2) := by
  have hV : V m c main_v10 = hostV x := by rw [V_main_v10, hx]
  have hV1 : V m c main_arg1 = y := by rw [V_main_arg1, hy]
  have hk : ∀ (t : Fin cfg0.N) i e, ∃ s : ℝ, keys (iblk m c 2 t) (iblk m c 4 t) i e = s := by
    intro t i e
    have ht : t.val / 4 % 4 < 4 := Nat.mod_lt _ (by omega)
    cases i with
    | inl r =>
      obtain ⟨s, hs⟩ := hX ⟨t.val / 16, batch_lt t⟩ r ⟨2048 + 128 * (t.val / 4 % 4) + e.val, by omega⟩
      refine ⟨s, (k_apply m c t r e).trans ?_⟩
      rw [hV]
      have h1 : (⟨2048 + 128 * (t.val / 4 % 4) + e.val, by omega⟩ : Fin 11264)
        = ⟨2048 + (⟨128 * (t.val / 4 % 4) + e.val, by omega⟩ : Fin 9216).val, by dsimp only; omega⟩ := Fin.ext (by dsimp only; omega)
      rw [h1, hostV_rest, ← h1]
      exact hs
    | inr r =>
      obtain ⟨s, hs⟩ := hY ⟨t.val / 16, batch_lt t⟩ r ⟨128 * (t.val / 4 % 4) + e.val, by omega⟩
      refine ⟨s, (kc_apply m c t r e).trans ?_⟩
      rw [hV1]
      exact hs
  refine (dats m 0 c).arrAt_eq_of_covers 6 _ (by decide +kernel) fun t hf z => ?_
  blk_simp
  rw [after0_6, out_all]
  have ht : t.val / 4 % 4 < 4 := Nat.mod_lt _ (by omega)
  have z1 : (z 1).val < 1024 := (z 1).isLt
  have z2 : (z 2).val < 512 := (z 2).isLt
  have he : (win0_6.blk t).view.emb z = ix3 ⟨t.val / 16, batch_lt t⟩ ⟨1024 * (t.val % 4) + (z 1).val, by omega⟩
      ⟨512 * (t.val / 4 % 4) + (z 2).val, by omega⟩ := by
    obtain ⟨h0, h1, h2, h3, h4, h5, h6⟩ := idx t
    blk_ext [h6]
  rw [he]
  refine (putF_canon _ _ _ _ _ (fun a e => x (ix3 ⟨t.val / 16, batch_lt t⟩ ⟨1024 * (t.val % 4) + a.val, by omega⟩ ⟨512 * (t.val / 4 % 4) + e.val, by omega⟩))
    (fun a e => ?_) (fun a e => hX _ _ ⟨512 * (t.val / 4 % 4) + e.val, by omega⟩) (hk t) z).trans ?_
  · rw [q_apply, hV]
    exact hostV_q x _ _ ⟨512 * (t.val / 4 % 4) + e.val, by omega⟩
  · unfold blockOf Soft.attArr
    dsimp only [ix3]
    refine congr (congr (congrArg Soft.attR (funext fun e => ?_)) (funext fun i => funext fun e => ?_)) (funext fun i => ?_)
    · exact congrArg (fun w => x (ix3 ⟨t.val / 16, batch_lt t⟩ ⟨1024 * (t.val % 4) + (z 1).val, by omega⟩ w)) (Fin.ext (by dsimp only; omega))
    · cases i with
      | inl r =>
        refine (k_apply m c t r e).trans ?_
        rw [hV]
        refine Eq.trans ?_ ((hostV_rest x ⟨t.val / 16, batch_lt t⟩ r ⟨128 * (t.val / 4 % 4) + e.val, by omega⟩).trans ?_)
        · exact congrArg (fun w => hostV x (ix3 ⟨t.val / 16, batch_lt t⟩ r w)) (Fin.ext (by dsimp only; omega))
        · exact congrArg (fun w => x (ix3 ⟨t.val / 16, batch_lt t⟩ r w)) (Fin.ext (by dsimp only; omega))
      | inr r =>
        refine (kc_apply m c t r e).trans ?_
        rw [hV1]
        exact congrArg (fun w => y (ix3 ⟨t.val / 16, batch_lt t⟩ r w)) (Fin.ext (by dsimp only; omega))
    · cases i with
      | inl r =>
        refine (pay3_apply (iblk m c 3 t) ⟨(z 2).val % 128, Nat.mod_lt _ (by omega)⟩ r).trans ((v_apply m c t r ⟨(z 2).val % 128, Nat.mod_lt _ (by omega)⟩).trans ?_)
        rw [hV]
        refine Eq.trans ?_ ((hostV_rest x ⟨t.val / 16, batch_lt t⟩ r ⟨512 + 128 * (t.val / 4 % 4) + (z 2).val % 128, by omega⟩).trans ?_)
        · exact congrArg (fun w => hostV x (ix3 ⟨t.val / 16, batch_lt t⟩ r w)) (Fin.ext (by dsimp only; omega))
        · exact congrArg (fun w => x (ix3 ⟨t.val / 16, batch_lt t⟩ r w)) (Fin.ext (by dsimp only; omega))
      | inr r =>
        refine (pay4_apply (iblk m c 5 t) ⟨(z 2).val % 128, Nat.mod_lt _ (by omega)⟩ r).trans ((vc_apply m c t r ⟨(z 2).val % 128, Nat.mod_lt _ (by omega)⟩).trans ?_)
        rw [hV1]
        exact congrArg (fun w => y (ix3 ⟨t.val / 16, batch_lt t⟩ r w)) (Fin.ext (by dsimp only; omega))

end Cert.KernelIdeal.Att

end
-- ==== Proof.Ref.lean ====
/- The reference's result, element by element. -/
module

public import proofs.«01_k».proof.Proof.Soft
public import proofs.«01_k».proof.Proof.Gen.ReferenceIdeal.Run
public import Idealize.ShloMosaic.Lib.IdealHost

@[expose] public section

set_option maxRecDepth 16384

noncomputable section

namespace Cert.ReferenceIdeal.Att

open Idealize.ShloMosaic Idealize.ShloMosaic.TcCoe Idealize.ShloMosaic.Tactic
open Cert Cert.ReferenceIdeal Cert.ReferenceIdeal.Gen

/-- The queries by head. -/
def qR (x : FVec Ideal S4x4096x11264 .bf16) : FVec Ideal S4x4x4x4096x128 .f32 :=
  shapeCast S4x4x4x4096x128 (transpose S4x16x4096x128 [0, 2, 1, 3] (shapeCast S4x4096x16x128 (extractStridedSlice S4x4096x2048 ![0, 0, 0]
    (extf (F := Ideal) .f32 x bitsLt_bf16_f32) slices_S4x4096x11264_S4x4096x2048_0_0_0) shapeCasts_S4x4096x2048_S4x4096x16x128)
    transposes_S4x4096x16x128_S4x16x4096x128_0_2_1_3) shapeCasts_S4x16x4096x128_S4x4x4x4096x128

/-- The context's keys, then the latents'. -/
def kR (x : FVec Ideal S4x4096x11264 .bf16) (y : FVec Ideal S4x256x3072 .bf16) : FVec Ideal S4x4x4352x128 .f32 :=
  concatenate S4x4x4352x128 2 [⟨S4x4x256x128, (transpose S4x4x256x128 [0, 2, 1, 3] (shapeCast S4x256x4x128 (extractStridedSlice S4x256x512 ![0, 0, 0]
    (extf (F := Ideal) .f32 y bitsLt_bf16_f32) slices_S4x256x3072_S4x256x512_0_0_0) shapeCasts_S4x256x512_S4x256x4x128)
    transposes_S4x256x4x128_S4x4x256x128_0_2_1_3 : FVec Ideal S4x4x256x128 .f32)⟩,
    ⟨S4x4x4096x128, (transpose S4x4x4096x128 [0, 2, 1, 3] (shapeCast S4x4096x4x128 (extractStridedSlice S4x4096x512 ![0, 0, 2048]
    (extf (F := Ideal) .f32 x bitsLt_bf16_f32) slices_S4x4096x11264_S4x4096x512_0_0_2048) shapeCasts_S4x4096x512_S4x4096x4x128)
    transposes_S4x4096x4x128_S4x4x4096x128_0_2_1_3 : FVec Ideal S4x4x4096x128 .f32)⟩] concatenates_S4x4x256x128_S4x4x4096x128_S4x4x4352x128_d2

/-- The context's values, then the latents'. -/
def vR (x : FVec Ideal S4x4096x11264 .bf16) (y : FVec Ideal S4x256x3072 .bf16) : FVec Ideal S4x4x4352x128 .f32 :=
  concatenate S4x4x4352x128 2 [⟨S4x4x256x128, (transpose S4x4x256x128 [0, 2, 1, 3] (shapeCast S4x256x4x128 (extractStridedSlice S4x256x512 ![0, 0, 512]
    (extf (F := Ideal) .f32 y bitsLt_bf16_f32) slices_S4x256x3072_S4x256x512_0_0_512) shapeCasts_S4x256x512_S4x256x4x128)
    transposes_S4x256x4x128_S4x4x256x128_0_2_1_3 : FVec Ideal S4x4x256x128 .f32)⟩,
    ⟨S4x4x4096x128, (transpose S4x4x4096x128 [0, 2, 1, 3] (shapeCast S4x4096x4x128 (extractStridedSlice S4x4096x512 ![0, 0, 2560]
    (extf (F := Ideal) .f32 x bitsLt_bf16_f32) slices_S4x4096x11264_S4x4096x512_0_0_2560) shapeCasts_S4x4096x512_S4x4096x4x128)
    transposes_S4x4096x4x128_S4x4x4096x128_0_2_1_3 : FVec Ideal S4x4x4096x128 .f32)⟩] concatenates_S4x4x256x128_S4x4x4096x128_S4x4x4352x128_d2

/-- The scores. -/
def sR (q : FVec Ideal S4x4x4x4096x128 .f32) (k : FVec Ideal S4x4x4352x128 .f32) : FVec Ideal S4x4x4x4096x4352 .f32 :=
  Host.divf (Host.dotGeneral dot_S4x4x4x4096x128_S4x4x4352x128_S4x4x4x4096x4352_4_3_23_2_01_01 none q k)
    (broadcastInDim S4x4x4x4096x4352 ![] bcast_S_S4x4x4x4096x4352 (Host.sqrt (constant S_ .f32 0x43000000#32)))

/-- Their row maxima, as reduced. -/
def mxR (s : FVec Ideal S4x4x4x4096x4352 .f32) : FVec Ideal S4x4x4x4096 .f32 :=
  Host.reduce FloatOps.maximumf s (constant S_ .f32 0xFF800000#32) reducesTo_S4x4x4x4096x4352_S4x4x4x4096_d4 h_S_

/-- Their row maxima. -/
def mR (s : FVec Ideal S4x4x4x4096x4352 .f32) : FVec Ideal S4x4x4x4096 .f32 :=
  maximumf (broadcastInDim S4x4x4x4096 ![] bcast_S_S4x4x4x4096 (constant S_ .f32 0xFF800000#32)) (mxR s)

/-- The weights before they are divided. -/
def eR (s : FVec Ideal S4x4x4x4096x4352 .f32) (mx : FVec Ideal S4x4x4x4096 .f32) : FVec Ideal S4x4x4x4096x4352 .f32 :=
  Host.exp (subf s (broadcastInDim S4x4x4x4096x4352 ![0, 1, 2, 3, 4] bcast_S4x4x4x4096x1_S4x4x4x4096x4352_0_1_2_3_4
    (broadcastInDim S4x4x4x4096x1 ![0, 1, 2, 3] bcast_S4x4x4x4096_S4x4x4x4096x1_0_1_2_3 mx)))

/-- The weights. -/
def wR (e : FVec Ideal S4x4x4x4096x4352 .f32) : FVec Ideal S4x4x4x4096x4352 .f32 :=
  Host.divf e (broadcastInDim S4x4x4x4096x4352 ![0, 1, 2, 3, 4] bcast_S4x4x4x4096x1_S4x4x4x4096x4352_0_1_2_3_4
    (broadcastInDim S4x4x4x4096x1 ![0, 1, 2, 3] bcast_S4x4x4x4096_S4x4x4x4096x1_0_1_2_3
      (Host.reduceAdd e (constant S_ .f32 0x00000000#32) reducesTo_S4x4x4x4096x4352_S4x4x4x4096_d4 h_S_)))

/-- The result. -/
def oR (w : FVec Ideal S4x4x4x4096x4352 .f32) (v : FVec Ideal S4x4x4352x128 .f32) : FVec Ideal S4x4096x2048 .bf16 :=
  truncf .bf16 (shapeCast S4x4096x2048 (transpose S4x4096x4x4x128 [0, 3, 1, 2, 4]
    (Host.dotGeneral dot_S4x4x4x4096x4352_S4x4x4352x128_S4x4x4x4096x128_4_2_23_3_01_01 none w v)
    transposes_S4x4x4x4096x128_S4x4096x4x4x128_0_3_1_2_4) shapeCasts_S4x4096x4x4x128_S4x4096x2048) bitsLt_bf16_f32

theorem res_eq (m : (ℓ : Loc nD τ sig) → Buf (Elt Ideal) ℓ) (c : Dev nD) : Value.res_main_v38 m c
    = oR (wR (eR (sR (qR (m ((c.tc : Thread nD τ).loc main_arg0))) (kR (m ((c.tc : Thread nD τ).loc main_arg0)) (m ((c.tc : Thread nD τ).loc main_arg1))))
        (mR (sR (qR (m ((c.tc : Thread nD τ).loc main_arg0))) (kR (m ((c.tc : Thread nD τ).loc main_arg0)) (m ((c.tc : Thread nD τ).loc main_arg1)))))))
      (vR (m ((c.tc : Thread nD τ).loc main_arg0)) (m ((c.tc : Thread nD τ).loc main_arg1))) := by
  unfold Value.res_main_v38
  rfl

theorem qR_apply (x : FVec Ideal S4x4096x11264 .bf16) (b : Fin 4) (g : Fin 4) (h : Fin 4) (s : Fin 4096) (d : Fin 128) :
    qR x (ix5 b g h s d) = x (ix3 b s ⟨512 * g.val + 128 * h.val + d.val, by omega⟩) := by
  pointwise [qR]
  congr 2
  exact Fin.ext (by dsimp only; omega)

theorem kR_apply0 (x : FVec Ideal S4x4096x11264 .bf16) (y : FVec Ideal S4x256x3072 .bf16) (b : Fin 4) (g : Fin 4) (r : Fin 256) (d : Fin 128) :
    kR x y (ix4 b g ⟨r.val, by omega⟩ d) = y (ix3 b r ⟨128 * g.val + d.val, by omega⟩) := by
  pointwise [kR]
  congr 2
  exact Fin.ext (by dsimp only; omega)

theorem kR_apply1 (x : FVec Ideal S4x4096x11264 .bf16) (y : FVec Ideal S4x256x3072 .bf16) (b : Fin 4) (g : Fin 4) (r : Fin 4096) (d : Fin 128) :
    kR x y (ix4 b g ⟨256 + r.val, by omega⟩ d) = x (ix3 b r ⟨2048 + 128 * g.val + d.val, by omega⟩) := by
  pointwise [kR]
  congr 2
  exact Fin.ext (by dsimp only; omega)

theorem vR_apply0 (x : FVec Ideal S4x4096x11264 .bf16) (y : FVec Ideal S4x256x3072 .bf16) (b : Fin 4) (g : Fin 4) (r : Fin 256) (d : Fin 128) :
    vR x y (ix4 b g ⟨r.val, by omega⟩ d) = y (ix3 b r ⟨512 + 128 * g.val + d.val, by omega⟩) := by
  pointwise [vR]
  congr 2
  exact Fin.ext (by dsimp only; omega)

theorem vR_apply1 (x : FVec Ideal S4x4096x11264 .bf16) (y : FVec Ideal S4x256x3072 .bf16) (b : Fin 4) (g : Fin 4) (r : Fin 4096) (d : Fin 128) :
    vR x y (ix4 b g ⟨256 + r.val, by omega⟩ d) = x (ix3 b r ⟨2560 + 128 * g.val + d.val, by omega⟩) := by
  pointwise [vR]
  congr 2
  exact Fin.ext (by dsimp only; omega)

theorem sR_apply (q : FVec Ideal S4x4x4x4096x128 .f32) (k : FVec Ideal S4x4x4352x128 .f32) (b g h : Fin 4) (s : Fin 4096) (r : Fin 4352) :
    sR q k (ix5 b g h s r) = Ideal.div (∑ d : Fin 128, q (ix5 b g h s d) * k (ix4 b g r d)) (Ideal.sqrt (Ideal.ofBits .f32 0x43000000#32)) := by
  pointwise [sR]

theorem max_bot (x : FVec Ideal S4x4x4x4096 .f32) (j : S4x4x4x4096.Idx) :
    maximumf (broadcastInDim S4x4x4x4096 ![] bcast_S_S4x4x4x4096 (constant S_ .f32 0xFF800000#32)) x j = max ⊥ (x j) := by
  rw [← Soft.lit_neg_inf]
  rfl

/-- The maxima are finite where the scores are. -/
theorem mR_real (s : FVec Ideal S4x4x4x4096x4352 .f32) (hs : ∀ i, ∃ t : ℝ, s i = t) (j : S4x4x4x4096.Idx) : ∃ t : ℝ, mR s j = t := by
  unfold mR
  rw [max_bot, max_eq_right bot_le]
  unfold mxR
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single _ s _ reducesTo_S4x4x4x4096x4352_S4x4x4x4096_d4 (by decide)]
  have h0 : (constant S_ .f32 0xFF800000#32 : FVec Ideal S_ .f32) (Shape.Idx.first h_S_) = ⊥ := Soft.lit_neg_inf
  rw [h0]
  haveI : Nonempty (Fin (S4x4x4x4096x4352.size 4)) := ⟨⟨0, by decide⟩⟩
  exact Soft.fold_max_real (ι := Fin (S4x4x4x4096x4352.size 4)) _ fun r => hs _

theorem eR_apply (s : FVec Ideal S4x4x4x4096x4352 .f32) (mx : FVec Ideal S4x4x4x4096 .f32) (b g h : Fin 4) (a : Fin 4096) (r : Fin 4352) :
    eR s mx (ix5 b g h a r) = Ideal.exp (s (ix5 b g h a r) - mx (ix4 b g h a)) := by
  pointwise [eR]

theorem wR_apply (e : FVec Ideal S4x4x4x4096x4352 .f32) (b g h : Fin 4) (a : Fin 4096) (r : Fin 4352) :
    wR e (ix5 b g h a r) = Ideal.div (e (ix5 b g h a r)) (∑ r : Fin 4352, e (ix5 b g h a r)) := by
  pointwise [wR]

theorem oR_apply (w : FVec Ideal S4x4x4x4096x4352 .f32) (v : FVec Ideal S4x4x4352x128 .f32) (b : Fin 4) (a : Fin 4096) (col : Fin 2048) :
    oR w v (ix3 b a col) = ∑ r : Fin 4352, w (ix5 b ⟨col.val / 512, by omega⟩ ⟨col.val / 128 % 4, by omega⟩ a r)
      * v (ix4 b ⟨col.val / 512, by omega⟩ r ⟨col.val % 128, by omega⟩) := by
  pointwise [oR]

/-- The rows of the keys: the latents' behind the context's. -/
def rows : Fin 4096 ⊕ Fin 256 ≃ Fin 4352 :=
  (Equiv.sumComm (Fin 4096) (Fin 256)).trans (finSumFinEquiv.trans (finCongr (by norm_num)))

theorem rows_inl (r : Fin 4096) : rows (.inl r) = ⟨256 + r.val, by omega⟩ :=
  Fin.ext (finSumFinEquiv_apply_right (m := 256) r ▸ rfl)

theorem rows_inr (r : Fin 256) : rows (.inr r) = ⟨r.val, by omega⟩ :=
  Fin.ext (finSumFinEquiv_apply_left (n := 4096) r ▸ rfl)

/-- The reference's result, its queries and keys being finite. -/
theorem ref_apply (m : (ℓ : Loc nD τ sig) → Buf (Elt Ideal) ℓ) (c : Dev nD) (x : FVec Ideal S4x4096x11264 .bf16) (y : FVec Ideal S4x256x3072 .bf16)
    (hx : m ((c.tc : Thread nD τ).loc main_arg0) = x) (hy : m ((c.tc : Thread nD τ).loc main_arg1) = y)
    (hX : ∀ (b : Fin 4) (r : Fin 4096) (e : Fin 2560), ∃ t : ℝ, x (ix3 b r ⟨e.val, by omega⟩) = t)
    (hY : ∀ (b : Fin 4) (r : Fin 256) (e : Fin 512), ∃ t : ℝ, y (ix3 b r ⟨e.val, by omega⟩) = t) (b : Fin 4) (a : Fin 4096) (col : Fin 2048) :
    Value.res_main_v38 m c (ix3 b a col) = Soft.attArr (fun b r e => x (ix3 b r e)) (fun b r e => y (ix3 b r e)) b a col := by
  have hq : ∀ (b g h : Fin 4) (s : Fin 4096) (d : Fin 128), ∃ t : ℝ, qR x (ix5 b g h s d) = t := by
    intro b g h s d
    rw [qR_apply]
    exact hX b s ⟨_, by omega⟩
  have hk : ∀ (b g : Fin 4) (r : Fin 4352) (d : Fin 128), ∃ t : ℝ, kR x y (ix4 b g r d) = t := by
    intro b g r d
    by_cases hr : r.val < 256
    · obtain ⟨t, ht⟩ := hY b ⟨r.val, hr⟩ ⟨128 * g.val + d.val, by omega⟩
      exact ⟨t, (kR_apply0 x y b g ⟨r.val, hr⟩ d).trans ht⟩
    · obtain ⟨t, ht⟩ := hX b ⟨r.val - 256, by omega⟩ ⟨2048 + 128 * g.val + d.val, by omega⟩
      have hr' : r = ⟨256 + (⟨r.val - 256, by omega⟩ : Fin 4096).val, by dsimp only; omega⟩ := Fin.ext (by dsimp only; omega)
      rw [hr']
      exact ⟨t, (kR_apply1 x y b g ⟨r.val - 256, by omega⟩ d).trans ht⟩
  have hs : ∀ i, ∃ t : ℝ, sR (qR x) (kR x y) i = t := by
    intro i
    have hi : i = ix5 (i 0) (i 1) (i 2) (i 3) (i 4) := funext fun a => by fin_cases a <;> rfl
    rw [hi]
    obtain ⟨t, ht⟩ := Soft.quot_real (fun d => qR x (ix5 (i 0) (i 1) (i 2) (i 3) d)) (fun d => kR x y (ix4 (i 0) (i 1) (i 4) d))
      (hq _ _ _ _) (hk _ _ _)
    exact ⟨t, (sR_apply _ _ _ _ _ _ _).trans ht⟩
  rw [res_eq, hx, hy, oR_apply]
  simp only [wR_apply, eR_apply, sR_apply]
  refine (Soft.ref_attR (fun d => qR x (ix5 b ⟨col.val / 512, by omega⟩ ⟨col.val / 128 % 4, by omega⟩ a d))
    (fun r d => kR x y (ix4 b ⟨col.val / 512, by omega⟩ r d)) (fun r => vR x y (ix4 b ⟨col.val / 512, by omega⟩ r ⟨col.val % 128, by omega⟩))
    (mR (sR (qR x) (kR x y)) (ix4 b ⟨col.val / 512, by omega⟩ ⟨col.val / 128 % 4, by omega⟩ a))
    (fun d => hq b ⟨col.val / 512, by omega⟩ ⟨col.val / 128 % 4, by omega⟩ a d) (fun r d => hk b ⟨col.val / 512, by omega⟩ r d)
    (mR_real _ hs (ix4 b ⟨col.val / 512, by omega⟩ ⟨col.val / 128 % 4, by omega⟩ a))).trans ?_
  refine (Soft.attR_equiv rows _ _ _).trans ?_
  unfold Soft.attArr
  refine congr (congr (congrArg Soft.attR (funext fun d => ?_)) (funext fun i => funext fun d => ?_)) (funext fun i => ?_)
  · rw [qR_apply]
    exact congrArg (fun z => x (ix3 b a z)) (Fin.ext (by dsimp only; omega))
  · cases i with
    | inl r =>
      rw [rows_inl]
      exact kR_apply1 x y b _ r d
    | inr r =>
      rw [rows_inr]
      exact kR_apply0 x y b _ r d
  · cases i with
    | inl r =>
      rw [rows_inl]
      exact vR_apply1 x y b _ r _
    | inr r =>
      rw [rows_inr]
      exact vR_apply0 x y b _ r _

end Cert.ReferenceIdeal.Att

end
-- ==== Proof.Pre.lean ====
/- What the precondition says: the queries and the keys are finite. -/
module

public import proofs.«01_k».proof.Proof.Soft
public import proofs.«01_k».proof.Pre_finite_scores
public import Idealize.ShloMosaic.Lib.IdealHost
public import Idealize.ShloMosaic.Lib.ReduceAll

@[expose] public section

set_option maxRecDepth 16384

noncomputable section

namespace Cert.Pre_finite_scores.Att

open Idealize.ShloMosaic Idealize.ShloMosaic.TcCoe Idealize.ShloMosaic.Tactic
open Cert Cert.Pre_finite_scores

theorem facts : Facts where
  slices_S4x4096x11264_S4x4096x2560_0_0_0 := by decide
  bitsLt_bf16_f32 := by decide
  bcast_S_S4x4096x2560 := by decide
  slices_S4x256x3072_S4x256x512_0_0_0 := by decide
  bcast_S_S4x256x512 := by decide
  reducesTo_S4x4096x2560_S_d0_1_2 := by decide
  h_S_ := by decide
  reducesTo_S4x256x512_S_d0_1_2 := by decide

theorem real_of_lt {x : EReal} (h : Ideal.cmp .olt (max x (-x)) (Ideal.ofBits .f32 0x7F800000#32) = 1#1) : ∃ t : ℝ, x = t := by
  have hT : Ideal.ofBits .f32 0x7F800000#32 = (⊤ : EReal) := by simp [Ideal.ofBits, Ideal.ieee]
  rw [hT] at h
  have h' : max x (-x) < ⊤ := by
    by_contra hn
    simp [Ideal.cmp, hn] at h
  induction x using EReal.rec with
  | bot => simp at h'
  | top => simp at h'
  | coe t => exact ⟨t, rfl⟩

variable [Pre_finite_scores.Facts] (x : FVec Ideal S4x4096x11264 .bf16) (y : FVec Ideal S4x256x3072 .bf16)

/-- The precondition, read at the elements: the queries and keys, and the context's keys, are finite. -/
theorem real_of_pre (h : Pre_finite_scores.fn (F := Ideal) x y = fun _ => 1#1) :
    (∀ (b : Fin 4) (r : Fin 4096) (e : Fin 2560), ∃ t : ℝ, x (ix3 b r ⟨e.val, by omega⟩) = t)
    ∧ ∀ (b : Fin 4) (r : Fin 256) (e : Fin 512), ∃ t : ℝ, y (ix3 b r ⟨e.val, by omega⟩) = t := by
  have h := congrFun h ix0
  dsimp only [Pre_finite_scores.fn] at h
  obtain ⟨h1, h2⟩ := IntOp.andi_eq_one.mp h
  refine ⟨fun b r e => real_of_lt ?_, fun b r e => real_of_lt ?_⟩
  · have := Host.reduce_andi_all _ _ _ _ _ h1 (ix3 b r e)
    refine Eq.trans ?_ this
    pointwise
    rfl
  · have := Host.reduce_andi_all _ _ _ _ _ h2 (ix3 b r e)
    refine Eq.trans ?_ this
    pointwise
    rfl

end Cert.Pre_finite_scores.Att

end
-- ==== Proof.Attn.lean ====
/- The attention's kernel and its reference end with equal results. -/
module

public import proofs.«01_k».proof.Defs
public import proofs.«01_k».proof.Proof.Arr
public import proofs.«01_k».proof.Proof.Ref
public import proofs.«01_k».proof.Proof.Pre

@[expose] public section

set_option maxRecDepth 16384

noncomputable section

namespace Cert.Proof

open Idealize.ShloMosaic Idealize.ShloMosaic.Tactic Idealize.SL.Sem

theorem attn (hPre : Cert.Pre_finite_scores.Facts) : Cert.algebraic_KernelIdeal_ReferenceIdeal_pre_finite_scores
    (hKernelIdeal := Cert.KernelIdeal.Gen.facts) (hReferenceIdeal := Cert.ReferenceIdeal.Gen.facts) (hPre_finite_scores := hPre) := by
  intro m g m' g' hpre hm
  have hreal := fun c => Cert.Pre_finite_scores.Att.real_of_pre _ _ (hpre c)
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  refine Eq.trans ?_ (Cert.KernelIdeal.Att.arr_eq m c _ _ rfl rfl (hreal c).1 (hreal c).2).symm
  funext i
  have hi : i = ix3 (i 0) (i 1) (i 2) := funext fun a => by fin_cases a <;> rfl
  rw [hi]
  exact Cert.ReferenceIdeal.Att.ref_apply m' c _ _ (hm c).1 (hm c).2 (hreal c).1 (hreal c).2 (i 0) (i 1) (i 2)

end Cert.Proof

end
-- ==== Proof.FfnSpec.lean ====
/- The feed-forward of one row, in plain sums, and the same with the hidden dimension in blocks. -/
module

public import Idealize.ShloMosaic.PureOps
public import Idealize.ShloMosaic.Lib.Pointwise

@[expose] public section

noncomputable section

namespace Cert.FfnSpec

open Idealize.ShloMosaic

/-- One over the root mean square of a row. -/
def rms (v : Fin 2048 → EReal) : EReal :=
  Ideal.rsqrt (Ideal.div (∑ k, v k * v k) (Ideal.ofBits .f32 0x45000000#32) + Ideal.ofBits .f32 0x358637BD#32)

/-- The row normalised, scaled by `g` and modulated. -/
def hid (v g sh sc : Fin 2048 → EReal) (e : Fin 2048) : EReal :=
  v e * rms v * g e * (1 + sc e) + sh e

/-- One hidden unit: the gate's silu times the up projection. -/
def act (h wg wu : Fin 2048 → EReal) : EReal :=
  (∑ k, h k * wg k) * Ideal.div 1 (1 + Ideal.exp (-(∑ k, h k * wg k))) * ∑ k, h k * wu k

/-- The stream with the feed-forward's output added at half weight. -/
def add (v g3 z : Fin 2048 → EReal) (e : Fin 2048) : EReal :=
  v e + Ideal.ofBits .f32 0x3F000000#32 * g3 e * z e

/-- The whole row of a feed-forward that is not the last. -/
def mid (v g sh sc g3 : Fin 2048 → EReal) (wg wu wd : Fin 5632 → Fin 2048 → EReal) : Fin 2048 → EReal :=
  add v g3 fun e => ∑ j, act (hid v g sh sc) (wg j) (wu j) * wd j e

/-- The row normalised and scaled. -/
def nrm (y g : Fin 2048 → EReal) (e : Fin 2048) : EReal := y e * rms y * g e

/-- The whole row. -/
def out (v g sh sc g3 fg : Fin 2048 → EReal) (wg wu wd : Fin 5632 → Fin 2048 → EReal) : Fin 2048 → EReal :=
  nrm (add v g3 fun e => ∑ j, act (hid v g sh sc) (wg j) (wu j) * wd j e) fg

end Cert.FfnSpec

end
-- ==== Proof.FfnRun.lean ====
/- The feed-forward's body, run at its three kinds of points, with what it leaves in each buffer stated as a value. -/
module

public import proofs.«01_k».proof.Proof.Gen.FfnIdeal.Skeleton
public import proofs.«01_k».proof.Proof.Gen.FfnIdeal.Loops
public import proofs.«01_k».proof.Proof.Gen.FfnIdeal.Points
public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (UR sig nD τ) ℕ

/-! ## What the body computes -/

theorem inb3 (k : ℕ) : ∀ a, (![0, 16 * (k % 32), 0] : Fin 3 → ℕ) a + S1x16x2048.size a ≤ S1x512x2048.size a := by
  intro a; fin_cases a <;> simp <;> omega

theorem inb2 (k : ℕ) : ∀ a, (![16 * (k % 32), 0] : Fin 2 → ℕ) a + S16x2048.size a ≤ S512x2048.size a := by
  intro a; fin_cases a <;> simp <;> omega

/-- Sixteen rows of a block of 512. -/
def rows {e : EltTy} (x : Vec F S1x512x2048 e) (k : ℕ) : Vec F S1x16x2048 e :=
  View.ld x (Rect.unit ![0, 16 * (k % 32), 0] S1x16x2048.size (inb3 k))

/-- The same of the accumulator. -/
def rows2 (x : Vec F S512x2048 .f32) (k : ℕ) : Vec F S16x2048 .f32 :=
  View.ld x (Rect.unit ![16 * (k % 32), 0] S16x2048.size (inb2 k))

/-- One of the nine modulation vectors. -/
def mrow (x : Vec F S1x9x2048 .f32) (k : ℕ) : Vec F S1x1x2048 .f32 :=
  View.ld x (Rect.unit ![0, k % 9, 0] S1x1x2048.size (by
    intro a; fin_cases a <;> simp <;> omega))

/-- The row of sixteen a row number falls into, and its place there. -/
def sub (y : S512x2048.Idx) : S16x2048.Idx := ValueIdx.ix2 ⟨(y 0).val % 16, Nat.mod_lt _ (by norm_num)⟩ (y 1)

/-- The same in the output's block. -/
def sub3 (y : S1x512x2048.Idx) : S1x16x2048.Idx := ValueIdx.ix3 0 ⟨(y 1).val % 16, Nat.mod_lt _ (by norm_num)⟩ (y 2)

/-- The normalised, modulated block: what the first of a tile's points leaves in the first scratch. -/
def hOf (x0 : Vec F S1x512x2048 .f32) (x1 : Vec F S1x512x2048 .bf16) (x2 : Vec F S1x9x2048 .f32) (x3 : Vec F S1x2048 .f32) :
    Vec F S512x2048 .bf16 :=
  fun y => k0_pay1 (mrow x2 6) x3 (mrow x2 7) (rows x0 ((y 0).val / 16)) (rows x1 ((y 0).val / 16)) (sub y)

/-- The output block: what the last of a tile's points stores. -/
def oOf (x0 : Vec F S1x512x2048 .f32) (x1 : Vec F S1x512x2048 .bf16) (x2 : Vec F S1x9x2048 .f32) (acc : Vec F S512x2048 .f32)
    (x7 : Vec F S1x2048 .f32) : Vec F S1x512x2048 .f32 :=
  fun y => k0_pay3 (mrow x2 8) (rows x0 ((y 1).val / 16)) (rows x1 ((y 1).val / 16)) (rows2 acc ((y 1).val / 16)) x7
    (sub3 y)

/-! ## The pieces the two loops write -/

theorem ld_congr {S : Shape} {e : EltTy} (x : Vec F S e) {off off' : Fin S.rank → ℕ} (h : off = off') (sz : Fin S.rank → ℕ)
    (hi : ∀ a, off a + sz a ≤ S.size a) (hi' : ∀ a, off' a + sz a ≤ S.size a) :
    View.ld x (Rect.unit off sz hi) = View.ld x (Rect.unit off' sz hi') := by
  subst h; rfl

/-- One store of a whole buffer, read back. -/
theorem read_put {S : Shape} {e : EltTy} (v : View sig .tc .vmem S e) (f : v.ty.Contents (Elt F)) {off : Fin S.rank → ℕ} (h : off = fun _ => 0)
    (inb : ∀ a, off a + S.size a ≤ S.size a) (w : Vec F S e) :
    v.read (Elt F) (v.writes (Elt F) f [⟨Rect.unit off S.size inb, w⟩]) = w := by
  rw [View.read_writes_eq_canon _ _ _ fun y => ⟨_, List.mem_singleton_self _, View.mem_set_unit_zero h inb y⟩]
  exact View.canon_unit_zero h inb w

section
variable (𝒱 : Variants) (bd : Option 𝒱.V) (c : Dev nD) (i : grid0.Coords)
  (arg3 : Memref sig .tc .vmem S1x512x2048 .f32) (harg3 : arg3.IsWhole)
  (arg4 : Memref sig .tc .vmem S1x512x2048 .bf16) (harg4 : arg4.IsWhole)
  (arg5 : Memref sig .tc .vmem S1x9x2048 .f32) (harg5 : arg5.IsWhole)
  (arg6 : Memref sig .tc .vmem S1x2048 .f32) (harg6 : arg6.IsWhole)
  (arg7 : Memref sig .tc .vmem S1x2048x512 .bf16) (harg7 : arg7.IsWhole)
  (arg8 : Memref sig .tc .vmem S1x2048x512 .bf16) (harg8 : arg8.IsWhole)
  (arg9 : Memref sig .tc .vmem S1x512x2048 .bf16) (harg9 : arg9.IsWhole)
  (arg10 : Memref sig .tc .vmem S1x2048 .f32) (harg10 : arg10.IsWhole)
  (arg11 : Memref sig .tc .vmem S1x512x2048 .f32) (harg11 : arg11.IsWhole)
  (arg12 : Memref sig .tc .vmem S512x2048 .bf16) (harg12 : arg12.IsWhole)
  (arg13 : Memref sig .tc .vmem S512x2048 .f32) (harg13 : arg13.IsWhole)
  (x0 : Vec F S1x512x2048 .f32) (x1 : Vec F S1x512x2048 .bf16) (x2 : Vec F S1x9x2048 .f32) (x3 : Vec F S1x2048 .f32)
  (x4 : Vec F S1x2048x512 .bf16) (x5 : Vec F S1x2048x512 .bf16) (x6 : Vec F S1x512x2048 .bf16) (x7 : Vec F S1x2048 .f32)

theorem trips1 : k0_t1_loop.trips = 32 := by decide +kernel
theorem trips2 : k0_t2_loop.trips = 32 := by decide +kernel

/-- The first loop's stores are blocks of `hOf`. -/
theorem pieces1 (h1 : k0_cond1 i = 1#1) (n : ℕ) (hn : n ≤ 32) : View.PiecesOf (hOf x0 x1 x2 x3)
    (pb_k0_t1 (F := F) 𝒱 c bd i arg3 harg3 arg4 harg4 arg5 harg5 arg6 harg6 arg7 harg7 arg8 harg8 arg9 harg9 arg10 harg10 arg11 harg11 arg12 harg12 arg13 harg13 h1 (mrow x2 6) x3 (mrow x2 7)
      (harg3.unread x0) (harg4.unread x1) n) := by
  induction n with
  | zero => trivial
  | succ n ih =>
    have hlt : n < k0_t1_loop.trips := by rw [trips1]; omega
    refine (pb_k0_t1_succ (F := F) 𝒱 c bd i arg3 harg3 arg4 harg4 arg5 harg5 arg6 harg6 arg7 harg7 arg8 harg8 arg9 harg9 arg10 harg10 arg11 harg11 arg12 harg12 arg13 harg13 h1 (mrow x2 6) x3 (mrow x2 7)
      (harg3.unread x0) (harg4.unread x1) ⟨n, hlt⟩).symm ▸ ?_
    unfold tripL_k0_t1 trip_k0_t1
    refine ⟨fun x => ?_, ih (by omega)⟩
    simp only [View.readAt_eq_ld, Memref.IsWhole.read_unread]
    have hx0 : (x 0).val < 16 := (x 0).isLt
    have e0 : ∀ hi, (((Rect.unit (s := S512x2048) (k0_off2 ⟨n, hlt⟩) S16x2048.size hi).emb x) 0).val = 16 * n + (x 0).val := fun hi => by
      simp [Rect.emb, Rect.unit, k0_off2_eq]
    have e1 : ∀ hi, (((Rect.unit (s := S512x2048) (k0_off2 ⟨n, hlt⟩) S16x2048.size hi).emb x) 1).val = (x 1).val := fun hi => by
      simp [Rect.emb, Rect.unit, k0_off2_eq]
    refine (congrFun (congr (congrArg (k0_pay1 (mrow x2 6) x3 (mrow x2 7)) (ld_congr x0 (off' := ![0, 16 * (n % 32), 0]) ?_ _ _ (inb3 n)))
      (ld_congr x1 (off' := ![0, 16 * (n % 32), 0]) ?_ _ _ (inb3 n))) x).trans ?_
    · rw [k0_off1_eq, Nat.mod_eq_of_lt (by omega)]
    · rw [k0_off1_eq, Nat.mod_eq_of_lt (by omega)]
    · unfold hOf
      rw [e0, show (16 * n + (x 0).val) / 16 = n by omega]
      refine congrArg _ (funext fun a => Fin.ext ?_)
      fin_cases a
      · show (x 0).val = _ % 16
        rw [e0]; omega
      · exact (e1 _).symm

/-- The second loop's stores are blocks of `oOf`. -/
theorem pieces2 (h2 : k0_cond2 i = 1#1) (acc : Vec F S512x2048 .f32) (n : ℕ) (hn : n ≤ 32) : View.PiecesOf (oOf x0 x1 x2 acc x7)
    (pb_k0_t2 (F := F) 𝒱 c bd i arg3 harg3 arg4 harg4 arg5 harg5 arg6 harg6 arg7 harg7 arg8 harg8 arg9 harg9 arg10 harg10 arg11 harg11 arg12 harg12 arg13 harg13 h2 (mrow x2 8)
      (harg3.unread x0) (harg4.unread x1) (harg10.unread x7) (harg13.unread acc) n) := by
  induction n with
  | zero => trivial
  | succ n ih =>
    have hlt : n < k0_t2_loop.trips := by rw [trips2]; omega
    refine (pb_k0_t2_succ (F := F) 𝒱 c bd i arg3 harg3 arg4 harg4 arg5 harg5 arg6 harg6 arg7 harg7 arg8 harg8 arg9 harg9 arg10 harg10 arg11 harg11 arg12 harg12 arg13 harg13 h2 (mrow x2 8)
      (harg3.unread x0) (harg4.unread x1) (harg10.unread x7) (harg13.unread acc) ⟨n, hlt⟩).symm ▸ ?_
    unfold tripL_k0_t2 trip_k0_t2
    refine ⟨fun x => ?_, ih (by omega)⟩
    simp (disch := decide) only [View.readAt_eq_ld, Memref.IsWhole.read_unread, View.ld_unit_lit']
    have hx0 : (x 0).val < 1 := (x 0).isLt
    have hx1 : (x 1).val < 16 := (x 1).isLt
    have e1 : ∀ hi, (((Rect.unit (s := S1x512x2048) (k0_off3 ⟨n, hlt⟩) S1x16x2048.size hi).emb x) 1).val = 16 * n + (x 1).val := fun hi => by
      simp [Rect.emb, Rect.unit, k0_off3_eq]
    have e2 : ∀ hi, (((Rect.unit (s := S1x512x2048) (k0_off3 ⟨n, hlt⟩) S1x16x2048.size hi).emb x) 2).val = (x 2).val := fun hi => by
      simp [Rect.emb, Rect.unit, k0_off3_eq]
    refine (congrFun (congrFun (congr (congr (congrArg (k0_pay3 (mrow x2 8)) (ld_congr x0 (off' := ![0, 16 * (n % 32), 0]) ?_ _ _ (inb3 n)))
      (ld_congr x1 (off' := ![0, 16 * (n % 32), 0]) ?_ _ _ (inb3 n))) (ld_congr acc (off' := ![16 * (n % 32), 0]) ?_ _ _ (inb2 n))) x7) x).trans ?_
    · rw [k0_off3_eq, Nat.mod_eq_of_lt (by omega)]
    · rw [k0_off3_eq, Nat.mod_eq_of_lt (by omega)]
    · rw [k0_off4_eq, Nat.mod_eq_of_lt (by omega)]
    · unfold oOf
      rw [e1, show (16 * n + (x 1).val) / 16 = n by omega]
      refine congrArg _ (funext fun a => Fin.ext ?_)
      fin_cases a
      · show (x 0).val = 0
        omega
      · show (x 1).val = _ % 16
        rw [e1]; omega
      · exact (e2 _).symm

theorem cover1 (h1 : k0_cond1 i = 1#1) (v28 : Vec F S1x1x2048 .f32) (v30 : Vec F S1x2048 .f32) (v32 : Vec F S1x1x2048 .f32)
    (X3 : BufTy.Contents (Elt F) arg3.view.ty) (X4 : BufTy.Contents (Elt F) arg4.view.ty) (y : S512x2048.Idx) :
    ∃ p ∈ (pb_k0_t1 (F := F) 𝒱 c bd i arg3 harg3 arg4 harg4 arg5 harg5 arg6 harg6 arg7 harg7 arg8 harg8 arg9 harg9 arg10 harg10 arg11 harg11 arg12 harg12 arg13 harg13 h1 v28 v30 v32 X3 X4 (Scf.trips k0_t1_loop.lb k0_t1_loop.ub k0_t1_loop.st)), y ∈ p.1.set :=
  View.cover_of_tiledL (pb_k0_t1 (F := F) 𝒱 c bd i arg3 harg3 arg4 harg4 arg5 harg5 arg6 harg6 arg7 harg7 arg8 harg8 arg9 harg9 arg10 harg10 arg11 harg11 arg12 harg12 arg13 harg13 h1 v28 v30 v32 X3 X4 (Scf.trips k0_t1_loop.lb k0_t1_loop.ub k0_t1_loop.st)) S16x2048.size (by sl_kernel_rfl) y

theorem cover2 (h2 : k0_cond2 i = 1#1) (v28 : Vec F S1x1x2048 .f32)
    (X3 : BufTy.Contents (Elt F) arg3.view.ty) (X4 : BufTy.Contents (Elt F) arg4.view.ty) (X10 : BufTy.Contents (Elt F) arg10.view.ty)
    (X13 : BufTy.Contents (Elt F) arg13.view.ty) (y : S1x512x2048.Idx) :
    ∃ p ∈ (pb_k0_t2 (F := F) 𝒱 c bd i arg3 harg3 arg4 harg4 arg5 harg5 arg6 harg6 arg7 harg7 arg8 harg8 arg9 harg9 arg10 harg10 arg11 harg11 arg12 harg12 arg13 harg13 h2 v28 X3 X4 X10 X13 (Scf.trips k0_t2_loop.lb k0_t2_loop.ub k0_t2_loop.st)), y ∈ p.1.set :=
  View.cover_of_tiledL (pb_k0_t2 (F := F) 𝒱 c bd i arg3 harg3 arg4 harg4 arg5 harg5 arg6 harg6 arg7 harg7 arg8 harg8 arg9 harg9 arg10 harg10 arg11 harg11 arg12 harg12 arg13 harg13 h2 v28 X3 X4 X10 X13 (Scf.trips k0_t2_loop.lb k0_t2_loop.ub k0_t2_loop.st)) S1x16x2048.size (by sl_kernel_rfl) y

/-- What the first loop leaves. -/
theorem loop1 (h1 : k0_cond1 i = 1#1) : View.canon
    (pb_k0_t1 (F := F) 𝒱 c bd i arg3 harg3 arg4 harg4 arg5 harg5 arg6 harg6 arg7 harg7 arg8 harg8 arg9 harg9 arg10 harg10 arg11 harg11 arg12 harg12 arg13 harg13 h1 (mrow x2 6) x3 (mrow x2 7)
      (harg3.unread x0) (harg4.unread x1) (Scf.trips k0_t1_loop.lb k0_t1_loop.ub k0_t1_loop.st)) = hOf x0 x1 x2 x3 :=
  funext fun y => View.canon_apply_of_pieces _ _
    (pieces1 𝒱 bd c i arg3 harg3 arg4 harg4 arg5 harg5 arg6 harg6 arg7 harg7 arg8 harg8 arg9 harg9 arg10 harg10 arg11 harg11 arg12 harg12 arg13 harg13 x0 x1 x2 x3 h1 _ trips1.le).mem y
    (cover1 𝒱 bd c i arg3 harg3 arg4 harg4 arg5 harg5 arg6 harg6 arg7 harg7 arg8 harg8 arg9 harg9 arg10 harg10 arg11 harg11 arg12 harg12 arg13 harg13 h1 _ _ _ _ _ y)

/-- What the second loop leaves. -/
theorem loop2 (h2 : k0_cond2 i = 1#1) (acc : Vec F S512x2048 .f32) : View.canon
    (pb_k0_t2 (F := F) 𝒱 c bd i arg3 harg3 arg4 harg4 arg5 harg5 arg6 harg6 arg7 harg7 arg8 harg8 arg9 harg9 arg10 harg10 arg11 harg11 arg12 harg12 arg13 harg13 h2 (mrow x2 8)
      (harg3.unread x0) (harg4.unread x1) (harg10.unread x7) (harg13.unread acc) (Scf.trips k0_t2_loop.lb k0_t2_loop.ub k0_t2_loop.st)) = oOf x0 x1 x2 acc x7 :=
  funext fun y => View.canon_apply_of_pieces _ _
    (pieces2 𝒱 bd c i arg3 harg3 arg4 harg4 arg5 harg5 arg6 harg6 arg7 harg7 arg8 harg8 arg9 harg9 arg10 harg10 arg11 harg11 arg12 harg12 arg13 harg13 x0 x1 x2 x7 h2 acc _ trips2.le).mem y
    (cover2 𝒱 bd c i arg3 harg3 arg4 harg4 arg5 harg5 arg6 harg6 arg7 harg7 arg8 harg8 arg9 harg9 arg10 harg10 arg11 harg11 arg12 harg12 arg13 harg13 h2 _ _ _ _ _ y)
end

/-! ## The runs -/

set_option maxHeartbeats 1000000 in
theorem runA (c : Dev nD) (i : grid0.Coords)
  (arg3 : Memref sig .tc .vmem S1x512x2048 .f32) (harg3 : arg3.IsWhole)
  (arg4 : Memref sig .tc .vmem S1x512x2048 .bf16) (harg4 : arg4.IsWhole)
  (arg5 : Memref sig .tc .vmem S1x9x2048 .f32) (harg5 : arg5.IsWhole)
  (arg6 : Memref sig .tc .vmem S1x2048 .f32) (harg6 : arg6.IsWhole)
  (arg7 : Memref sig .tc .vmem S1x2048x512 .bf16) (harg7 : arg7.IsWhole)
  (arg8 : Memref sig .tc .vmem S1x2048x512 .bf16) (harg8 : arg8.IsWhole)
  (arg9 : Memref sig .tc .vmem S1x512x2048 .bf16) (harg9 : arg9.IsWhole)
  (arg10 : Memref sig .tc .vmem S1x2048 .f32) (harg10 : arg10.IsWhole)
  (arg11 : Memref sig .tc .vmem S1x512x2048 .f32) (harg11 : arg11.IsWhole)
  (arg12 : Memref sig .tc .vmem S512x2048 .bf16) (harg12 : arg12.IsWhole)
  (arg13 : Memref sig .tc .vmem S512x2048 .f32) (harg13 : arg13.IsWhole)
  (hc0 : k0_cond1 i = 1#1) (hc1 : ¬k0_cond2 i = 1#1)
  (x0 : Vec F S1x512x2048 .f32) (x1 : Vec F S1x512x2048 .bf16) (x2 : Vec F S1x9x2048 .f32) (x3 : Vec F S1x2048 .f32)
  (x4 : Vec F S1x2048x512 .bf16) (x5 : Vec F S1x2048x512 .bf16) (x6 : Vec F S1x512x2048 .bf16) (x7 : Vec F S1x2048 .f32)
  (xi : Vec F S1x512x2048 .f32) (d : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi ∗ owns (c : Thread nD τ) arg12 fullShare d ∗ owns (c : Thread nD τ) arg13 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi ∗ owns (c : Thread nD τ) arg12 fullShare (hOf x0 x1 x2 x3) ∗ owns (c : Thread nD τ) arg13 fullShare (k0_pay2 i (hOf x0 x1 x2 x3) x4 x5 acc x6)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hs0; obtain rfl := harg13.eq_unread hs1
  have hrd0 : ∀ (𝒱 : Variants) (c : Dev nD) (bd : Option 𝒱.V) (k0_h1 : k0_cond1 i = 1#1) (v28 : Vec F S1x1x2048 .f32) (v30 : Vec F S1x2048 .f32)
      (v32 : Vec F S1x1x2048 .f32) (X3 : BufTy.Contents (Elt F) arg3.view.ty) (X4 : BufTy.Contents (Elt F) arg4.view.ty)
      (G : BufTy.Contents (Elt F) arg12.view.ty) (B : LoadRect S512x2048),
      arg12.view.readAt (Elt F) B (arg12.view.writes (Elt F) G (pb_k0_t1 (F := F) 𝒱 c bd i arg3 harg3 arg4 harg4 arg5 harg5 arg6 harg6 arg7 harg7 arg8 harg8 arg9 harg9 arg10 harg10 arg11 harg11 arg12 harg12 arg13 harg13 k0_h1 v28 v30 v32 X3 X4 (Scf.trips k0_t1_loop.lb k0_t1_loop.ub k0_t1_loop.st)))
        = arg12.view.readCov (pb_k0_t1 (F := F) 𝒱 c bd i arg3 harg3 arg4 harg4 arg5 harg5 arg6 harg6 arg7 harg7 arg8 harg8 arg9 harg9 arg10 harg10 arg11 harg11 arg12 harg12 arg13 harg13 k0_h1 v28 v30 v32 X3 X4 (Scf.trips k0_t1_loop.lb k0_t1_loop.ub k0_t1_loop.st)) B :=
    fun 𝒱 c bd k0_h1 v28 v30 v32 X3 X4 G B => View.readAt_writes_of_cover _ G _ B (fun j => View.cover_of_tiledL
      (pb_k0_t1 (F := F) 𝒱 c bd i arg3 harg3 arg4 harg4 arg5 harg5 arg6 harg6 arg7 harg7 arg8 harg8 arg9 harg9 arg10 harg10 arg11 harg11 arg12 harg12 arg13 harg13 k0_h1 v28 v30 v32 X3 X4 (Scf.trips k0_t1_loop.lb k0_t1_loop.ub k0_t1_loop.st)) S16x2048.size (by sl_kernel_rfl) (B.idx j))
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [HS0]
  · iexists _; isplitr
    swap; · iexact HS0
    ipureintro
    refine (View.read_writes_eq_canon _ _ _ (cover1 Variants.none none c i arg3 harg3 arg4 harg4 arg5 harg5 arg6 harg6 arg7 harg7 arg8 harg8 arg9 harg9 arg10 harg10 arg11 harg11 arg12 harg12 arg13 harg13 hc0 _ _ _ _ _)).trans ?_
    simp (disch := decide) only [View.readAt_eq_ld, Memref.IsWhole.read_unread, View.ld_unit_lit']
    exact loop1 Variants.none none c i arg3 harg3 arg4 harg4 arg5 harg5 arg6 harg6 arg7 harg7 arg8 harg8 arg9 harg9 arg10 harg10 arg11 harg11 arg12 harg12 arg13 harg13 x0 x1 x2 x3 hc0
  iexists _; isplitr
  swap; · iexact HS1
  ipureintro

  refine (read_put _ _ (by decide) _ _).trans ?_
  simp (disch := decide) only [View.readAt_eq_ld, Memref.IsWhole.read_unread, View.ld_unit_lit']
  refine congrArg (fun z => k0_pay2 i z x4 x5 acc x6) ?_
  refine (View.readCov_eq_canon' _ _ _).trans ?_
  refine Eq.trans ?_ (loop1 Variants.none none c i arg3 harg3 arg4 harg4 arg5 harg5 arg6 harg6 arg7 harg7 arg8 harg8 arg9 harg9 arg10 harg10 arg11 harg11 arg12 harg12 arg13 harg13 x0 x1 x2 x3 hc0)
  exact View.ld_unit_lit' _ _ (by decide)

set_option maxHeartbeats 1000000 in
theorem runB (c : Dev nD) (i : grid0.Coords)
  (arg3 : Memref sig .tc .vmem S1x512x2048 .f32) (harg3 : arg3.IsWhole)
  (arg4 : Memref sig .tc .vmem S1x512x2048 .bf16) (harg4 : arg4.IsWhole)
  (arg5 : Memref sig .tc .vmem S1x9x2048 .f32) (harg5 : arg5.IsWhole)
  (arg6 : Memref sig .tc .vmem S1x2048 .f32) (harg6 : arg6.IsWhole)
  (arg7 : Memref sig .tc .vmem S1x2048x512 .bf16) (harg7 : arg7.IsWhole)
  (arg8 : Memref sig .tc .vmem S1x2048x512 .bf16) (harg8 : arg8.IsWhole)
  (arg9 : Memref sig .tc .vmem S1x512x2048 .bf16) (harg9 : arg9.IsWhole)
  (arg10 : Memref sig .tc .vmem S1x2048 .f32) (harg10 : arg10.IsWhole)
  (arg11 : Memref sig .tc .vmem S1x512x2048 .f32) (harg11 : arg11.IsWhole)
  (arg12 : Memref sig .tc .vmem S512x2048 .bf16) (harg12 : arg12.IsWhole)
  (arg13 : Memref sig .tc .vmem S512x2048 .f32) (harg13 : arg13.IsWhole)
  (hc0 : ¬k0_cond1 i = 1#1) (hc1 : ¬k0_cond2 i = 1#1)
  (x0 : Vec F S1x512x2048 .f32) (x1 : Vec F S1x512x2048 .bf16) (x2 : Vec F S1x9x2048 .f32) (x3 : Vec F S1x2048 .f32)
  (x4 : Vec F S1x2048x512 .bf16) (x5 : Vec F S1x2048x512 .bf16) (x6 : Vec F S1x512x2048 .bf16) (x7 : Vec F S1x2048 .f32)
  (xi : Vec F S1x512x2048 .f32) (h : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi ∗ owns (c : Thread nD τ) arg12 fullShare h ∗ owns (c : Thread nD τ) arg13 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi ∗ owns (c : Thread nD τ) arg12 fullShare h ∗ owns (c : Thread nD τ) arg13 fullShare (k0_pay2 i h x4 x5 acc x6)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hs0; obtain rfl := harg13.eq_unread hs1
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [HS0]
  · iexists _; isplitr; · ipureintro; exact harg12.read_unread _
    iexact HS0
  iexists _; isplitr
  swap; · iexact HS1
  ipureintro

  refine (read_put _ _ (by decide) _ _).trans ?_
  simp (disch := decide) only [View.readAt_eq_ld, Memref.IsWhole.read_unread, View.ld_unit_lit']

set_option maxHeartbeats 1000000 in
theorem runC (c : Dev nD) (i : grid0.Coords)
  (arg3 : Memref sig .tc .vmem S1x512x2048 .f32) (harg3 : arg3.IsWhole)
  (arg4 : Memref sig .tc .vmem S1x512x2048 .bf16) (harg4 : arg4.IsWhole)
  (arg5 : Memref sig .tc .vmem S1x9x2048 .f32) (harg5 : arg5.IsWhole)
  (arg6 : Memref sig .tc .vmem S1x2048 .f32) (harg6 : arg6.IsWhole)
  (arg7 : Memref sig .tc .vmem S1x2048x512 .bf16) (harg7 : arg7.IsWhole)
  (arg8 : Memref sig .tc .vmem S1x2048x512 .bf16) (harg8 : arg8.IsWhole)
  (arg9 : Memref sig .tc .vmem S1x512x2048 .bf16) (harg9 : arg9.IsWhole)
  (arg10 : Memref sig .tc .vmem S1x2048 .f32) (harg10 : arg10.IsWhole)
  (arg11 : Memref sig .tc .vmem S1x512x2048 .f32) (harg11 : arg11.IsWhole)
  (arg12 : Memref sig .tc .vmem S512x2048 .bf16) (harg12 : arg12.IsWhole)
  (arg13 : Memref sig .tc .vmem S512x2048 .f32) (harg13 : arg13.IsWhole)
  (hc0 : ¬k0_cond1 i = 1#1) (hc1 : k0_cond2 i = 1#1)
  (x0 : Vec F S1x512x2048 .f32) (x1 : Vec F S1x512x2048 .bf16) (x2 : Vec F S1x9x2048 .f32) (x3 : Vec F S1x2048 .f32)
  (x4 : Vec F S1x2048x512 .bf16) (x5 : Vec F S1x2048x512 .bf16) (x6 : Vec F S1x512x2048 .bf16) (x7 : Vec F S1x2048 .f32)
  (xi : Vec F S1x512x2048 .f32) (h : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi ∗ owns (c : Thread nD τ) arg12 fullShare h ∗ owns (c : Thread nD τ) arg13 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (oOf x0 x1 x2 (k0_pay2 i h x4 x5 acc x6) x7) ∗ owns (c : Thread nD τ) arg12 fullShare h ∗ owns (c : Thread nD τ) arg13 fullShare (k0_pay2 i h x4 x5 acc x6)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hs0; obtain rfl := harg13.eq_unread hs1
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr
    swap; · iexact H8
    ipureintro
    refine (View.read_writes_eq_canon _ _ _ (cover2 Variants.none none c i arg3 harg3 arg4 harg4 arg5 harg5 arg6 harg6 arg7 harg7 arg8 harg8 arg9 harg9 arg10 harg10 arg11 harg11 arg12 harg12 arg13 harg13 hc1 _ _ _ _ _)).trans ?_
    rw [harg13.eq_unread (X := k0_pay2 i h x4 x5 acc x6) (f := arg13.view.writes (Elt F) arg13.view.junk
      (runC.sl.HS1_1 c i arg7 harg7 arg8 harg8 arg9 harg9 arg12 harg12 arg13 harg13 x4 x5 x6 h acc)) (by
        unfold runC.sl.HS1_1
        refine (read_put _ _ (by decide) _ _).trans ?_
        simp (disch := decide) only [View.readAt_eq_ld, Memref.IsWhole.read_unread, View.ld_unit_lit'])]
    simp only [View.readAt_eq_ld, Memref.IsWhole.read_unread]
    exact loop2 Variants.none none c i arg3 harg3 arg4 harg4 arg5 harg5 arg6 harg6 arg7 harg7 arg8 harg8 arg9 harg9 arg10 harg10 arg11 harg11 arg12 harg12 arg13 harg13 x0 x1 x2 x7 hc1 _
  isplitl [HS0]
  · iexists _; isplitr; · ipureintro; exact harg12.read_unread _
    iexact HS0
  iexists _; isplitr
  swap; · iexact HS1
  ipureintro
  unfold runC.sl.HS1_1
  refine (read_put _ _ (by decide) _ _).trans ?_
  simp (disch := decide) only [View.readAt_eq_ld, Memref.IsWhole.read_unread, View.ld_unit_lit']

end Cert.FfnIdeal.Hand

end
-- ==== Proof.FfnVal.lean ====
/- The feed-forward's body on the extended reals: each buffer's contents, element by element. -/
module

public import proofs.«01_k».proof.Proof.FfnSpec
public import proofs.«01_k».proof.Proof.FfnRun
public import Idealize.ShloMosaic.Lib.IdealHost

@[expose] public section

set_option maxRecDepth 16384

noncomputable section

namespace Cert.FfnIdeal.Hand

open Idealize.ShloMosaic Idealize.ShloMosaic.TcCoe Idealize.ShloMosaic.Tactic
open Cert Cert.FfnIdeal Cert.FfnIdeal.Gen

/-! ## The loads -/

theorem rows_apply {e : EltTy} (x : Vec Ideal S1x512x2048 e) (k : ℕ) (a : Fin 16) (d : Fin 2048) :
    rows x k (ix3 0 a d) = x (ix3 0 ⟨16 * (k % 32) + a.val, by omega⟩ d) := by
  pointwise [rows]

theorem rows2_apply (x : Vec Ideal S512x2048 .f32) (k : ℕ) (a : Fin 16) (d : Fin 2048) :
    rows2 x k (ix2 a d) = x (ix2 ⟨16 * (k % 32) + a.val, by omega⟩ d) := by
  pointwise [rows2]

theorem mrow_apply (x : Vec Ideal S1x9x2048 .f32) (k : Fin 9) (d : Fin 2048) : mrow x k.val (ix3 0 0 d) = x (ix3 0 k d) := by
  pointwise [mrow]
  congr 2
  exact Fin.ext (Nat.mod_eq_of_lt k.isLt)

/-! ## The payloads -/

theorem pay1_apply (sh : Vec Ideal S1x1x2048 .f32) (g : Vec Ideal S1x2048 .f32) (sc : Vec Ideal S1x1x2048 .f32)
    (x : Vec Ideal S1x16x2048 .f32) (d : Vec Ideal S1x16x2048 .bf16) (a : Fin 16) (e : Fin 2048) :
    k0_pay1 sh g sc x d (ix2 a e) = FfnSpec.hid (fun k => x (ix3 0 a k) + d (ix3 0 a k)) (fun k => g (ix2 0 k))
      (fun k => sh (ix3 0 0 k)) (fun k => sc (ix3 0 0 k)) e := by
  unfold FfnSpec.hid FfnSpec.rms
  pointwise [k0_pay1]
  rw [mul_assoc _ (g (ix2 0 e))]

/-- One block of 512 hidden units, projected back. -/
def part (h : Vec Ideal S512x2048 .bf16) (wg wu : Vec Ideal S1x2048x512 .bf16) (wd : Vec Ideal S1x512x2048 .bf16) (y : S512x2048.Idx) : EReal :=
  ∑ j : Fin 512, FfnSpec.act (fun k => h (ix2 (y 0) k)) (fun k => wg (ix3 0 k j)) (fun k => wu (ix3 0 k j)) * wd (ix3 0 j (y 1))

theorem part_apply (h : Vec Ideal S512x2048 .bf16) (wg wu : Vec Ideal S1x2048x512 .bf16) (wd : Vec Ideal S1x512x2048 .bf16) (r : Fin 512) (e : Fin 2048) :
    part h wg wu wd (ix2 r e)
      = ∑ j : Fin 512, FfnSpec.act (fun k => h (ix2 r k)) (fun k => wg (ix3 0 k j)) (fun k => wu (ix3 0 k j)) * wd (ix3 0 j e) := rfl

theorem pay2_apply (i : grid0.Coords) (h : Vec Ideal S512x2048 .bf16) (wg wu : Vec Ideal S1x2048x512 .bf16) (a : Vec Ideal S512x2048 .f32)
    (wd : Vec Ideal S1x512x2048 .bf16) (r : Fin 512) (e : Fin 2048) :
    k0_pay2 i h wg wu a wd (ix2 r e) = Scalar.select (Scalar.cmpi .eq (BitVec.ofNat 32 (i 2).val) 0#32) 0 (a (ix2 r e)) + part h wg wu wd (ix2 r e) := by
  unfold part FfnSpec.act
  pointwise [k0_pay2]
  simp only [Ideal.logistic]

theorem first_bit (i : grid0.Coords) : (k0_cond1 i = 1#1) ↔ Scalar.cmpi .eq (BitVec.ofNat 32 (i 2).val) 0#32 = 1#1 := by
  unfold k0_cond1
  dsimp only
  generalize Scalar.cmpi .eq (BitVec.ofNat 32 (i 2).val) 0#32 = b
  revert b; decide

/-- The first of a tile's points starts the sum, -/
theorem pay2_reset (i : grid0.Coords) (hi : k0_cond1 i = 1#1) (h : Vec Ideal S512x2048 .bf16) (wg wu : Vec Ideal S1x2048x512 .bf16)
    (a : Vec Ideal S512x2048 .f32) (wd : Vec Ideal S1x512x2048 .bf16) (y : S512x2048.Idx) :
    k0_pay2 i h wg wu a wd y = 0 + part h wg wu wd y := by
  obtain ⟨r, e, rfl⟩ : ∃ (r : Fin 512) (e : Fin 2048), y = ix2 r e := ⟨y 0, y 1, funext fun a => by fin_cases a <;> rfl⟩
  rw [pay2_apply, (first_bit i).mp hi]
  rfl

/-- the others add to it. -/
theorem pay2_step (i : grid0.Coords) (hi : ¬k0_cond1 i = 1#1) (h : Vec Ideal S512x2048 .bf16) (wg wu : Vec Ideal S1x2048x512 .bf16)
    (a : Vec Ideal S512x2048 .f32) (wd : Vec Ideal S1x512x2048 .bf16) (y : S512x2048.Idx) :
    k0_pay2 i h wg wu a wd y = a y + part h wg wu wd y := by
  obtain ⟨r, e, rfl⟩ : ∃ (r : Fin 512) (e : Fin 2048), y = ix2 r e := ⟨y 0, y 1, funext fun a => by fin_cases a <;> rfl⟩
  rw [first_bit] at hi
  rw [pay2_apply]
  exact congrArg (· + _) (if_neg hi)

theorem pay3_apply (g3 : Vec Ideal S1x1x2048 .f32) (x : Vec Ideal S1x16x2048 .f32) (d : Vec Ideal S1x16x2048 .bf16) (z : Vec Ideal S16x2048 .f32)
    (g : Vec Ideal S1x2048 .f32) (a : Fin 16) (e : Fin 2048) :
    k0_pay3 g3 x d z g (ix3 0 a e) = FfnSpec.nrm (FfnSpec.add (fun k => x (ix3 0 a k) + d (ix3 0 a k)) (fun k => g3 (ix3 0 0 k)) (fun k => z (ix2 a k)))
      (fun k => g (ix2 0 k)) e := by
  unfold FfnSpec.nrm FfnSpec.rms FfnSpec.add
  pointwise [k0_pay3]

/-! ## The blocks -/

theorem hOf_apply (x0 : Vec Ideal S1x512x2048 .f32) (x1 : Vec Ideal S1x512x2048 .bf16) (x2 : Vec Ideal S1x9x2048 .f32) (x3 : Vec Ideal S1x2048 .f32)
    (r : Fin 512) (e : Fin 2048) : hOf x0 x1 x2 x3 (ix2 r e)
      = FfnSpec.hid (fun k => x0 (ix3 0 r k) + x1 (ix3 0 r k)) (fun k => x3 (ix2 0 k)) (fun k => x2 (ix3 0 6 k)) (fun k => x2 (ix3 0 7 k)) e := by
  have hr : (⟨16 * (r.val / 16 % 32) + r.val % 16, by omega⟩ : Fin 512) = r := Fin.ext (by dsimp only; omega)
  unfold hOf sub
  refine (pay1_apply (mrow x2 6) x3 (mrow x2 7) (rows x0 (r.val / 16)) (rows x1 (r.val / 16)) ⟨r.val % 16, Nat.mod_lt _ (by norm_num)⟩ e).trans ?_
  simp only [rows_apply, hr]
  rw [show (fun k => mrow x2 6 (ix3 0 0 k)) = fun k => x2 (ix3 0 6 k) from funext (mrow_apply x2 6),
    show (fun k => mrow x2 7 (ix3 0 0 k)) = fun k => x2 (ix3 0 7 k) from funext (mrow_apply x2 7)]

theorem oOf_apply (x0 : Vec Ideal S1x512x2048 .f32) (x1 : Vec Ideal S1x512x2048 .bf16) (x2 : Vec Ideal S1x9x2048 .f32) (z : Vec Ideal S512x2048 .f32)
    (x7 : Vec Ideal S1x2048 .f32) (r : Fin 512) (e : Fin 2048) : oOf x0 x1 x2 z x7 (ix3 0 r e)
      = FfnSpec.nrm (FfnSpec.add (fun k => x0 (ix3 0 r k) + x1 (ix3 0 r k)) (fun k => x2 (ix3 0 8 k)) (fun k => z (ix2 r k))) (fun k => x7 (ix2 0 k)) e := by
  have hr : (⟨16 * (r.val / 16 % 32) + r.val % 16, by omega⟩ : Fin 512) = r := Fin.ext (by dsimp only; omega)
  unfold oOf sub3
  refine (pay3_apply (mrow x2 8) (rows x0 (r.val / 16)) (rows x1 (r.val / 16)) (rows2 z (r.val / 16)) x7 ⟨r.val % 16, Nat.mod_lt _ (by norm_num)⟩ e).trans ?_
  simp only [rows_apply, rows2_apply, hr]
  rw [show (fun k => mrow x2 8 (ix3 0 0 k)) = fun k => x2 (ix3 0 8 k) from funext (mrow_apply x2 8)]

end Cert.FfnIdeal.Hand

end
-- ==== Proof.FfnFrame.lean ====
/- The feed-forward's pipeline: what the two scratch buffers hold between points, the body obligation, the run and the frame. -/
module

public import proofs.«01_k».proof.Proof.FfnRun
public import proofs.«01_k».proof.Proof.Gen.FfnIdeal.Launch
public import Idealize.ShloMosaic.Lib.Pipeline.FrameBody
public import Idealize.ShloMosaic.Lib.WordCmp

@[expose] public section

set_option maxRecDepth 16384

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem last_val (t : Fin cfg0.N) : (grid0.coords t 2).val = t.val % 11 := by
  have e2 : (grid0.coords t 2).val = t.val / 1 % 11 := Pipeline.Grid.coords_val t 2 (by decide) rfl
  rw [e2, Nat.div_one]

/-- The first of a tile's points. -/
theorem first_iff (t : Fin cfg0.N) : k0_cond1 (grid0.coords t) = 1#1 ↔ t.val % 11 = 0 := by
  have ht : t.val < 352 := Nat.lt_of_lt_of_eq t.isLt N_0
  have e2 := last_val t
  simp only [k0_cond1, e2]
  word_cmp

/-- The last of a tile's points. -/
theorem final_iff (t : Fin cfg0.N) : k0_cond2 (grid0.coords t) = 1#1 ↔ t.val % 11 = 10 := by
  have ht : t.val < 352 := Nat.lt_of_lt_of_eq t.isLt N_0
  have e2 := last_val t
  simp only [k0_cond2, e2]
  word_cmp

/-- Off a tile's last point the output's window is idle, -/
theorem idle8 : ∀ t : Fin cfg0.N, ¬t.val % 11 = 10 → cfg0.idle 8 (grid0.coords t) = true := by decide +kernel
/-- and not written back. -/
theorem noFlush8 : ∀ t : Fin cfg0.N, ¬t.val % 11 = 10 → (cfg0.win 8).flush t = false := by decide +kernel
/-- At it, it is live. -/
theorem live8 : ∀ t : Fin cfg0.N, t.val % 11 = 10 → cfg0.idle 8 (grid0.coords t) = false := by decide +kernel

abbrev bM0 (t : Fin cfg0.N) : Memref sig .tc .vmem S1x512x2048 .f32 := win0_0.stage (cfg0.slots t 0)
abbrev bH0 (t : Fin cfg0.N) : (bM0 t).IsWhole := hstage0_0 ((cfg0.slots t 0).cast nbuf0_0)
abbrev bM1 (t : Fin cfg0.N) : Memref sig .tc .vmem S1x512x2048 .bf16 := win0_1.stage (cfg0.slots t 1)
abbrev bH1 (t : Fin cfg0.N) : (bM1 t).IsWhole := hstage0_1 ((cfg0.slots t 1).cast nbuf0_1)
abbrev bM2 (t : Fin cfg0.N) : Memref sig .tc .vmem S1x9x2048 .f32 := win0_2.stage (cfg0.slots t 2)
abbrev bH2 (t : Fin cfg0.N) : (bM2 t).IsWhole := hstage0_2 ((cfg0.slots t 2).cast nbuf0_2)
abbrev bM3 (t : Fin cfg0.N) : Memref sig .tc .vmem S1x2048 .f32 := win0_3.stage (cfg0.slots t 3)
abbrev bH3 (t : Fin cfg0.N) : (bM3 t).IsWhole := hstage0_3 ((cfg0.slots t 3).cast nbuf0_3)
abbrev bM4 (t : Fin cfg0.N) : Memref sig .tc .vmem S1x2048x512 .bf16 := win0_4.stage (cfg0.slots t 4)
abbrev bH4 (t : Fin cfg0.N) : (bM4 t).IsWhole := hstage0_4 ((cfg0.slots t 4).cast nbuf0_4)
abbrev bM5 (t : Fin cfg0.N) : Memref sig .tc .vmem S1x2048x512 .bf16 := win0_5.stage (cfg0.slots t 5)
abbrev bH5 (t : Fin cfg0.N) : (bM5 t).IsWhole := hstage0_5 ((cfg0.slots t 5).cast nbuf0_5)
abbrev bM6 (t : Fin cfg0.N) : Memref sig .tc .vmem S1x512x2048 .bf16 := win0_6.stage (cfg0.slots t 6)
abbrev bH6 (t : Fin cfg0.N) : (bM6 t).IsWhole := hstage0_6 ((cfg0.slots t 6).cast nbuf0_6)
abbrev bM7 (t : Fin cfg0.N) : Memref sig .tc .vmem S1x2048 .f32 := win0_7.stage (cfg0.slots t 7)
abbrev bH7 (t : Fin cfg0.N) : (bM7 t).IsWhole := hstage0_7 ((cfg0.slots t 7).cast nbuf0_7)
abbrev bM8 (t : Fin cfg0.N) : Memref sig .tc .vmem S1x512x2048 .f32 := win0_8.stage (cfg0.slots t 8)
abbrev bH8 (t : Fin cfg0.N) : (bM8 t).IsWhole := hstage0_8 ((cfg0.slots t 8).cast nbuf0_8)
abbrev sM0 : Memref sig .tc .vmem S512x2048 .bf16 := Memref.whole cc0_scratch0
abbrev sM1 : Memref sig .tc .vmem S512x2048 .f32 := Memref.whole cc0_scratch1

/-- The kit's invariant, the two scratch buffers named. -/
theorem phi0 (c : Dev nD) : (Pipeline.ΦA spec0 c : sProp 𝕄)
    = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-! ## What the scratch buffers hold -/

/-- At the first of a tile's points the accumulator's old contents are dropped. -/
theorem pay2_first (i : grid0.Coords) (hi : k0_cond1 i = 1#1) (h : Vec F S512x2048 .bf16) (x4 x5 : Vec F S1x2048x512 .bf16)
    (a a' : Vec F S512x2048 .f32) (x6 : Vec F S1x512x2048 .bf16) : k0_pay2 i h x4 x5 a x6 = k0_pay2 i h x4 x5 a' x6 := by
  have hz : Scalar.cmpi .eq (BitVec.ofNat 32 (i 2).val) 0#32 = 1#1 := by
    revert hi
    unfold k0_cond1
    dsimp only
    generalize Scalar.cmpi .eq (BitVec.ofNat 32 (i 2).val) 0#32 = b
    revert b; decide
  unfold k0_pay2
  dsimp only
  rw [hz]
  rfl

/-- One point's work on the two scratch buffers. -/
def step (c : Dev nD) (t : Fin cfg0.N) (s : Vec F S512x2048 .bf16 × Vec F S512x2048 .f32) : Vec F S512x2048 .bf16 × Vec F S512x2048 .f32 :=
  if t.val % 11 = 0 then
    (hOf (iblk m c 0 t) (iblk m c 1 t) (iblk m c 2 t) (iblk m c 3 t),
      k0_pay2 (grid0.coords t) (hOf (iblk m c 0 t) (iblk m c 1 t) (iblk m c 2 t) (iblk m c 3 t)) (iblk m c 4 t) (iblk m c 5 t) s.2 (iblk m c 6 t))
  else (s.1, k0_pay2 (grid0.coords t) s.1 (iblk m c 4 t) (iblk m c 5 t) s.2 (iblk m c 6 t))

/-- The scratch buffers before point `n`. -/
def st (c : Dev nD) : ℕ → Vec F S512x2048 .bf16 × Vec F S512x2048 .f32
  | 0 => (View.canon [], View.canon [])
  | n + 1 => if h : n < cfg0.N then step m c ⟨n, h⟩ (st c n) else st c n

theorem st_succ (c : Dev nD) (t : Fin cfg0.N) : st m c (t.val + 1) = step m c t (st m c t.val) := by
  rw [st]; exact dif_pos t.isLt

theorem st_first (c : Dev nD) (t : Fin cfg0.N) (h : t.val % 11 = 0) : st m c (t.val + 1)
    = (hOf (iblk m c 0 t) (iblk m c 1 t) (iblk m c 2 t) (iblk m c 3 t),
      k0_pay2 (grid0.coords t) (hOf (iblk m c 0 t) (iblk m c 1 t) (iblk m c 2 t) (iblk m c 3 t)) (iblk m c 4 t) (iblk m c 5 t) (st m c t.val).2 (iblk m c 6 t)) := by
  rw [st_succ, step, if_pos h]

theorem st_next (c : Dev nD) (t : Fin cfg0.N) (h : ¬t.val % 11 = 0) : st m c (t.val + 1)
    = ((st m c t.val).1, k0_pay2 (grid0.coords t) (st m c t.val).1 (iblk m c 4 t) (iblk m c 5 t) (st m c t.val).2 (iblk m c 6 t)) := by
  rw [st_succ, step, if_neg h]

/-- The invariant before point `n`: before the first nothing is known of the scratch buffers. -/
def Inv (c : Dev nD) (n : ℕ) : sProp 𝕄 :=
  iprop(∃ h a, ⌜n ≠ 0 → h = (st m c n).1 ∧ a = (st m c n).2⌝ ∗ owns (c : Thread nD τ) sM0 fullShare h ∗ owns (c : Thread nD τ) sM1 fullShare a ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oOf (iblk m c 0 t) (iblk m c 1 t) (iblk m c 2 t) (st m c (t.val + 1)).2 (iblk m c 7 t)
  Φ t := Inv m c t.val
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = Inv m c t.val := by
  dsimp only [dats]; rfl

theorem inv_succ (c : Dev nD) (t : Fin cfg0.N) : (dats m 0 c).Φ t.succ = Inv m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = oOf (iblk m c 0 t) (iblk m c 1 t) (iblk m c 2 t) (st m c (t.val + 1)).2 (iblk m c 7 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem leaves_0 (c : Dev nD) (t : Fin cfg0.N) : (dats m 0 c).leavesExact 0 t = owns (c : Thread nD τ) (bM0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (bM1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (bM2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (bM3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (bM4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (bM5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (bM6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (bM7 t) fullShare (iblk m c 7 t) := by
  unfold Dat.leavesExact; rw [show cfg0.idle 7 (grid0.coords t) = false from rfl, after_7]
theorem leaves_8 (c : Dev nD) (t : Fin cfg0.N) (h : t.val % 11 = 10) : (dats m 0 c).leavesExact 8 t
    = owns (c : Thread nD τ) (bM8 t) fullShare (oOf (iblk m c 0 t) (iblk m c 1 t) (iblk m c 2 t) (st m c (t.val + 1)).2 (iblk m c 7 t)) := by
  unfold Dat.leavesExact; rw [live8 t h, after_8]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bM0 t) fullShare ((dats m 0 c).before 0 t d))
    ∗ (∃ d, owns (c : Thread nD τ) (bM1 t) fullShare ((dats m 0 c).before 1 t d))
    ∗ (∃ d, owns (c : Thread nD τ) (bM2 t) fullShare ((dats m 0 c).before 2 t d))
    ∗ (∃ d, owns (c : Thread nD τ) (bM3 t) fullShare ((dats m 0 c).before 3 t d))
    ∗ (∃ d, owns (c : Thread nD τ) (bM4 t) fullShare ((dats m 0 c).before 4 t d))
    ∗ (∃ d, owns (c : Thread nD τ) (bM5 t) fullShare ((dats m 0 c).before 5 t d))
    ∗ (∃ d, owns (c : Thread nD τ) (bM6 t) fullShare ((dats m 0 c).before 6 t d))
    ∗ (∃ d, owns (c : Thread nD τ) (bM7 t) fullShare ((dats m 0 c).before 7 t d))
    ∗ (∃ d, owns (c : Thread nD τ) (bM8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
theorem bodyA (c : Dev nD) (t : Fin cfg0.N) (h0 : t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7,
    leaves_0, leaves_1, leaves_2, leaves_3, leaves_4, leaves_5, leaves_6, leaves_7]
  rw [show (dats m 0 c).owesAt () t.succ = (dats m 0 c).owesAt () t.castSucc from rfl, inv_castSucc, inv_succ]
  rw [Dat.leavesExact_idle (dats m 0 c) 8 t (idle8 t h1) (noFlush8 t h1)]
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) (bM0 t) (bH0 t) (bM1 t) (bH1 t) (bM2 t) (bH2 t) (bM3 t) (bH3 t) (bM4 t) (bH4 t) (bM5 t) (bH5 t) (bM6 t) (bH6 t) (bM7 t) (bH7 t) (bM8 t) (bH8 t) sM0 hw0 sM1 hw1 ((first_iff t).mpr h0) (fun h => h1 ((final_iff t).mp h)) (iblk m c 0 t) (iblk m c 1 t) (iblk m c 2 t) (iblk m c 3 t) (iblk m c 4 t) (iblk m c 5 t) (iblk m c 6 t) (iblk m c 7 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_first m c t h0]
    exact ⟨rfl, pay2_first _ ((first_iff t).mpr h0) _ _ _ _ _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 3200000 in
theorem bodyB (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7,
    leaves_0, leaves_1, leaves_2, leaves_3, leaves_4, leaves_5, leaves_6, leaves_7]
  rw [show (dats m 0 c).owesAt () t.succ = (dats m 0 c).owesAt () t.castSucc from rfl, inv_castSucc, inv_succ]
  rw [Dat.leavesExact_idle (dats m 0 c) 8 t (idle8 t h1) (noFlush8 t h1)]
  have hn0 : t.val ≠ 0 := fun h => h0 (by rw [h])
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs hn0
  iapply (runB c (grid0.coords t) (bM0 t) (bH0 t) (bM1 t) (bH1 t) (bM2 t) (bH2 t) (bM3 t) (bH3 t) (bM4 t) (bH4 t) (bM5 t) (bH5 t) (bM6 t) (bH6 t) (bM7 t) (bH7 t) (bM8 t) (bH8 t) sM0 hw0 sM1 hw1 (fun h => h0 ((first_iff t).mp h)) (fun h => h1 ((final_iff t).mp h)) (iblk m c 0 t) (iblk m c 1 t) (iblk m c 2 t) (iblk m c 3 t) (iblk m c 4 t) (iblk m c 5 t) (iblk m c 6 t) (iblk m c 7 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_next m c t h0]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 3200000 in
theorem bodyC (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7,
    leaves_0, leaves_1, leaves_2, leaves_3, leaves_4, leaves_5, leaves_6, leaves_7]
  rw [show (dats m 0 c).owesAt () t.succ = (dats m 0 c).owesAt () t.castSucc from rfl, inv_castSucc, inv_succ]
  rw [leaves_8 m c t h1, st_next m c t h0]
  have hn0 : t.val ≠ 0 := fun h => h0 (by rw [h])
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs hn0
  iapply (runC c (grid0.coords t) (bM0 t) (bH0 t) (bM1 t) (bH1 t) (bM2 t) (bH2 t) (bM3 t) (bH3 t) (bM4 t) (bH4 t) (bM5 t) (bH5 t) (bM6 t) (bH6 t) (bM7 t) (bH7 t) (bM8 t) (bH8 t) sM0 hw0 sM1 hw1 (fun h => h0 ((first_iff t).mp h)) ((final_iff t).mpr h1) (iblk m c 0 t) (iblk m c 1 t) (iblk m c 2 t) (iblk m c 3 t) (iblk m c 4 t) (iblk m c 5 t) (iblk m c 6 t) (iblk m c 7 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_next m c t h0]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body (c : Dev nD) (t : Fin cfg0.N) :
    bodyPre m c t ⊢ wp frame (wpE (defs₀ (F := F)) Variants.none c none) Set.univ (bodyAt0 t) (fun _ => bodyPost m c t) := by
  by_cases h0 : t.val % 11 = 0
  · exact bodyA m c t h0 (by omega)
  · by_cases h1 : t.val % 11 = 10
    · exact bodyC m c t h0 h1
    · exact bodyB m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem hin (c : Dev nD) : Pipeline.ΦA spec0 c ⊢ (dats m 0 c).Φ 0 := by
  rw [show (dats m 0 c).Φ 0 = Inv m c 0 from rfl, phi0]
  unfold Inv
  iintro ⟨⟨⟨%d0, HS0⟩, ⟨%d1, HS1⟩⟩, Hg⟩
  iexists _; iexists _
  isplitr; swap
  · isplitl [HS0]; · iexact HS0
    isplitl [HS1]; · iexact HS1
    iexact Hg
  ipureintro
  exact fun h => absurd rfl h

theorem hout (c : Dev nD) : (dats m 0 c).Φ (Fin.last cfg0.N) ⊢ Pipeline.ΦA spec0 c := by
  rw [show (dats m 0 c).Φ (Fin.last cfg0.N) = Inv m c cfg0.N from rfl, phi0]
  unfold Inv
  iintro ⟨%h, %a, -, HS0, HS1, Hg⟩
  isplitl [HS0 HS1]
  · isplitl [HS0]
    · iexists _; iexact HS0
    iexists _; iexact HS1
  iexact Hg

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.FfnIdeal.Hand

end
-- ==== Proof.FfnArr.lean ====
/- The feed-forward's output array, element by element. -/
module

public import proofs.«01_k».proof.Proof.FfnVal
public import proofs.«01_k».proof.Proof.FfnFrame
public import Idealize.ShloMosaic.Lib.Tactic.IndexArith
public import Idealize.ShloMosaic.Lib.Pipeline.Value

@[expose] public section

set_option maxRecDepth 16384

noncomputable section

namespace Cert.FfnIdeal.Hand

open Idealize.ShloMosaic Idealize.ShloMosaic.TcCoe Idealize.ShloMosaic.Tactic Idealize.SL.Sem
open Cert Cert.FfnIdeal Cert.FfnIdeal.Gen

/-- The blocks that grid point `t` uses. -/
theorem idx : ∀ t : Fin cfg0.N, win0_0.index t = ![t.val / 88, t.val / 11 % 8, 0] ∧ win0_1.index t = ![t.val / 88, t.val / 11 % 8, 0]
    ∧ win0_2.index t = ![t.val / 88, 0, 0] ∧ win0_3.index t = ![0, 0] ∧ win0_4.index t = ![1, 0, t.val % 11] ∧ win0_5.index t = ![1, 0, t.val % 11]
    ∧ win0_6.index t = ![1, t.val % 11, 0] ∧ win0_7.index t = ![0, 0] ∧ win0_8.index t = ![t.val / 88, t.val / 11 % 8, 0] := by
  decide +kernel

variable (m : (ℓ : Loc nD τ sig) → Buf (Elt Ideal) ℓ) (c : Dev nD)

theorem V_main_v0 : V m c main_v0 = truncf (F := Ideal) .bf16 (m ((c : Thread nD τ).loc main_arg4)) bitsLt_bf16_f32 := by
  unfold_abbrev_sides
  after_results

theorem V_main_v1 : V m c main_v1 = truncf (F := Ideal) .bf16 (m ((c : Thread nD τ).loc main_arg5)) bitsLt_bf16_f32 := by
  unfold_abbrev_sides
  after_results

theorem V_main_v2 : V m c main_v2 = truncf (F := Ideal) .bf16 (m ((c : Thread nD τ).loc main_arg6)) bitsLt_bf16_f32 := by
  unfold_abbrev_sides
  after_results

theorem V_main_v3 : V m c main_v3 = shapeCast S1x2048 (m ((c : Thread nD τ).loc main_arg3)) shapeCasts_S2048_S1x2048 := by
  unfold_abbrev_sides
  after_results
  rfl

theorem V_main_v4 : V m c main_v4 = shapeCast S1x2048 (m ((c : Thread nD τ).loc main_arg7)) shapeCasts_S2048_S1x2048 := by
  unfold_abbrev_sides
  after_results
  rfl

/-! ## The blocks' places -/

section
variable (t : Fin cfg0.N)

theorem batch_lt : t.val / 88 < 4 := by
  have h : t.val < 352 := Nat.lt_of_lt_of_eq t.isLt N_0
  omega

theorem x_apply (r : Fin 512) (e : Fin 2048) : iblk m c 0 t (ix3 0 r e)
    = m ((c : Thread nD τ).loc main_arg0) (ix3 ⟨t.val / 88, batch_lt t⟩ ⟨512 * (t.val / 11 % 8) + r.val, by omega⟩ e) := by
  obtain ⟨h0, h1, h2, h3, h4, h5, h6, h7, h8⟩ := idx t
  rw [← V_main_arg0 m c]
  blk_ext [iblk, h0]

theorem d_apply (r : Fin 512) (e : Fin 2048) : iblk m c 1 t (ix3 0 r e)
    = m ((c : Thread nD τ).loc main_arg1) (ix3 ⟨t.val / 88, batch_lt t⟩ ⟨512 * (t.val / 11 % 8) + r.val, by omega⟩ e) := by
  obtain ⟨h0, h1, h2, h3, h4, h5, h6, h7, h8⟩ := idx t
  rw [← V_main_arg1 m c]
  blk_ext [iblk, h1]

theorem mod_apply (k : Fin 9) (e : Fin 2048) : iblk m c 2 t (ix3 0 k e)
    = m ((c : Thread nD τ).loc main_arg2) (ix3 ⟨t.val / 88, Nat.lt_of_lt_of_le (batch_lt t) (by norm_num)⟩ k e) := by
  obtain ⟨h0, h1, h2, h3, h4, h5, h6, h7, h8⟩ := idx t
  rw [← V_main_arg2 m c]
  blk_ext [iblk, h2]

theorem g_apply (e : Fin 2048) : iblk m c 3 t (ix2 0 e) = m ((c : Thread nD τ).loc main_arg3) (ix1 e) := by
  obtain ⟨h0, h1, h2, h3, h4, h5, h6, h7, h8⟩ := idx t
  have h : iblk m c 3 t (ix2 0 e) = V m c main_v3 (ix2 0 e) := by blk_ext [iblk, h3]
  rw [h, V_main_v3]
  pointwise

theorem fg_apply (e : Fin 2048) : iblk m c 7 t (ix2 0 e) = m ((c : Thread nD τ).loc main_arg7) (ix1 e) := by
  obtain ⟨h0, h1, h2, h3, h4, h5, h6, h7, h8⟩ := idx t
  have h : iblk m c 7 t (ix2 0 e) = V m c main_v4 (ix2 0 e) := by blk_ext [iblk, h7]
  rw [h, V_main_v4]
  pointwise

theorem wg_apply (k : Fin 2048) (j : Fin 512) : iblk m c 4 t (ix3 0 k j)
    = m ((c : Thread nD τ).loc main_arg4) (ix3 1 k ⟨t.val % 11 * 512 + j.val, by omega⟩) := by
  obtain ⟨h0, h1, h2, h3, h4, h5, h6, h7, h8⟩ := idx t
  have h : iblk m c 4 t (ix3 0 k j) = V m c main_v0 (ix3 1 k ⟨t.val % 11 * 512 + j.val, by omega⟩) := by blk_ext [iblk, h4]
  rw [h, V_main_v0]
  rfl

theorem wu_apply (k : Fin 2048) (j : Fin 512) : iblk m c 5 t (ix3 0 k j)
    = m ((c : Thread nD τ).loc main_arg5) (ix3 1 k ⟨t.val % 11 * 512 + j.val, by omega⟩) := by
  obtain ⟨h0, h1, h2, h3, h4, h5, h6, h7, h8⟩ := idx t
  have h : iblk m c 5 t (ix3 0 k j) = V m c main_v1 (ix3 1 k ⟨t.val % 11 * 512 + j.val, by omega⟩) := by blk_ext [iblk, h5]
  rw [h, V_main_v1]
  rfl

theorem wd_apply (j : Fin 512) (e : Fin 2048) : iblk m c 6 t (ix3 0 j e)
    = m ((c : Thread nD τ).loc main_arg6) (ix3 1 ⟨t.val % 11 * 512 + j.val, by omega⟩ e) := by
  obtain ⟨h0, h1, h2, h3, h4, h5, h6, h7, h8⟩ := idx t
  have h : iblk m c 6 t (ix3 0 j e) = V m c main_v2 (ix3 1 ⟨t.val % 11 * 512 + j.val, by omega⟩ e) := by blk_ext [iblk, h6]
  rw [h, V_main_v2]
  rfl
end

/-! ## The scratch buffers -/

/-- The normalised rows of point `t`'s tile. -/
def hAt (t : Fin cfg0.N) : Vec Ideal S512x2048 .bf16 := hOf (iblk m c 0 t) (iblk m c 1 t) (iblk m c 2 t) (iblk m c 3 t)

/-- Points of one tile share them. -/
theorem hAt_same (t t' : Fin cfg0.N) (h : t.val / 11 = t'.val / 11) : hAt m c t = hAt m c t' := by
  have h88 : t.val / 88 = t'.val / 88 := by omega
  funext y
  obtain ⟨r, e, rfl⟩ : ∃ (r : Fin 512) (e : Fin 2048), y = ix2 r e := ⟨y 0, y 1, funext fun a => by fin_cases a <;> rfl⟩
  unfold hAt
  rw [hOf_apply, hOf_apply]
  simp only [x_apply, d_apply, mod_apply, g_apply, h, h88]

theorem st_h (n : ℕ) : ∀ hn : n < cfg0.N, (st m c (n + 1)).1 = hAt m c ⟨n, hn⟩ := by
  induction n with
  | zero => intro hn; exact congrArg Prod.fst (st_first m c ⟨0, hn⟩ rfl)
  | succ n ih =>
    intro hn
    by_cases h0 : (n + 1) % 11 = 0
    · exact congrArg Prod.fst (st_first m c ⟨n + 1, hn⟩ h0)
    · refine (congrArg Prod.fst (st_next m c ⟨n + 1, hn⟩ h0)).trans ((ih (by omega)).trans ?_)
      exact hAt_same m c _ _ (by dsimp only; omega)

/-- The accumulator at a tile's last point. -/
theorem st_acc (t : Fin cfg0.N) (ht : t.val % 11 = 10) (r : Fin 512) (e : Fin 2048) : (st m c (t.val + 1)).2 (ix2 r e)
    = ∑ j : Fin 5632, FfnSpec.act (fun k => hAt m c t (ix2 r k)) (fun k => m ((c : Thread nD τ).loc main_arg4) (ix3 1 k j))
      (fun k => m ((c : Thread nD τ).loc main_arg5) (ix3 1 k j)) * m ((c : Thread nD τ).loc main_arg6) (ix3 1 j e) := by
  refine (Pipeline.eq_sum_fin_of_reset_step_apply_of_flush (N := cfg0.N) (fun n _ => (st m c (n + 1)).2) 11 (fun _ => (0 : EReal))
    (fun t => part (hAt m c t) (iblk m c 4 t) (iblk m c 5 t) (iblk m c 6 t)) (fun t h y => ?_) (fun t h y => ?_) t ht (ix2 r e)).trans ?_
  · rw [st_first m c t h]
    exact pay2_reset _ ((first_iff t).mpr h) _ _ _ _ _ _
  · have hn : t.val - 1 + 1 = t.val := by omega
    have hh : (st m c t.val).1 = hAt m c t := by
      have := st_h m c t.val t.isLt
      rw [st_next m c t h] at this
      exact this
    rw [st_next m c t h, hn, hh]
    exact pay2_step _ (fun h' => h ((first_iff t).mp h')) _ _ _ _ _ _
  · rw [zero_add]
    simp only [part_apply]
    refine Fin.sum_mul_add_congr (S := 11) (n := 512) fun s k hl => ?_
    have hm : (11 * (t.val / 11) + s.val) % 11 = s.val := by omega
    rw [hAt_same m c ⟨11 * (t.val / 11) + s.val, _⟩ t (by dsimp only; omega)]
    simp only [wg_apply, wu_apply, wd_apply, hm]

/-- The result, element by element. -/
def outArr (x : Vec Ideal S4x4096x2048 .f32) (d : Vec Ideal S4x4096x2048 .bf16) (mod : Vec Ideal S8x9x2048 .f32) (g : Vec Ideal S2048 .f32)
    (wg wu : Vec Ideal S2x2048x5632 .f32) (wd : Vec Ideal S2x5632x2048 .f32) (fg : Vec Ideal S2048 .f32)
    (i : S4x4096x2048.Idx) : EReal :=
  FfnSpec.out (fun k => x (ix3 (i 0) (i 1) k) + d (ix3 (i 0) (i 1) k)) (fun k => g (ix1 k))
    (fun k => mod (ix3 ⟨(i 0).val, Nat.lt_of_lt_of_le (i 0).isLt (by decide)⟩ 6 k)) (fun k => mod (ix3 ⟨(i 0).val, Nat.lt_of_lt_of_le (i 0).isLt (by decide)⟩ 7 k))
    (fun k => mod (ix3 ⟨(i 0).val, Nat.lt_of_lt_of_le (i 0).isLt (by decide)⟩ 8 k)) (fun k => fg (ix1 k))
    (fun j k => wg (ix3 1 k j)) (fun j k => wu (ix3 1 k j)) (fun j k => wd (ix3 1 j k)) (i 2)

/-- The array after the run. -/
theorem arr_eq (x : Vec Ideal S4x4096x2048 .f32) (d : Vec Ideal S4x4096x2048 .bf16) (mod : Vec Ideal S8x9x2048 .f32) (g : Vec Ideal S2048 .f32)
    (wg wu : Vec Ideal S2x2048x5632 .f32) (wd : Vec Ideal S2x5632x2048 .f32) (fg : Vec Ideal S2048 .f32)
    (hx : m ((c : Thread nD τ).loc main_arg0) = x) (hd : m ((c : Thread nD τ).loc main_arg1) = d) (hmod : m ((c : Thread nD τ).loc main_arg2) = mod)
    (hg : m ((c : Thread nD τ).loc main_arg3) = g) (hwg : m ((c : Thread nD τ).loc main_arg4) = wg) (hwu : m ((c : Thread nD τ).loc main_arg5) = wu)
    (hwd : m ((c : Thread nD τ).loc main_arg6) = wd) (hfg : m ((c : Thread nD τ).loc main_arg7) = fg) :
    (dats m 0 c).arrAt 8 cfg0.N = outArr x d mod g wg wu wd fg := by
  subst hx hd hmod hg hwg hwu hwd hfg
  refine (dats m 0 c).arrAt_eq_of_covers 8 _ (by decide +kernel) fun t hf z => ?_
  have ht : t.val % 11 = 10 := by
    by_contra h
    rw [noFlush8 t h] at hf
    exact absurd hf (by decide)
  obtain ⟨r, e, rfl⟩ : ∃ (r : Fin 512) (e : Fin 2048), z = ix3 0 r e :=
    ⟨z 1, z 2, funext fun a => by
      fin_cases a <;> first | rfl | exact Fin.ext (by have := (z 0).isLt; change (z 0).val < 1 at this; change (z 0).val = 0; omega)⟩
  blk_simp
  rw [after_8, oOf_apply]
  have he : (win0_8.blk t).view.emb (ix3 0 r e) = ix3 ⟨t.val / 88, batch_lt t⟩ ⟨512 * (t.val / 11 % 8) + r.val, by omega⟩ e := by
    obtain ⟨h0, h1, h2, h3, h4, h5, h6, h7, h8⟩ := idx t
    blk_ext [h8]
  rw [he]
  unfold outArr FfnSpec.out
  dsimp only [ix3]
  simp only [st_acc m c t ht]
  unfold hAt
  simp only [hOf_apply, x_apply, d_apply, mod_apply, g_apply, fg_apply]

end Cert.FfnIdeal.Hand

end
-- ==== Proof.FfnRef.lean ====
/- The feed-forward's reference, element by element. -/
module

public import proofs.«01_k».proof.Proof.FfnSpec
public import proofs.«01_k».proof.Proof.Gen.FfnReferenceIdeal.Run
public import Idealize.ShloMosaic.Lib.IdealHost

@[expose] public section

set_option maxRecDepth 16384

noncomputable section

namespace Cert.FfnReferenceIdeal.Hand

open Idealize.ShloMosaic Idealize.ShloMosaic.TcCoe Idealize.ShloMosaic.Tactic
open Cert Cert.FfnReferenceIdeal Cert.FfnReferenceIdeal.Gen

/-- A vector per batch along the rows. -/
def perB (a : FVec Ideal S4x1x2048 .f32) : FVec Ideal S4x4096x2048 .f32 :=
  broadcastInDim S4x4096x2048 ![0, 1, 2] bcast_S4x1x2048_S4x4096x2048_0_1_2 a

/-- One vector along all rows. -/
def all (g : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 g)

def shR (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 6, 0] mod slices_S8x9x2048_S4x1x2048_0_6_0) shapeCasts_S4x1x2048_S4x2048)

def scR (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 7, 0] mod slices_S8x9x2048_S4x1x2048_0_7_0) shapeCasts_S4x1x2048_S4x2048)

def g3R (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 8, 0] mod slices_S8x9x2048_S4x1x2048_0_8_0) shapeCasts_S4x1x2048_S4x2048)

/-- The stream with the mixers' output added. -/
def xR (x : FVec Ideal S4x4096x2048 .f32) (d : FVec Ideal S4x4096x2048 .bf16) : FVec Ideal S4x4096x2048 .f32 :=
  addf x (extf .f32 d bitsLt_bf16_f32)

/-- One over the rows' root mean squares. -/
def rsR (y : FVec Ideal S4x4096x2048 .f32) : FVec Ideal S4x4096x1 .f32 :=
  Host.rsqrt (addf (Host.divf (broadcastInDim S4x4096x1 ![0, 1] bcast_S4x4096_S4x4096x1_0_1
      (Host.reduceAdd (mulf y y) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- The rows normalised and scaled. -/
def nR (y : FVec Ideal S4x4096x2048 .f32) (g : FVec Ideal S2048 .f32) : FVec Ideal S4x4096x2048 .f32 :=
  mulf (mulf y (broadcastInDim S4x4096x2048 ![0, 1, 2] bcast_S4x4096x1_S4x4096x2048_0_1_2 (rsR y))) (all g)

/-- … and modulated. -/
def hR (y : FVec Ideal S4x4096x2048 .f32) (g : FVec Ideal S2048 .f32) (mod : FVec Ideal S8x9x2048 .f32) : FVec Ideal S4x4096x2048 .f32 :=
  addf (mulf (nR y g) (perB (addf (broadcastInDim S4x1x2048 ![] bcast_S_S4x1x2048 (constant S_ .f32 0x3F800000#32)) (scR mod)))) (perB (shR mod))

/-- A projection to the hidden dimension. -/
def upR (h : FVec Ideal S4x4096x2048 .f32) (w : FVec Ideal S2x2048x5632 .f32) : FVec Ideal S4x4096x5632 .f32 :=
  Host.dotGeneral dot_S4x4096x2048_S2048x5632_S4x4096x5632_2_0_01_1_n_n none h
    (shapeCast S2048x5632 (extractStridedSlice S1x2048x5632 ![1, 0, 0] w slices_S2x2048x5632_S1x2048x5632_1_0_0) shapeCasts_S1x2048x5632_S2048x5632)

/-- The gate's silu. -/
def siluR (a : FVec Ideal S4x4096x5632 .f32) : FVec Ideal S4x4096x5632 .f32 :=
  mulf a (Host.divf (broadcastInDim S4x4096x5632 ![] bcast_S_S4x4096x5632 (constant S_ .f32 0x3F800000#32))
    (addf (broadcastInDim S4x4096x5632 ![] bcast_S_S4x4096x5632 (constant S_ .f32 0x3F800000#32)) (Host.exp (Host.negf a))))

/-- The projection back. -/
def dnR (a : FVec Ideal S4x4096x5632 .f32) (w : FVec Ideal S2x5632x2048 .f32) : FVec Ideal S4x4096x2048 .f32 :=
  Host.dotGeneral dot_S4x4096x5632_S5632x2048_S4x4096x2048_2_0_01_1_n_n none a
    (shapeCast S5632x2048 (extractStridedSlice S1x5632x2048 ![1, 0, 0] w slices_S2x5632x2048_S1x5632x2048_1_0_0) shapeCasts_S1x5632x2048_S5632x2048)

/-- The residual sum. -/
def yR (y : FVec Ideal S4x4096x2048 .f32) (mod : FVec Ideal S8x9x2048 .f32) (z : FVec Ideal S4x4096x2048 .f32) : FVec Ideal S4x4096x2048 .f32 :=
  addf y (mulf (perB (mulf (broadcastInDim S4x1x2048 ![] bcast_S_S4x1x2048 (constant S_ .f32 0x3F000000#32)) (g3R mod))) z)

/-- The result of the arguments. -/
def resR (x : FVec Ideal S4x4096x2048 .f32) (d : FVec Ideal S4x4096x2048 .bf16) (mod : FVec Ideal S8x9x2048 .f32) (g : FVec Ideal S2048 .f32)
    (wg wu : FVec Ideal S2x2048x5632 .f32) (wd : FVec Ideal S2x5632x2048 .f32) (fg : FVec Ideal S2048 .f32) : FVec Ideal S4x4096x2048 .f32 :=
  nR (yR (xR x d) mod (dnR (mulf (siluR (upR (hR (xR x d) g mod) wg)) (upR (hR (xR x d) g mod) wu)) wd)) fg

set_option maxHeartbeats 4000000 in
theorem res_eq (m : (ℓ : Loc nD τ sig) → Buf (Elt Ideal) ℓ) (c : Dev nD) : Value.res_main_v58 m c
    = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v58
  rfl

section
variable (b : Fin 4) (r : Fin 4096) (e : Fin 2048)

theorem all_apply (g : FVec Ideal S2048 .f32) : all g (ix3 b r e) = g (ix1 e) := by
  pointwise [all]

theorem perB_apply (a : FVec Ideal S4x1x2048 .f32) : perB a (ix3 b r e) = a (ix3 b 0 e) := by
  pointwise [perB]

theorem shR_apply (mod : FVec Ideal S8x9x2048 .f32) : shR mod (ix3 b 0 e) = mod (ix3 ⟨b.val, by omega⟩ 6 e) := by
  pointwise [shR]

theorem scR_apply (mod : FVec Ideal S8x9x2048 .f32) : scR mod (ix3 b 0 e) = mod (ix3 ⟨b.val, by omega⟩ 7 e) := by
  pointwise [scR]

theorem g3R_apply (mod : FVec Ideal S8x9x2048 .f32) : g3R mod (ix3 b 0 e) = mod (ix3 ⟨b.val, by omega⟩ 8 e) := by
  pointwise [g3R]

theorem xR_apply (x : FVec Ideal S4x4096x2048 .f32) (d : FVec Ideal S4x4096x2048 .bf16) : xR x d (ix3 b r e) = x (ix3 b r e) + d (ix3 b r e) := by
  pointwise [xR]

theorem rsR_apply (y : FVec Ideal S4x4096x2048 .f32) : rsR y (ix3 b r 0) = FfnSpec.rms fun k => y (ix3 b r k) := by
  pointwise [rsR, FfnSpec.rms]

theorem nR_apply (y : FVec Ideal S4x4096x2048 .f32) (g : FVec Ideal S2048 .f32) :
    nR y g (ix3 b r e) = FfnSpec.nrm (fun k => y (ix3 b r k)) (fun k => g (ix1 k)) e := by
  unfold FfnSpec.nrm
  dsimp only
  rw [← rsR_apply b r y, ← all_apply b r e g]
  pointwise [nR]

theorem hR_apply (y : FVec Ideal S4x4096x2048 .f32) (g : FVec Ideal S2048 .f32) (mod : FVec Ideal S8x9x2048 .f32) :
    hR y g mod (ix3 b r e) = FfnSpec.hid (fun k => y (ix3 b r k)) (fun k => g (ix1 k)) (fun k => mod (ix3 ⟨b.val, by omega⟩ 6 k))
      (fun k => mod (ix3 ⟨b.val, by omega⟩ 7 k)) e := by
  have h1 := nR_apply b r e y g
  unfold FfnSpec.nrm at h1
  dsimp only at h1
  unfold FfnSpec.hid
  dsimp only
  rw [← h1, ← shR_apply b e mod, ← scR_apply b e mod]
  pointwise [hR, perB]

theorem upR_apply (h : FVec Ideal S4x4096x2048 .f32) (w : FVec Ideal S2x2048x5632 .f32) (j : Fin 5632) :
    upR h w (ix3 b r j) = ∑ k : Fin 2048, h (ix3 b r k) * w (ix3 1 k j) := by
  pointwise [upR]

theorem siluR_apply (a : FVec Ideal S4x4096x5632 .f32) (j : Fin 5632) :
    siluR a (ix3 b r j) = a (ix3 b r j) * Ideal.div 1 (1 + Ideal.exp (-(a (ix3 b r j)))) := by
  pointwise [siluR]

theorem dnR_apply (a : FVec Ideal S4x4096x5632 .f32) (w : FVec Ideal S2x5632x2048 .f32) :
    dnR a w (ix3 b r e) = ∑ j : Fin 5632, a (ix3 b r j) * w (ix3 1 j e) := by
  pointwise [dnR]

theorem yR_apply (y : FVec Ideal S4x4096x2048 .f32) (mod : FVec Ideal S8x9x2048 .f32) (z : FVec Ideal S4x4096x2048 .f32) :
    yR y mod z (ix3 b r e) = FfnSpec.add (fun k => y (ix3 b r k)) (fun k => mod (ix3 ⟨b.val, by omega⟩ 8 k)) (fun k => z (ix3 b r k)) e := by
  unfold FfnSpec.add
  dsimp only
  rw [← g3R_apply b e mod]
  pointwise [yR, perB]

theorem resR_apply (x : FVec Ideal S4x4096x2048 .f32) (d : FVec Ideal S4x4096x2048 .bf16) (mod : FVec Ideal S8x9x2048 .f32) (g : FVec Ideal S2048 .f32)
    (wg wu : FVec Ideal S2x2048x5632 .f32) (wd : FVec Ideal S2x5632x2048 .f32) (fg : FVec Ideal S2048 .f32) :
    resR x d mod g wg wu wd fg (ix3 b r e) = FfnSpec.out (fun k => x (ix3 b r k) + d (ix3 b r k)) (fun k => g (ix1 k))
      (fun k => mod (ix3 ⟨b.val, by omega⟩ 6 k)) (fun k => mod (ix3 ⟨b.val, by omega⟩ 7 k)) (fun k => mod (ix3 ⟨b.val, by omega⟩ 8 k))
      (fun k => fg (ix1 k)) (fun j k => wg (ix3 1 k j)) (fun j k => wu (ix3 1 k j)) (fun j k => wd (ix3 1 j k)) e := by
  unfold resR FfnSpec.out FfnSpec.act
  simp only [nR_apply, yR_apply, dnR_apply, mulf_apply, siluR_apply, upR_apply, hR_apply, xR_apply, Ideal.mulf_def]

end

end Cert.FfnReferenceIdeal.Hand

end
-- ==== Proof.FfnAll.lean ====
/- The feed-forward's claims: its three frames, and the kernel and the reference ending with equal results. -/
module

public import proofs.«01_k».proof.Defs
public import proofs.«01_k».proof.Proof.Gen.Ffn
public import proofs.«01_k».proof.Proof.Gen.Ffn.Skeleton
public import proofs.«01_k».proof.Proof.Gen.Ffn.Loops
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnReferenceIdeal
public import proofs.«01_k».proof.Proof.FfnArr
public import proofs.«01_k».proof.Proof.FfnRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.Tactic Idealize.SL.Sem

theorem ffn_frame_ideal : Cert.quiescent_FfnIdeal (hFfnIdeal := Cert.FfnIdeal.Gen.facts) := fun m ρ _ => Cert.FfnIdeal.Hand.frame m ρ

/-- The two printed programs have one body table at the bit patterns. -/
theorem ffn_defs : @Cert.Ffn.defs Bits _ Cert.Ffn.Gen.facts = @Cert.FfnIdeal.defs Bits _ Cert.FfnIdeal.Gen.facts := by
  refine congrArg (Pipeline.defs _) ?_
  unfold Cert.Ffn.defs₀ Cert.FfnIdeal.defs₀
  refine congrArg Defs.onTc (funext fun l => funext fun a => ?_)
  match l with
  | 0 => rfl

/-- The printed kernel's frame: the same run, at the bit patterns. -/
theorem ffn_frame : Cert.quiescent_Ffn (hFfn := Cert.Ffn.Gen.facts) := fun m ρ _ => by
  have h := Cert.FfnIdeal.Hand.frame (F := Bits) m ρ
  rw [← ffn_defs] at h
  exact h

theorem ffn_ref_frame : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem ffn : Cert.algebraic_FfnIdeal_FfnReferenceIdeal
    (hFfnIdeal := Cert.FfnIdeal.Gen.facts) (hFfnReferenceIdeal := Cert.FfnReferenceIdeal.Gen.facts) := by
  intro m g m' g' _ hm
  refine ⟨fun c => (Cert.FfnIdeal.Hand.dats m 0 c).arrAt 8 Cert.FfnIdeal.cfg0.N,
    (θ_run Cert.FfnIdeal.defs _ _).mono (fun r h c => ⟨(h.1 c).1 8, h.2.1 c⟩)
      (θ_run_and (Cert.FfnIdeal.Hand.run_main m g) (Cert.FfnIdeal.Hand.frame m g)), ?_⟩
  refine (θ_run Cert.FfnReferenceIdeal.defs _ _).mono (fun r h c => ⟨(h c).1.trans ?_, (h c).2⟩) (Cert.FfnReferenceIdeal.Value.run (F := Ideal) m' g')
  obtain ⟨h0, h1, h2, h3, h4, h5, h6, h7⟩ := hm c
  refine (Cert.FfnReferenceIdeal.Hand.res_eq m' c).trans ?_
  refine Eq.trans ?_ (Cert.FfnIdeal.Hand.arr_eq m c _ _ _ _ _ _ _ _ h0.symm h1.symm h2.symm h3.symm h4.symm h5.symm h6.symm h7.symm).symm
  funext i
  obtain ⟨b, r, e, rfl⟩ : ∃ (b : Fin 4) (r : Fin 4096) (e : Fin 2048), i = ix3 b r e := ⟨i 0, i 1, i 2, funext fun a => by fin_cases a <;> rfl⟩
  exact Cert.FfnReferenceIdeal.Hand.resR_apply b r e _ _ _ _ _ _ _ _

end Cert.Proof

end
-- ==== Proof.FfnFirstRun.lean ====
/- The first feed-forward's body, run at its three kinds of points, with what it leaves in each buffer stated as a value. -/
module

public import proofs.«01_k».proof.Proof.FfnRun
public import proofs.«01_k».proof.Proof.Gen.FfnFirstIdeal.Skeleton
public import proofs.«01_k».proof.Proof.Gen.FfnFirstIdeal.Loops
public import proofs.«01_k».proof.Proof.Gen.FfnFirstIdeal.Points
public import proofs.«01_k».proof.Proof.Gen.FfnFirstIdeal.Frame
public import Idealize.ShloMosaic.Lib.Pipeline.ValueKit
public import Idealize.ShloMosaic.Lib.Pipeline.ReadBack

@[expose] public section

set_option maxRecDepth 16384

noncomputable section

namespace Cert.FfnFirstIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Hand (rows rows2 mrow sub sub3 inb3 inb2 ld_congr)
open Cert.FfnFirstIdeal Cert.FfnFirstIdeal.Gen

variable {F : FTy → Type} [FloatOps F]

local notation "𝕄" => MT nD τ sig Unit (Elt F) ℕ (UR sig nD τ) ℕ

/-! ## What the body computes -/

/-- The normalised, modulated block: what the first of a tile's points leaves in the first scratch. -/
def hOf (x0 : Vec F S1x512x2048 .f32) (x1 : Vec F S1x9x2048 .f32) (x2 : Vec F S1x2048 .f32) :
    Vec F S512x2048 .bf16 :=
  fun y => k0_pay1 (mrow x1 0) x2 (mrow x1 1) (rows x0 ((y 0).val / 16)) (sub y)

/-- The output block: what the last of a tile's points stores. -/
def oOf (x0 : Vec F S1x512x2048 .f32) (x1 : Vec F S1x9x2048 .f32) (acc : Vec F S512x2048 .f32) : Vec F S1x512x2048 .f32 :=
  fun y => k0_pay3 (mrow x1 2) (rows x0 ((y 1).val / 16)) (rows2 acc ((y 1).val / 16)) (sub3 y)

/-! ## The pieces the two loops write -/

/-- One store of a whole buffer, read back. -/
theorem read_put {S : Shape} {e : EltTy} (v : View sig .tc .vmem S e) (f : v.ty.Contents (Elt F)) {off : Fin S.rank → ℕ} (h : off = fun _ => 0)
    (inb : ∀ a, off a + S.size a ≤ S.size a) (w : Vec F S e) :
    v.read (Elt F) (v.writes (Elt F) f [⟨Rect.unit off S.size inb, w⟩]) = w := by
  rw [View.read_writes_eq_canon _ _ _ fun y => ⟨_, List.mem_singleton_self _, View.mem_set_unit_zero h inb y⟩]
  exact View.canon_unit_zero h inb w

section
variable (𝒱 : Variants) (bd : Option 𝒱.V) (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)

theorem trips1 : k0_t1_loop.trips = 32 := by decide +kernel
theorem trips2 : k0_t2_loop.trips = 32 := by decide +kernel

/-- The first loop's stores are blocks of `hOf`. -/
theorem pieces1 (h1 : k0_cond1 i = 1#1) (n : ℕ) (hn : n ≤ 32) : View.PiecesOf (hOf x0 x1 x2)
    (pb_k0_t1 (F := F) 𝒱 c bd i arg3 harg3 arg4 harg4 arg5 harg5 arg6 harg6 arg7 harg7 arg8 harg8 arg9 harg9 arg10 harg10 arg11 harg11 arg12 harg12 h1 (mrow x1 0) x2 (mrow x1 1)
      (harg3.unread x0) n) := by
  induction n with
  | zero => trivial
  | succ n ih =>
    have hlt : n < k0_t1_loop.trips := by rw [trips1]; omega
    refine (pb_k0_t1_succ (F := F) 𝒱 c bd i arg3 harg3 arg4 harg4 arg5 harg5 arg6 harg6 arg7 harg7 arg8 harg8 arg9 harg9 arg10 harg10 arg11 harg11 arg12 harg12 h1 (mrow x1 0) x2 (mrow x1 1)
      (harg3.unread x0) ⟨n, hlt⟩).symm ▸ ?_
    unfold tripL_k0_t1 trip_k0_t1
    refine ⟨fun x => ?_, ih (by omega)⟩
    simp only [View.readAt_eq_ld, Memref.IsWhole.read_unread]
    have hx0 : (x 0).val < 16 := (x 0).isLt
    have e0 : ∀ hi, (((Rect.unit (s := S512x2048) (k0_off2 ⟨n, hlt⟩) S16x2048.size hi).emb x) 0).val = 16 * n + (x 0).val := fun hi => by
      simp [Rect.emb, Rect.unit, k0_off2_eq]
    have e1 : ∀ hi, (((Rect.unit (s := S512x2048) (k0_off2 ⟨n, hlt⟩) S16x2048.size hi).emb x) 1).val = (x 1).val := fun hi => by
      simp [Rect.emb, Rect.unit, k0_off2_eq]
    refine (congrFun (congrArg (k0_pay1 (mrow x1 0) x2 (mrow x1 1)) (ld_congr x0 (off' := ![0, 16 * (n % 32), 0]) ?_ _ _ (inb3 n))) x).trans ?_
    · rw [k0_off1_eq, Nat.mod_eq_of_lt (by omega)]
    · unfold hOf
      rw [e0, show (16 * n + (x 0).val) / 16 = n by omega]
      refine congrArg _ (funext fun a => Fin.ext ?_)
      fin_cases a
      · show (x 0).val = _ % 16
        rw [e0]; omega
      · exact (e1 _).symm

/-- The second loop's stores are blocks of `oOf`. -/
theorem pieces2 (h2 : k0_cond2 i = 1#1) (acc : Vec F S512x2048 .f32) (n : ℕ) (hn : n ≤ 32) : View.PiecesOf (oOf x0 x1 acc)
    (pb_k0_t2 (F := F) 𝒱 c bd i arg3 harg3 arg4 harg4 arg5 harg5 arg6 harg6 arg7 harg7 arg8 harg8 arg9 harg9 arg10 harg10 arg11 harg11 arg12 harg12 h2 (mrow x1 2)
      (harg3.unread x0) (harg12.unread acc) n) := by
  induction n with
  | zero => trivial
  | succ n ih =>
    have hlt : n < k0_t2_loop.trips := by rw [trips2]; omega
    refine (pb_k0_t2_succ (F := F) 𝒱 c bd i arg3 harg3 arg4 harg4 arg5 harg5 arg6 harg6 arg7 harg7 arg8 harg8 arg9 harg9 arg10 harg10 arg11 harg11 arg12 harg12 h2 (mrow x1 2)
      (harg3.unread x0) (harg12.unread acc) ⟨n, hlt⟩).symm ▸ ?_
    unfold tripL_k0_t2 trip_k0_t2
    refine ⟨fun x => ?_, ih (by omega)⟩
    simp (disch := decide) only [View.readAt_eq_ld, Memref.IsWhole.read_unread, View.ld_unit_lit']
    have hx0 : (x 0).val < 1 := (x 0).isLt
    have hx1 : (x 1).val < 16 := (x 1).isLt
    have e1 : ∀ hi, (((Rect.unit (s := S1x512x2048) (k0_off3 ⟨n, hlt⟩) S1x16x2048.size hi).emb x) 1).val = 16 * n + (x 1).val := fun hi => by
      simp [Rect.emb, Rect.unit, k0_off3_eq]
    have e2 : ∀ hi, (((Rect.unit (s := S1x512x2048) (k0_off3 ⟨n, hlt⟩) S1x16x2048.size hi).emb x) 2).val = (x 2).val := fun hi => by
      simp [Rect.emb, Rect.unit, k0_off3_eq]
    refine (congrFun (congr (congrArg (k0_pay3 (mrow x1 2)) (ld_congr x0 (off' := ![0, 16 * (n % 32), 0]) ?_ _ _ (inb3 n)))
      (ld_congr acc (off' := ![16 * (n % 32), 0]) ?_ _ _ (inb2 n))) x).trans ?_
    · rw [k0_off3_eq, Nat.mod_eq_of_lt (by omega)]
    · rw [k0_off4_eq, Nat.mod_eq_of_lt (by omega)]
    · unfold oOf
      rw [e1, show (16 * n + (x 1).val) / 16 = n by omega]
      refine congrArg _ (funext fun a => Fin.ext ?_)
      fin_cases a
      · show (x 0).val = 0
        omega
      · show (x 1).val = _ % 16
        rw [e1]; omega
      · exact (e2 _).symm

theorem cover1 (h1 : k0_cond1 i = 1#1) (v28 : Vec F S1x1x2048 .f32) (v30 : Vec F S1x2048 .f32) (v32 : Vec F S1x1x2048 .f32)
    (X3 : BufTy.Contents (Elt F) arg3.view.ty) (y : S512x2048.Idx) :
    ∃ p ∈ (pb_k0_t1 (F := F) 𝒱 c bd i arg3 harg3 arg4 harg4 arg5 harg5 arg6 harg6 arg7 harg7 arg8 harg8 arg9 harg9 arg10 harg10 arg11 harg11 arg12 harg12 h1 v28 v30 v32 X3 (Scf.trips k0_t1_loop.lb k0_t1_loop.ub k0_t1_loop.st)), y ∈ p.1.set :=
  View.cover_of_tiledL (pb_k0_t1 (F := F) 𝒱 c bd i arg3 harg3 arg4 harg4 arg5 harg5 arg6 harg6 arg7 harg7 arg8 harg8 arg9 harg9 arg10 harg10 arg11 harg11 arg12 harg12 h1 v28 v30 v32 X3 (Scf.trips k0_t1_loop.lb k0_t1_loop.ub k0_t1_loop.st)) S16x2048.size (by sl_kernel_rfl) y

theorem cover2 (h2 : k0_cond2 i = 1#1) (v28 : Vec F S1x1x2048 .f32)
    (X3 : BufTy.Contents (Elt F) arg3.view.ty) (X13 : BufTy.Contents (Elt F) arg12.view.ty) (y : S1x512x2048.Idx) :
    ∃ p ∈ (pb_k0_t2 (F := F) 𝒱 c bd i arg3 harg3 arg4 harg4 arg5 harg5 arg6 harg6 arg7 harg7 arg8 harg8 arg9 harg9 arg10 harg10 arg11 harg11 arg12 harg12 h2 v28 X3 X13 (Scf.trips k0_t2_loop.lb k0_t2_loop.ub k0_t2_loop.st)), y ∈ p.1.set :=
  View.cover_of_tiledL (pb_k0_t2 (F := F) 𝒱 c bd i arg3 harg3 arg4 harg4 arg5 harg5 arg6 harg6 arg7 harg7 arg8 harg8 arg9 harg9 arg10 harg10 arg11 harg11 arg12 harg12 h2 v28 X3 X13 (Scf.trips k0_t2_loop.lb k0_t2_loop.ub k0_t2_loop.st)) S1x16x2048.size (by sl_kernel_rfl) y

/-- What the first loop leaves. -/
theorem loop1 (h1 : k0_cond1 i = 1#1) : View.canon
    (pb_k0_t1 (F := F) 𝒱 c bd i arg3 harg3 arg4 harg4 arg5 harg5 arg6 harg6 arg7 harg7 arg8 harg8 arg9 harg9 arg10 harg10 arg11 harg11 arg12 harg12 h1 (mrow x1 0) x2 (mrow x1 1)
      (harg3.unread x0) (Scf.trips k0_t1_loop.lb k0_t1_loop.ub k0_t1_loop.st)) = hOf x0 x1 x2 :=
  funext fun y => View.canon_apply_of_pieces _ _
    (pieces1 𝒱 bd c i arg3 harg3 arg4 harg4 arg5 harg5 arg6 harg6 arg7 harg7 arg8 harg8 arg9 harg9 arg10 harg10 arg11 harg11 arg12 harg12 x0 x1 x2 h1 _ trips1.le).mem y
    (cover1 𝒱 bd c i arg3 harg3 arg4 harg4 arg5 harg5 arg6 harg6 arg7 harg7 arg8 harg8 arg9 harg9 arg10 harg10 arg11 harg11 arg12 harg12 h1 _ _ _ _ y)

/-- What the second loop leaves. -/
theorem loop2 (h2 : k0_cond2 i = 1#1) (acc : Vec F S512x2048 .f32) : View.canon
    (pb_k0_t2 (F := F) 𝒱 c bd i arg3 harg3 arg4 harg4 arg5 harg5 arg6 harg6 arg7 harg7 arg8 harg8 arg9 harg9 arg10 harg10 arg11 harg11 arg12 harg12 h2 (mrow x1 2)
      (harg3.unread x0) (harg12.unread acc) (Scf.trips k0_t2_loop.lb k0_t2_loop.ub k0_t2_loop.st)) = oOf x0 x1 acc :=
  funext fun y => View.canon_apply_of_pieces _ _
    (pieces2 𝒱 bd c i arg3 harg3 arg4 harg4 arg5 harg5 arg6 harg6 arg7 harg7 arg8 harg8 arg9 harg9 arg10 harg10 arg11 harg11 arg12 harg12 x0 x1 h2 acc _ trips2.le).mem y
    (cover2 𝒱 bd c i arg3 harg3 arg4 harg4 arg5 harg5 arg6 harg6 arg7 harg7 arg8 harg8 arg9 harg9 arg10 harg10 arg11 harg11 arg12 harg12 h2 _ _ _ y)
end

/-! ## The runs -/

set_option maxHeartbeats 1000000 in
theorem runA (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (hc0 : k0_cond1 i = 1#1) (hc1 : ¬k0_cond2 i = 1#1)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)
  (xi : Vec F S1x512x2048 .f32) (d : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare d ∗ owns (c : Thread nD τ) arg12 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare (hOf x0 x1 x2) ∗ owns (c : Thread nD τ) arg12 fullShare (k0_pay2 i (hOf x0 x1 x2) x3 x4 acc x5)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hs0; obtain rfl := harg12.eq_unread hs1
  have hrd0 : ∀ (𝒱 : Variants) (c : Dev nD) (bd : Option 𝒱.V) (k0_h1 : k0_cond1 i = 1#1) (v28 : Vec F S1x1x2048 .f32) (v30 : Vec F S1x2048 .f32)
      (v32 : Vec F S1x1x2048 .f32) (X3 : BufTy.Contents (Elt F) arg3.view.ty)
      (G : BufTy.Contents (Elt F) arg11.view.ty) (B : LoadRect S512x2048),
      arg11.view.readAt (Elt F) B (arg11.view.writes (Elt F) G (pb_k0_t1 (F := F) 𝒱 c bd i arg3 harg3 arg4 harg4 arg5 harg5 arg6 harg6 arg7 harg7 arg8 harg8 arg9 harg9 arg10 harg10 arg11 harg11 arg12 harg12 k0_h1 v28 v30 v32 X3 (Scf.trips k0_t1_loop.lb k0_t1_loop.ub k0_t1_loop.st)))
        = arg11.view.readCov (pb_k0_t1 (F := F) 𝒱 c bd i arg3 harg3 arg4 harg4 arg5 harg5 arg6 harg6 arg7 harg7 arg8 harg8 arg9 harg9 arg10 harg10 arg11 harg11 arg12 harg12 k0_h1 v28 v30 v32 X3 (Scf.trips k0_t1_loop.lb k0_t1_loop.ub k0_t1_loop.st)) B :=
    fun 𝒱 c bd k0_h1 v28 v30 v32 X3 G B => View.readAt_writes_of_cover _ G _ B (fun j => View.cover_of_tiledL
      (pb_k0_t1 (F := F) 𝒱 c bd i arg3 harg3 arg4 harg4 arg5 harg5 arg6 harg6 arg7 harg7 arg8 harg8 arg9 harg9 arg10 harg10 arg11 harg11 arg12 harg12 k0_h1 v28 v30 v32 X3 (Scf.trips k0_t1_loop.lb k0_t1_loop.ub k0_t1_loop.st)) S16x2048.size (by sl_kernel_rfl) (B.idx j))
  sl_exec (disch := first | sl_exact hc0 | sl_exact hc1)
  sl_step
  iapply Hk
  isplitl [H0]
  · iexists _; isplitr; · ipureintro; exact harg3.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr
    swap; · iexact HS0
    ipureintro
    refine (View.read_writes_eq_canon _ _ _ (cover1 Variants.none none c i arg3 harg3 arg4 harg4 arg5 harg5 arg6 harg6 arg7 harg7 arg8 harg8 arg9 harg9 arg10 harg10 arg11 harg11 arg12 harg12 hc0 _ _ _ _)).trans ?_
    simp (disch := decide) only [View.readAt_eq_ld, Memref.IsWhole.read_unread, View.ld_unit_lit']
    exact loop1 Variants.none none c i arg3 harg3 arg4 harg4 arg5 harg5 arg6 harg6 arg7 harg7 arg8 harg8 arg9 harg9 arg10 harg10 arg11 harg11 arg12 harg12 x0 x1 x2 hc0
  iexists _; isplitr
  swap; · iexact HS1
  ipureintro

  refine (read_put _ _ (by decide) _ _).trans ?_
  simp (disch := decide) only [View.readAt_eq_ld, Memref.IsWhole.read_unread, View.ld_unit_lit']
  refine congrArg (fun z => k0_pay2 i z x3 x4 acc x5) ?_
  refine (View.readCov_eq_canon' _ _ _).trans ?_
  refine Eq.trans ?_ (loop1 Variants.none none c i arg3 harg3 arg4 harg4 arg5 harg5 arg6 harg6 arg7 harg7 arg8 harg8 arg9 harg9 arg10 harg10 arg11 harg11 arg12 harg12 x0 x1 x2 hc0)
  exact View.ld_unit_lit' _ _ (by decide)

set_option maxHeartbeats 1000000 in
theorem runB (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (hc0 : ¬k0_cond1 i = 1#1) (hc1 : ¬k0_cond2 i = 1#1)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)
  (xi : Vec F S1x512x2048 .f32) (h : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare h ∗ owns (c : Thread nD τ) arg12 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare h ∗ owns (c : Thread nD τ) arg12 fullShare (k0_pay2 i h x3 x4 acc x5)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hs0; obtain rfl := harg12.eq_unread hs1
  sl_exec (disch := first | sl_exact hc0 | sl_exact hc1)
  sl_step
  iapply Hk
  isplitl [H0]
  · iexists _; isplitr; · ipureintro; exact harg3.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; · ipureintro; exact harg11.read_unread _
    iexact HS0
  iexists _; isplitr
  swap; · iexact HS1
  ipureintro

  refine (read_put _ _ (by decide) _ _).trans ?_
  simp (disch := decide) only [View.readAt_eq_ld, Memref.IsWhole.read_unread, View.ld_unit_lit']

set_option maxHeartbeats 1000000 in
theorem runC (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (hc0 : ¬k0_cond1 i = 1#1) (hc1 : k0_cond2 i = 1#1)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)
  (xi : Vec F S1x512x2048 .f32) (h : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare h ∗ owns (c : Thread nD τ) arg12 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (oOf x0 x1 (k0_pay2 i h x3 x4 acc x5)) ∗ owns (c : Thread nD τ) arg11 fullShare h ∗ owns (c : Thread nD τ) arg12 fullShare (k0_pay2 i h x3 x4 acc x5)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hs0; obtain rfl := harg12.eq_unread hs1
  sl_exec (disch := first | sl_exact hc0 | sl_exact hc1)
  sl_step
  iapply Hk
  isplitl [H0]
  · iexists _; isplitr; · ipureintro; exact harg3.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon _ _ _ (cover2 Variants.none none c i arg3 harg3 arg4 harg4 arg5 harg5 arg6 harg6 arg7 harg7 arg8 harg8 arg9 harg9 arg10 harg10 arg11 harg11 arg12 harg12 hc1 _ _ _)).trans ?_
    rw [harg12.eq_unread (X := k0_pay2 i h x3 x4 acc x5) (f := arg12.view.writes (Elt F) arg12.view.junk
      (runC.sl.HS1_1 c i arg6 harg6 arg7 harg7 arg8 harg8 arg11 harg11 arg12 harg12 x3 x4 x5 h acc)) (by
        unfold runC.sl.HS1_1
        refine (read_put _ _ (by decide) _ _).trans ?_
        simp (disch := decide) only [View.readAt_eq_ld, Memref.IsWhole.read_unread, View.ld_unit_lit'])]
    simp only [View.readAt_eq_ld, Memref.IsWhole.read_unread]
    exact loop2 Variants.none none c i arg3 harg3 arg4 harg4 arg5 harg5 arg6 harg6 arg7 harg7 arg8 harg8 arg9 harg9 arg10 harg10 arg11 harg11 arg12 harg12 x0 x1 hc1 _
  isplitl [HS0]
  · iexists _; isplitr; · ipureintro; exact harg11.read_unread _
    iexact HS0
  iexists _; isplitr
  swap; · iexact HS1
  ipureintro
  unfold runC.sl.HS1_1
  refine (read_put _ _ (by decide) _ _).trans ?_
  simp (disch := decide) only [View.readAt_eq_ld, Memref.IsWhole.read_unread, View.ld_unit_lit']

end Cert.FfnFirstIdeal.Hand

end
-- ==== Proof.FfnFirstVal.lean ====
/- The first feed-forward's body on the extended reals: each buffer's contents, element by element. -/
module

public import proofs.«01_k».proof.Proof.FfnVal
public import proofs.«01_k».proof.Proof.FfnFirstRun
public import Idealize.ShloMosaic.Lib.IdealHost

@[expose] public section

set_option maxRecDepth 16384

noncomputable section

namespace Cert.FfnFirstIdeal.Hand

open Idealize.ShloMosaic Idealize.ShloMosaic.TcCoe Idealize.ShloMosaic.Tactic
open Cert.FfnIdeal.Hand (rows rows2 mrow sub sub3 rows_apply rows2_apply mrow_apply part part_apply)
open Cert Cert.FfnFirstIdeal Cert.FfnFirstIdeal.Gen

/-! ## The payloads -/

theorem pay1_apply (sh : Vec Ideal S1x1x2048 .f32) (g : Vec Ideal S1x2048 .f32) (sc : Vec Ideal S1x1x2048 .f32)
    (x : Vec Ideal S1x16x2048 .f32) (a : Fin 16) (e : Fin 2048) :
    k0_pay1 sh g sc x (ix2 a e) = FfnSpec.hid (fun k => x (ix3 0 a k)) (fun k => g (ix2 0 k))
      (fun k => sh (ix3 0 0 k)) (fun k => sc (ix3 0 0 k)) e := by
  unfold FfnSpec.hid FfnSpec.rms
  pointwise [k0_pay1]
  rw [mul_assoc _ (g (ix2 0 e))]

theorem pay2_apply (i : grid0.Coords) (h : Vec Ideal S512x2048 .bf16) (wg wu : Vec Ideal S1x2048x512 .bf16) (a : Vec Ideal S512x2048 .f32)
    (wd : Vec Ideal S1x512x2048 .bf16) (r : Fin 512) (e : Fin 2048) :
    k0_pay2 i h wg wu a wd (ix2 r e) = Scalar.select (Scalar.cmpi .eq (BitVec.ofNat 32 (i 2).val) 0#32) 0 (a (ix2 r e)) + part h wg wu wd (ix2 r e) := by
  unfold part FfnSpec.act
  pointwise [k0_pay2]
  simp only [Ideal.logistic]

theorem first_bit (i : grid0.Coords) : (k0_cond1 i = 1#1) ↔ Scalar.cmpi .eq (BitVec.ofNat 32 (i 2).val) 0#32 = 1#1 := by
  unfold k0_cond1
  dsimp only
  generalize Scalar.cmpi .eq (BitVec.ofNat 32 (i 2).val) 0#32 = b
  revert b; decide

/-- The first of a tile's points starts the sum, -/
theorem pay2_reset (i : grid0.Coords) (hi : k0_cond1 i = 1#1) (h : Vec Ideal S512x2048 .bf16) (wg wu : Vec Ideal S1x2048x512 .bf16)
    (a : Vec Ideal S512x2048 .f32) (wd : Vec Ideal S1x512x2048 .bf16) (y : S512x2048.Idx) :
    k0_pay2 i h wg wu a wd y = 0 + part h wg wu wd y := by
  obtain ⟨r, e, rfl⟩ : ∃ (r : Fin 512) (e : Fin 2048), y = ix2 r e := ⟨y 0, y 1, funext fun a => by fin_cases a <;> rfl⟩
  rw [pay2_apply, (first_bit i).mp hi]
  rfl

/-- the others add to it. -/
theorem pay2_step (i : grid0.Coords) (hi : ¬k0_cond1 i = 1#1) (h : Vec Ideal S512x2048 .bf16) (wg wu : Vec Ideal S1x2048x512 .bf16)
    (a : Vec Ideal S512x2048 .f32) (wd : Vec Ideal S1x512x2048 .bf16) (y : S512x2048.Idx) :
    k0_pay2 i h wg wu a wd y = a y + part h wg wu wd y := by
  obtain ⟨r, e, rfl⟩ : ∃ (r : Fin 512) (e : Fin 2048), y = ix2 r e := ⟨y 0, y 1, funext fun a => by fin_cases a <;> rfl⟩
  rw [first_bit] at hi
  rw [pay2_apply]
  exact congrArg (· + _) (if_neg hi)

theorem pay3_apply (g3 : Vec Ideal S1x1x2048 .f32) (x : Vec Ideal S1x16x2048 .f32) (z : Vec Ideal S16x2048 .f32) (a : Fin 16) (e : Fin 2048) :
    k0_pay3 g3 x z (ix3 0 a e) = FfnSpec.add (fun k => x (ix3 0 a k)) (fun k => g3 (ix3 0 0 k)) (fun k => z (ix2 a k)) e := by
  unfold FfnSpec.add
  pointwise [k0_pay3]

/-! ## The blocks -/

theorem hOf_apply (x0 : Vec Ideal S1x512x2048 .f32) (x1 : Vec Ideal S1x9x2048 .f32) (x2 : Vec Ideal S1x2048 .f32)
    (r : Fin 512) (e : Fin 2048) : hOf x0 x1 x2 (ix2 r e)
      = FfnSpec.hid (fun k => x0 (ix3 0 r k)) (fun k => x2 (ix2 0 k)) (fun k => x1 (ix3 0 0 k)) (fun k => x1 (ix3 0 1 k)) e := by
  have hr : (⟨16 * (r.val / 16 % 32) + r.val % 16, by omega⟩ : Fin 512) = r := Fin.ext (by dsimp only; omega)
  unfold hOf sub
  refine (pay1_apply (mrow x1 0) x2 (mrow x1 1) (rows x0 (r.val / 16)) ⟨r.val % 16, Nat.mod_lt _ (by norm_num)⟩ e).trans ?_
  simp only [rows_apply, hr]
  rw [show (fun k => mrow x1 0 (ix3 0 0 k)) = fun k => x1 (ix3 0 0 k) from funext (mrow_apply x1 0),
    show (fun k => mrow x1 1 (ix3 0 0 k)) = fun k => x1 (ix3 0 1 k) from funext (mrow_apply x1 1)]

theorem oOf_apply (x0 : Vec Ideal S1x512x2048 .f32) (x1 : Vec Ideal S1x9x2048 .f32) (z : Vec Ideal S512x2048 .f32) (r : Fin 512) (e : Fin 2048) : oOf x0 x1 z (ix3 0 r e)
      = FfnSpec.add (fun k => x0 (ix3 0 r k)) (fun k => x1 (ix3 0 2 k)) (fun k => z (ix2 r k)) e := by
  have hr : (⟨16 * (r.val / 16 % 32) + r.val % 16, by omega⟩ : Fin 512) = r := Fin.ext (by dsimp only; omega)
  unfold oOf sub3
  refine (pay3_apply (mrow x1 2) (rows x0 (r.val / 16)) (rows2 z (r.val / 16)) ⟨r.val % 16, Nat.mod_lt _ (by norm_num)⟩ e).trans ?_
  simp only [rows_apply, rows2_apply, hr]
  rw [show (fun k => mrow x1 2 (ix3 0 0 k)) = fun k => x1 (ix3 0 2 k) from funext (mrow_apply x1 2)]

end Cert.FfnFirstIdeal.Hand

end
-- ==== Proof.FfnFirstFrame.lean ====
/- The first feed-forward's pipeline: what the two scratch buffers hold between points, the body obligation, the run and the frame. -/
module

public import proofs.«01_k».proof.Proof.FfnFirstRun
public import proofs.«01_k».proof.Proof.Gen.FfnFirstIdeal.Launch
public import Idealize.ShloMosaic.Lib.Pipeline.FrameBody
public import Idealize.ShloMosaic.Lib.WordCmp

@[expose] public section

set_option maxRecDepth 16384

noncomputable section

namespace Cert.FfnFirstIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnFirstIdeal Cert.FfnFirstIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem last_val (t : Fin cfg0.N) : (grid0.coords t 2).val = t.val % 11 := by
  have e2 : (grid0.coords t 2).val = t.val / 1 % 11 := Pipeline.Grid.coords_val t 2 (by decide) rfl
  rw [e2, Nat.div_one]

/-- The first of a tile's points. -/
theorem first_iff (t : Fin cfg0.N) : k0_cond1 (grid0.coords t) = 1#1 ↔ t.val % 11 = 0 := by
  have ht : t.val < 352 := Nat.lt_of_lt_of_eq t.isLt N_0
  have e2 := last_val t
  simp only [k0_cond1, e2]
  word_cmp

/-- The last of a tile's points. -/
theorem final_iff (t : Fin cfg0.N) : k0_cond2 (grid0.coords t) = 1#1 ↔ t.val % 11 = 10 := by
  have ht : t.val < 352 := Nat.lt_of_lt_of_eq t.isLt N_0
  have e2 := last_val t
  simp only [k0_cond2, e2]
  word_cmp

/-- Off a tile's last point the output's window is idle, -/
theorem idle7 : ∀ t : Fin cfg0.N, ¬t.val % 11 = 10 → cfg0.idle 7 (grid0.coords t) = true := by decide +kernel
/-- and not written back. -/
theorem noFlush7 : ∀ t : Fin cfg0.N, ¬t.val % 11 = 10 → (cfg0.win 7).flush t = false := by decide +kernel
/-- At it, it is live. -/
theorem live7 : ∀ t : Fin cfg0.N, t.val % 11 = 10 → cfg0.idle 7 (grid0.coords t) = false := by decide +kernel

abbrev bM0 (t : Fin cfg0.N) : Memref sig .tc .vmem S1x512x2048 .f32 := win0_0.stage (cfg0.slots t 0)
abbrev bH0 (t : Fin cfg0.N) : (bM0 t).IsWhole := hstage0_0 ((cfg0.slots t 0).cast nbuf0_0)
abbrev bM1 (t : Fin cfg0.N) : Memref sig .tc .vmem S1x9x2048 .f32 := win0_1.stage (cfg0.slots t 1)
abbrev bH1 (t : Fin cfg0.N) : (bM1 t).IsWhole := hstage0_1 ((cfg0.slots t 1).cast nbuf0_1)
abbrev bM2 (t : Fin cfg0.N) : Memref sig .tc .vmem S1x2048 .f32 := win0_2.stage (cfg0.slots t 2)
abbrev bH2 (t : Fin cfg0.N) : (bM2 t).IsWhole := hstage0_2 ((cfg0.slots t 2).cast nbuf0_2)
abbrev bM3 (t : Fin cfg0.N) : Memref sig .tc .vmem S1x2048x512 .bf16 := win0_3.stage (cfg0.slots t 3)
abbrev bH3 (t : Fin cfg0.N) : (bM3 t).IsWhole := hstage0_3 ((cfg0.slots t 3).cast nbuf0_3)
abbrev bM4 (t : Fin cfg0.N) : Memref sig .tc .vmem S1x2048x512 .bf16 := win0_4.stage (cfg0.slots t 4)
abbrev bH4 (t : Fin cfg0.N) : (bM4 t).IsWhole := hstage0_4 ((cfg0.slots t 4).cast nbuf0_4)
abbrev bM5 (t : Fin cfg0.N) : Memref sig .tc .vmem S1x512x2048 .bf16 := win0_5.stage (cfg0.slots t 5)
abbrev bH5 (t : Fin cfg0.N) : (bM5 t).IsWhole := hstage0_5 ((cfg0.slots t 5).cast nbuf0_5)
abbrev bM6 (t : Fin cfg0.N) : Memref sig .tc .vmem S1x2048 .f32 := win0_6.stage (cfg0.slots t 6)
abbrev bH6 (t : Fin cfg0.N) : (bM6 t).IsWhole := hstage0_6 ((cfg0.slots t 6).cast nbuf0_6)
abbrev bM7 (t : Fin cfg0.N) : Memref sig .tc .vmem S1x512x2048 .f32 := win0_7.stage (cfg0.slots t 7)
abbrev bH7 (t : Fin cfg0.N) : (bM7 t).IsWhole := hstage0_7 ((cfg0.slots t 7).cast nbuf0_7)
abbrev sM0 : Memref sig .tc .vmem S512x2048 .bf16 := Memref.whole cc0_scratch0
abbrev sM1 : Memref sig .tc .vmem S512x2048 .f32 := Memref.whole cc0_scratch1

/-- The kit's invariant, the two scratch buffers named. -/
theorem phi0 (c : Dev nD) : (Pipeline.ΦA spec0 c : sProp 𝕄)
    = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-! ## What the scratch buffers hold -/

/-- At the first of a tile's points the accumulator's old contents are dropped. -/
theorem pay2_first (i : grid0.Coords) (hi : k0_cond1 i = 1#1) (h : Vec F S512x2048 .bf16) (x4 x5 : Vec F S1x2048x512 .bf16)
    (a a' : Vec F S512x2048 .f32) (x6 : Vec F S1x512x2048 .bf16) : k0_pay2 i h x4 x5 a x6 = k0_pay2 i h x4 x5 a' x6 := by
  have hz : Scalar.cmpi .eq (BitVec.ofNat 32 (i 2).val) 0#32 = 1#1 := by
    revert hi
    unfold k0_cond1
    dsimp only
    generalize Scalar.cmpi .eq (BitVec.ofNat 32 (i 2).val) 0#32 = b
    revert b; decide
  unfold k0_pay2
  dsimp only
  rw [hz]
  rfl

/-- One point's work on the two scratch buffers. -/
def step (c : Dev nD) (t : Fin cfg0.N) (s : Vec F S512x2048 .bf16 × Vec F S512x2048 .f32) : Vec F S512x2048 .bf16 × Vec F S512x2048 .f32 :=
  if t.val % 11 = 0 then
    (hOf (iblk m c 0 t) (iblk m c 1 t) (iblk m c 2 t),
      k0_pay2 (grid0.coords t) (hOf (iblk m c 0 t) (iblk m c 1 t) (iblk m c 2 t)) (iblk m c 3 t) (iblk m c 4 t) s.2 (iblk m c 5 t))
  else (s.1, k0_pay2 (grid0.coords t) s.1 (iblk m c 3 t) (iblk m c 4 t) s.2 (iblk m c 5 t))

/-- The scratch buffers before point `n`. -/
def st (c : Dev nD) : ℕ → Vec F S512x2048 .bf16 × Vec F S512x2048 .f32
  | 0 => (View.canon [], View.canon [])
  | n + 1 => if h : n < cfg0.N then step m c ⟨n, h⟩ (st c n) else st c n

theorem st_succ (c : Dev nD) (t : Fin cfg0.N) : st m c (t.val + 1) = step m c t (st m c t.val) := by
  rw [st]; exact dif_pos t.isLt

theorem st_first (c : Dev nD) (t : Fin cfg0.N) (h : t.val % 11 = 0) : st m c (t.val + 1)
    = (hOf (iblk m c 0 t) (iblk m c 1 t) (iblk m c 2 t),
      k0_pay2 (grid0.coords t) (hOf (iblk m c 0 t) (iblk m c 1 t) (iblk m c 2 t)) (iblk m c 3 t) (iblk m c 4 t) (st m c t.val).2 (iblk m c 5 t)) := by
  rw [st_succ, step, if_pos h]

theorem st_next (c : Dev nD) (t : Fin cfg0.N) (h : ¬t.val % 11 = 0) : st m c (t.val + 1)
    = ((st m c t.val).1, k0_pay2 (grid0.coords t) (st m c t.val).1 (iblk m c 3 t) (iblk m c 4 t) (st m c t.val).2 (iblk m c 5 t)) := by
  rw [st_succ, step, if_neg h]

/-- The invariant before point `n`: before the first nothing is known of the scratch buffers. -/
def Inv (c : Dev nD) (n : ℕ) : sProp 𝕄 :=
  iprop(∃ h a, ⌜n ≠ 0 → h = (st m c n).1 ∧ a = (st m c n).2⌝ ∗ owns (c : Thread nD τ) sM0 fullShare h ∗ owns (c : Thread nD τ) sM1 fullShare a ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oOf (iblk m c 0 t) (iblk m c 1 t) (st m c (t.val + 1)).2
  Φ t := Inv m c t.val
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = Inv m c t.val := by
  dsimp only [dats]; rfl

theorem inv_succ (c : Dev nD) (t : Fin cfg0.N) : (dats m 0 c).Φ t.succ = Inv m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = oOf (iblk m c 0 t) (iblk m c 1 t) (st m c (t.val + 1)).2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem leaves_0 (c : Dev nD) (t : Fin cfg0.N) : (dats m 0 c).leavesExact 0 t = owns (c : Thread nD τ) (bM0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (bM1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (bM2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (bM3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (bM4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (bM5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (bM6 t) fullShare (iblk m c 6 t) := by
  unfold Dat.leavesExact; rw [show cfg0.idle 6 (grid0.coords t) = false from rfl, after_6]
theorem leaves_7 (c : Dev nD) (t : Fin cfg0.N) (h : t.val % 11 = 10) : (dats m 0 c).leavesExact 7 t
    = owns (c : Thread nD τ) (bM7 t) fullShare (oOf (iblk m c 0 t) (iblk m c 1 t) (st m c (t.val + 1)).2) := by
  unfold Dat.leavesExact; rw [live7 t h, after_7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bM0 t) fullShare ((dats m 0 c).before 0 t d))
    ∗ (∃ d, owns (c : Thread nD τ) (bM1 t) fullShare ((dats m 0 c).before 1 t d))
    ∗ (∃ d, owns (c : Thread nD τ) (bM2 t) fullShare ((dats m 0 c).before 2 t d))
    ∗ (∃ d, owns (c : Thread nD τ) (bM3 t) fullShare ((dats m 0 c).before 3 t d))
    ∗ (∃ d, owns (c : Thread nD τ) (bM4 t) fullShare ((dats m 0 c).before 4 t d))
    ∗ (∃ d, owns (c : Thread nD τ) (bM5 t) fullShare ((dats m 0 c).before 5 t d))
    ∗ (∃ d, owns (c : Thread nD τ) (bM6 t) fullShare ((dats m 0 c).before 6 t d))
    ∗ (∃ d, owns (c : Thread nD τ) (bM7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
theorem bodyA (c : Dev nD) (t : Fin cfg0.N) (h0 : t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    leaves_0, leaves_1, leaves_2, leaves_3, leaves_4, leaves_5, leaves_6]
  rw [show (dats m 0 c).owesAt () t.succ = (dats m 0 c).owesAt () t.castSucc from rfl, inv_castSucc, inv_succ]
  rw [Dat.leavesExact_idle (dats m 0 c) 7 t (idle7 t h1) (noFlush7 t h1)]
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d2, H2⟩, ⟨%d3, H3⟩, ⟨%d4, H4⟩, ⟨%d5, H5⟩, ⟨%d6, H6⟩, ⟨%d7, H7⟩, ⟨%d8, H8⟩⟩
  iapply (runA c (grid0.coords t) (bM0 t) (bH0 t) (bM1 t) (bH1 t) (bM2 t) (bH2 t) (bM3 t) (bH3 t) (bM4 t) (bH4 t) (bM5 t) (bH5 t) (bM6 t) (bH6 t) (bM7 t) (bH7 t) sM0 hw0 sM1 hw1 ((first_iff t).mpr h0) (fun h => h1 ((final_iff t).mp h)) (iblk m c 0 t) (iblk m c 1 t) (iblk m c 2 t) (iblk m c 3 t) (iblk m c 4 t) (iblk m c 5 t) (iblk m c 6 t) _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_first m c t h0]
    exact ⟨rfl, pay2_first _ ((first_iff t).mpr h0) _ _ _ _ _ _⟩
  isplitl [Ho]; · iexact Ho
  isplitl [H0]; · iexact H0
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 3200000 in
theorem bodyB (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    leaves_0, leaves_1, leaves_2, leaves_3, leaves_4, leaves_5, leaves_6]
  rw [show (dats m 0 c).owesAt () t.succ = (dats m 0 c).owesAt () t.castSucc from rfl, inv_castSucc, inv_succ]
  rw [Dat.leavesExact_idle (dats m 0 c) 7 t (idle7 t h1) (noFlush7 t h1)]
  have hn0 : t.val ≠ 0 := fun h => h0 (by rw [h])
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs hn0
  iapply (runB c (grid0.coords t) (bM0 t) (bH0 t) (bM1 t) (bH1 t) (bM2 t) (bH2 t) (bM3 t) (bH3 t) (bM4 t) (bH4 t) (bM5 t) (bH5 t) (bM6 t) (bH6 t) (bM7 t) (bH7 t) sM0 hw0 sM1 hw1 (fun h => h0 ((first_iff t).mp h)) (fun h => h1 ((final_iff t).mp h)) (iblk m c 0 t) (iblk m c 1 t) (iblk m c 2 t) (iblk m c 3 t) (iblk m c 4 t) (iblk m c 5 t) (iblk m c 6 t) _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_next m c t h0]
    exact ⟨rfl, rfl⟩
  isplitl [Ho]; · iexact Ho
  isplitl [H0]; · iexact H0
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 3200000 in
theorem bodyC (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    leaves_0, leaves_1, leaves_2, leaves_3, leaves_4, leaves_5, leaves_6]
  rw [show (dats m 0 c).owesAt () t.succ = (dats m 0 c).owesAt () t.castSucc from rfl, inv_castSucc, inv_succ]
  rw [leaves_7 m c t h1, st_next m c t h0]
  have hn0 : t.val ≠ 0 := fun h => h0 (by rw [h])
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs hn0
  iapply (runC c (grid0.coords t) (bM0 t) (bH0 t) (bM1 t) (bH1 t) (bM2 t) (bH2 t) (bM3 t) (bH3 t) (bM4 t) (bH4 t) (bM5 t) (bH5 t) (bM6 t) (bH6 t) (bM7 t) (bH7 t) sM0 hw0 sM1 hw1 (fun h => h0 ((first_iff t).mp h)) ((final_iff t).mpr h1) (iblk m c 0 t) (iblk m c 1 t) (iblk m c 2 t) (iblk m c 3 t) (iblk m c 4 t) (iblk m c 5 t) (iblk m c 6 t) _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_next m c t h0]
    exact ⟨rfl, rfl⟩
  isplitl [Ho]; · iexact Ho
  isplitl [H0]; · iexact H0
  isplitl [H2]; · iexact H2
  isplitl [H3]; · iexact H3
  isplitl [H4]; · iexact H4
  isplitl [H5]; · iexact H5
  isplitl [H6]; · iexact H6
  isplitl [H7]; · iexact H7
  iexact H8

theorem body (c : Dev nD) (t : Fin cfg0.N) :
    bodyPre m c t ⊢ wp frame (wpE (defs₀ (F := F)) Variants.none c none) Set.univ (bodyAt0 t) (fun _ => bodyPost m c t) := by
  by_cases h0 : t.val % 11 = 0
  · exact bodyA m c t h0 (by omega)
  · by_cases h1 : t.val % 11 = 10
    · exact bodyC m c t h0 h1
    · exact bodyB m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem hin (c : Dev nD) : Pipeline.ΦA spec0 c ⊢ (dats m 0 c).Φ 0 := by
  rw [show (dats m 0 c).Φ 0 = Inv m c 0 from rfl, phi0]
  unfold Inv
  iintro ⟨⟨⟨%d0, HS0⟩, ⟨%d1, HS1⟩⟩, Hg⟩
  iexists _; iexists _
  isplitr; swap
  · isplitl [HS0]; · iexact HS0
    isplitl [HS1]; · iexact HS1
    iexact Hg
  ipureintro
  exact fun h => absurd rfl h

theorem hout (c : Dev nD) : (dats m 0 c).Φ (Fin.last cfg0.N) ⊢ Pipeline.ΦA spec0 c := by
  rw [show (dats m 0 c).Φ (Fin.last cfg0.N) = Inv m c cfg0.N from rfl, phi0]
  unfold Inv
  iintro ⟨%h, %a, -, HS0, HS1, Hg⟩
  isplitl [HS0 HS1]
  · isplitl [HS0]
    · iexists _; iexact HS0
    iexists _; iexact HS1
  iexact Hg

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiet m ρ))

end Cert.FfnFirstIdeal.Hand

end
-- ==== Proof.FfnFirstArr.lean ====
/- The first feed-forward's output array, element by element. -/
module

public import proofs.«01_k».proof.Proof.FfnFirstVal
public import proofs.«01_k».proof.Proof.FfnFirstFrame
public import Idealize.ShloMosaic.Lib.Tactic.IndexArith
public import Idealize.ShloMosaic.Lib.Pipeline.Value

@[expose] public section

set_option maxRecDepth 16384

noncomputable section

namespace Cert.FfnFirstIdeal.Hand

open Idealize.ShloMosaic Idealize.ShloMosaic.TcCoe Idealize.ShloMosaic.Tactic Idealize.SL.Sem
open Cert.FfnIdeal.Hand (part part_apply)
open Cert Cert.FfnFirstIdeal Cert.FfnFirstIdeal.Gen

/-- The blocks that grid point `t` uses. -/
theorem idx : ∀ t : Fin cfg0.N, win0_0.index t = ![t.val / 88, t.val / 11 % 8, 0]
    ∧ win0_1.index t = ![t.val / 88, 0, 0] ∧ win0_2.index t = ![0, 0] ∧ win0_3.index t = ![0, 0, t.val % 11] ∧ win0_4.index t = ![0, 0, t.val % 11]
    ∧ win0_5.index t = ![0, t.val % 11, 0] ∧ win0_6.index t = ![0, 0] ∧ win0_7.index t = ![t.val / 88, t.val / 11 % 8, 0] := by
  decide +kernel

variable (m : (ℓ : Loc nD τ sig) → Buf (Elt Ideal) ℓ) (c : Dev nD)

theorem V_main_v0 : V m c main_v0 = truncf (F := Ideal) .bf16 (m ((c : Thread nD τ).loc main_arg3)) bitsLt_bf16_f32 := by
  unfold_abbrev_sides
  after_results

theorem V_main_v1 : V m c main_v1 = truncf (F := Ideal) .bf16 (m ((c : Thread nD τ).loc main_arg4)) bitsLt_bf16_f32 := by
  unfold_abbrev_sides
  after_results

theorem V_main_v2 : V m c main_v2 = truncf (F := Ideal) .bf16 (m ((c : Thread nD τ).loc main_arg5)) bitsLt_bf16_f32 := by
  unfold_abbrev_sides
  after_results

theorem V_main_v3 : V m c main_v3 = shapeCast S1x2048 (m ((c : Thread nD τ).loc main_arg2)) shapeCasts_S2048_S1x2048 := by
  unfold_abbrev_sides
  after_results
  rfl

/-! ## The blocks' places -/

section
variable (t : Fin cfg0.N)

theorem batch_lt : t.val / 88 < 4 := by
  have h : t.val < 352 := Nat.lt_of_lt_of_eq t.isLt N_0
  omega

theorem x_apply (r : Fin 512) (e : Fin 2048) : iblk m c 0 t (ix3 0 r e)
    = m ((c : Thread nD τ).loc main_arg0) (ix3 ⟨t.val / 88, batch_lt t⟩ ⟨512 * (t.val / 11 % 8) + r.val, by omega⟩ e) := by
  obtain ⟨h0, h2, h3, h4, h5, h6, h7, h8⟩ := idx t
  rw [← V_main_arg0 m c]
  blk_ext [iblk, h0]

theorem mod_apply (k : Fin 9) (e : Fin 2048) : iblk m c 1 t (ix3 0 k e)
    = m ((c : Thread nD τ).loc main_arg1) (ix3 ⟨t.val / 88, Nat.lt_of_lt_of_le (batch_lt t) (by norm_num)⟩ k e) := by
  obtain ⟨h0, h2, h3, h4, h5, h6, h7, h8⟩ := idx t
  rw [← V_main_arg1 m c]
  blk_ext [iblk, h2]

theorem g_apply (e : Fin 2048) : iblk m c 2 t (ix2 0 e) = m ((c : Thread nD τ).loc main_arg2) (ix1 e) := by
  obtain ⟨h0, h2, h3, h4, h5, h6, h7, h8⟩ := idx t
  have h : iblk m c 2 t (ix2 0 e) = V m c main_v3 (ix2 0 e) := by blk_ext [iblk, h3]
  rw [h, V_main_v3]
  pointwise

theorem wg_apply (k : Fin 2048) (j : Fin 512) : iblk m c 3 t (ix3 0 k j)
    = m ((c : Thread nD τ).loc main_arg3) (ix3 0 k ⟨t.val % 11 * 512 + j.val, by omega⟩) := by
  obtain ⟨h0, h2, h3, h4, h5, h6, h7, h8⟩ := idx t
  have h : iblk m c 3 t (ix3 0 k j) = V m c main_v0 (ix3 0 k ⟨t.val % 11 * 512 + j.val, by omega⟩) := by blk_ext [iblk, h4]
  rw [h, V_main_v0]
  rfl

theorem wu_apply (k : Fin 2048) (j : Fin 512) : iblk m c 4 t (ix3 0 k j)
    = m ((c : Thread nD τ).loc main_arg4) (ix3 0 k ⟨t.val % 11 * 512 + j.val, by omega⟩) := by
  obtain ⟨h0, h2, h3, h4, h5, h6, h7, h8⟩ := idx t
  have h : iblk m c 4 t (ix3 0 k j) = V m c main_v1 (ix3 0 k ⟨t.val % 11 * 512 + j.val, by omega⟩) := by blk_ext [iblk, h5]
  rw [h, V_main_v1]
  rfl

theorem wd_apply (j : Fin 512) (e : Fin 2048) : iblk m c 5 t (ix3 0 j e)
    = m ((c : Thread nD τ).loc main_arg5) (ix3 0 ⟨t.val % 11 * 512 + j.val, by omega⟩ e) := by
  obtain ⟨h0, h2, h3, h4, h5, h6, h7, h8⟩ := idx t
  have h : iblk m c 5 t (ix3 0 j e) = V m c main_v2 (ix3 0 ⟨t.val % 11 * 512 + j.val, by omega⟩ e) := by blk_ext [iblk, h6]
  rw [h, V_main_v2]
  rfl
end

/-! ## The scratch buffers -/

/-- The normalised rows of point `t`'s tile. -/
def hAt (t : Fin cfg0.N) : Vec Ideal S512x2048 .bf16 := hOf (iblk m c 0 t) (iblk m c 1 t) (iblk m c 2 t)

/-- Points of one tile share them. -/
theorem hAt_same (t t' : Fin cfg0.N) (h : t.val / 11 = t'.val / 11) : hAt m c t = hAt m c t' := by
  have h88 : t.val / 88 = t'.val / 88 := by omega
  funext y
  obtain ⟨r, e, rfl⟩ : ∃ (r : Fin 512) (e : Fin 2048), y = ix2 r e := ⟨y 0, y 1, funext fun a => by fin_cases a <;> rfl⟩
  unfold hAt
  rw [hOf_apply, hOf_apply]
  simp only [x_apply, mod_apply, g_apply, h, h88]

theorem st_h (n : ℕ) : ∀ hn : n < cfg0.N, (st m c (n + 1)).1 = hAt m c ⟨n, hn⟩ := by
  induction n with
  | zero => intro hn; exact congrArg Prod.fst (st_first m c ⟨0, hn⟩ rfl)
  | succ n ih =>
    intro hn
    by_cases h0 : (n + 1) % 11 = 0
    · exact congrArg Prod.fst (st_first m c ⟨n + 1, hn⟩ h0)
    · refine (congrArg Prod.fst (st_next m c ⟨n + 1, hn⟩ h0)).trans ((ih (by omega)).trans ?_)
      exact hAt_same m c _ _ (by dsimp only; omega)

/-- The accumulator at a tile's last point. -/
theorem st_acc (t : Fin cfg0.N) (ht : t.val % 11 = 10) (r : Fin 512) (e : Fin 2048) : (st m c (t.val + 1)).2 (ix2 r e)
    = ∑ j : Fin 5632, FfnSpec.act (fun k => hAt m c t (ix2 r k)) (fun k => m ((c : Thread nD τ).loc main_arg3) (ix3 0 k j))
      (fun k => m ((c : Thread nD τ).loc main_arg4) (ix3 0 k j)) * m ((c : Thread nD τ).loc main_arg5) (ix3 0 j e) := by
  refine (Pipeline.eq_sum_fin_of_reset_step_apply_of_flush (N := cfg0.N) (fun n _ => (st m c (n + 1)).2) 11 (fun _ => (0 : EReal))
    (fun t => part (hAt m c t) (iblk m c 3 t) (iblk m c 4 t) (iblk m c 5 t)) (fun t h y => ?_) (fun t h y => ?_) t ht (ix2 r e)).trans ?_
  · rw [st_first m c t h]
    exact pay2_reset _ ((first_iff t).mpr h) _ _ _ _ _ _
  · have hn : t.val - 1 + 1 = t.val := by omega
    have hh : (st m c t.val).1 = hAt m c t := by
      have := st_h m c t.val t.isLt
      rw [st_next m c t h] at this
      exact this
    rw [st_next m c t h, hn, hh]
    exact pay2_step _ (fun h' => h ((first_iff t).mp h')) _ _ _ _ _ _
  · rw [zero_add]
    simp only [part_apply]
    refine Fin.sum_mul_add_congr (S := 11) (n := 512) fun s k hl => ?_
    have hm : (11 * (t.val / 11) + s.val) % 11 = s.val := by omega
    rw [hAt_same m c ⟨11 * (t.val / 11) + s.val, _⟩ t (by dsimp only; omega)]
    simp only [wg_apply, wu_apply, wd_apply, hm]

/-- The result, element by element. -/
def outArr (x : Vec Ideal S4x4096x2048 .f32) (mod : Vec Ideal S8x9x2048 .f32) (g : Vec Ideal S2048 .f32)
    (wg wu : Vec Ideal S2x2048x5632 .f32) (wd : Vec Ideal S2x5632x2048 .f32)
    (i : S4x4096x2048.Idx) : EReal :=
  FfnSpec.mid (fun k => x (ix3 (i 0) (i 1) k)) (fun k => g (ix1 k))
    (fun k => mod (ix3 ⟨(i 0).val, Nat.lt_of_lt_of_le (i 0).isLt (by decide)⟩ 0 k)) (fun k => mod (ix3 ⟨(i 0).val, Nat.lt_of_lt_of_le (i 0).isLt (by decide)⟩ 1 k))
    (fun k => mod (ix3 ⟨(i 0).val, Nat.lt_of_lt_of_le (i 0).isLt (by decide)⟩ 2 k))
    (fun j k => wg (ix3 0 k j)) (fun j k => wu (ix3 0 k j)) (fun j k => wd (ix3 0 j k)) (i 2)

/-- The array after the run. -/
theorem arr_eq (x : Vec Ideal S4x4096x2048 .f32) (mod : Vec Ideal S8x9x2048 .f32) (g : Vec Ideal S2048 .f32)
    (wg wu : Vec Ideal S2x2048x5632 .f32) (wd : Vec Ideal S2x5632x2048 .f32)
    (hx : m ((c : Thread nD τ).loc main_arg0) = x) (hmod : m ((c : Thread nD τ).loc main_arg1) = mod)
    (hg : m ((c : Thread nD τ).loc main_arg2) = g) (hwg : m ((c : Thread nD τ).loc main_arg3) = wg) (hwu : m ((c : Thread nD τ).loc main_arg4) = wu)
    (hwd : m ((c : Thread nD τ).loc main_arg5) = wd) :
    (dats m 0 c).arrAt 7 cfg0.N = outArr x mod g wg wu wd := by
  subst hx hmod hg hwg hwu hwd
  refine (dats m 0 c).arrAt_eq_of_covers 7 _ (by decide +kernel) fun t hf z => ?_
  have ht : t.val % 11 = 10 := by
    by_contra h
    rw [noFlush7 t h] at hf
    exact absurd hf (by decide)
  obtain ⟨r, e, rfl⟩ : ∃ (r : Fin 512) (e : Fin 2048), z = ix3 0 r e :=
    ⟨z 1, z 2, funext fun a => by
      fin_cases a <;> first | rfl | exact Fin.ext (by have := (z 0).isLt; change (z 0).val < 1 at this; change (z 0).val = 0; omega)⟩
  blk_simp
  rw [after_7, oOf_apply]
  have he : (win0_7.blk t).view.emb (ix3 0 r e) = ix3 ⟨t.val / 88, batch_lt t⟩ ⟨512 * (t.val / 11 % 8) + r.val, by omega⟩ e := by
    obtain ⟨h0, h2, h3, h4, h5, h6, h7, h8⟩ := idx t
    blk_ext [h8]
  rw [he]
  unfold outArr FfnSpec.mid
  dsimp only [ix3]
  simp only [st_acc m c t ht]
  unfold hAt
  simp only [hOf_apply, x_apply, mod_apply, g_apply]

end Cert.FfnFirstIdeal.Hand

end
-- ==== Proof.FfnFirstRef.lean ====
/- The first feed-forward's reference, element by element. -/
module

public import proofs.«01_k».proof.Proof.FfnRef
public import proofs.«01_k».proof.Proof.Gen.FfnFirstReferenceIdeal.Run
public import Idealize.ShloMosaic.Lib.IdealHost

@[expose] public section

set_option maxRecDepth 16384

noncomputable section

namespace Cert.FfnFirstReferenceIdeal.Hand

open Idealize.ShloMosaic Idealize.ShloMosaic.TcCoe Idealize.ShloMosaic.Tactic
open Cert.FfnReferenceIdeal.Hand (perB nR siluR nR_apply siluR_apply)
open Cert Cert.FfnFirstReferenceIdeal Cert.FfnFirstReferenceIdeal.Gen

def shR (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 0, 0] mod slices_S8x9x2048_S4x1x2048_0_0_0) shapeCasts_S4x1x2048_S4x2048)

def scR (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 1, 0] mod slices_S8x9x2048_S4x1x2048_0_1_0) shapeCasts_S4x1x2048_S4x2048)

def g3R (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 2, 0] mod slices_S8x9x2048_S4x1x2048_0_2_0) shapeCasts_S4x1x2048_S4x2048)

/-- … and modulated. -/
def hR (y : FVec Ideal S4x4096x2048 .f32) (g : FVec Ideal S2048 .f32) (mod : FVec Ideal S8x9x2048 .f32) : FVec Ideal S4x4096x2048 .f32 :=
  addf (mulf (nR y g) (perB (addf (broadcastInDim S4x1x2048 ![] bcast_S_S4x1x2048 (constant S_ .f32 0x3F800000#32)) (scR mod)))) (perB (shR mod))

/-- A projection to the hidden dimension. -/
def upR (h : FVec Ideal S4x4096x2048 .f32) (w : FVec Ideal S2x2048x5632 .f32) : FVec Ideal S4x4096x5632 .f32 :=
  Host.dotGeneral dot_S4x4096x2048_S2048x5632_S4x4096x5632_2_0_01_1_n_n none h
    (shapeCast S2048x5632 (extractStridedSlice S1x2048x5632 ![0, 0, 0] w slices_S2x2048x5632_S1x2048x5632_0_0_0) shapeCasts_S1x2048x5632_S2048x5632)

/-- The projection back. -/
def dnR (a : FVec Ideal S4x4096x5632 .f32) (w : FVec Ideal S2x5632x2048 .f32) : FVec Ideal S4x4096x2048 .f32 :=
  Host.dotGeneral dot_S4x4096x5632_S5632x2048_S4x4096x2048_2_0_01_1_n_n none a
    (shapeCast S5632x2048 (extractStridedSlice S1x5632x2048 ![0, 0, 0] w slices_S2x5632x2048_S1x5632x2048_0_0_0) shapeCasts_S1x5632x2048_S5632x2048)

/-- The residual sum. -/
def yR (y : FVec Ideal S4x4096x2048 .f32) (mod : FVec Ideal S8x9x2048 .f32) (z : FVec Ideal S4x4096x2048 .f32) : FVec Ideal S4x4096x2048 .f32 :=
  addf y (mulf (perB (mulf (broadcastInDim S4x1x2048 ![] bcast_S_S4x1x2048 (constant S_ .f32 0x3F000000#32)) (g3R mod))) z)

/-- The result of the arguments. -/
def resR (x : FVec Ideal S4x4096x2048 .f32) (mod : FVec Ideal S8x9x2048 .f32) (g : FVec Ideal S2048 .f32)
    (wg wu : FVec Ideal S2x2048x5632 .f32) (wd : FVec Ideal S2x5632x2048 .f32) : FVec Ideal S4x4096x2048 .f32 :=
  yR x mod (dnR (mulf (siluR (upR (hR x g mod) wg)) (upR (hR x g mod) wu)) wd)

set_option maxHeartbeats 4000000 in
theorem res_eq (m : (ℓ : Loc nD τ sig) → Buf (Elt Ideal) ℓ) (c : Dev nD) : Value.res_main_v43 m c
    = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v43
  rfl

section
variable (b : Fin 4) (r : Fin 4096) (e : Fin 2048)

theorem shR_apply (mod : FVec Ideal S8x9x2048 .f32) : shR mod (ix3 b 0 e) = mod (ix3 ⟨b.val, by omega⟩ 0 e) := by
  pointwise [shR]

theorem scR_apply (mod : FVec Ideal S8x9x2048 .f32) : scR mod (ix3 b 0 e) = mod (ix3 ⟨b.val, by omega⟩ 1 e) := by
  pointwise [scR]

theorem g3R_apply (mod : FVec Ideal S8x9x2048 .f32) : g3R mod (ix3 b 0 e) = mod (ix3 ⟨b.val, by omega⟩ 2 e) := by
  pointwise [g3R]

theorem hR_apply (y : FVec Ideal S4x4096x2048 .f32) (g : FVec Ideal S2048 .f32) (mod : FVec Ideal S8x9x2048 .f32) :
    hR y g mod (ix3 b r e) = FfnSpec.hid (fun k => y (ix3 b r k)) (fun k => g (ix1 k)) (fun k => mod (ix3 ⟨b.val, by omega⟩ 0 k))
      (fun k => mod (ix3 ⟨b.val, by omega⟩ 1 k)) e := by
  have h1 := nR_apply b r e y g
  unfold FfnSpec.nrm at h1
  dsimp only at h1
  unfold FfnSpec.hid
  dsimp only
  rw [← h1, ← shR_apply b e mod, ← scR_apply b e mod]
  pointwise [hR, perB]

theorem upR_apply (h : FVec Ideal S4x4096x2048 .f32) (w : FVec Ideal S2x2048x5632 .f32) (j : Fin 5632) :
    upR h w (ix3 b r j) = ∑ k : Fin 2048, h (ix3 b r k) * w (ix3 0 k j) := by
  pointwise [upR]

theorem dnR_apply (a : FVec Ideal S4x4096x5632 .f32) (w : FVec Ideal S2x5632x2048 .f32) :
    dnR a w (ix3 b r e) = ∑ j : Fin 5632, a (ix3 b r j) * w (ix3 0 j e) := by
  pointwise [dnR]

theorem yR_apply (y : FVec Ideal S4x4096x2048 .f32) (mod : FVec Ideal S8x9x2048 .f32) (z : FVec Ideal S4x4096x2048 .f32) :
    yR y mod z (ix3 b r e) = FfnSpec.add (fun k => y (ix3 b r k)) (fun k => mod (ix3 ⟨b.val, by omega⟩ 2 k)) (fun k => z (ix3 b r k)) e := by
  unfold FfnSpec.add
  dsimp only
  rw [← g3R_apply b e mod]
  pointwise [yR, perB]

theorem resR_apply (x : FVec Ideal S4x4096x2048 .f32) (mod : FVec Ideal S8x9x2048 .f32) (g : FVec Ideal S2048 .f32)
    (wg wu : FVec Ideal S2x2048x5632 .f32) (wd : FVec Ideal S2x5632x2048 .f32) :
    resR x mod g wg wu wd (ix3 b r e) = FfnSpec.mid (fun k => x (ix3 b r k)) (fun k => g (ix1 k))
      (fun k => mod (ix3 ⟨b.val, by omega⟩ 0 k)) (fun k => mod (ix3 ⟨b.val, by omega⟩ 1 k)) (fun k => mod (ix3 ⟨b.val, by omega⟩ 2 k))
      (fun j k => wg (ix3 0 k j)) (fun j k => wu (ix3 0 k j)) (fun j k => wd (ix3 0 j k)) e := by
  unfold resR FfnSpec.mid FfnSpec.act
  simp only [yR_apply, dnR_apply, mulf_apply, siluR_apply, upR_apply, hR_apply, Ideal.mulf_def]

end

end Cert.FfnFirstReferenceIdeal.Hand

end
-- ==== Proof.FfnFirstAll.lean ====
/- The first feed-forward's claims: its three frames, and the kernel and the reference ending with equal results. -/
module

public import proofs.«01_k».proof.Defs
public import proofs.«01_k».proof.Proof.Gen.FfnFirst
public import proofs.«01_k».proof.Proof.Gen.FfnFirst.Skeleton
public import proofs.«01_k».proof.Proof.Gen.FfnFirst.Loops
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstReferenceIdeal
public import proofs.«01_k».proof.Proof.FfnFirstArr
public import proofs.«01_k».proof.Proof.FfnFirstRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.Tactic Idealize.SL.Sem

theorem ffnFirst_frame_ideal : Cert.quiescent_FfnFirstIdeal (hFfnFirstIdeal := Cert.FfnFirstIdeal.Gen.facts) := fun m ρ _ => Cert.FfnFirstIdeal.Hand.frame m ρ

/-- The two printed programs have one body table at the bit patterns. -/
theorem ffnFirst_defs : @Cert.FfnFirst.defs Bits _ Cert.FfnFirst.Gen.facts = @Cert.FfnFirstIdeal.defs Bits _ Cert.FfnFirstIdeal.Gen.facts := by
  refine congrArg (Pipeline.defs _) ?_
  unfold Cert.FfnFirst.defs₀ Cert.FfnFirstIdeal.defs₀
  refine congrArg Defs.onTc (funext fun l => funext fun a => ?_)
  match l with
  | 0 => rfl

/-- The printed kernel's frame: the same run, at the bit patterns. -/
theorem ffnFirst_frame : Cert.quiescent_FfnFirst (hFfnFirst := Cert.FfnFirst.Gen.facts) := fun m ρ _ => by
  have h := Cert.FfnFirstIdeal.Hand.frame (F := Bits) m ρ
  rw [← ffnFirst_defs] at h
  exact h

theorem ffnFirst_ref_frame : Cert.quiescent_FfnFirstReferenceIdeal (hFfnFirstReferenceIdeal := Cert.FfnFirstReferenceIdeal.Gen.facts) := fun m ρ _ =>
  (θ_run Cert.FfnFirstReferenceIdeal.defs _ _).mono (fun r h => ⟨fun c => (h c).2, sem_eq_zero_of_no_sems (by decide) r.2⟩)
    (Cert.FfnFirstReferenceIdeal.Value.run (F := Ideal) m ρ)

theorem ffnFirst : Cert.algebraic_FfnFirstIdeal_FfnFirstReferenceIdeal
    (hFfnFirstIdeal := Cert.FfnFirstIdeal.Gen.facts) (hFfnFirstReferenceIdeal := Cert.FfnFirstReferenceIdeal.Gen.facts) := by
  intro m g m' g' _ hm
  refine ⟨fun c => (Cert.FfnFirstIdeal.Hand.dats m 0 c).arrAt 7 Cert.FfnFirstIdeal.cfg0.N,
    (θ_run Cert.FfnFirstIdeal.defs _ _).mono (fun r h c => ⟨(h.1 c).1 7, h.2.1 c⟩)
      (θ_run_and (Cert.FfnFirstIdeal.Hand.run_main m g) (Cert.FfnFirstIdeal.Hand.frame m g)), ?_⟩
  refine (θ_run Cert.FfnFirstReferenceIdeal.defs _ _).mono (fun r h c => ⟨(h c).1.trans ?_, (h c).2⟩) (Cert.FfnFirstReferenceIdeal.Value.run (F := Ideal) m' g')
  obtain ⟨h0, h1, h2, h3, h4, h5, h6⟩ := hm c
  refine (Cert.FfnFirstReferenceIdeal.Hand.res_eq m' c).trans ?_
  refine Eq.trans ?_ (Cert.FfnFirstIdeal.Hand.arr_eq m c _ _ _ _ _ _ h0.symm h1.symm h2.symm h3.symm h4.symm h5.symm).symm
  funext i
  obtain ⟨b, r, e, rfl⟩ : ∃ (b : Fin 4) (r : Fin 4096) (e : Fin 2048), i = ix3 b r e := ⟨i 0, i 1, i 2, funext fun a => by fin_cases a <;> rfl⟩
  exact Cert.FfnFirstReferenceIdeal.Hand.resR_apply b r e _ _ _ _ _ _

end Cert.Proof

end
-- ==== Proof.FfnCtxRun.lean ====
/- The context's first feed-forward's body, run at its three kinds of points, with what it leaves in each buffer stated as a value. -/
module

public import proofs.«01_k».proof.Proof.FfnRun
public import proofs.«01_k».proof.Proof.Gen.FfnCtxIdeal.Skeleton
public import proofs.«01_k».proof.Proof.Gen.FfnCtxIdeal.Loops
public import proofs.«01_k».proof.Proof.Gen.FfnCtxIdeal.Points
public import proofs.«01_k».proof.Proof.Gen.FfnCtxIdeal.Frame
public import Idealize.ShloMosaic.Lib.Pipeline.ValueKit
public import Idealize.ShloMosaic.Lib.Pipeline.ReadBack

@[expose] public section

set_option maxRecDepth 16384

noncomputable section

namespace Cert.FfnCtxIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Hand (rows rows2 mrow sub sub3 inb3 inb2 ld_congr)
open Cert.FfnCtxIdeal Cert.FfnCtxIdeal.Gen

variable {F : FTy → Type} [FloatOps F]

local notation "𝕄" => MT nD τ sig Unit (Elt F) ℕ (UR sig nD τ) ℕ

/-! ## What the body computes -/

/-- The normalised, modulated block: what the first of a tile's points leaves in the first scratch. -/
def hOf (x0 : Vec F S1x512x2048 .f32) (x1 : Vec F S1x9x2048 .f32) (x2 : Vec F S1x2048 .f32) :
    Vec F S512x2048 .bf16 :=
  fun y => k0_pay1 (mrow x1 0) x2 (mrow x1 1) (rows x0 ((y 0).val / 16)) (sub y)

/-- The output block: what the last of a tile's points stores. -/
def oOf (x0 : Vec F S1x512x2048 .f32) (x1 : Vec F S1x9x2048 .f32) (acc : Vec F S512x2048 .f32) : Vec F S1x512x2048 .f32 :=
  fun y => k0_pay3 (mrow x1 2) (rows x0 ((y 1).val / 16)) (rows2 acc ((y 1).val / 16)) (sub3 y)

/-! ## The pieces the two loops write -/

/-- One store of a whole buffer, read back. -/
theorem read_put {S : Shape} {e : EltTy} (v : View sig .tc .vmem S e) (f : v.ty.Contents (Elt F)) {off : Fin S.rank → ℕ} (h : off = fun _ => 0)
    (inb : ∀ a, off a + S.size a ≤ S.size a) (w : Vec F S e) :
    v.read (Elt F) (v.writes (Elt F) f [⟨Rect.unit off S.size inb, w⟩]) = w := by
  rw [View.read_writes_eq_canon _ _ _ fun y => ⟨_, List.mem_singleton_self _, View.mem_set_unit_zero h inb y⟩]
  exact View.canon_unit_zero h inb w

section
variable (𝒱 : Variants) (bd : Option 𝒱.V) (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)

theorem trips1 : k0_t1_loop.trips = 32 := by decide +kernel
theorem trips2 : k0_t2_loop.trips = 32 := by decide +kernel

/-- The first loop's stores are blocks of `hOf`. -/
theorem pieces1 (h1 : k0_cond1 i = 1#1) (n : ℕ) (hn : n ≤ 32) : View.PiecesOf (hOf x0 x1 x2)
    (pb_k0_t1 (F := F) 𝒱 c bd i arg3 harg3 arg4 harg4 arg5 harg5 arg6 harg6 arg7 harg7 arg8 harg8 arg9 harg9 arg10 harg10 arg11 harg11 arg12 harg12 h1 (mrow x1 0) x2 (mrow x1 1)
      (harg3.unread x0) n) := by
  induction n with
  | zero => trivial
  | succ n ih =>
    have hlt : n < k0_t1_loop.trips := by rw [trips1]; omega
    refine (pb_k0_t1_succ (F := F) 𝒱 c bd i arg3 harg3 arg4 harg4 arg5 harg5 arg6 harg6 arg7 harg7 arg8 harg8 arg9 harg9 arg10 harg10 arg11 harg11 arg12 harg12 h1 (mrow x1 0) x2 (mrow x1 1)
      (harg3.unread x0) ⟨n, hlt⟩).symm ▸ ?_
    unfold tripL_k0_t1 trip_k0_t1
    refine ⟨fun x => ?_, ih (by omega)⟩
    simp only [View.readAt_eq_ld, Memref.IsWhole.read_unread]
    have hx0 : (x 0).val < 16 := (x 0).isLt
    have e0 : ∀ hi, (((Rect.unit (s := S512x2048) (k0_off2 ⟨n, hlt⟩) S16x2048.size hi).emb x) 0).val = 16 * n + (x 0).val := fun hi => by
      simp [Rect.emb, Rect.unit, k0_off2_eq]
    have e1 : ∀ hi, (((Rect.unit (s := S512x2048) (k0_off2 ⟨n, hlt⟩) S16x2048.size hi).emb x) 1).val = (x 1).val := fun hi => by
      simp [Rect.emb, Rect.unit, k0_off2_eq]
    refine (congrFun (congrArg (k0_pay1 (mrow x1 0) x2 (mrow x1 1)) (ld_congr x0 (off' := ![0, 16 * (n % 32), 0]) ?_ _ _ (inb3 n))) x).trans ?_
    · rw [k0_off1_eq, Nat.mod_eq_of_lt (by omega)]
    · unfold hOf
      rw [e0, show (16 * n + (x 0).val) / 16 = n by omega]
      refine congrArg _ (funext fun a => Fin.ext ?_)
      fin_cases a
      · show (x 0).val = _ % 16
        rw [e0]; omega
      · exact (e1 _).symm

/-- The second loop's stores are blocks of `oOf`. -/
theorem pieces2 (h2 : k0_cond2 i = 1#1) (acc : Vec F S512x2048 .f32) (n : ℕ) (hn : n ≤ 32) : View.PiecesOf (oOf x0 x1 acc)
    (pb_k0_t2 (F := F) 𝒱 c bd i arg3 harg3 arg4 harg4 arg5 harg5 arg6 harg6 arg7 harg7 arg8 harg8 arg9 harg9 arg10 harg10 arg11 harg11 arg12 harg12 h2 (mrow x1 2)
      (harg3.unread x0) (harg12.unread acc) n) := by
  induction n with
  | zero => trivial
  | succ n ih =>
    have hlt : n < k0_t2_loop.trips := by rw [trips2]; omega
    refine (pb_k0_t2_succ (F := F) 𝒱 c bd i arg3 harg3 arg4 harg4 arg5 harg5 arg6 harg6 arg7 harg7 arg8 harg8 arg9 harg9 arg10 harg10 arg11 harg11 arg12 harg12 h2 (mrow x1 2)
      (harg3.unread x0) (harg12.unread acc) ⟨n, hlt⟩).symm ▸ ?_
    unfold tripL_k0_t2 trip_k0_t2
    refine ⟨fun x => ?_, ih (by omega)⟩
    simp (disch := decide) only [View.readAt_eq_ld, Memref.IsWhole.read_unread, View.ld_unit_lit']
    have hx0 : (x 0).val < 1 := (x 0).isLt
    have hx1 : (x 1).val < 16 := (x 1).isLt
    have e1 : ∀ hi, (((Rect.unit (s := S1x512x2048) (k0_off3 ⟨n, hlt⟩) S1x16x2048.size hi).emb x) 1).val = 16 * n + (x 1).val := fun hi => by
      simp [Rect.emb, Rect.unit, k0_off3_eq]
    have e2 : ∀ hi, (((Rect.unit (s := S1x512x2048) (k0_off3 ⟨n, hlt⟩) S1x16x2048.size hi).emb x) 2).val = (x 2).val := fun hi => by
      simp [Rect.emb, Rect.unit, k0_off3_eq]
    refine (congrFun (congr (congrArg (k0_pay3 (mrow x1 2)) (ld_congr x0 (off' := ![0, 16 * (n % 32), 0]) ?_ _ _ (inb3 n)))
      (ld_congr acc (off' := ![16 * (n % 32), 0]) ?_ _ _ (inb2 n))) x).trans ?_
    · rw [k0_off3_eq, Nat.mod_eq_of_lt (by omega)]
    · rw [k0_off4_eq, Nat.mod_eq_of_lt (by omega)]
    · unfold oOf
      rw [e1, show (16 * n + (x 1).val) / 16 = n by omega]
      refine congrArg _ (funext fun a => Fin.ext ?_)
      fin_cases a
      · show (x 0).val = 0
        omega
      · show (x 1).val = _ % 16
        rw [e1]; omega
      · exact (e2 _).symm

theorem cover1 (h1 : k0_cond1 i = 1#1) (v28 : Vec F S1x1x2048 .f32) (v30 : Vec F S1x2048 .f32) (v32 : Vec F S1x1x2048 .f32)
    (X3 : BufTy.Contents (Elt F) arg3.view.ty) (y : S512x2048.Idx) :
    ∃ p ∈ (pb_k0_t1 (F := F) 𝒱 c bd i arg3 harg3 arg4 harg4 arg5 harg5 arg6 harg6 arg7 harg7 arg8 harg8 arg9 harg9 arg10 harg10 arg11 harg11 arg12 harg12 h1 v28 v30 v32 X3 (Scf.trips k0_t1_loop.lb k0_t1_loop.ub k0_t1_loop.st)), y ∈ p.1.set :=
  View.cover_of_tiledL (pb_k0_t1 (F := F) 𝒱 c bd i arg3 harg3 arg4 harg4 arg5 harg5 arg6 harg6 arg7 harg7 arg8 harg8 arg9 harg9 arg10 harg10 arg11 harg11 arg12 harg12 h1 v28 v30 v32 X3 (Scf.trips k0_t1_loop.lb k0_t1_loop.ub k0_t1_loop.st)) S16x2048.size (by sl_kernel_rfl) y

theorem cover2 (h2 : k0_cond2 i = 1#1) (v28 : Vec F S1x1x2048 .f32)
    (X3 : BufTy.Contents (Elt F) arg3.view.ty) (X13 : BufTy.Contents (Elt F) arg12.view.ty) (y : S1x512x2048.Idx) :
    ∃ p ∈ (pb_k0_t2 (F := F) 𝒱 c bd i arg3 harg3 arg4 harg4 arg5 harg5 arg6 harg6 arg7 harg7 arg8 harg8 arg9 harg9 arg10 harg10 arg11 harg11 arg12 harg12 h2 v28 X3 X13 (Scf.trips k0_t2_loop.lb k0_t2_loop.ub k0_t2_loop.st)), y ∈ p.1.set :=
  View.cover_of_tiledL (pb_k0_t2 (F := F) 𝒱 c bd i arg3 harg3 arg4 harg4 arg5 harg5 arg6 harg6 arg7 harg7 arg8 harg8 arg9 harg9 arg10 harg10 arg11 harg11 arg12 harg12 h2 v28 X3 X13 (Scf.trips k0_t2_loop.lb k0_t2_loop.ub k0_t2_loop.st)) S1x16x2048.size (by sl_kernel_rfl) y

/-- What the first loop leaves. -/
theorem loop1 (h1 : k0_cond1 i = 1#1) : View.canon
    (pb_k0_t1 (F := F) 𝒱 c bd i arg3 harg3 arg4 harg4 arg5 harg5 arg6 harg6 arg7 harg7 arg8 harg8 arg9 harg9 arg10 harg10 arg11 harg11 arg12 harg12 h1 (mrow x1 0) x2 (mrow x1 1)
      (harg3.unread x0) (Scf.trips k0_t1_loop.lb k0_t1_loop.ub k0_t1_loop.st)) = hOf x0 x1 x2 :=
  funext fun y => View.canon_apply_of_pieces _ _
    (pieces1 𝒱 bd c i arg3 harg3 arg4 harg4 arg5 harg5 arg6 harg6 arg7 harg7 arg8 harg8 arg9 harg9 arg10 harg10 arg11 harg11 arg12 harg12 x0 x1 x2 h1 _ trips1.le).mem y
    (cover1 𝒱 bd c i arg3 harg3 arg4 harg4 arg5 harg5 arg6 harg6 arg7 harg7 arg8 harg8 arg9 harg9 arg10 harg10 arg11 harg11 arg12 harg12 h1 _ _ _ _ y)

/-- What the second loop leaves. -/
theorem loop2 (h2 : k0_cond2 i = 1#1) (acc : Vec F S512x2048 .f32) : View.canon
    (pb_k0_t2 (F := F) 𝒱 c bd i arg3 harg3 arg4 harg4 arg5 harg5 arg6 harg6 arg7 harg7 arg8 harg8 arg9 harg9 arg10 harg10 arg11 harg11 arg12 harg12 h2 (mrow x1 2)
      (harg3.unread x0) (harg12.unread acc) (Scf.trips k0_t2_loop.lb k0_t2_loop.ub k0_t2_loop.st)) = oOf x0 x1 acc :=
  funext fun y => View.canon_apply_of_pieces _ _
    (pieces2 𝒱 bd c i arg3 harg3 arg4 harg4 arg5 harg5 arg6 harg6 arg7 harg7 arg8 harg8 arg9 harg9 arg10 harg10 arg11 harg11 arg12 harg12 x0 x1 h2 acc _ trips2.le).mem y
    (cover2 𝒱 bd c i arg3 harg3 arg4 harg4 arg5 harg5 arg6 harg6 arg7 harg7 arg8 harg8 arg9 harg9 arg10 harg10 arg11 harg11 arg12 harg12 h2 _ _ _ y)
end

/-! ## The runs -/

set_option maxHeartbeats 1000000 in
theorem runA (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (hc0 : k0_cond1 i = 1#1) (hc1 : ¬k0_cond2 i = 1#1)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)
  (xi : Vec F S1x512x2048 .f32) (d : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare d ∗ owns (c : Thread nD τ) arg12 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare (hOf x0 x1 x2) ∗ owns (c : Thread nD τ) arg12 fullShare (k0_pay2 i (hOf x0 x1 x2) x3 x4 acc x5)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hs0; obtain rfl := harg12.eq_unread hs1
  have hrd0 : ∀ (𝒱 : Variants) (c : Dev nD) (bd : Option 𝒱.V) (k0_h1 : k0_cond1 i = 1#1) (v28 : Vec F S1x1x2048 .f32) (v30 : Vec F S1x2048 .f32)
      (v32 : Vec F S1x1x2048 .f32) (X3 : BufTy.Contents (Elt F) arg3.view.ty)
      (G : BufTy.Contents (Elt F) arg11.view.ty) (B : LoadRect S512x2048),
      arg11.view.readAt (Elt F) B (arg11.view.writes (Elt F) G (pb_k0_t1 (F := F) 𝒱 c bd i arg3 harg3 arg4 harg4 arg5 harg5 arg6 harg6 arg7 harg7 arg8 harg8 arg9 harg9 arg10 harg10 arg11 harg11 arg12 harg12 k0_h1 v28 v30 v32 X3 (Scf.trips k0_t1_loop.lb k0_t1_loop.ub k0_t1_loop.st)))
        = arg11.view.readCov (pb_k0_t1 (F := F) 𝒱 c bd i arg3 harg3 arg4 harg4 arg5 harg5 arg6 harg6 arg7 harg7 arg8 harg8 arg9 harg9 arg10 harg10 arg11 harg11 arg12 harg12 k0_h1 v28 v30 v32 X3 (Scf.trips k0_t1_loop.lb k0_t1_loop.ub k0_t1_loop.st)) B :=
    fun 𝒱 c bd k0_h1 v28 v30 v32 X3 G B => View.readAt_writes_of_cover _ G _ B (fun j => View.cover_of_tiledL
      (pb_k0_t1 (F := F) 𝒱 c bd i arg3 harg3 arg4 harg4 arg5 harg5 arg6 harg6 arg7 harg7 arg8 harg8 arg9 harg9 arg10 harg10 arg11 harg11 arg12 harg12 k0_h1 v28 v30 v32 X3 (Scf.trips k0_t1_loop.lb k0_t1_loop.ub k0_t1_loop.st)) S16x2048.size (by sl_kernel_rfl) (B.idx j))
  sl_exec (disch := first | sl_exact hc0 | sl_exact hc1)
  sl_step
  iapply Hk
  isplitl [H0]
  · iexists _; isplitr; · ipureintro; exact harg3.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr
    swap; · iexact HS0
    ipureintro
    refine (View.read_writes_eq_canon _ _ _ (cover1 Variants.none none c i arg3 harg3 arg4 harg4 arg5 harg5 arg6 harg6 arg7 harg7 arg8 harg8 arg9 harg9 arg10 harg10 arg11 harg11 arg12 harg12 hc0 _ _ _ _)).trans ?_
    simp (disch := decide) only [View.readAt_eq_ld, Memref.IsWhole.read_unread, View.ld_unit_lit']
    exact loop1 Variants.none none c i arg3 harg3 arg4 harg4 arg5 harg5 arg6 harg6 arg7 harg7 arg8 harg8 arg9 harg9 arg10 harg10 arg11 harg11 arg12 harg12 x0 x1 x2 hc0
  iexists _; isplitr
  swap; · iexact HS1
  ipureintro

  refine (read_put _ _ (by decide) _ _).trans ?_
  simp (disch := decide) only [View.readAt_eq_ld, Memref.IsWhole.read_unread, View.ld_unit_lit']
  refine congrArg (fun z => k0_pay2 i z x3 x4 acc x5) ?_
  refine (View.readCov_eq_canon' _ _ _).trans ?_
  refine Eq.trans ?_ (loop1 Variants.none none c i arg3 harg3 arg4 harg4 arg5 harg5 arg6 harg6 arg7 harg7 arg8 harg8 arg9 harg9 arg10 harg10 arg11 harg11 arg12 harg12 x0 x1 x2 hc0)
  exact View.ld_unit_lit' _ _ (by decide)

set_option maxHeartbeats 1000000 in
theorem runB (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (hc0 : ¬k0_cond1 i = 1#1) (hc1 : ¬k0_cond2 i = 1#1)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)
  (xi : Vec F S1x512x2048 .f32) (h : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare h ∗ owns (c : Thread nD τ) arg12 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare h ∗ owns (c : Thread nD τ) arg12 fullShare (k0_pay2 i h x3 x4 acc x5)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hs0; obtain rfl := harg12.eq_unread hs1
  sl_exec (disch := first | sl_exact hc0 | sl_exact hc1)
  sl_step
  iapply Hk
  isplitl [H0]
  · iexists _; isplitr; · ipureintro; exact harg3.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; · ipureintro; exact harg11.read_unread _
    iexact HS0
  iexists _; isplitr
  swap; · iexact HS1
  ipureintro

  refine (read_put _ _ (by decide) _ _).trans ?_
  simp (disch := decide) only [View.readAt_eq_ld, Memref.IsWhole.read_unread, View.ld_unit_lit']

set_option maxHeartbeats 1000000 in
theorem runC (c : Dev nD) (i : grid0.Coords)
  (arg3 : Memref sig .tc .vmem S1x512x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x2048 .f32) (harg9 : arg9.IsWhole)
  (arg10 : Memref sig .tc .vmem S1x512x2048 .f32) (harg10 : arg10.IsWhole)
  (arg11 : Memref sig .tc .vmem S512x2048 .bf16) (harg11 : arg11.IsWhole)
  (arg12 : Memref sig .tc .vmem S512x2048 .f32) (harg12 : arg12.IsWhole)
  (hc0 : ¬k0_cond1 i = 1#1) (hc1 : k0_cond2 i = 1#1)
  (x0 : Vec F S1x512x2048 .f32) (x1 : Vec F S1x9x2048 .f32) (x2 : Vec F S1x2048 .f32)
  (x3 : Vec F S1x2048x512 .bf16) (x4 : Vec F S1x2048x512 .bf16) (x5 : Vec F S1x512x2048 .bf16) (x6 : Vec F S1x2048 .f32)
  (xi : Vec F S1x512x2048 .f32) (h : Vec F S512x2048 .bf16) (acc : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare h ∗ owns (c : Thread nD τ) arg12 fullShare acc
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (oOf x0 x1 (k0_pay2 i h x3 x4 acc x5)) ∗ owns (c : Thread nD τ) arg11 fullShare h ∗ owns (c : Thread nD τ) arg12 fullShare (k0_pay2 i h x3 x4 acc x5)) -∗ K ⟨⟩))
    ⊢ wp frame (wpE (defs₀ (F := F)) Variants.none c none) E (cc0_ffn i arg3 harg3 arg4 harg4 arg5 harg5 arg6 harg6 arg7 harg7 arg8 harg8 arg9 harg9 arg10 harg10 arg11 harg11 arg12 harg12) K := by
  simp only [cc0_ffn_eq_skeleton]; unfold cc0_ffn_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hs0, HS0⟩, ⟨%fs1, %hs1, HS1⟩, Hk⟩
  obtain rfl := harg3.eq_unread hf0; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hs0; obtain rfl := harg12.eq_unread hs1
  sl_exec (disch := first | sl_exact hc0 | sl_exact hc1)
  sl_step
  iapply Hk
  isplitl [H0]
  · iexists _; isplitr; · ipureintro; exact harg3.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon _ _ _ (cover2 Variants.none none c i arg3 harg3 arg4 harg4 arg5 harg5 arg6 harg6 arg7 harg7 arg8 harg8 arg9 harg9 arg10 harg10 arg11 harg11 arg12 harg12 hc1 _ _ _)).trans ?_
    rw [harg12.eq_unread (X := k0_pay2 i h x3 x4 acc x5) (f := arg12.view.writes (Elt F) arg12.view.junk
      (runC.sl.HS1_1 c i arg6 harg6 arg7 harg7 arg8 harg8 arg11 harg11 arg12 harg12 x3 x4 x5 h acc)) (by
        unfold runC.sl.HS1_1
        refine (read_put _ _ (by decide) _ _).trans ?_
        simp (disch := decide) only [View.readAt_eq_ld, Memref.IsWhole.read_unread, View.ld_unit_lit'])]
    simp only [View.readAt_eq_ld, Memref.IsWhole.read_unread]
    exact loop2 Variants.none none c i arg3 harg3 arg4 harg4 arg5 harg5 arg6 harg6 arg7 harg7 arg8 harg8 arg9 harg9 arg10 harg10 arg11 harg11 arg12 harg12 x0 x1 hc1 _
  isplitl [HS0]
  · iexists _; isplitr; · ipureintro; exact harg11.read_unread _
    iexact HS0
  iexists _; isplitr
  swap; · iexact HS1
  ipureintro
  unfold runC.sl.HS1_1
  refine (read_put _ _ (by decide) _ _).trans ?_
  simp (disch := decide) only [View.readAt_eq_ld, Memref.IsWhole.read_unread, View.ld_unit_lit']

end Cert.FfnCtxIdeal.Hand

end
-- ==== Proof.FfnCtxVal.lean ====
/- The context's first feed-forward's body on the extended reals: each buffer's contents, element by element. -/
module

public import proofs.«01_k».proof.Proof.FfnVal
public import proofs.«01_k».proof.Proof.FfnCtxRun
public import Idealize.ShloMosaic.Lib.IdealHost

@[expose] public section

set_option maxRecDepth 16384

noncomputable section

namespace Cert.FfnCtxIdeal.Hand

open Idealize.ShloMosaic Idealize.ShloMosaic.TcCoe Idealize.ShloMosaic.Tactic
open Cert.FfnIdeal.Hand (rows rows2 mrow sub sub3 rows_apply rows2_apply mrow_apply part part_apply)
open Cert Cert.FfnCtxIdeal Cert.FfnCtxIdeal.Gen

/-! ## The payloads -/

theorem pay1_apply (sh : Vec Ideal S1x1x2048 .f32) (g : Vec Ideal S1x2048 .f32) (sc : Vec Ideal S1x1x2048 .f32)
    (x : Vec Ideal S1x16x2048 .f32) (a : Fin 16) (e : Fin 2048) :
    k0_pay1 sh g sc x (ix2 a e) = FfnSpec.hid (fun k => x (ix3 0 a k)) (fun k => g (ix2 0 k))
      (fun k => sh (ix3 0 0 k)) (fun k => sc (ix3 0 0 k)) e := by
  unfold FfnSpec.hid FfnSpec.rms
  pointwise [k0_pay1]
  rw [mul_assoc _ (g (ix2 0 e))]

theorem pay2_apply (i : grid0.Coords) (h : Vec Ideal S512x2048 .bf16) (wg wu : Vec Ideal S1x2048x512 .bf16) (a : Vec Ideal S512x2048 .f32)
    (wd : Vec Ideal S1x512x2048 .bf16) (r : Fin 512) (e : Fin 2048) :
    k0_pay2 i h wg wu a wd (ix2 r e) = Scalar.select (Scalar.cmpi .eq (BitVec.ofNat 32 (i 2).val) 0#32) 0 (a (ix2 r e)) + part h wg wu wd (ix2 r e) := by
  unfold part FfnSpec.act
  pointwise [k0_pay2]
  simp only [Ideal.logistic]

theorem first_bit (i : grid0.Coords) : (k0_cond1 i = 1#1) ↔ Scalar.cmpi .eq (BitVec.ofNat 32 (i 2).val) 0#32 = 1#1 := by
  unfold k0_cond1
  dsimp only
  generalize Scalar.cmpi .eq (BitVec.ofNat 32 (i 2).val) 0#32 = b
  revert b; decide

/-- The first of a tile's points starts the sum, -/
theorem pay2_reset (i : grid0.Coords) (hi : k0_cond1 i = 1#1) (h : Vec Ideal S512x2048 .bf16) (wg wu : Vec Ideal S1x2048x512 .bf16)
    (a : Vec Ideal S512x2048 .f32) (wd : Vec Ideal S1x512x2048 .bf16) (y : S512x2048.Idx) :
    k0_pay2 i h wg wu a wd y = 0 + part h wg wu wd y := by
  obtain ⟨r, e, rfl⟩ : ∃ (r : Fin 512) (e : Fin 2048), y = ix2 r e := ⟨y 0, y 1, funext fun a => by fin_cases a <;> rfl⟩
  rw [pay2_apply, (first_bit i).mp hi]
  rfl

/-- the others add to it. -/
theorem pay2_step (i : grid0.Coords) (hi : ¬k0_cond1 i = 1#1) (h : Vec Ideal S512x2048 .bf16) (wg wu : Vec Ideal S1x2048x512 .bf16)
    (a : Vec Ideal S512x2048 .f32) (wd : Vec Ideal S1x512x2048 .bf16) (y : S512x2048.Idx) :
    k0_pay2 i h wg wu a wd y = a y + part h wg wu wd y := by
  obtain ⟨r, e, rfl⟩ : ∃ (r : Fin 512) (e : Fin 2048), y = ix2 r e := ⟨y 0, y 1, funext fun a => by fin_cases a <;> rfl⟩
  rw [first_bit] at hi
  rw [pay2_apply]
  exact congrArg (· + _) (if_neg hi)

theorem pay3_apply (g3 : Vec Ideal S1x1x2048 .f32) (x : Vec Ideal S1x16x2048 .f32) (z : Vec Ideal S16x2048 .f32) (a : Fin 16) (e : Fin 2048) :
    k0_pay3 g3 x z (ix3 0 a e) = FfnSpec.add (fun k => x (ix3 0 a k)) (fun k => g3 (ix3 0 0 k)) (fun k => z (ix2 a k)) e := by
  unfold FfnSpec.add
  pointwise [k0_pay3]

/-! ## The blocks -/

theorem hOf_apply (x0 : Vec Ideal S1x512x2048 .f32) (x1 : Vec Ideal S1x9x2048 .f32) (x2 : Vec Ideal S1x2048 .f32)
    (r : Fin 512) (e : Fin 2048) : hOf x0 x1 x2 (ix2 r e)
      = FfnSpec.hid (fun k => x0 (ix3 0 r k)) (fun k => x2 (ix2 0 k)) (fun k => x1 (ix3 0 0 k)) (fun k => x1 (ix3 0 1 k)) e := by
  have hr : (⟨16 * (r.val / 16 % 32) + r.val % 16, by omega⟩ : Fin 512) = r := Fin.ext (by dsimp only; omega)
  unfold hOf sub
  refine (pay1_apply (mrow x1 0) x2 (mrow x1 1) (rows x0 (r.val / 16)) ⟨r.val % 16, Nat.mod_lt _ (by norm_num)⟩ e).trans ?_
  simp only [rows_apply, hr]
  rw [show (fun k => mrow x1 0 (ix3 0 0 k)) = fun k => x1 (ix3 0 0 k) from funext (mrow_apply x1 0),
    show (fun k => mrow x1 1 (ix3 0 0 k)) = fun k => x1 (ix3 0 1 k) from funext (mrow_apply x1 1)]

theorem oOf_apply (x0 : Vec Ideal S1x512x2048 .f32) (x1 : Vec Ideal S1x9x2048 .f32) (z : Vec Ideal S512x2048 .f32) (r : Fin 512) (e : Fin 2048) : oOf x0 x1 z (ix3 0 r e)
      = FfnSpec.add (fun k => x0 (ix3 0 r k)) (fun k => x1 (ix3 0 2 k)) (fun k => z (ix2 r k)) e := by
  have hr : (⟨16 * (r.val / 16 % 32) + r.val % 16, by omega⟩ : Fin 512) = r := Fin.ext (by dsimp only; omega)
  unfold oOf sub3
  refine (pay3_apply (mrow x1 2) (rows x0 (r.val / 16)) (rows2 z (r.val / 16)) ⟨r.val % 16, Nat.mod_lt _ (by norm_num)⟩ e).trans ?_
  simp only [rows_apply, rows2_apply, hr]
  rw [show (fun k => mrow x1 2 (ix3 0 0 k)) = fun k => x1 (ix3 0 2 k) from funext (mrow_apply x1 2)]

end Cert.FfnCtxIdeal.Hand

end
-- ==== Proof.FfnFlat.lean ====
/- The context's rows, flat: the reshape of batches and tokens to one axis of rows, element by element. -/
module

public import Idealize.ShloMosaic.Lib.IdealHost
public import Idealize.ShloMosaic.Lib.Pipeline.Value

@[expose] public section

namespace Cert.FfnFlat

open Idealize.ShloMosaic Idealize.ShloMosaic.ValueIdx

/-- A row of the flat context, by batch and token. -/
def flat (r : Fin 1024) (e : Fin 2048) : (⟨3, ![4, 256, 2048]⟩ : Shape).Idx :=
  ix3 (⟨r.val / 256, by omega⟩ : Fin 4) (⟨r.val % 256, Nat.mod_lt _ (by norm_num)⟩ : Fin 256) e

theorem flat_apply {α : Type} (x : (⟨3, ![4, 256, 2048]⟩ : Shape).Idx → α) (h : (⟨3, ![4, 256, 2048]⟩ : Shape).ShapeCasts ⟨3, ![1, 1024, 2048]⟩)
    (r : Fin 1024) (e : Fin 2048) : shapeCast ⟨3, ![1, 1024, 2048]⟩ x h (ix3 0 r e) = x (flat r e) :=
  shapeCast_apply x h (ix3 0 r e) (flat r e) (by
    rw [Shape.rowMajor_val_three, Shape.rowMajor_val_three]
    change (r.val / 256 * 256 + r.val % 256) * 2048 + e.val = ((0 : ℕ) * 1024 + r.val) * 2048 + e.val
    omega)

end Cert.FfnFlat

end
-- ==== Proof.FfnCtxFrame.lean ====
/- The context's first feed-forward's pipeline: what the two scratch buffers hold between points, the body obligation, the run and the frame. -/
module

public import proofs.«01_k».proof.Proof.FfnCtxRun
public import proofs.«01_k».proof.Proof.Gen.FfnCtxIdeal.Launch
public import Idealize.ShloMosaic.Lib.Pipeline.FrameBody
public import Idealize.ShloMosaic.Lib.WordCmp

@[expose] public section

set_option maxRecDepth 16384

noncomputable section

namespace Cert.FfnCtxIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnCtxIdeal Cert.FfnCtxIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem last_val (t : Fin cfg0.N) : (grid0.coords t 2).val = t.val % 11 := by
  have e2 : (grid0.coords t 2).val = t.val / 1 % 11 := Pipeline.Grid.coords_val t 2 (by decide) rfl
  rw [e2, Nat.div_one]

/-- The first of a tile's points. -/
theorem first_iff (t : Fin cfg0.N) : k0_cond1 (grid0.coords t) = 1#1 ↔ t.val % 11 = 0 := by
  have ht : t.val < 22 := Nat.lt_of_lt_of_eq t.isLt N_0
  have e2 := last_val t
  simp only [k0_cond1, e2]
  word_cmp

/-- The last of a tile's points. -/
theorem final_iff (t : Fin cfg0.N) : k0_cond2 (grid0.coords t) = 1#1 ↔ t.val % 11 = 10 := by
  have ht : t.val < 22 := Nat.lt_of_lt_of_eq t.isLt N_0
  have e2 := last_val t
  simp only [k0_cond2, e2]
  word_cmp

/-- Off a tile's last point the output's window is idle, -/
theorem idle7 : ∀ t : Fin cfg0.N, ¬t.val % 11 = 10 → cfg0.idle 7 (grid0.coords t) = true := by decide +kernel
/-- and not written back. -/
theorem noFlush7 : ∀ t : Fin cfg0.N, ¬t.val % 11 = 10 → (cfg0.win 7).flush t = false := by decide +kernel
/-- At it, it is live. -/
theorem live7 : ∀ t : Fin cfg0.N, t.val % 11 = 10 → cfg0.idle 7 (grid0.coords t) = false := by decide +kernel

abbrev bM0 (t : Fin cfg0.N) : Memref sig .tc .vmem S1x512x2048 .f32 := win0_0.stage (cfg0.slots t 0)
abbrev bH0 (t : Fin cfg0.N) : (bM0 t).IsWhole := hstage0_0 ((cfg0.slots t 0).cast nbuf0_0)
abbrev bM1 (t : Fin cfg0.N) : Memref sig .tc .vmem S1x9x2048 .f32 := win0_1.stage (cfg0.slots t 1)
abbrev bH1 (t : Fin cfg0.N) : (bM1 t).IsWhole := hstage0_1 ((cfg0.slots t 1).cast nbuf0_1)
abbrev bM2 (t : Fin cfg0.N) : Memref sig .tc .vmem S1x2048 .f32 := win0_2.stage (cfg0.slots t 2)
abbrev bH2 (t : Fin cfg0.N) : (bM2 t).IsWhole := hstage0_2 ((cfg0.slots t 2).cast nbuf0_2)
abbrev bM3 (t : Fin cfg0.N) : Memref sig .tc .vmem S1x2048x512 .bf16 := win0_3.stage (cfg0.slots t 3)
abbrev bH3 (t : Fin cfg0.N) : (bM3 t).IsWhole := hstage0_3 ((cfg0.slots t 3).cast nbuf0_3)
abbrev bM4 (t : Fin cfg0.N) : Memref sig .tc .vmem S1x2048x512 .bf16 := win0_4.stage (cfg0.slots t 4)
abbrev bH4 (t : Fin cfg0.N) : (bM4 t).IsWhole := hstage0_4 ((cfg0.slots t 4).cast nbuf0_4)
abbrev bM5 (t : Fin cfg0.N) : Memref sig .tc .vmem S1x512x2048 .bf16 := win0_5.stage (cfg0.slots t 5)
abbrev bH5 (t : Fin cfg0.N) : (bM5 t).IsWhole := hstage0_5 ((cfg0.slots t 5).cast nbuf0_5)
abbrev bM6 (t : Fin cfg0.N) : Memref sig .tc .vmem S1x2048 .f32 := win0_6.stage (cfg0.slots t 6)
abbrev bH6 (t : Fin cfg0.N) : (bM6 t).IsWhole := hstage0_6 ((cfg0.slots t 6).cast nbuf0_6)
abbrev bM7 (t : Fin cfg0.N) : Memref sig .tc .vmem S1x512x2048 .f32 := win0_7.stage (cfg0.slots t 7)
abbrev bH7 (t : Fin cfg0.N) : (bM7 t).IsWhole := hstage0_7 ((cfg0.slots t 7).cast nbuf0_7)
abbrev sM0 : Memref sig .tc .vmem S512x2048 .bf16 := Memref.whole cc0_scratch0
abbrev sM1 : Memref sig .tc .vmem S512x2048 .f32 := Memref.whole cc0_scratch1

/-- The kit's invariant, the two scratch buffers named. -/
theorem phi0 (c : Dev nD) : (Pipeline.ΦA spec0 c : sProp 𝕄)
    = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-! ## What the scratch buffers hold -/

/-- At the first of a tile's points the accumulator's old contents are dropped. -/
theorem pay2_first (i : grid0.Coords) (hi : k0_cond1 i = 1#1) (h : Vec F S512x2048 .bf16) (x4 x5 : Vec F S1x2048x512 .bf16)
    (a a' : Vec F S512x2048 .f32) (x6 : Vec F S1x512x2048 .bf16) : k0_pay2 i h x4 x5 a x6 = k0_pay2 i h x4 x5 a' x6 := by
  have hz : Scalar.cmpi .eq (BitVec.ofNat 32 (i 2).val) 0#32 = 1#1 := by
    revert hi
    unfold k0_cond1
    dsimp only
    generalize Scalar.cmpi .eq (BitVec.ofNat 32 (i 2).val) 0#32 = b
    revert b; decide
  unfold k0_pay2
  dsimp only
  rw [hz]
  rfl

/-- One point's work on the two scratch buffers. -/
def step (c : Dev nD) (t : Fin cfg0.N) (s : Vec F S512x2048 .bf16 × Vec F S512x2048 .f32) : Vec F S512x2048 .bf16 × Vec F S512x2048 .f32 :=
  if t.val % 11 = 0 then
    (hOf (iblk m c 0 t) (iblk m c 1 t) (iblk m c 2 t),
      k0_pay2 (grid0.coords t) (hOf (iblk m c 0 t) (iblk m c 1 t) (iblk m c 2 t)) (iblk m c 3 t) (iblk m c 4 t) s.2 (iblk m c 5 t))
  else (s.1, k0_pay2 (grid0.coords t) s.1 (iblk m c 3 t) (iblk m c 4 t) s.2 (iblk m c 5 t))

/-- The scratch buffers before point `n`. -/
def st (c : Dev nD) : ℕ → Vec F S512x2048 .bf16 × Vec F S512x2048 .f32
  | 0 => (View.canon [], View.canon [])
  | n + 1 => if h : n < cfg0.N then step m c ⟨n, h⟩ (st c n) else st c n

theorem st_succ (c : Dev nD) (t : Fin cfg0.N) : st m c (t.val + 1) = step m c t (st m c t.val) := by
  rw [st]; exact dif_pos t.isLt

theorem st_first (c : Dev nD) (t : Fin cfg0.N) (h : t.val % 11 = 0) : st m c (t.val + 1)
    = (hOf (iblk m c 0 t) (iblk m c 1 t) (iblk m c 2 t),
      k0_pay2 (grid0.coords t) (hOf (iblk m c 0 t) (iblk m c 1 t) (iblk m c 2 t)) (iblk m c 3 t) (iblk m c 4 t) (st m c t.val).2 (iblk m c 5 t)) := by
  rw [st_succ, step, if_pos h]

theorem st_next (c : Dev nD) (t : Fin cfg0.N) (h : ¬t.val % 11 = 0) : st m c (t.val + 1)
    = ((st m c t.val).1, k0_pay2 (grid0.coords t) (st m c t.val).1 (iblk m c 3 t) (iblk m c 4 t) (st m c t.val).2 (iblk m c 5 t)) := by
  rw [st_succ, step, if_neg h]

/-- The invariant before point `n`: before the first nothing is known of the scratch buffers. -/
def Inv (c : Dev nD) (n : ℕ) : sProp 𝕄 :=
  iprop(∃ h a, ⌜n ≠ 0 → h = (st m c n).1 ∧ a = (st m c n).2⌝ ∗ owns (c : Thread nD τ) sM0 fullShare h ∗ owns (c : Thread nD τ) sM1 fullShare a ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oOf (iblk m c 0 t) (iblk m c 1 t) (st m c (t.val + 1)).2
  Φ t := Inv m c t.val
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = Inv m c t.val := by
  dsimp only [dats]; rfl

theorem inv_succ (c : Dev nD) (t : Fin cfg0.N) : (dats m 0 c).Φ t.succ = Inv m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = oOf (iblk m c 0 t) (iblk m c 1 t) (st m c (t.val + 1)).2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem leaves_0 (c : Dev nD) (t : Fin cfg0.N) : (dats m 0 c).leavesExact 0 t = owns (c : Thread nD τ) (bM0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (bM1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (bM2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (bM3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (bM4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (bM5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (bM6 t) fullShare (iblk m c 6 t) := by
  unfold Dat.leavesExact; rw [show cfg0.idle 6 (grid0.coords t) = false from rfl, after_6]
theorem leaves_7 (c : Dev nD) (t : Fin cfg0.N) (h : t.val % 11 = 10) : (dats m 0 c).leavesExact 7 t
    = owns (c : Thread nD τ) (bM7 t) fullShare (oOf (iblk m c 0 t) (iblk m c 1 t) (st m c (t.val + 1)).2) := by
  unfold Dat.leavesExact; rw [live7 t h, after_7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bM0 t) fullShare ((dats m 0 c).before 0 t d))
    ∗ (∃ d, owns (c : Thread nD τ) (bM1 t) fullShare ((dats m 0 c).before 1 t d))
    ∗ (∃ d, owns (c : Thread nD τ) (bM2 t) fullShare ((dats m 0 c).before 2 t d))
    ∗ (∃ d, owns (c : Thread nD τ) (bM3 t) fullShare ((dats m 0 c).before 3 t d))
    ∗ (∃ d, owns (c : Thread nD τ) (bM4 t) fullShare ((dats m 0 c).before 4 t d))
    ∗ (∃ d, owns (c : Thread nD τ) (bM5 t) fullShare ((dats m 0 c).before 5 t d))
    ∗ (∃ d, owns (c : Thread nD τ) (bM6 t) fullShare ((dats m 0 c).before 6 t d))
    ∗ (∃ d, owns (c : Thread nD τ) (bM7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
theorem bodyA (c : Dev nD) (t : Fin cfg0.N) (h0 : t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    leaves_0, leaves_1, leaves_2, leaves_3, leaves_4, leaves_5, leaves_6]
  rw [show (dats m 0 c).owesAt () t.succ = (dats m 0 c).owesAt () t.castSucc from rfl, inv_castSucc, inv_succ]
  rw [Dat.leavesExact_idle (dats m 0 c) 7 t (idle7 t h1) (noFlush7 t h1)]
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d2, H2⟩, ⟨%d3, H3⟩, ⟨%d4, H4⟩, ⟨%d5, H5⟩, ⟨%d6, H6⟩, ⟨%d7, H7⟩, ⟨%d8, H8⟩⟩
  iapply (runA c (grid0.coords t) (bM0 t) (bH0 t) (bM1 t) (bH1 t) (bM2 t) (bH2 t) (bM3 t) (bH3 t) (bM4 t) (bH4 t) (bM5 t) (bH5 t) (bM6 t) (bH6 t) (bM7 t) (bH7 t) sM0 hw0 sM1 hw1 ((first_iff t).mpr h0) (fun h => h1 ((final_iff t).mp h)) (iblk m c 0 t) (iblk m c 1 t) (iblk m c 2 t) (iblk m c 3 t) (iblk m c 4 t) (iblk m c 5 t) (iblk m c 6 t) _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_first m c t h0]
    exact ⟨rfl, pay2_first _ ((first_iff t).mpr h0) _ _ _ _ _ _⟩
  isplitl [Ho]; · iexact Ho
  isplitl [H0]; · iexact H0
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 3200000 in
theorem bodyB (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    leaves_0, leaves_1, leaves_2, leaves_3, leaves_4, leaves_5, leaves_6]
  rw [show (dats m 0 c).owesAt () t.succ = (dats m 0 c).owesAt () t.castSucc from rfl, inv_castSucc, inv_succ]
  rw [Dat.leavesExact_idle (dats m 0 c) 7 t (idle7 t h1) (noFlush7 t h1)]
  have hn0 : t.val ≠ 0 := fun h => h0 (by rw [h])
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs hn0
  iapply (runB c (grid0.coords t) (bM0 t) (bH0 t) (bM1 t) (bH1 t) (bM2 t) (bH2 t) (bM3 t) (bH3 t) (bM4 t) (bH4 t) (bM5 t) (bH5 t) (bM6 t) (bH6 t) (bM7 t) (bH7 t) sM0 hw0 sM1 hw1 (fun h => h0 ((first_iff t).mp h)) (fun h => h1 ((final_iff t).mp h)) (iblk m c 0 t) (iblk m c 1 t) (iblk m c 2 t) (iblk m c 3 t) (iblk m c 4 t) (iblk m c 5 t) (iblk m c 6 t) _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_next m c t h0]
    exact ⟨rfl, rfl⟩
  isplitl [Ho]; · iexact Ho
  isplitl [H0]; · iexact H0
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 3200000 in
theorem bodyC (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6,
    leaves_0, leaves_1, leaves_2, leaves_3, leaves_4, leaves_5, leaves_6]
  rw [show (dats m 0 c).owesAt () t.succ = (dats m 0 c).owesAt () t.castSucc from rfl, inv_castSucc, inv_succ]
  rw [leaves_7 m c t h1, st_next m c t h0]
  have hn0 : t.val ≠ 0 := fun h => h0 (by rw [h])
  have hw0 : (sM0).IsWhole := Memref.isWhole_whole _
  have hw1 : (sM1).IsWhole := Memref.isWhole_whole _
  unfold Inv
  iintro ⟨⟨%h, %a, %hs, HS0, HS1, Hg⟩, Ho, ⟨%d0, H0⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs hn0
  iapply (runC c (grid0.coords t) (bM0 t) (bH0 t) (bM1 t) (bH1 t) (bM2 t) (bH2 t) (bM3 t) (bH3 t) (bM4 t) (bH4 t) (bM5 t) (bH5 t) (bM6 t) (bH6 t) (bM7 t) (bH7 t) sM0 hw0 sM1 hw1 (fun h => h0 ((first_iff t).mp h)) ((final_iff t).mpr h1) (iblk m c 0 t) (iblk m c 1 t) (iblk m c 2 t) (iblk m c 3 t) (iblk m c 4 t) (iblk m c 5 t) (iblk m c 6 t) _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H2, H3, H4, H5, H6, H7, H8, HS0, HS1⟩
  isplitl [HS0 HS1 Hg]
  · iexists _; iexists _
    isplitr; swap
    · isplitl [HS0]; · iexact HS0
      isplitl [HS1]; · iexact HS1
      iexact Hg
    ipureintro
    intro _
    rw [st_next m c t h0]
    exact ⟨rfl, rfl⟩
  isplitl [Ho]; · iexact Ho
  isplitl [H0]; · iexact H0
  isplitl [H2]; · iexact H2
  isplitl [H3]; · iexact H3
  isplitl [H4]; · iexact H4
  isplitl [H5]; · iexact H5
  isplitl [H6]; · iexact H6
  isplitl [H7]; · iexact H7
  iexact H8

theorem body (c : Dev nD) (t : Fin cfg0.N) :
    bodyPre m c t ⊢ wp frame (wpE (defs₀ (F := F)) Variants.none c none) Set.univ (bodyAt0 t) (fun _ => bodyPost m c t) := by
  by_cases h0 : t.val % 11 = 0
  · exact bodyA m c t h0 (by omega)
  · by_cases h1 : t.val % 11 = 10
    · exact bodyC m c t h0 h1
    · exact bodyB m c t h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem hin (c : Dev nD) : Pipeline.ΦA spec0 c ⊢ (dats m 0 c).Φ 0 := by
  rw [show (dats m 0 c).Φ 0 = Inv m c 0 from rfl, phi0]
  unfold Inv
  iintro ⟨⟨⟨%d0, HS0⟩, ⟨%d1, HS1⟩⟩, Hg⟩
  iexists _; iexists _
  isplitr; swap
  · isplitl [HS0]; · iexact HS0
    isplitl [HS1]; · iexact HS1
    iexact Hg
  ipureintro
  exact fun h => absurd rfl h

theorem hout (c : Dev nD) : (dats m 0 c).Φ (Fin.last cfg0.N) ⊢ Pipeline.ΦA spec0 c := by
  rw [show (dats m 0 c).Φ (Fin.last cfg0.N) = Inv m c cfg0.N from rfl, phi0]
  unfold Inv
  iintro ⟨%h, %a, -, HS0, HS1, Hg⟩
  isplitl [HS0 HS1]
  · isplitl [HS0]
    · iexists _; iexact HS0
    iexists _; iexact HS1
  iexact Hg

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiet m ρ))

end Cert.FfnCtxIdeal.Hand

end
-- ==== Proof.FfnCtxArr.lean ====
/- The context's first feed-forward's output array, element by element. -/
module

public import proofs.«01_k».proof.Proof.FfnCtxVal
public import proofs.«01_k».proof.Proof.FfnFlat
public import proofs.«01_k».proof.Proof.FfnCtxFrame
public import Idealize.ShloMosaic.Lib.Tactic.IndexArith
public import Idealize.ShloMosaic.Lib.Pipeline.Value

@[expose] public section

set_option maxRecDepth 16384

noncomputable section

namespace Cert.FfnCtxIdeal.Hand

open Idealize.ShloMosaic Idealize.ShloMosaic.TcCoe Idealize.ShloMosaic.Tactic Idealize.SL.Sem
open Cert.FfnFlat
open Cert.FfnIdeal.Hand (part part_apply)
open Cert Cert.FfnCtxIdeal Cert.FfnCtxIdeal.Gen

/-- The blocks that grid point `t` uses. -/
theorem idx : ∀ t : Fin cfg0.N, win0_0.index t = ![0, t.val / 11, 0]
    ∧ win0_1.index t = ![4, 0, 0] ∧ win0_2.index t = ![0, 0] ∧ win0_3.index t = ![0, 0, t.val % 11] ∧ win0_4.index t = ![0, 0, t.val % 11]
    ∧ win0_5.index t = ![0, t.val % 11, 0] ∧ win0_6.index t = ![0, 0] ∧ win0_7.index t = ![0, t.val / 11, 0] := by
  decide +kernel

variable (m : (ℓ : Loc nD τ sig) → Buf (Elt Ideal) ℓ) (c : Dev nD)

theorem V_main_v0 : V m c main_v0 = truncf (F := Ideal) .bf16 (m ((c : Thread nD τ).loc main_arg3)) bitsLt_bf16_f32 := by
  unfold_abbrev_sides
  after_results

theorem V_main_v1 : V m c main_v1 = truncf (F := Ideal) .bf16 (m ((c : Thread nD τ).loc main_arg4)) bitsLt_bf16_f32 := by
  unfold_abbrev_sides
  after_results

theorem V_main_v2 : V m c main_v2 = truncf (F := Ideal) .bf16 (m ((c : Thread nD τ).loc main_arg5)) bitsLt_bf16_f32 := by
  unfold_abbrev_sides
  after_results

theorem V_main_v3 : V m c main_v3 = shapeCast S1x1024x2048 (m ((c : Thread nD τ).loc main_arg0)) shapeCasts_S4x256x2048_S1x1024x2048 := by
  unfold_abbrev_sides
  after_results
  rfl

theorem V_main_v4 : V m c main_v4 = shapeCast S1x2048 (m ((c : Thread nD τ).loc main_arg2)) shapeCasts_S2048_S1x2048 := by
  unfold_abbrev_sides
  after_results
  rfl

/-! ## The blocks' places -/

section
variable (t : Fin cfg0.N)

theorem tile_lt : t.val / 11 < 2 := by
  have h : t.val < 22 := Nat.lt_of_lt_of_eq t.isLt N_0
  omega

theorem x_apply (r : Fin 512) (e : Fin 2048) : iblk m c 0 t (ix3 0 r e)
    = m ((c : Thread nD τ).loc main_arg0) (flat ⟨512 * (t.val / 11) + r.val, by have := tile_lt t; omega⟩ e) := by
  obtain ⟨h0, h2, h3, h4, h5, h6, h7, h8⟩ := idx t
  have ht := tile_lt t
  have h : iblk m c 0 t (ix3 0 r e) = V m c main_v3 (ix3 0 ⟨512 * (t.val / 11) + r.val, by omega⟩ e) := by blk_ext [iblk, h0]
  rw [h, V_main_v3]
  exact flat_apply _ _ _ _

theorem mod_apply (k : Fin 9) (e : Fin 2048) : iblk m c 1 t (ix3 0 k e)
    = m ((c : Thread nD τ).loc main_arg1) (ix3 4 k e) := by
  obtain ⟨h0, h2, h3, h4, h5, h6, h7, h8⟩ := idx t
  rw [← V_main_arg1 m c]
  blk_ext [iblk, h2]

theorem g_apply (e : Fin 2048) : iblk m c 2 t (ix2 0 e) = m ((c : Thread nD τ).loc main_arg2) (ix1 e) := by
  obtain ⟨h0, h2, h3, h4, h5, h6, h7, h8⟩ := idx t
  have h : iblk m c 2 t (ix2 0 e) = V m c main_v4 (ix2 0 e) := by blk_ext [iblk, h3]
  rw [h, V_main_v4]
  pointwise

theorem wg_apply (k : Fin 2048) (j : Fin 512) : iblk m c 3 t (ix3 0 k j)
    = m ((c : Thread nD τ).loc main_arg3) (ix3 0 k ⟨t.val % 11 * 512 + j.val, by omega⟩) := by
  obtain ⟨h0, h2, h3, h4, h5, h6, h7, h8⟩ := idx t
  have h : iblk m c 3 t (ix3 0 k j) = V m c main_v0 (ix3 0 k ⟨t.val % 11 * 512 + j.val, by omega⟩) := by blk_ext [iblk, h4]
  rw [h, V_main_v0]
  rfl

theorem wu_apply (k : Fin 2048) (j : Fin 512) : iblk m c 4 t (ix3 0 k j)
    = m ((c : Thread nD τ).loc main_arg4) (ix3 0 k ⟨t.val % 11 * 512 + j.val, by omega⟩) := by
  obtain ⟨h0, h2, h3, h4, h5, h6, h7, h8⟩ := idx t
  have h : iblk m c 4 t (ix3 0 k j) = V m c main_v1 (ix3 0 k ⟨t.val % 11 * 512 + j.val, by omega⟩) := by blk_ext [iblk, h5]
  rw [h, V_main_v1]
  rfl

theorem wd_apply (j : Fin 512) (e : Fin 2048) : iblk m c 5 t (ix3 0 j e)
    = m ((c : Thread nD τ).loc main_arg5) (ix3 0 ⟨t.val % 11 * 512 + j.val, by omega⟩ e) := by
  obtain ⟨h0, h2, h3, h4, h5, h6, h7, h8⟩ := idx t
  have h : iblk m c 5 t (ix3 0 j e) = V m c main_v2 (ix3 0 ⟨t.val % 11 * 512 + j.val, by omega⟩ e) := by blk_ext [iblk, h6]
  rw [h, V_main_v2]
  rfl
end

/-! ## The scratch buffers -/

/-- The normalised rows of point `t`'s tile. -/
def hAt (t : Fin cfg0.N) : Vec Ideal S512x2048 .bf16 := hOf (iblk m c 0 t) (iblk m c 1 t) (iblk m c 2 t)

/-- Points of one tile share them. -/
theorem hAt_same (t t' : Fin cfg0.N) (h : t.val / 11 = t'.val / 11) : hAt m c t = hAt m c t' := by
  funext y
  obtain ⟨r, e, rfl⟩ : ∃ (r : Fin 512) (e : Fin 2048), y = ix2 r e := ⟨y 0, y 1, funext fun a => by fin_cases a <;> rfl⟩
  unfold hAt
  rw [hOf_apply, hOf_apply]
  simp only [x_apply, mod_apply, g_apply, h]

theorem st_h (n : ℕ) : ∀ hn : n < cfg0.N, (st m c (n + 1)).1 = hAt m c ⟨n, hn⟩ := by
  induction n with
  | zero => intro hn; exact congrArg Prod.fst (st_first m c ⟨0, hn⟩ rfl)
  | succ n ih =>
    intro hn
    by_cases h0 : (n + 1) % 11 = 0
    · exact congrArg Prod.fst (st_first m c ⟨n + 1, hn⟩ h0)
    · refine (congrArg Prod.fst (st_next m c ⟨n + 1, hn⟩ h0)).trans ((ih (by omega)).trans ?_)
      exact hAt_same m c _ _ (by dsimp only; omega)

/-- The accumulator at a tile's last point. -/
theorem st_acc (t : Fin cfg0.N) (ht : t.val % 11 = 10) (r : Fin 512) (e : Fin 2048) : (st m c (t.val + 1)).2 (ix2 r e)
    = ∑ j : Fin 5632, FfnSpec.act (fun k => hAt m c t (ix2 r k)) (fun k => m ((c : Thread nD τ).loc main_arg3) (ix3 0 k j))
      (fun k => m ((c : Thread nD τ).loc main_arg4) (ix3 0 k j)) * m ((c : Thread nD τ).loc main_arg5) (ix3 0 j e) := by
  refine (Pipeline.eq_sum_fin_of_reset_step_apply_of_flush (N := cfg0.N) (fun n _ => (st m c (n + 1)).2) 11 (fun _ => (0 : EReal))
    (fun t => part (hAt m c t) (iblk m c 3 t) (iblk m c 4 t) (iblk m c 5 t)) (fun t h y => ?_) (fun t h y => ?_) t ht (ix2 r e)).trans ?_
  · rw [st_first m c t h]
    exact pay2_reset _ ((first_iff t).mpr h) _ _ _ _ _ _
  · have hn : t.val - 1 + 1 = t.val := by omega
    have hh : (st m c t.val).1 = hAt m c t := by
      have := st_h m c t.val t.isLt
      rw [st_next m c t h] at this
      exact this
    rw [st_next m c t h, hn, hh]
    exact pay2_step _ (fun h' => h ((first_iff t).mp h')) _ _ _ _ _ _
  · rw [zero_add]
    simp only [part_apply]
    refine Fin.sum_mul_add_congr (S := 11) (n := 512) fun s k hl => ?_
    have hm : (11 * (t.val / 11) + s.val) % 11 = s.val := by omega
    rw [hAt_same m c ⟨11 * (t.val / 11) + s.val, _⟩ t (by dsimp only; omega)]
    simp only [wg_apply, wu_apply, wd_apply, hm]

/-- The result, element by element. -/
def outArr (x : Vec Ideal S4x256x2048 .f32) (mod : Vec Ideal S8x9x2048 .f32) (g : Vec Ideal S2048 .f32)
    (wg wu : Vec Ideal S2x2048x5632 .f32) (wd : Vec Ideal S2x5632x2048 .f32)
    (i : S1x1024x2048.Idx) : EReal :=
  FfnSpec.mid (fun k => x (flat (i 1) k)) (fun k => g (ix1 k))
    (fun k => mod (ix3 4 0 k)) (fun k => mod (ix3 4 1 k))
    (fun k => mod (ix3 4 2 k))
    (fun j k => wg (ix3 0 k j)) (fun j k => wu (ix3 0 k j)) (fun j k => wd (ix3 0 j k)) (i 2)

/-- The array after the run. -/
theorem arr_eq (x : Vec Ideal S4x256x2048 .f32) (mod : Vec Ideal S8x9x2048 .f32) (g : Vec Ideal S2048 .f32)
    (wg wu : Vec Ideal S2x2048x5632 .f32) (wd : Vec Ideal S2x5632x2048 .f32)
    (hx : m ((c : Thread nD τ).loc main_arg0) = x) (hmod : m ((c : Thread nD τ).loc main_arg1) = mod)
    (hg : m ((c : Thread nD τ).loc main_arg2) = g) (hwg : m ((c : Thread nD τ).loc main_arg3) = wg) (hwu : m ((c : Thread nD τ).loc main_arg4) = wu)
    (hwd : m ((c : Thread nD τ).loc main_arg5) = wd) :
    (dats m 0 c).arrAt 7 cfg0.N = outArr x mod g wg wu wd := by
  subst hx hmod hg hwg hwu hwd
  refine (dats m 0 c).arrAt_eq_of_covers 7 _ (by decide +kernel) fun t hf z => ?_
  have ht : t.val % 11 = 10 := by
    by_contra h
    rw [noFlush7 t h] at hf
    exact absurd hf (by decide)
  obtain ⟨r, e, rfl⟩ : ∃ (r : Fin 512) (e : Fin 2048), z = ix3 0 r e :=
    ⟨z 1, z 2, funext fun a => by
      fin_cases a <;> first | rfl | exact Fin.ext (by have := (z 0).isLt; change (z 0).val < 1 at this; change (z 0).val = 0; omega)⟩
  blk_simp
  rw [after_7, oOf_apply]
  have he : (win0_7.blk t).view.emb (ix3 0 r e) = ix3 0 ⟨512 * (t.val / 11) + r.val, by have := tile_lt t; omega⟩ e := by
    obtain ⟨h0, h2, h3, h4, h5, h6, h7, h8⟩ := idx t
    blk_ext [h8]
  rw [he]
  unfold outArr FfnSpec.mid
  dsimp only [ix3]
  simp only [st_acc m c t ht]
  unfold hAt
  simp only [hOf_apply, x_apply, mod_apply, g_apply]

end Cert.FfnCtxIdeal.Hand

end
-- ==== Proof.FfnCtxRef.lean ====
/- The context's first feed-forward's reference, element by element. -/
module

public import proofs.«01_k».proof.Proof.FfnSpec
public import proofs.«01_k».proof.Proof.FfnFlat
public import proofs.«01_k».proof.Proof.Gen.FfnCtxReferenceIdeal.Run
public import Idealize.ShloMosaic.Lib.IdealHost

@[expose] public section

set_option maxRecDepth 16384

noncomputable section

namespace Cert.FfnCtxReferenceIdeal.Hand

open Idealize.ShloMosaic Idealize.ShloMosaic.TcCoe Idealize.ShloMosaic.Tactic
open Cert.FfnFlat
open Cert Cert.FfnCtxReferenceIdeal Cert.FfnCtxReferenceIdeal.Gen

/-- One vector along all rows. -/
def all (g : FVec Ideal S2048 .f32) : FVec Ideal S4x256x2048 .f32 :=
  broadcastInDim S4x256x2048 ![0, 1, 2] bcast_S1x1x2048_S4x256x2048_0_1_2 (broadcastInDim S1x1x2048 ![2] bcast_S2048_S1x1x2048_2 g)

def shR (mod : FVec Ideal S8x9x2048 .f32) : FVec Ideal S2048 .f32 :=
  shapeCast S2048 (extractStridedSlice S1x1x2048 ![4, 0, 0] mod slices_S8x9x2048_S1x1x2048_4_0_0) shapeCasts_S1x1x2048_S2048

def scR (mod : FVec Ideal S8x9x2048 .f32) : FVec Ideal S2048 .f32 :=
  shapeCast S2048 (extractStridedSlice S1x1x2048 ![4, 1, 0] mod slices_S8x9x2048_S1x1x2048_4_1_0) shapeCasts_S1x1x2048_S2048

def g3R (mod : FVec Ideal S8x9x2048 .f32) : FVec Ideal S2048 .f32 :=
  shapeCast S2048 (extractStridedSlice S1x1x2048 ![4, 2, 0] mod slices_S8x9x2048_S1x1x2048_4_2_0) shapeCasts_S1x1x2048_S2048

/-- One over the rows' root mean squares. -/
def rsR (y : FVec Ideal S4x256x2048 .f32) : FVec Ideal S4x256x1 .f32 :=
  Host.rsqrt (addf (Host.divf (broadcastInDim S4x256x1 ![0, 1] bcast_S4x256_S4x256x1_0_1
      (Host.reduceAdd (mulf y y) (constant S_ .f32 0x00000000#32) reducesTo_S4x256x2048_S4x256_d2 h_S_))
    (broadcastInDim S4x256x1 ![] bcast_S_S4x256x1 (constant S_ .f32 0x45000000#32)))
    (broadcastInDim S4x256x1 ![] bcast_S_S4x256x1 (constant S_ .f32 0x358637BD#32)))

/-- The rows normalised and scaled. -/
def nR (y : FVec Ideal S4x256x2048 .f32) (g : FVec Ideal S2048 .f32) : FVec Ideal S4x256x2048 .f32 :=
  mulf (mulf y (broadcastInDim S4x256x2048 ![0, 1, 2] bcast_S4x256x1_S4x256x2048_0_1_2 (rsR y))) (all g)

/-- … and modulated. -/
def hR (y : FVec Ideal S4x256x2048 .f32) (g : FVec Ideal S2048 .f32) (mod : FVec Ideal S8x9x2048 .f32) : FVec Ideal S4x256x2048 .f32 :=
  addf (mulf (nR y g) (all (addf (broadcastInDim S2048 ![] bcast_S_S2048 (constant S_ .f32 0x3F800000#32)) (scR mod)))) (all (shR mod))

/-- A projection to the hidden dimension. -/
def upR (h : FVec Ideal S4x256x2048 .f32) (w : FVec Ideal S2x2048x5632 .f32) : FVec Ideal S4x256x5632 .f32 :=
  Host.dotGeneral dot_S4x256x2048_S2048x5632_S4x256x5632_2_0_01_1_n_n none h
    (shapeCast S2048x5632 (extractStridedSlice S1x2048x5632 ![0, 0, 0] w slices_S2x2048x5632_S1x2048x5632_0_0_0) shapeCasts_S1x2048x5632_S2048x5632)

/-- The gate's silu. -/
def siluR (a : FVec Ideal S4x256x5632 .f32) : FVec Ideal S4x256x5632 .f32 :=
  mulf a (Host.divf (broadcastInDim S4x256x5632 ![] bcast_S_S4x256x5632 (constant S_ .f32 0x3F800000#32))
    (addf (broadcastInDim S4x256x5632 ![] bcast_S_S4x256x5632 (constant S_ .f32 0x3F800000#32)) (Host.exp (Host.negf a))))

/-- The projection back. -/
def dnR (a : FVec Ideal S4x256x5632 .f32) (w : FVec Ideal S2x5632x2048 .f32) : FVec Ideal S4x256x2048 .f32 :=
  Host.dotGeneral dot_S4x256x5632_S5632x2048_S4x256x2048_2_0_01_1_n_n none a
    (shapeCast S5632x2048 (extractStridedSlice S1x5632x2048 ![0, 0, 0] w slices_S2x5632x2048_S1x5632x2048_0_0_0) shapeCasts_S1x5632x2048_S5632x2048)

/-- The residual sum. -/
def yR (y : FVec Ideal S4x256x2048 .f32) (mod : FVec Ideal S8x9x2048 .f32) (z : FVec Ideal S4x256x2048 .f32) : FVec Ideal S4x256x2048 .f32 :=
  addf y (mulf (all (mulf (broadcastInDim S2048 ![] bcast_S_S2048 (constant S_ .f32 0x3F000000#32)) (g3R mod))) z)

/-- The result of the arguments. -/
def resR (x : FVec Ideal S4x256x2048 .f32) (mod : FVec Ideal S8x9x2048 .f32) (g : FVec Ideal S2048 .f32)
    (wg wu : FVec Ideal S2x2048x5632 .f32) (wd : FVec Ideal S2x5632x2048 .f32) : FVec Ideal S1x1024x2048 .f32 :=
  shapeCast S1x1024x2048 (yR x mod (dnR (mulf (siluR (upR (hR x g mod) wg)) (upR (hR x g mod) wu)) wd)) shapeCasts_S4x256x2048_S1x1024x2048

set_option maxHeartbeats 4000000 in
theorem res_eq (m : (ℓ : Loc nD τ sig) → Buf (Elt Ideal) ℓ) (c : Dev nD) : Value.res_main_v44 m c
    = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v44
  rfl

section
variable (b : Fin 4) (r : Fin 256) (e : Fin 2048)

theorem all_apply (g : FVec Ideal S2048 .f32) : all g (ix3 b r e) = g (ix1 e) := by
  pointwise [all]

theorem shR_apply (mod : FVec Ideal S8x9x2048 .f32) : shR mod (ix1 e) = mod (ix3 4 0 e) := by
  pointwise [shR]

theorem scR_apply (mod : FVec Ideal S8x9x2048 .f32) : scR mod (ix1 e) = mod (ix3 4 1 e) := by
  pointwise [scR]

theorem g3R_apply (mod : FVec Ideal S8x9x2048 .f32) : g3R mod (ix1 e) = mod (ix3 4 2 e) := by
  pointwise [g3R]

theorem rsR_apply (y : FVec Ideal S4x256x2048 .f32) : rsR y (ix3 b r 0) = FfnSpec.rms fun k => y (ix3 b r k) := by
  pointwise [rsR, FfnSpec.rms]

theorem nR_apply (y : FVec Ideal S4x256x2048 .f32) (g : FVec Ideal S2048 .f32) :
    nR y g (ix3 b r e) = FfnSpec.nrm (fun k => y (ix3 b r k)) (fun k => g (ix1 k)) e := by
  unfold FfnSpec.nrm
  dsimp only
  rw [← rsR_apply b r y, ← all_apply b r e g]
  pointwise [nR]

theorem hR_apply (y : FVec Ideal S4x256x2048 .f32) (g : FVec Ideal S2048 .f32) (mod : FVec Ideal S8x9x2048 .f32) :
    hR y g mod (ix3 b r e) = FfnSpec.hid (fun k => y (ix3 b r k)) (fun k => g (ix1 k)) (fun k => mod (ix3 4 0 k))
      (fun k => mod (ix3 4 1 k)) e := by
  have h1 := nR_apply b r e y g
  unfold FfnSpec.nrm at h1
  dsimp only at h1
  unfold FfnSpec.hid
  dsimp only
  rw [← h1, ← shR_apply e mod, ← scR_apply e mod]
  pointwise [hR, all]

theorem upR_apply (h : FVec Ideal S4x256x2048 .f32) (w : FVec Ideal S2x2048x5632 .f32) (j : Fin 5632) :
    upR h w (ix3 b r j) = ∑ k : Fin 2048, h (ix3 b r k) * w (ix3 0 k j) := by
  pointwise [upR]

theorem siluR_apply (a : FVec Ideal S4x256x5632 .f32) (j : Fin 5632) :
    siluR a (ix3 b r j) = a (ix3 b r j) * Ideal.div 1 (1 + Ideal.exp (-(a (ix3 b r j)))) := by
  pointwise [siluR]

theorem dnR_apply (a : FVec Ideal S4x256x5632 .f32) (w : FVec Ideal S2x5632x2048 .f32) :
    dnR a w (ix3 b r e) = ∑ j : Fin 5632, a (ix3 b r j) * w (ix3 0 j e) := by
  pointwise [dnR]

theorem yR_apply (y : FVec Ideal S4x256x2048 .f32) (mod : FVec Ideal S8x9x2048 .f32) (z : FVec Ideal S4x256x2048 .f32) :
    yR y mod z (ix3 b r e) = FfnSpec.add (fun k => y (ix3 b r k)) (fun k => mod (ix3 4 2 k)) (fun k => z (ix3 b r k)) e := by
  unfold FfnSpec.add
  dsimp only
  rw [← g3R_apply e mod]
  pointwise [yR, all]

theorem midR_apply (x : FVec Ideal S4x256x2048 .f32) (mod : FVec Ideal S8x9x2048 .f32) (g : FVec Ideal S2048 .f32)
    (wg wu : FVec Ideal S2x2048x5632 .f32) (wd : FVec Ideal S2x5632x2048 .f32) :
    yR x mod (dnR (mulf (siluR (upR (hR x g mod) wg)) (upR (hR x g mod) wu)) wd) (ix3 b r e) = FfnSpec.mid (fun k => x (ix3 b r k)) (fun k => g (ix1 k))
      (fun k => mod (ix3 4 0 k)) (fun k => mod (ix3 4 1 k)) (fun k => mod (ix3 4 2 k))
      (fun j k => wg (ix3 0 k j)) (fun j k => wu (ix3 0 k j)) (fun j k => wd (ix3 0 j k)) e := by
  unfold FfnSpec.mid FfnSpec.act
  simp only [yR_apply, dnR_apply, mulf_apply, siluR_apply, upR_apply, hR_apply, Ideal.mulf_def]

end

theorem resR_apply (r : Fin 1024) (e : Fin 2048) (x : FVec Ideal S4x256x2048 .f32) (mod : FVec Ideal S8x9x2048 .f32) (g : FVec Ideal S2048 .f32)
    (wg wu : FVec Ideal S2x2048x5632 .f32) (wd : FVec Ideal S2x5632x2048 .f32) :
    resR x mod g wg wu wd (ix3 0 r e) = FfnSpec.mid (fun k => x (flat r k)) (fun k => g (ix1 k))
      (fun k => mod (ix3 4 0 k)) (fun k => mod (ix3 4 1 k)) (fun k => mod (ix3 4 2 k))
      (fun j k => wg (ix3 0 k j)) (fun j k => wu (ix3 0 k j)) (fun j k => wd (ix3 0 j k)) e :=
  (flat_apply _ _ r e).trans (midR_apply _ _ e x mod g wg wu wd)

end Cert.FfnCtxReferenceIdeal.Hand

end
-- ==== Proof.FfnCtxAll.lean ====
/- The context's first feed-forward's claims: its three frames, and the kernel and the reference ending with equal results. -/
module

public import proofs.«01_k».proof.Defs
public import proofs.«01_k».proof.Proof.Gen.FfnCtx
public import proofs.«01_k».proof.Proof.Gen.FfnCtx.Skeleton
public import proofs.«01_k».proof.Proof.Gen.FfnCtx.Loops
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxReferenceIdeal
public import proofs.«01_k».proof.Proof.FfnCtxArr
public import proofs.«01_k».proof.Proof.FfnCtxRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.Tactic Idealize.SL.Sem

theorem ffnCtx_frame_ideal : Cert.quiescent_FfnCtxIdeal (hFfnCtxIdeal := Cert.FfnCtxIdeal.Gen.facts) := fun m ρ _ => Cert.FfnCtxIdeal.Hand.frame m ρ

/-- The two printed programs have one body table at the bit patterns. -/
theorem ffnCtx_defs : @Cert.FfnCtx.defs Bits _ Cert.FfnCtx.Gen.facts = @Cert.FfnCtxIdeal.defs Bits _ Cert.FfnCtxIdeal.Gen.facts := by
  refine congrArg (Pipeline.defs _) ?_
  unfold Cert.FfnCtx.defs₀ Cert.FfnCtxIdeal.defs₀
  refine congrArg Defs.onTc (funext fun l => funext fun a => ?_)
  match l with
  | 0 => rfl

/-- The printed kernel's frame: the same run, at the bit patterns. -/
theorem ffnCtx_frame : Cert.quiescent_FfnCtx (hFfnCtx := Cert.FfnCtx.Gen.facts) := fun m ρ _ => by
  have h := Cert.FfnCtxIdeal.Hand.frame (F := Bits) m ρ
  rw [← ffnCtx_defs] at h
  exact h

theorem ffnCtx_ref_frame : Cert.quiescent_FfnCtxReferenceIdeal (hFfnCtxReferenceIdeal := Cert.FfnCtxReferenceIdeal.Gen.facts) := fun m ρ _ =>
  (θ_run Cert.FfnCtxReferenceIdeal.defs _ _).mono (fun r h => ⟨fun c => (h c).2, sem_eq_zero_of_no_sems (by decide) r.2⟩)
    (Cert.FfnCtxReferenceIdeal.Value.run (F := Ideal) m ρ)

theorem ffnCtx : Cert.algebraic_FfnCtxIdeal_FfnCtxReferenceIdeal
    (hFfnCtxIdeal := Cert.FfnCtxIdeal.Gen.facts) (hFfnCtxReferenceIdeal := Cert.FfnCtxReferenceIdeal.Gen.facts) := by
  intro m g m' g' _ hm
  refine ⟨fun c => (Cert.FfnCtxIdeal.Hand.dats m 0 c).arrAt 7 Cert.FfnCtxIdeal.cfg0.N,
    (θ_run Cert.FfnCtxIdeal.defs _ _).mono (fun r h c => ⟨(h.1 c).1 7, h.2.1 c⟩)
      (θ_run_and (Cert.FfnCtxIdeal.Hand.run_main m g) (Cert.FfnCtxIdeal.Hand.frame m g)), ?_⟩
  refine (θ_run Cert.FfnCtxReferenceIdeal.defs _ _).mono (fun r h c => ⟨(h c).1.trans ?_, (h c).2⟩) (Cert.FfnCtxReferenceIdeal.Value.run (F := Ideal) m' g')
  obtain ⟨h0, h1, h2, h3, h4, h5, h6⟩ := hm c
  refine (Cert.FfnCtxReferenceIdeal.Hand.res_eq m' c).trans ?_
  refine Eq.trans ?_ (Cert.FfnCtxIdeal.Hand.arr_eq m c _ _ _ _ _ _ h0.symm h1.symm h2.symm h3.symm h4.symm h5.symm).symm
  funext i
  obtain ⟨r, e, rfl⟩ : ∃ (r : Fin 1024) (e : Fin 2048), i = ix3 0 r e :=
    ⟨i 1, i 2, funext fun a => by fin_cases a; exacts [Subsingleton.elim (α := Fin 1) _ _, rfl, rfl]⟩
  exact Cert.FfnCtxReferenceIdeal.Hand.resR_apply r e _ _ _ _ _ _

end Cert.Proof

end
-- ==== Proof.ProjSpec.lean ====
/- The projection on the extended reals: one token's row of the in-projection. -/
module

public import proofs.«01_k».proof.Proof.Soft

@[expose] public section

noncomputable section

namespace Cert.ProjSpec

open Idealize.ShloMosaic

/-- A head normalised by its root mean square and scaled. -/
def hn (t g : Fin 128 → EReal) (d : Fin 128) : EReal :=
  t d * Ideal.rsqrt (Ideal.div (∑ k, t k * t k) (Ideal.ofBits .f32 0x43000000#32) + Ideal.ofBits .f32 0x358637BD#32) * g d

/-- A head turned: its first half against its second. -/
def turn (y : Fin 128 → EReal) (cs sn : Fin 64 → EReal) (d : Fin 128) : EReal :=
  if h : d.val < 64 then y d * cs ⟨d.val, h⟩ - y ⟨d.val + 64, by omega⟩ * sn ⟨d.val, h⟩
  else y ⟨d.val - 64, by omega⟩ * sn ⟨d.val - 64, by omega⟩ + y d * cs ⟨d.val - 64, by omega⟩

/-- The same by one rotation of the head and two tables. -/
def kturn (y cb sb : Fin 128 → EReal) (d : Fin 128) : EReal :=
  y d * cb d + y ⟨(d.val + 64) % 128, Nat.mod_lt _ (by norm_num)⟩ * sb d

/-- The two tables: the cosines twice, and the sines, negated first. -/
def cosT (cs : Fin 64 → EReal) (d : Fin 128) : EReal := cs ⟨d.val % 64, Nat.mod_lt _ (by norm_num)⟩

def sinT (sn : Fin 64 → EReal) (d : Fin 128) : EReal :=
  if d.val < 64 then -sn ⟨d.val % 64, Nat.mod_lt _ (by norm_num)⟩ else sn ⟨d.val % 64, Nat.mod_lt _ (by norm_num)⟩

theorem kturn_eq (y : Fin 128 → EReal) (cs sn : Fin 64 → EReal) (d : Fin 128) : kturn y (cosT cs) (sinT sn) d = turn y cs sn d := by
  have hd := d.isLt
  unfold kturn turn cosT sinT
  by_cases h : d.val < 64
  · rw [dif_pos h, if_pos h, show (⟨d.val % 64, Nat.mod_lt _ (by norm_num)⟩ : Fin 64) = ⟨d.val, h⟩ from Fin.ext (Nat.mod_eq_of_lt h),
      show (⟨(d.val + 64) % 128, Nat.mod_lt _ (by norm_num)⟩ : Fin 128) = ⟨d.val + 64, by omega⟩ from Fin.ext (Nat.mod_eq_of_lt (by omega)),
      mul_neg, ← sub_eq_add_neg]
  · rw [dif_neg h, if_neg h, show (⟨d.val % 64, Nat.mod_lt _ (by norm_num)⟩ : Fin 64) = ⟨d.val - 64, by omega⟩ from Fin.ext (by dsimp only; omega),
      show (⟨(d.val + 64) % 128, Nat.mod_lt _ (by norm_num)⟩ : Fin 128) = ⟨d.val - 64, by omega⟩ from Fin.ext (by dsimp only; omega), add_comm]

/-- A gain's even entries, then its odd ones. -/
def halves (g : Fin 128 → EReal) (d : Fin 128) : EReal := g ⟨2 * (d.val % 64) + d.val / 64, by omega⟩

/-- A token's whole row: queries' and keys' heads normalised and turned, the rest as projected. -/
def row (z : Fin 11264 → EReal) (qg kg : Fin 128 → EReal) (cs sn : Fin 64 → EReal) (j : Fin 11264) : EReal :=
  if j.val < 2048 then turn (hn (fun d => z ⟨128 * (j.val / 128) + d.val, by omega⟩) (halves qg)) cs sn ⟨j.val % 128, Nat.mod_lt _ (by norm_num)⟩
  else if j.val < 2560 then turn (hn (fun d => z ⟨128 * (j.val / 128) + d.val, by omega⟩) (halves kg)) cs sn ⟨j.val % 128, Nat.mod_lt _ (by norm_num)⟩
  else z j

theorem lit_inv : Ideal.ofBits .bf16 0x3C00#16 = ((1 / 128 : ℝ) : EReal) := by
  simp [Ideal.ofBits, Ideal.ieee, -EReal.coe_mul]; norm_num

theorem lit_128 : Ideal.ofBits .f32 0x43000000#32 = ((128 : ℝ) : EReal) := by
  simp [Ideal.ofBits, Ideal.ieee, -EReal.coe_mul]; norm_num

/-- A finite sum times a nonnegative real. -/
theorem sum_scaled {ι : Type*} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- The mean of squares by a product with a constant matrix. -/
theorem mean_sq (t : Fin 128 → EReal) : ∑ k, t k * t k * Ideal.ofBits .bf16 0x3C00#16 = Ideal.div (∑ k, t k * t k) (Ideal.ofBits .f32 0x43000000#32) := by
  rw [lit_inv, lit_128, sum_scaled _ _ _ (by norm_num)]
  unfold Ideal.div
  rw [if_neg (by exact_mod_cast (by norm_num : (128 : ℝ) ≠ 0)), ← EReal.coe_inv]
  norm_num

end Cert.ProjSpec

end
-- ==== Proof.ProjBody.lean ====
/- The projection's body at its four kinds of points: what it leaves in the two buffers. -/
module

public import proofs.«01_k».proof.Proof.FfnRun
public import proofs.«01_k».proof.Proof.Gen.ProjIdeal.Skeleton
public import proofs.«01_k».proof.Proof.Gen.ProjIdeal.Loops
public import proofs.«01_k».proof.Proof.Gen.ProjIdeal.Points
public import proofs.«01_k».proof.Proof.Gen.ProjIdeal.Frame
public import Idealize.ShloMosaic.Lib.Pipeline.ValueKit
public import Idealize.ShloMosaic.Lib.Pipeline.ReadBack

@[expose] public section

set_option maxRecDepth 65536

noncomputable section

namespace Cert.ProjIdeal.Hand

open Idealize.ShloMosaic Idealize.ShloMosaic.TcCoe Idealize.ShloMosaic.Tactic
open Cert.FfnIdeal.Hand (mrow ld_congr)
open Cert.ProjIdeal Cert.ProjIdeal.Gen

variable {F : FTy → Type} [FloatOps F]

/-! ## What the body computes -/

theorem inb3 (k : ℕ) : ∀ a, (![0, 16 * (k % 64), 0] : Fin 3 → ℕ) a + S1x16x2048.size a ≤ S1x1024x2048.size a := by
  intro a; fin_cases a <;> simp <;> omega

/-- Sixteen rows of a block of 1024. -/
def rows (x : Vec F S1x1024x2048 .f32) (k : ℕ) : Vec F S1x16x2048 .f32 :=
  View.ld x (Rect.unit ![0, 16 * (k % 64), 0] S1x16x2048.size (inb3 k))

/-- A row's place in its group of sixteen. -/
def sub (y : S1024x2048.Idx) : S16x2048.Idx := ValueIdx.ix2 ⟨(y 0).val % 16, Nat.mod_lt _ (by norm_num)⟩ (y 1)

/-- The normalised, modulated block: what the first of a tile's points leaves in the scratch. -/
def hOf (x0 : Vec F S1x1024x2048 .f32) (x1 : Vec F S1x9x2048 .f32) (x2 : Vec F S1x2048 .f32) : Vec F S1024x2048 .bf16 :=
  fun y => k0_pay1 (mrow x1 3) x2 (mrow x1 4) (rows x0 ((y 0).val / 16)) (sub y)

/-- One of the two gains. -/
def gain (x : Vec F S2x128 .f32) (r : Fin 2) : Vec F S1x128 .f32 :=
  View.ld x (Rect.unit ![r.val, 0] S1x128.size (by intro a; fin_cases r <;> fin_cases a <;> simp))

/-- One head normalised. -/
def nrmT (t : FVec F S1024x128 .f32) (g : Vec F S1x128 .f32) : FVec F S1024x128 .f32 :=
  mulf (mulf t (rsqrt (addf (matmul dot_S1024x128_S128x128_S1024x128_1_0_0_1_n_n none (truncf .bf16 (mulf t t) bitsLt_bf16_f32)
      (broadcast S128x128 (Scalar.ofBits .bf16 0x3C00#16)) (constant S1024x128 .f32 0x00000000#32))
    (broadcast S1024x128 (Scalar.ofBits .f32 0x358637BD#32)))))
    (broadcastTo S1024x128 (shapeCast S1x128 g shapeCasts_S1x128_S1x128) broadcasts_S1x128_S1024x128)

/-- One head normalised and turned. -/
def headT (t : FVec F S1024x128 .f32) (g : Vec F S1x128 .f32) (cb sb : Vec F S1024x128 .f32) : FVec F S1x1024x128 .bf16 :=
  shapeCast S1x1024x128 (truncf .bf16 (addf
    (mulf (nrmT t g) (shapeCast S1024x128 cb shapeCasts_S1024x128_S1024x128))
    (mulf (dynamicRotate 1 64#32 none (nrmT t g) rotates_S1024x128_d1) (shapeCast S1024x128 sb shapeCasts_S1024x128_S1024x128)))
    bitsLt_bf16_f32) shapeCasts_S1024x128_S1x1024x128

/-- The first four heads' stores. -/
def put4 (z : FVec F S1024x1024 .f32) (g : Vec F S1x128 .f32) (cb sb : Vec F S1024x128 .f32) :
    List (View.Piece (Elt F) S1x1024x1024 .bf16) :=
  [⟨Rect.unit ![0, 0, 384] S1x1024x128.size inb_S1x1024x1024_S1x1024x128_0_0_384, headT (extractStridedSlice S1024x128 ![0, 384] z slices_S1024x1024_o0_384_S1024x128) g cb sb⟩,
   ⟨Rect.unit ![0, 0, 256] S1x1024x128.size inb_S1x1024x1024_S1x1024x128_0_0_256, headT (extractStridedSlice S1024x128 ![0, 256] z slices_S1024x1024_o0_256_S1024x128) g cb sb⟩,
   ⟨Rect.unit ![0, 0, 128] S1x1024x128.size inb_S1x1024x1024_S1x1024x128_0_0_128, headT (extractStridedSlice S1024x128 ![0, 128] z slices_S1024x1024_o0_128_S1024x128) g cb sb⟩,
   ⟨Rect.unit ![0, 0, 0] S1x1024x128.size inb_S1x1024x1024_S1x1024x128_0_0_0, headT (extractStridedSlice S1024x128 ![0, 0] z slices_S1024x1024_o0_0_S1024x128) g cb sb⟩]

/-- Eight heads' stores. -/
def put8 (z : FVec F S1024x1024 .f32) (g : Vec F S1x128 .f32) (cb sb : Vec F S1024x128 .f32) :
    List (View.Piece (Elt F) S1x1024x1024 .bf16) :=
  [⟨Rect.unit ![0, 0, 896] S1x1024x128.size inb_S1x1024x1024_S1x1024x128_0_0_896, headT (extractStridedSlice S1024x128 ![0, 896] z slices_S1024x1024_o0_896_S1024x128) g cb sb⟩,
   ⟨Rect.unit ![0, 0, 768] S1x1024x128.size inb_S1x1024x1024_S1x1024x128_0_0_768, headT (extractStridedSlice S1024x128 ![0, 768] z slices_S1024x1024_o0_768_S1024x128) g cb sb⟩,
   ⟨Rect.unit ![0, 0, 640] S1x1024x128.size inb_S1x1024x1024_S1x1024x128_0_0_640, headT (extractStridedSlice S1024x128 ![0, 640] z slices_S1024x1024_o0_640_S1024x128) g cb sb⟩,
   ⟨Rect.unit ![0, 0, 512] S1x1024x128.size inb_S1x1024x1024_S1x1024x128_0_0_512, headT (extractStridedSlice S1024x128 ![0, 512] z slices_S1024x1024_o0_512_S1024x128) g cb sb⟩]
    ++ put4 z g cb sb

/-- Four heads' and the values' stores. -/
def putV (z : FVec F S1024x1024 .f32) (g : Vec F S1x128 .f32) (cb sb : Vec F S1024x128 .f32) :
    List (View.Piece (Elt F) S1x1024x1024 .bf16) :=
  ⟨Rect.unit ![0, 0, 512] S1x1024x512.size inb_S1x1024x1024_S1x1024x512_0_0_512, shapeCast S1x1024x512
      (truncf .bf16 (extractStridedSlice S1024x512 ![0, 512] z slices_S1024x1024_o0_512_S1024x512) bitsLt_bf16_f32) shapeCasts_S1024x512_S1x1024x512⟩
    :: put4 z g cb sb

section
variable (c : Dev nD) (i : grid0.Coords)
  (arg3 : Memref sig .tc .vmem S1x1024x2048 .f32) (harg3 : arg3.IsWhole)
  (arg4 : Memref sig .tc .vmem S1x9x2048 .f32) (harg4 : arg4.IsWhole)
  (arg5 : Memref sig .tc .vmem S1x2048 .f32) (harg5 : arg5.IsWhole)
  (arg6 : Memref sig .tc .vmem S2048x1024 .bf16) (harg6 : arg6.IsWhole)
  (arg7 : Memref sig .tc .vmem S2x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1x1024x1024 .bf16) (harg10 : arg10.IsWhole)
  (arg11 : Memref sig .tc .vmem S1024x2048 .bf16) (harg11 : arg11.IsWhole)
  (x0 : Vec F S1x1024x2048 .f32) (x1 : Vec F S1x9x2048 .f32) (x2 : Vec F S1x2048 .f32) (x3 : Vec F S2048x1024 .bf16)
  (x4 : Vec F S2x128 .f32) (x5 x6 : Vec F S1024x128 .f32)

/-! ## The loop -/

theorem trips1 : k0_t1_loop.trips = 64 := by decide +kernel

/-- The loop's stores are blocks of `hOf`. -/
theorem pieces1 (𝒱 : Variants) (bd : Option 𝒱.V) (h1 : k0_cond1 i = 1#1) (n : ℕ) (hn : n ≤ 64) : View.PiecesOf (hOf x0 x1 x2)
    (pb_k0_t1 (F := F) 𝒱 c bd i arg3 harg3 arg4 harg4 arg5 harg5 arg6 harg6 arg7 harg7 arg8 harg8 arg9 harg9 arg10 harg10 arg11 harg11 h1 (mrow x1 3) x2 (mrow x1 4)
      (harg3.unread x0) n) := by
  induction n with
  | zero => trivial
  | succ n ih =>
    have hlt : n < k0_t1_loop.trips := by rw [trips1]; omega
    refine (pb_k0_t1_succ (F := F) 𝒱 c bd i arg3 harg3 arg4 harg4 arg5 harg5 arg6 harg6 arg7 harg7 arg8 harg8 arg9 harg9 arg10 harg10 arg11 harg11 h1 (mrow x1 3) x2 (mrow x1 4)
      (harg3.unread x0) ⟨n, hlt⟩).symm ▸ ?_
    unfold tripL_k0_t1 trip_k0_t1
    refine ⟨fun x => ?_, ih (by omega)⟩
    simp only [View.readAt_eq_ld, Memref.IsWhole.read_unread]
    have hx0 : (x 0).val < 16 := (x 0).isLt
    have e0 : ∀ hi, (((Rect.unit (s := S1024x2048) (k0_off2 ⟨n, hlt⟩) S16x2048.size hi).emb x) 0).val = 16 * n + (x 0).val := fun hi => by
      simp [Rect.emb, Rect.unit, k0_off2_eq]
    have e1 : ∀ hi, (((Rect.unit (s := S1024x2048) (k0_off2 ⟨n, hlt⟩) S16x2048.size hi).emb x) 1).val = (x 1).val := fun hi => by
      simp [Rect.emb, Rect.unit, k0_off2_eq]
    refine (congrFun (congrArg (k0_pay1 (mrow x1 3) x2 (mrow x1 4)) (ld_congr x0 (off' := ![0, 16 * (n % 64), 0]) ?_ _ _ (inb3 n))) x).trans ?_
    · rw [k0_off1_eq, Nat.mod_eq_of_lt (by omega)]
    · unfold hOf
      rw [e0, show (16 * n + (x 0).val) / 16 = n by omega]
      refine congrArg _ (funext fun a => Fin.ext ?_)
      fin_cases a
      · show (x 0).val = _ % 16
        rw [e0]; omega
      · exact (e1 _).symm

theorem cover1 (𝒱 : Variants) (bd : Option 𝒱.V) (h1 : k0_cond1 i = 1#1) (v28 : Vec F S1x1x2048 .f32) (v30 : Vec F S1x2048 .f32) (v32 : Vec F S1x1x2048 .f32)
    (X3 : BufTy.Contents (Elt F) arg3.view.ty) (y : S1024x2048.Idx) :
    ∃ p ∈ (pb_k0_t1 (F := F) 𝒱 c bd i arg3 harg3 arg4 harg4 arg5 harg5 arg6 harg6 arg7 harg7 arg8 harg8 arg9 harg9 arg10 harg10 arg11 harg11 h1 v28 v30 v32 X3 (Scf.trips k0_t1_loop.lb k0_t1_loop.ub k0_t1_loop.st)), y ∈ p.1.set :=
  View.cover_of_tiledL (pb_k0_t1 (F := F) 𝒱 c bd i arg3 harg3 arg4 harg4 arg5 harg5 arg6 harg6 arg7 harg7 arg8 harg8 arg9 harg9 arg10 harg10 arg11 harg11 h1 v28 v30 v32 X3 (Scf.trips k0_t1_loop.lb k0_t1_loop.ub k0_t1_loop.st)) S16x2048.size (by sl_kernel_rfl) y

/-- What the loop leaves. -/
theorem loop1 (𝒱 : Variants) (bd : Option 𝒱.V) (h1 : k0_cond1 i = 1#1) : View.canon
    (pb_k0_t1 (F := F) 𝒱 c bd i arg3 harg3 arg4 harg4 arg5 harg5 arg6 harg6 arg7 harg7 arg8 harg8 arg9 harg9 arg10 harg10 arg11 harg11 h1 (mrow x1 3) x2 (mrow x1 4)
      (harg3.unread x0) (Scf.trips k0_t1_loop.lb k0_t1_loop.ub k0_t1_loop.st)) = hOf x0 x1 x2 :=
  funext fun y => View.canon_apply_of_pieces _ _
    (pieces1 c i arg3 harg3 arg4 harg4 arg5 harg5 arg6 harg6 arg7 harg7 arg8 harg8 arg9 harg9 arg10 harg10 arg11 harg11 x0 x1 x2 𝒱 bd h1 _ trips1.le).mem y
    (cover1 c i arg3 harg3 arg4 harg4 arg5 harg5 arg6 harg6 arg7 harg7 arg8 harg8 arg9 harg9 arg10 harg10 arg11 harg11 𝒱 bd h1 _ _ _ _ y)

/-! ## The four kinds of points -/

theorem sout_A (hc0 : cond0_0 i) (hc1 : cond0_1 i) (hc2 : ¬cond0_2 i) (hc3 : ¬cond0_3 i) :
    sout0_A_0 c i arg3 harg3 arg4 harg4 arg5 harg5 arg6 harg6 arg7 harg7 arg8 harg8 arg9 harg9 arg10 harg10 arg11 harg11 hc0 hc1 hc2 hc3 x0 x1 x2 x3 x4 x5 x6 = hOf x0 x1 x2 := by
  frame_open
  simp (disch := decide) only [View.read_writes_junk_eq_canon, View.readAt_eq_ld, Memref.IsWhole.read_unread, View.ld_unit_lit']
  exact loop1 c i arg3 harg3 arg4 harg4 arg5 harg5 arg6 harg6 arg7 harg7 arg8 harg8 arg9 harg9 arg10 harg10 arg11 harg11 x0 x1 x2 Variants.none none hc0

theorem out_A (hc0 : cond0_0 i) (hc1 : cond0_1 i) (hc2 : ¬cond0_2 i) (hc3 : ¬cond0_3 i) :
    out0_A_7 c i arg3 harg3 arg4 harg4 arg5 harg5 arg6 harg6 arg7 harg7 arg8 harg8 arg9 harg9 arg10 harg10 arg11 harg11 hc0 hc1 hc2 hc3 x0 x1 x2 x3 x4 x5 x6 = View.canon (put8 (k0_pay2 (hOf x0 x1 x2) x3) (gain x4 0) x5 x6) := by
  have hl : View.readCov (Val := Elt F) arg11.view (pb_k0_t1 (F := F) Variants.none c none i arg3 harg3 arg4 harg4 arg5 harg5 arg6 harg6 arg7 harg7 arg8 harg8 arg9 harg9 arg10 harg10 arg11 harg11 hc0 (mrow x1 3) x2 (mrow x1 4)
      (harg3.unread x0) (Scf.trips k0_t1_loop.lb k0_t1_loop.ub k0_t1_loop.st))
      (Rect.unit ![0, 0] S1024x2048.size inb_S1024x2048_S1024x2048_0_0).toLoadRect = hOf x0 x1 x2 := by
    refine (View.readCov_eq_canon' _ _ _).trans ?_
    refine Eq.trans ?_ (loop1 c i arg3 harg3 arg4 harg4 arg5 harg5 arg6 harg6 arg7 harg7 arg8 harg8 arg9 harg9 arg10 harg10 arg11 harg11 x0 x1 x2 Variants.none none hc0)
    exact View.ld_unit_lit' _ _ (by decide)
  frame_open
  simp (disch := decide) only [View.read_writes_junk_eq_canon, View.readAt_eq_ld, Memref.IsWhole.read_unread, View.ld_unit_lit']
  refine congrArg View.canon ?_
  simp only [put8, put4, List.cons_append, List.nil_append]
  iterate 8
    refine congr (congrArg List.cons (congrArg (Sigma.mk _) ?_)) ?_
    · open_payloads
      rw [← hl]
      simp only [headT, nrmT]
      rfl
  rfl

theorem sout_B (hc0 : ¬cond0_0 i) (hc1 : cond0_1 i) (hc2 : ¬cond0_2 i) (hc3 : ¬cond0_3 i) (h : Vec F S1024x2048 .bf16) :
    sout0_B_0 c i arg3 harg3 arg4 harg4 arg5 harg5 arg6 harg6 arg7 harg7 arg8 harg8 arg9 harg9 arg10 harg10 arg11 harg11 hc0 hc1 hc2 hc3 x0 x1 x2 x3 x4 x5 x6 h = h := by
  unfold sout0_B_0; rfl

theorem out_B (hc0 : ¬cond0_0 i) (hc1 : cond0_1 i) (hc2 : ¬cond0_2 i) (hc3 : ¬cond0_3 i) (h : Vec F S1024x2048 .bf16) :
    out0_B_7 c i arg3 harg3 arg4 harg4 arg5 harg5 arg6 harg6 arg7 harg7 arg8 harg8 arg9 harg9 arg10 harg10 arg11 harg11 hc0 hc1 hc2 hc3 x0 x1 x2 x3 x4 x5 x6 h = View.canon (put8 (k0_pay2 h x3) (gain x4 0) x5 x6) := by
  frame_open
  simp (disch := decide) only [View.read_writes_junk_eq_canon, View.readAt_eq_ld, Memref.IsWhole.read_unread, View.ld_unit_lit']
  refine congrArg View.canon ?_
  simp only [put8, put4, List.cons_append, List.nil_append]
  iterate 8
    refine congr (congrArg List.cons (congrArg (Sigma.mk _) ?_)) ?_
    · open_payloads
      simp only [headT, nrmT]
      rfl
  rfl

theorem out_C (hc0 : ¬cond0_0 i) (hc1 : ¬cond0_1 i) (hc2 : cond0_2 i) (hc3 : ¬cond0_3 i) (h : Vec F S1024x2048 .bf16) :
    out0_C_7 c i arg3 harg3 arg4 harg4 arg5 harg5 arg6 harg6 arg7 harg7 arg8 harg8 arg9 harg9 arg10 harg10 arg11 harg11 hc0 hc1 hc2 hc3 x0 x1 x2 x3 x4 x5 x6 h = View.canon (putV (k0_pay2 h x3) (gain x4 1) x5 x6) := by
  frame_open
  simp (disch := decide) only [View.read_writes_junk_eq_canon, View.readAt_eq_ld, Memref.IsWhole.read_unread, View.ld_unit_lit']
  refine congrArg View.canon ?_
  simp only [putV, put4, List.cons_append, List.nil_append]
  iterate 5
    refine congr (congrArg List.cons (congrArg (Sigma.mk _) ?_)) ?_
    · open_payloads
      try (simp only [headT, nrmT]; rfl)
  rfl

theorem out_D (hc0 : ¬cond0_0 i) (hc1 : ¬cond0_1 i) (hc2 : ¬cond0_2 i) (hc3 : cond0_3 i) (h : Vec F S1024x2048 .bf16) :
    out0_D_7 c i arg3 harg3 arg4 harg4 arg5 harg5 arg6 harg6 arg7 harg7 arg8 harg8 arg9 harg9 arg10 harg10 arg11 harg11 hc0 hc1 hc2 hc3 x0 x1 x2 x3 x4 x5 x6 h = k0_pay7 h x3 := by
  frame_out
end

end Cert.ProjIdeal.Hand

end
-- ==== Proof.ProjVal.lean ====
/- The projection's body on the extended reals: each buffer's contents, element by element. -/
module

public import proofs.«01_k».proof.Proof.ProjSpec
public import proofs.«01_k».proof.Proof.FfnVal
public import proofs.«01_k».proof.Proof.ProjBody
public import Idealize.ShloMosaic.Lib.IdealHost
public import Idealize.ShloMosaic.Lib.KernelVsHost

@[expose] public section

set_option maxRecDepth 16384

noncomputable section

namespace Cert.ProjIdeal.Hand

open Idealize.ShloMosaic Idealize.ShloMosaic.TcCoe Idealize.ShloMosaic.Tactic
open Cert.FfnIdeal.Hand (mrow mrow_apply)
open Cert Cert.ProjIdeal Cert.ProjIdeal.Gen

/-! ## The normalised block -/

theorem rows_apply (x : Vec Ideal S1x1024x2048 .f32) (k : ℕ) (a : Fin 16) (d : Fin 2048) :
    rows x k (ix3 0 a d) = x (ix3 0 ⟨16 * (k % 64) + a.val, by omega⟩ d) := by
  pointwise [rows]

theorem pay1_apply (sh : Vec Ideal S1x1x2048 .f32) (g : Vec Ideal S1x2048 .f32) (sc : Vec Ideal S1x1x2048 .f32)
    (x : Vec Ideal S1x16x2048 .f32) (a : Fin 16) (e : Fin 2048) :
    k0_pay1 sh g sc x (ix2 a e) = FfnSpec.hid (fun k => x (ix3 0 a k)) (fun k => g (ix2 0 k))
      (fun k => sh (ix3 0 0 k)) (fun k => sc (ix3 0 0 k)) e := by
  unfold FfnSpec.hid FfnSpec.rms
  pointwise [k0_pay1]
  rw [mul_assoc _ (g (ix2 0 e))]

theorem hOf_apply (x0 : Vec Ideal S1x1024x2048 .f32) (x1 : Vec Ideal S1x9x2048 .f32) (x2 : Vec Ideal S1x2048 .f32)
    (r : Fin 1024) (e : Fin 2048) : hOf x0 x1 x2 (ix2 r e)
      = FfnSpec.hid (fun k => x0 (ix3 0 r k)) (fun k => x2 (ix2 0 k)) (fun k => x1 (ix3 0 3 k)) (fun k => x1 (ix3 0 4 k)) e := by
  have hr : (⟨16 * (r.val / 16 % 64) + r.val % 16, by omega⟩ : Fin 1024) = r := Fin.ext (by dsimp only; omega)
  unfold hOf sub
  refine (pay1_apply (mrow x1 3) x2 (mrow x1 4) (rows x0 (r.val / 16)) ⟨r.val % 16, Nat.mod_lt _ (by norm_num)⟩ e).trans ?_
  simp only [rows_apply, hr]
  rw [show (fun k => mrow x1 3 (ix3 0 0 k)) = fun k => x1 (ix3 0 3 k) from funext (mrow_apply x1 3),
    show (fun k => mrow x1 4 (ix3 0 0 k)) = fun k => x1 (ix3 0 4 k) from funext (mrow_apply x1 4)]

/-! ## The product and the heads -/

theorem pay2_apply (h : Vec Ideal S1024x2048 .bf16) (w : Vec Ideal S2048x1024 .bf16) (r j : Fin 1024) :
    k0_pay2 h w (ix2 r j) = ∑ k : Fin 2048, h (ix2 r k) * w (ix2 k j) := by
  pointwise [k0_pay2]

theorem pay7_apply (h : Vec Ideal S1024x2048 .bf16) (w : Vec Ideal S2048x1024 .bf16) (r j : Fin 1024) :
    k0_pay7 h w (ix3 0 r j) = k0_pay2 h w (ix2 r j) := by
  pointwise [k0_pay7]

theorem gain_apply (x : Vec Ideal S2x128 .f32) (r : Fin 2) (d : Fin 128) : gain x r (ix2 0 d) = x (ix2 r d) := by
  pointwise [gain]

theorem nrmT_apply (t : FVec Ideal S1024x128 .f32) (g : Vec Ideal S1x128 .f32) (r : Fin 1024) (d : Fin 128) :
    nrmT t g (ix2 r d) = ProjSpec.hn (fun k => t (ix2 r k)) (fun k => g (ix2 0 k)) d := by
  unfold ProjSpec.hn
  dsimp only
  rw [← ProjSpec.mean_sq]
  pointwise [nrmT]

theorem rot_apply (x : FVec Ideal S1024x128 .f32) (r : Fin 1024) (d : Fin 128) :
    dynamicRotate 1 64#32 none x rotates_S1024x128_d1 (ix2 r d) = x (ix2 r ⟨(d.val + 64) % 128, Nat.mod_lt _ (by norm_num)⟩) := by
  refine dynamicRotate_apply 1 64#32 x _ _ _ fun b => ?_
  fin_cases b
  · rfl
  · show (d.val + 64) % 128 = (d.val + 128 - 64 % 128) % 128
    omega

/-- A head of the product, normalised and turned by the tables. -/
def headF (z : FVec Ideal S1024x1024 .f32) (g : Vec Ideal S1x128 .f32) (cb sb : Vec Ideal S1024x128 .f32) (y : S1x1024x1024.Idx) : EReal :=
  ProjSpec.kturn (ProjSpec.hn (fun d => z (ix2 (y 1) ⟨128 * ((y 2).val / 128) + d.val, by have := (y 2).isLt; change (y 2).val < 1024 at this; omega⟩))
    (fun d => g (ix2 0 d))) (fun d => cb (ix2 (y 1) d)) (fun d => sb (ix2 (y 1) d)) ⟨(y 2).val % 128, Nat.mod_lt _ (by norm_num)⟩

theorem headT_apply (t : FVec Ideal S1024x128 .f32) (g : Vec Ideal S1x128 .f32) (cb sb : Vec Ideal S1024x128 .f32) (r : Fin 1024) (d : Fin 128) :
    headT t g cb sb (ix3 0 r d) = ProjSpec.kturn (ProjSpec.hn (fun k => t (ix2 r k)) (fun k => g (ix2 0 k)))
      (fun d => cb (ix2 r d)) (fun d => sb (ix2 r d)) d := by
  unfold ProjSpec.kturn
  dsimp only
  rw [← nrmT_apply, ← nrmT_apply, ← rot_apply (nrmT t g) r d]
  pointwise [headT]

/-- A store of one head agrees with `headF`. -/
theorem piece_head (z : FVec Ideal S1024x1024 .f32) (g : Vec Ideal S1x128 .f32) (cb sb : Vec Ideal S1024x128 .f32) (n : ℕ) (hn : n < 8)
    (hs : S1024x1024.Slices ![0, 128 * n] S1024x128) (hi : ∀ a, (![0, 0, 128 * n] : Fin 3 → ℕ) a + S1x1024x128.size a ≤ S1x1024x1024.size a)
    (x : S1x1024x128.Idx) :
    headT (extractStridedSlice S1024x128 ![0, 128 * n] z hs) g cb sb x
      = headF z g cb sb ((Rect.unit (s := S1x1024x1024) ![0, 0, 128 * n] S1x1024x128.size hi).emb x) := by
  obtain ⟨r, d, rfl⟩ : ∃ (r : Fin 1024) (d : Fin 128), x = ix3 0 r d :=
    ⟨x 1, x 2, funext fun a => by
      fin_cases a <;> first | rfl | exact Fin.ext (by have := (x 0).isLt; change (x 0).val < 1 at this; change (x 0).val = 0; omega)⟩
  have he : (Rect.unit (s := S1x1024x1024) ![0, 0, 128 * n] S1x1024x128.size hi).emb (ix3 0 r d) = ix3 0 r ⟨128 * n + d.val, by omega⟩ :=
    funext fun a => Fin.ext (by fin_cases a <;> simp [Rect.emb, Rect.unit, ix3])
  rw [he, headT_apply]
  unfold headF
  dsimp only [ix3]
  have h1 : ∀ k : Fin 128, extractStridedSlice S1024x128 ![0, 128 * n] z hs (ix2 r k) = z (ix2 r ⟨128 * n + k.val, by omega⟩) := fun k =>
    extractStridedSlice_apply _ z hs _ _ fun a => by fin_cases a <;> simp [ix2]
  simp only [h1]
  have h2 : (128 * n + d.val) / 128 = n := by omega
  have h3 : (128 * n + d.val) % 128 = d.val := by omega
  simp only [ix3, Matrix.cons_val, h2, h3]

theorem put4_pieces (z : FVec Ideal S1024x1024 .f32) (g : Vec Ideal S1x128 .f32) (cb sb : Vec Ideal S1024x128 .f32) :
    View.PiecesOf (headF z g cb sb) (put4 z g cb sb) :=
  ⟨piece_head z g cb sb 3 (by norm_num) slices_S1024x1024_o0_384_S1024x128 inb_S1x1024x1024_S1x1024x128_0_0_384,
    piece_head z g cb sb 2 (by norm_num) slices_S1024x1024_o0_256_S1024x128 inb_S1x1024x1024_S1x1024x128_0_0_256,
    piece_head z g cb sb 1 (by norm_num) slices_S1024x1024_o0_128_S1024x128 inb_S1x1024x1024_S1x1024x128_0_0_128,
    piece_head z g cb sb 0 (by norm_num) slices_S1024x1024_o0_0_S1024x128 inb_S1x1024x1024_S1x1024x128_0_0_0, trivial⟩

theorem put8_pieces (z : FVec Ideal S1024x1024 .f32) (g : Vec Ideal S1x128 .f32) (cb sb : Vec Ideal S1024x128 .f32) :
    View.PiecesOf (headF z g cb sb) (put8 z g cb sb) :=
  ⟨piece_head z g cb sb 7 (by norm_num) slices_S1024x1024_o0_896_S1024x128 inb_S1x1024x1024_S1x1024x128_0_0_896,
    piece_head z g cb sb 6 (by norm_num) slices_S1024x1024_o0_768_S1024x128 inb_S1x1024x1024_S1x1024x128_0_0_768,
    piece_head z g cb sb 5 (by norm_num) slices_S1024x1024_o0_640_S1024x128 inb_S1x1024x1024_S1x1024x128_0_0_640,
    piece_head z g cb sb 4 (by norm_num) slices_S1024x1024_o0_512_S1024x128 inb_S1x1024x1024_S1x1024x128_0_0_512, put4_pieces z g cb sb⟩

theorem put8_apply (z : FVec Ideal S1024x1024 .f32) (g : Vec Ideal S1x128 .f32) (cb sb : Vec Ideal S1024x128 .f32) (y : S1x1024x1024.Idx) :
    View.canon (put8 z g cb sb) y = headF z g cb sb y :=
  View.canon_apply_of_pieces _ _ (put8_pieces z g cb sb).mem y
    (View.cover_of_tiledL (put8 z g cb sb) S1x1024x128.size (by sl_kernel_rfl) y)

/-- Four heads, then the product itself. -/
def keyF (z : FVec Ideal S1024x1024 .f32) (g : Vec Ideal S1x128 .f32) (cb sb : Vec Ideal S1024x128 .f32) (y : S1x1024x1024.Idx) : EReal :=
  if (y 2).val < 512 then headF z g cb sb y else z (ix2 (y 1) (y 2))

theorem piece_key (z : FVec Ideal S1024x1024 .f32) (g : Vec Ideal S1x128 .f32) (cb sb : Vec Ideal S1024x128 .f32) (n : ℕ) (hn : n < 4)
    (hs : S1024x1024.Slices ![0, 128 * n] S1024x128) (hi : ∀ a, (![0, 0, 128 * n] : Fin 3 → ℕ) a + S1x1024x128.size a ≤ S1x1024x1024.size a)
    (x : S1x1024x128.Idx) :
    headT (extractStridedSlice S1024x128 ![0, 128 * n] z hs) g cb sb x
      = keyF z g cb sb ((Rect.unit (s := S1x1024x1024) ![0, 0, 128 * n] S1x1024x128.size hi).emb x) := by
  have hx : (x 2).val < 128 := (x 2).isLt
  have e2 : (((Rect.unit (s := S1x1024x1024) ![0, 0, 128 * n] S1x1024x128.size hi).emb x) 2).val = 128 * n + (x 2).val := by
    simp [Rect.emb, Rect.unit]
  unfold keyF
  rw [if_pos (by rw [e2]; omega)]
  exact piece_head z g cb sb n (by omega) hs hi x

theorem putV_pieces (z : FVec Ideal S1024x1024 .f32) (g : Vec Ideal S1x128 .f32) (cb sb : Vec Ideal S1024x128 .f32) :
    View.PiecesOf (keyF z g cb sb) (putV z g cb sb) := by
  refine ⟨fun x => ?_,
    piece_key z g cb sb 3 (by norm_num) slices_S1024x1024_o0_384_S1024x128 inb_S1x1024x1024_S1x1024x128_0_0_384,
    piece_key z g cb sb 2 (by norm_num) slices_S1024x1024_o0_256_S1024x128 inb_S1x1024x1024_S1x1024x128_0_0_256,
    piece_key z g cb sb 1 (by norm_num) slices_S1024x1024_o0_128_S1024x128 inb_S1x1024x1024_S1x1024x128_0_0_128,
    piece_key z g cb sb 0 (by norm_num) slices_S1024x1024_o0_0_S1024x128 inb_S1x1024x1024_S1x1024x128_0_0_0, trivial⟩
  obtain ⟨r, d, rfl⟩ : ∃ (r : Fin 1024) (d : Fin 512), x = ix3 0 r d :=
    ⟨x 1, x 2, funext fun a => by
      fin_cases a <;> first | rfl | exact Fin.ext (by have := (x 0).isLt; change (x 0).val < 1 at this; change (x 0).val = 0; omega)⟩
  have he : (Rect.unit (s := S1x1024x1024) ![0, 0, 512] S1x1024x512.size inb_S1x1024x1024_S1x1024x512_0_0_512).emb (ix3 0 r d)
      = ix3 0 r ⟨512 + d.val, by omega⟩ :=
    funext fun a => Fin.ext (by fin_cases a <;> simp [Rect.emb, Rect.unit, ix3])
  refine Eq.trans ?_ (congrArg (keyF z g cb sb) he).symm
  unfold keyF
  rw [if_neg (by simp [ix3])]
  show _ = z (ix2 r ⟨512 + d.val, _⟩)
  pointwise

theorem putV_apply (z : FVec Ideal S1024x1024 .f32) (g : Vec Ideal S1x128 .f32) (cb sb : Vec Ideal S1024x128 .f32) (y : S1x1024x1024.Idx) :
    View.canon (putV z g cb sb) y = keyF z g cb sb y :=
  View.canon_apply_of_pieces _ _ (putV_pieces z g cb sb).mem y
    (View.cover_of_tiledBy (putV z g cb sb) ![1, 1024, 128] (by sl_kernel_rfl) y)

end Cert.ProjIdeal.Hand

end
-- ==== Proof.ProjArr.lean ====
/- The projection's array after the run, element by element. -/
module

public import proofs.«01_k».proof.Proof.ProjVal
public import proofs.«01_k».proof.Proof.Gen.ProjIdeal.Frame
public import Idealize.ShloMosaic.Lib.Pipeline.ValueKit

@[expose] public section

set_option maxRecDepth 16384

noncomputable section

namespace Cert.ProjIdeal.Hand

open Idealize.ShloMosaic Idealize.ShloMosaic.TcCoe Idealize.ShloMosaic.Tactic
open Cert Cert.ProjIdeal Cert.ProjIdeal.Gen

/-- The blocks that grid point `t` uses. -/
theorem idx : ∀ t : Fin cfg0.N, win0_0.index t = ![t.val / 44, t.val / 11 % 4, 0]
    ∧ win0_1.index t = ![t.val / 44, 0, 0] ∧ win0_2.index t = ![0, 0] ∧ win0_3.index t = ![0, t.val % 11] ∧ win0_4.index t = ![0, 0]
    ∧ win0_5.index t = ![t.val / 11 % 4, 0] ∧ win0_6.index t = ![t.val / 11 % 4, 0] ∧ win0_7.index t = ![t.val / 44, t.val / 11 % 4, t.val % 11] := by
  decide +kernel

variable (m : (ℓ : Loc nD τ sig) → Buf (Elt Ideal) ℓ) (c : Dev nD)

/-! ## The arrays the host prepares -/

/-- A gain by pairs, its two halves one after the other. -/
def hv (g : Vec Ideal S128 .f32) : Vec Ideal S1x128 .f32 :=
  broadcastInDim S1x128 ![1] bcast_S128_S1x128_1 (shapeCast S128 (transpose S1x2x64 [0, 2, 1] (shapeCast S1x64x2 g shapeCasts_S128_S1x64x2)
    transposes_S1x64x2_S1x2x64_0_2_1) shapeCasts_S1x2x64_S128)

theorem hv_apply (g : Vec Ideal S128 .f32) (d : Fin 128) : hv g (ix2 0 d) = ProjSpec.halves (fun k => g (ix1 k)) d := by
  unfold hv ProjSpec.halves
  refine (broadcastInDim_apply _ _ _ _ (ix1 d) fun a => by fin_cases a; rfl).trans ?_
  refine (shapeCast_apply _ _ _ (ix3 (0 : Fin 1) (⟨d.val / 64, by omega⟩ : Fin 2) (⟨d.val % 64, Nat.mod_lt _ (by norm_num)⟩ : Fin 64)) (by
    rw [Shape.rowMajor_val_one, Shape.rowMajor_val_three]
    change (0 * 2 + d.val / 64) * 64 + d.val % 64 = d.val
    omega)).trans ?_
  refine (transpose_apply _ _ _ _ (ix3 (0 : Fin 1) (⟨d.val % 64, Nat.mod_lt _ (by norm_num)⟩ : Fin 64) (⟨d.val / 64, by omega⟩ : Fin 2))
    fun a => by fin_cases a <;> rfl).trans ?_
  exact shapeCast_apply _ _ _ (ix1 (⟨2 * (d.val % 64) + d.val / 64, by omega⟩ : Fin 128)) (by
    rw [Shape.rowMajor_val_one, Shape.rowMajor_val_three]
    change 2 * (d.val % 64) + d.val / 64 = (0 * 64 + d.val % 64) * 2 + d.val / 64
    omega)

theorem V_main_v8 : V m c main_v8 = concatenate S2x128 0 [⟨S1x128, hv (m ((c : Thread nD τ).loc main_arg4))⟩, ⟨S1x128, hv (m ((c : Thread nD τ).loc main_arg5))⟩]
    concatenates_S1x128_S1x128_S2x128_d0 := by
  unfold_abbrev_sides
  after_results
  rfl

theorem V_main_v9 : V m c main_v9 = concatenate S4096x128 1 [⟨S4096x64, (m ((c : Thread nD τ).loc main_arg6) : Vec Ideal S4096x64 .f32)⟩, ⟨S4096x64, (m ((c : Thread nD τ).loc main_arg6) : Vec Ideal S4096x64 .f32)⟩]
    concatenates_S4096x64_S4096x64_S4096x128_d1 := by
  unfold_abbrev_sides
  after_results
  try rfl

theorem V_main_v11 : V m c main_v11 = concatenate S4096x128 1
    [⟨S4096x64, Host.negf (F := Ideal) (φ := .f32) (m ((c : Thread nD τ).loc main_arg7))⟩, ⟨S4096x64, (m ((c : Thread nD τ).loc main_arg7) : Vec Ideal S4096x64 .f32)⟩]
    concatenates_S4096x64_S4096x64_S4096x128_d1 := by
  unfold_abbrev_sides
  after_results
  try rfl

theorem V_main_v12 : V m c main_v12 = shapeCast S1x2048 (m ((c : Thread nD τ).loc main_arg2)) shapeCasts_S2048_S1x2048 := by
  unfold_abbrev_sides
  after_results
  rfl

theorem gains_apply (x y : Vec Ideal S1x128 .f32) (d : Fin 128) :
    concatenate S2x128 0 [⟨S1x128, x⟩, ⟨S1x128, y⟩] concatenates_S1x128_S1x128_S2x128_d0 (ix2 0 d) = x (ix2 0 d)
    ∧ concatenate S2x128 0 [⟨S1x128, x⟩, ⟨S1x128, y⟩] concatenates_S1x128_S1x128_S2x128_d0 (ix2 1 d) = y (ix2 0 d) := by
  constructor
  · exact concatenate_pair_apply_left (t := S2x128) (s₁ := S1x128) (s₂ := S1x128) (0 : Fin 2) _ _ _ _ rfl (ix2 (0 : Fin 1) d)
      fun a => by fin_cases a <;> rfl
  · exact concatenate_pair_apply_right (t := S2x128) (s₁ := S1x128) (s₂ := S1x128) (0 : Fin 2) _ _ _ _ rfl rfl (ix2 (0 : Fin 1) d)
      (fun a ha => by fin_cases a <;> first | rfl | exact absurd rfl ha) rfl

/-- Two halves of a table's row. -/
theorem table_apply (x y : Vec Ideal S4096x64 .f32) (r : Fin 4096) (d : Fin 128) :
    concatenate S4096x128 1 [⟨S4096x64, x⟩, ⟨S4096x64, y⟩] concatenates_S4096x64_S4096x64_S4096x128_d1 (ix2 r d)
      = if d.val < 64 then x (ix2 r ⟨d.val % 64, Nat.mod_lt _ (by norm_num)⟩) else y (ix2 r ⟨d.val % 64, Nat.mod_lt _ (by norm_num)⟩) := by
  have hd := d.isLt
  by_cases h : d.val < 64
  · rw [if_pos h]
    exact concatenate_pair_apply_left (t := S4096x128) (s₁ := S4096x64) (s₂ := S4096x64) (1 : Fin 2) _ _ _ _ rfl
      (ix2 r (⟨d.val % 64, Nat.mod_lt _ (by norm_num)⟩ : Fin 64)) fun a => by
        fin_cases a
        · rfl
        · exact Nat.mod_eq_of_lt h
  · rw [if_neg h]
    exact concatenate_pair_apply_right (t := S4096x128) (s₁ := S4096x64) (s₂ := S4096x64) (1 : Fin 2) _ _ _ _ rfl rfl
      (ix2 r (⟨d.val % 64, Nat.mod_lt _ (by norm_num)⟩ : Fin 64)) (fun a ha => by fin_cases a <;> first | rfl | exact absurd rfl ha) (by
        change d.val % 64 + 64 = d.val
        omega)

/-! ## The blocks' places -/

section
variable (t : Fin cfg0.N)

theorem batch_lt : t.val / 44 < 4 := by
  have h : t.val < 176 := Nat.lt_of_lt_of_eq t.isLt N_0
  omega

theorem x_apply (r : Fin 1024) (e : Fin 2048) : iblk m c 0 t (ix3 0 r e)
    = m ((c : Thread nD τ).loc main_arg0) (ix3 ⟨t.val / 44, batch_lt t⟩ ⟨1024 * (t.val / 11 % 4) + r.val, by omega⟩ e) := by
  obtain ⟨h0, h1, h2, h3, h4, h5, h6, h7⟩ := idx t
  rw [← V_main_arg0 m c]
  blk_ext [iblk, h0]

theorem mod_apply (k : Fin 9) (e : Fin 2048) : iblk m c 1 t (ix3 0 k e)
    = m ((c : Thread nD τ).loc main_arg1) (ix3 ⟨t.val / 44, Nat.lt_of_lt_of_le (batch_lt t) (by norm_num)⟩ k e) := by
  obtain ⟨h0, h1, h2, h3, h4, h5, h6, h7⟩ := idx t
  rw [← V_main_arg1 m c]
  blk_ext [iblk, h1]

theorem g_apply (e : Fin 2048) : iblk m c 2 t (ix2 0 e) = m ((c : Thread nD τ).loc main_arg2) (ix1 e) := by
  obtain ⟨h0, h1, h2, h3, h4, h5, h6, h7⟩ := idx t
  have h : iblk m c 2 t (ix2 0 e) = V m c main_v12 (ix2 0 e) := by blk_ext [iblk, h2]
  rw [h, V_main_v12]
  pointwise

theorem w_apply (k : Fin 2048) (j : Fin 1024) : iblk m c 3 t (ix2 k j)
    = m ((c : Thread nD τ).loc main_arg3) (ix2 k ⟨1024 * (t.val % 11) + j.val, by omega⟩) := by
  obtain ⟨h0, h1, h2, h3, h4, h5, h6, h7⟩ := idx t
  rw [← V_main_arg3 m c]
  blk_ext [iblk, h3]

theorem qg_apply (d : Fin 128) : iblk m c 4 t (ix2 0 d) = ProjSpec.halves (fun k => m ((c : Thread nD τ).loc main_arg4) (ix1 k)) d := by
  obtain ⟨h0, h1, h2, h3, h4, h5, h6, h7⟩ := idx t
  have h : iblk m c 4 t (ix2 0 d) = V m c main_v8 (ix2 0 d) := by blk_ext [iblk, h4]
  rw [h, V_main_v8, (gains_apply _ _ d).1, hv_apply]

theorem kg_apply (d : Fin 128) : iblk m c 4 t (ix2 1 d) = ProjSpec.halves (fun k => m ((c : Thread nD τ).loc main_arg5) (ix1 k)) d := by
  obtain ⟨h0, h1, h2, h3, h4, h5, h6, h7⟩ := idx t
  have h : iblk m c 4 t (ix2 1 d) = V m c main_v8 (ix2 1 d) := by blk_ext [iblk, h4]
  rw [h, V_main_v8, (gains_apply _ _ d).2, hv_apply]

theorem cos_apply (r : Fin 1024) (d : Fin 128) : iblk m c 5 t (ix2 r d)
    = ProjSpec.cosT (fun k => m ((c : Thread nD τ).loc main_arg6) (ix2 ⟨1024 * (t.val / 11 % 4) + r.val, by omega⟩ k)) d := by
  obtain ⟨h0, h1, h2, h3, h4, h5, h6, h7⟩ := idx t
  have h : iblk m c 5 t (ix2 r d) = V m c main_v9 (ix2 ⟨1024 * (t.val / 11 % 4) + r.val, by omega⟩ d) := by blk_ext [iblk, h5]
  rw [h, V_main_v9, table_apply, ite_self]
  rfl

theorem sin_apply (r : Fin 1024) (d : Fin 128) : iblk m c 6 t (ix2 r d)
    = ProjSpec.sinT (fun k => m ((c : Thread nD τ).loc main_arg7) (ix2 ⟨1024 * (t.val / 11 % 4) + r.val, by omega⟩ k)) d := by
  obtain ⟨h0, h1, h2, h3, h4, h5, h6, h7⟩ := idx t
  have h : iblk m c 6 t (ix2 r d) = V m c main_v11 (ix2 ⟨1024 * (t.val / 11 % 4) + r.val, by omega⟩ d) := by blk_ext [iblk, h6]
  rw [h, V_main_v11, table_apply]
  rfl
end

/-! ## The scratch buffer and the written block -/

/-- The normalised rows of point `t`'s tile. -/
def hAt (t : Fin cfg0.N) : Vec Ideal S1024x2048 .bf16 := hOf (iblk m c 0 t) (iblk m c 1 t) (iblk m c 2 t)

/-- Points of one tile share them. -/
theorem hAt_same (t t' : Fin cfg0.N) (h : t.val / 11 = t'.val / 11) : hAt m c t = hAt m c t' := by
  have h44 : t.val / 44 = t'.val / 44 := by omega
  funext y
  obtain ⟨r, e, rfl⟩ : ∃ (r : Fin 1024) (e : Fin 2048), y = ix2 r e := ⟨y 0, y 1, funext fun a => by fin_cases a <;> rfl⟩
  unfold hAt
  rw [hOf_apply, hOf_apply]
  simp only [x_apply, mod_apply, g_apply, h, h44]

/-- A point that is not a tile's first leaves the scratch as it was. -/
theorem st_keep (t : Fin cfg0.N) (h0 : ¬t.val % 11 = 0) :
    (outsAt0 m c t.val t.isLt).2 = (outsAt0 m c (t.val - 1) (Nat.lt_of_le_of_lt (Nat.sub_le _ _) t.isLt)).2 := by
  by_cases h1 : t.val % 11 ≤ 1
  · rw [outsAt0_B m c t h0 h1 (by omega) (by omega)]; rfl
  · by_cases h2 : t.val % 11 = 2
    · rw [outsAt0_C m c t h0 h1 h2 (by omega)]; rfl
    · rw [outsAt0_D m c t h0 h1 h2 (by omega)]; rfl

theorem st_first (t : Fin cfg0.N) (h0 : t.val % 11 = 0) : (outsAt0 m c t.val t.isLt).2 = hAt m c t :=
  (congrArg Prod.snd (outsAt0_A m c t h0 (by omega) (by omega) (by omega))).trans
    (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) _ _ _ _)

theorem st_h (n : ℕ) : ∀ hn : n < cfg0.N, (outsAt0 m c n hn).2 = hAt m c ⟨n, hn⟩ := by
  induction n with
  | zero => intro hn; exact st_first m c ⟨0, hn⟩ rfl
  | succ n ih =>
    intro hn
    by_cases h0 : (n + 1) % 11 = 0
    · exact st_first m c ⟨n + 1, hn⟩ h0
    · refine (st_keep m c ⟨n + 1, hn⟩ h0).trans ((ih (by omega)).trans ?_)
      exact hAt_same m c _ _ (by dsimp only; omega)

theorem st_prev (t : Fin cfg0.N) (h0 : ¬t.val % 11 = 0) :
    (outsAt0 m c (t.val - 1) (Nat.lt_of_le_of_lt (Nat.sub_le _ _) t.isLt)).2 = hAt m c t :=
  (st_keep m c t h0).symm.trans (st_h m c t.val t.isLt)

/-- The product at a point. -/
def zAt (t : Fin cfg0.N) : FVec Ideal S1024x1024 .f32 := k0_pay2 (hAt m c t) (iblk m c 3 t)

theorem out_a (t : Fin cfg0.N) (h0 : t.val % 11 = 0) (h1 : t.val % 11 ≤ 1) (h2 : ¬t.val % 11 = 2) (h3 : ¬3 ≤ t.val % 11) : (outsAt0 m c t.val t.isLt).1
    = View.canon (put8 (zAt m c t) (gain (iblk m c 4 t) 0) (iblk m c 5 t) (iblk m c 6 t)) := by
  rw [outsAt0_A m c t h0 h1 h2 h3]
  dsimp only
  unfold zAt hAt
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) ((hcond0_0 t).mpr h0) ((hcond0_1 t).mpr h1) (fun h => h2 ((hcond0_2 t).mp h)) (fun h => h3 ((hcond0_3 t).mp h))

theorem out_b (t : Fin cfg0.N) (h0 : ¬t.val % 11 = 0) (h1 : t.val % 11 ≤ 1) (h2 : ¬t.val % 11 = 2) (h3 : ¬3 ≤ t.val % 11) : (outsAt0 m c t.val t.isLt).1
    = View.canon (put8 (zAt m c t) (gain (iblk m c 4 t) 0) (iblk m c 5 t) (iblk m c 6 t)) := by
  rw [outsAt0_B m c t h0 h1 h2 h3, st_prev m c t h0]
  dsimp only
  unfold zAt
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (fun h => h0 ((hcond0_0 t).mp h)) ((hcond0_1 t).mpr h1) (fun h => h2 ((hcond0_2 t).mp h)) (fun h => h3 ((hcond0_3 t).mp h)) (hAt m c t)

theorem out_q (t : Fin cfg0.N) (h : t.val % 11 ≤ 1) : (outsAt0 m c t.val t.isLt).1
    = View.canon (put8 (zAt m c t) (gain (iblk m c 4 t) 0) (iblk m c 5 t) (iblk m c 6 t)) := by
  by_cases h0 : t.val % 11 = 0
  · exact out_a m c t h0 h (by omega) (by omega)
  · exact out_b m c t h0 h (by omega) (by omega)

theorem out_k (t : Fin cfg0.N) (h2 : t.val % 11 = 2) : (outsAt0 m c t.val t.isLt).1
    = View.canon (putV (zAt m c t) (gain (iblk m c 4 t) 1) (iblk m c 5 t) (iblk m c 6 t)) := by
  have h0 : ¬t.val % 11 = 0 := by omega
  have h1 : ¬t.val % 11 ≤ 1 := by omega
  have h3 : ¬3 ≤ t.val % 11 := by omega
  rw [outsAt0_C m c t h0 h1 h2 h3, st_prev m c t h0]
  dsimp only
  unfold zAt
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (fun h => h0 ((hcond0_0 t).mp h)) (fun h => h1 ((hcond0_1 t).mp h)) ((hcond0_2 t).mpr h2) (fun h => h3 ((hcond0_3 t).mp h)) (hAt m c t)

theorem out_r (t : Fin cfg0.N) (h3 : 3 ≤ t.val % 11) : (outsAt0 m c t.val t.isLt).1 = k0_pay7 (hAt m c t) (iblk m c 3 t) := by
  have h0 : ¬t.val % 11 = 0 := by omega
  have h1 : ¬t.val % 11 ≤ 1 := by omega
  have h2 : ¬t.val % 11 = 2 := by omega
  rw [outsAt0_D m c t h0 h1 h2 h3, st_prev m c t h0]
  dsimp only
  exact out_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (fun h => h0 ((hcond0_0 t).mp h)) (fun h => h1 ((hcond0_1 t).mp h)) (fun h => h2 ((hcond0_2 t).mp h)) ((hcond0_3 t).mpr h3) (hAt m c t)

/-! ## The result -/

/-- A token's projected row. -/
def zArr (x : Vec Ideal S4x4096x2048 .f32) (mod : Vec Ideal S8x9x2048 .f32) (g : Vec Ideal S2048 .f32) (w : Vec Ideal S2048x11264 .bf16)
    (b : Fin 4) (r : Fin 4096) (j : Fin 11264) : EReal :=
  ∑ k : Fin 2048, FfnSpec.hid (fun k => x (ix3 b r k)) (fun k => g (ix1 k))
    (fun k => mod (ix3 ⟨b.val, by omega⟩ 3 k)) (fun k => mod (ix3 ⟨b.val, by omega⟩ 4 k)) k * w (ix2 k j)

/-- The result, element by element. -/
def outArr (x : Vec Ideal S4x4096x2048 .f32) (mod : Vec Ideal S8x9x2048 .f32) (g : Vec Ideal S2048 .f32) (w : Vec Ideal S2048x11264 .bf16)
    (qg kg : Vec Ideal S128 .f32) (cs sn : Vec Ideal S4096x64 .f32) (i : S4x4096x11264.Idx) : EReal :=
  ProjSpec.row (zArr x mod g w (i 0) (i 1)) (fun k => qg (ix1 k)) (fun k => kg (ix1 k)) (fun k => cs (ix2 (i 1) k)) (fun k => sn (ix2 (i 1) k)) (i 2)

theorem zAt_apply (t : Fin cfg0.N) (r j : Fin 1024) : zAt m c t (ix2 r j)
    = zArr (m ((c : Thread nD τ).loc main_arg0)) (m ((c : Thread nD τ).loc main_arg1)) (m ((c : Thread nD τ).loc main_arg2))
        (m ((c : Thread nD τ).loc main_arg3)) ⟨t.val / 44, batch_lt t⟩ ⟨1024 * (t.val / 11 % 4) + r.val, by omega⟩ ⟨1024 * (t.val % 11) + j.val, by omega⟩ := by
  unfold zAt zArr hAt
  rw [pay2_apply]
  simp only [hOf_apply, x_apply, mod_apply, g_apply, w_apply]

/-- A head of a written block. -/
theorem head_apply (t : Fin cfg0.N) (gn : Fin 2) (gs : Fin 128 → EReal) (hg : ∀ d, iblk m c 4 t (ix2 gn d) = ProjSpec.halves gs d) (r j : Fin 1024) :
    headF (zAt m c t) (gain (iblk m c 4 t) gn) (iblk m c 5 t) (iblk m c 6 t) (ix3 0 r j)
      = ProjSpec.turn (ProjSpec.hn (fun d => zArr (m ((c : Thread nD τ).loc main_arg0)) (m ((c : Thread nD τ).loc main_arg1)) (m ((c : Thread nD τ).loc main_arg2))
          (m ((c : Thread nD τ).loc main_arg3)) ⟨t.val / 44, batch_lt t⟩ ⟨1024 * (t.val / 11 % 4) + r.val, by omega⟩
            ⟨128 * ((1024 * (t.val % 11) + j.val) / 128) + d.val, by omega⟩) (ProjSpec.halves gs))
        (fun k => m ((c : Thread nD τ).loc main_arg6) (ix2 ⟨1024 * (t.val / 11 % 4) + r.val, by omega⟩ k))
        (fun k => m ((c : Thread nD τ).loc main_arg7) (ix2 ⟨1024 * (t.val / 11 % 4) + r.val, by omega⟩ k))
        ⟨(1024 * (t.val % 11) + j.val) % 128, Nat.mod_lt _ (by norm_num)⟩ := by
  rw [← ProjSpec.kturn_eq]
  have e1 : ∀ d : Fin 128, (⟨1024 * (t.val % 11) + (128 * (j.val / 128) + d.val), by omega⟩ : Fin 11264)
      = ⟨128 * ((1024 * (t.val % 11) + j.val) / 128) + d.val, by omega⟩ := fun d => Fin.ext (by dsimp only; omega)
  have e2 : (⟨j.val % 128, Nat.mod_lt _ (by norm_num)⟩ : Fin 128) = ⟨(1024 * (t.val % 11) + j.val) % 128, Nat.mod_lt _ (by norm_num)⟩ :=
    Fin.ext (by dsimp only; omega)
  have e3 : headF (zAt m c t) (gain (iblk m c 4 t) gn) (iblk m c 5 t) (iblk m c 6 t) (ix3 0 r j)
      = ProjSpec.kturn (ProjSpec.hn (fun d => zAt m c t (ix2 r ⟨128 * (j.val / 128) + d.val, by omega⟩)) (fun d => gain (iblk m c 4 t) gn (ix2 0 d)))
        (fun d => iblk m c 5 t (ix2 r d)) (fun d => iblk m c 6 t (ix2 r d)) ⟨j.val % 128, Nat.mod_lt _ (by norm_num)⟩ := rfl
  rw [e3]
  simp only [zAt_apply, gain_apply, hg, cos_apply, sin_apply, e1, e2]

/-- The array after the run. -/
theorem arr_eq (x : Vec Ideal S4x4096x2048 .f32) (mod : Vec Ideal S8x9x2048 .f32) (g : Vec Ideal S2048 .f32) (w : Vec Ideal S2048x11264 .bf16)
    (qg kg : Vec Ideal S128 .f32) (cs sn : Vec Ideal S4096x64 .f32)
    (hx : m ((c : Thread nD τ).loc main_arg0) = x) (hmod : m ((c : Thread nD τ).loc main_arg1) = mod)
    (hg : m ((c : Thread nD τ).loc main_arg2) = g) (hw : m ((c : Thread nD τ).loc main_arg3) = w) (hqg : m ((c : Thread nD τ).loc main_arg4) = qg)
    (hkg : m ((c : Thread nD τ).loc main_arg5) = kg) (hcs : m ((c : Thread nD τ).loc main_arg6) = cs) (hsn : m ((c : Thread nD τ).loc main_arg7) = sn) :
    (dats m 0 c).arrAt 7 cfg0.N = outArr x mod g w qg kg cs sn := by
  subst hx hmod hg hw hqg hkg hcs hsn
  refine (dats m 0 c).arrAt_eq_of_covers 7 _ (by decide +kernel) fun t hf z => ?_
  obtain ⟨r, j, rfl⟩ : ∃ (r j : Fin 1024), z = ix3 0 r j :=
    ⟨z 1, z 2, funext fun a => by
      fin_cases a <;> first | rfl | exact Fin.ext (by have := (z 0).isLt; change (z 0).val < 1 at this; change (z 0).val = 0; omega)⟩
  blk_simp
  rw [after0_7]
  have he : (win0_7.blk t).view.emb (ix3 0 r j)
      = ix3 ⟨t.val / 44, batch_lt t⟩ ⟨1024 * (t.val / 11 % 4) + r.val, by omega⟩ ⟨1024 * (t.val % 11) + j.val, by omega⟩ := by
    obtain ⟨h0, h1, h2, h3, h4, h5, h6, h7⟩ := idx t
    blk_ext [h7]
  rw [he]
  have hj := j.isLt
  unfold outArr ProjSpec.row
  dsimp only [ix3]
  by_cases h1 : t.val % 11 ≤ 1
  · rw [out_q m c t h1, put8_apply, head_apply m c t 0 _ (qg_apply m c t)]
    refine (if_pos ?_).symm
    change 1024 * (t.val % 11) + j.val < 2048
    omega
  · have n1 : ¬1024 * (t.val % 11) + j.val < 2048 := by omega
    refine Eq.trans ?_ (if_neg n1).symm
    by_cases h2 : t.val % 11 = 2
    · rw [out_k m c t h2, putV_apply]
      unfold keyF
      by_cases h3 : j.val < 512
      · refine (if_pos h3).trans ?_
        rw [head_apply m c t 1 _ (kg_apply m c t)]
        refine (if_pos ?_).symm
        change 1024 * (t.val % 11) + j.val < 2560
        omega
      · refine (if_neg h3).trans ?_
        refine Eq.trans (zAt_apply m c t r j) (if_neg ?_).symm
        change ¬1024 * (t.val % 11) + j.val < 2560
        omega
    · rw [out_r m c t (by omega), pay7_apply]
      refine Eq.trans (zAt_apply m c t r j) (if_neg ?_).symm
      change ¬1024 * (t.val % 11) + j.val < 2560
      omega

end Cert.ProjIdeal.Hand

end
-- ==== Proof.ProjRef.lean ====
/- The projection's reference, element by element. -/
module

public import proofs.«01_k».proof.Proof.FfnRef
public import proofs.«01_k».proof.Proof.ProjSpec
public import proofs.«01_k».proof.Proof.Gen.ProjReferenceIdeal.Run
public import Idealize.ShloMosaic.Lib.IdealHost
public import Idealize.ShloMosaic.Lib.Pipeline.ValueKit

@[expose] public section

set_option maxRecDepth 16384

noncomputable section

namespace Cert.ProjReferenceIdeal.Hand

open Idealize.ShloMosaic Idealize.ShloMosaic.TcCoe Idealize.ShloMosaic.Tactic
open Cert.FfnReferenceIdeal.Hand (perB nR nR_apply)
open Cert Cert.ProjReferenceIdeal Cert.ProjReferenceIdeal.Gen

def shR (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 3, 0] mod slices_S8x9x2048_S4x1x2048_0_3_0) shapeCasts_S4x1x2048_S4x2048)

def scR (mod : FVec Ideal S8x9x2048 .f32) : FVec Ideal S4x1x2048 .f32 :=
  broadcastInDim S4x1x2048 ![0, 2] bcast_S4x2048_S4x1x2048_0_2 (shapeCast S4x2048 (extractStridedSlice S4x1x2048 ![0, 4, 0] mod slices_S8x9x2048_S4x1x2048_0_4_0) shapeCasts_S4x1x2048_S4x2048)

/-- The rows normalised and modulated. -/
def hR (y : FVec Ideal S4x4096x2048 .f32) (g : FVec Ideal S2048 .f32) (mod : FVec Ideal S8x9x2048 .f32) : FVec Ideal S4x4096x2048 .f32 :=
  addf (mulf (nR y g) (perB (addf (broadcastInDim S4x1x2048 ![] bcast_S_S4x1x2048 (constant S_ .f32 0x3F800000#32)) (scR mod)))) (perB (shR mod))

/-- The weights with the heads' columns in pairs again. -/
def wR (w : FVec Ideal S2048x11264 .bf16) : FVec Ideal S2048x11264 .f32 :=
  concatenate S2048x11264 1 [⟨S2048x2560, shapeCast S2048x2560 (transpose S2048x20x64x2 [0, 1, 3, 2]
      (shapeCast S2048x20x2x64 (extractStridedSlice S2048x2560 ![0, 0] (extf .f32 w bitsLt_bf16_f32) slices_S2048x11264_S2048x2560_0_0) shapeCasts_S2048x2560_S2048x20x2x64)
      transposes_S2048x20x2x64_S2048x20x64x2_0_1_3_2) shapeCasts_S2048x20x64x2_S2048x2560⟩,
    ⟨S2048x8704, extractStridedSlice S2048x8704 ![0, 2560] (extf .f32 w bitsLt_bf16_f32) slices_S2048x11264_S2048x8704_0_2560⟩] concatenates_S2048x2560_S2048x8704_S2048x11264_d1

/-- The projection. -/
def pR (h : FVec Ideal S4x4096x2048 .f32) (w : FVec Ideal S2048x11264 .f32) : FVec Ideal S4x4096x11264 .f32 :=
  Host.dotGeneral dot_S4x4096x2048_S2048x11264_S4x4096x11264_2_0_01_1_n_n none h w

/-- Where a head's entry stands in pairs, and back. -/
def inPair (d : Fin 128) : Fin 128 := ⟨2 * (d.val % 64) + d.val / 64, by omega⟩

def fromPair (i : Fin 128) : Fin 128 := ⟨64 * (i.val % 2) + i.val / 2, by omega⟩

def pairing : Fin 128 ≃ Fin 128 where
  toFun := fromPair
  invFun := inPair
  left_inv i := Fin.ext (by unfold inPair fromPair; dsimp only; omega)
  right_inv d := Fin.ext (by unfold inPair fromPair; dsimp only; omega)

theorem fromPair_inPair (d : Fin 128) : fromPair (inPair d) = d := pairing.right_inv d

/-- A head normalised in pairs is the head normalised. -/
theorem hn_inPair (z : Fin 128 → EReal) (g : Fin 128 → EReal) (d : Fin 128) :
    ProjSpec.hn (fun i => z (fromPair i)) g (inPair d) = ProjSpec.hn z (ProjSpec.halves g) d := by
  have hs : ∑ i, z (fromPair i) * z (fromPair i) = ∑ k, z k * z k := Equiv.sum_comp pairing fun k => z k * z k
  unfold ProjSpec.hn
  dsimp only
  rw [hs, fromPair_inPair]
  rfl

/-- The prepared column of a column. -/
def colR (j : Fin 11264) : Fin 11264 := if h : j.val < 2560 then ⟨128 * (j.val / 128) + (64 * (j.val % 2) + j.val % 128 / 2), by omega⟩ else j

/-- The 2048 columns as heads. -/
def tQ (p : FVec Ideal S4x4096x11264 .f32) : FVec Ideal S4x16x4096x128 .f32 :=
  transpose S4x16x4096x128 [0, 2, 1, 3] (shapeCast S4x4096x16x128 (extractStridedSlice S4x4096x2048 ![0, 0, 0] p slices_S4x4096x11264_S4x4096x2048_0_0_0)
    shapeCasts_S4x4096x2048_S4x4096x16x128) transposes_S4x4096x16x128_S4x16x4096x128_0_2_1_3

/-- The heads normalised. -/
def nQ (t : FVec Ideal S4x16x4096x128 .f32) (g : FVec Ideal S128 .f32) : FVec Ideal S4x16x4096x128 .f32 :=
  mulf (mulf t (broadcastInDim S4x16x4096x128 ![0, 1, 2, 3] bcast_S4x16x4096x1_S4x16x4096x128_0_1_2_3
    (Host.rsqrt (addf (Host.divf (broadcastInDim S4x16x4096x1 ![0, 1, 2] bcast_S4x16x4096_S4x16x4096x1_0_1_2
        (Host.reduceAdd (mulf t t) (constant S_ .f32 0x00000000#32) reducesTo_S4x16x4096x128_S4x16x4096_d3 h_S_))
      (broadcastInDim S4x16x4096x1 ![] bcast_S_S4x16x4096x1 (constant S_ .f32 0x43000000#32)))
      (broadcastInDim S4x16x4096x1 ![] bcast_S_S4x16x4096x1 (constant S_ .f32 0x358637BD#32))))))
    (broadcastInDim S4x16x4096x128 ![0, 1, 2, 3] bcast_S1x1x1x128_S4x16x4096x128_0_1_2_3 (broadcastInDim S1x1x1x128 ![3] bcast_S128_S1x1x1x128_3 g))

/-- A table along the heads. -/
def bQ (c : FVec Ideal S4096x64 .f32) : FVec Ideal S4x16x4096x64 .f32 :=
  broadcastInDim S4x16x4096x64 ![0, 1, 2, 3] bcast_S1x1x4096x64_S4x16x4096x64_0_1_2_3 (broadcastInDim S1x1x4096x64 ![2, 3] bcast_S4096x64_S1x1x4096x64_2_3 c)

/-- The pairs of a head. -/
def prQ (y : FVec Ideal S4x16x4096x128 .f32) : FVec Ideal S4x16x4096x64x2 .f32 :=
  shapeCast S4x16x4096x64x2 y shapeCasts_S4x16x4096x128_S4x16x4096x64x2

def loQ (y : FVec Ideal S4x16x4096x128 .f32) : FVec Ideal S4x16x4096x64 .f32 :=
  shapeCast S4x16x4096x64 (extractStridedSlice S4x16x4096x64x1 ![0, 0, 0, 0, 0] (prQ y) slices_S4x16x4096x64x2_S4x16x4096x64x1_0_0_0_0_0) shapeCasts_S4x16x4096x64x1_S4x16x4096x64

def hiQ (y : FVec Ideal S4x16x4096x128 .f32) : FVec Ideal S4x16x4096x64 .f32 :=
  shapeCast S4x16x4096x64 (extractStridedSlice S4x16x4096x64x1 ![0, 0, 0, 0, 1] (prQ y) slices_S4x16x4096x64x2_S4x16x4096x64x1_0_0_0_0_1) shapeCasts_S4x16x4096x64x1_S4x16x4096x64

def upQ (u : FVec Ideal S4x16x4096x64 .f32) : FVec Ideal S4x16x4096x64x1 .f32 :=
  broadcastInDim S4x16x4096x64x1 ![0, 1, 2, 3] bcast_S4x16x4096x64_S4x16x4096x64x1_0_1_2_3 u

/-- The heads turned. -/
def rQ (y : FVec Ideal S4x16x4096x128 .f32) (cs sn : FVec Ideal S4096x64 .f32) : FVec Ideal S4x16x4096x128 .f32 :=
  shapeCast S4x16x4096x128 (concatenate S4x16x4096x64x2 4 [⟨S4x16x4096x64x1, upQ (subf (mulf (loQ y) (bQ cs)) (mulf (hiQ y) (bQ sn)))⟩,
    ⟨S4x16x4096x64x1, upQ (addf (mulf (loQ y) (bQ sn)) (mulf (hiQ y) (bQ cs)))⟩] concatenates_S4x16x4096x64x1_S4x16x4096x64x1_S4x16x4096x64x2_d4)
    shapeCasts_S4x16x4096x64x2_S4x16x4096x128

/-- The heads side by side, each in halves. -/
def fQ (y : FVec Ideal S4x16x4096x128 .f32) : FVec Ideal S4x4096x2048 .f32 :=
  shapeCast S4x4096x2048 (transpose S4x4096x16x2x64 [0, 2, 1, 4, 3] (prQ y) transposes_S4x16x4096x64x2_S4x4096x16x2x64_0_2_1_4_3) shapeCasts_S4x4096x16x2x64_S4x4096x2048

/-- The 512 columns as heads. -/
def tK (p : FVec Ideal S4x4096x11264 .f32) : FVec Ideal S4x4x4096x128 .f32 :=
  transpose S4x4x4096x128 [0, 2, 1, 3] (shapeCast S4x4096x4x128 (extractStridedSlice S4x4096x512 ![0, 0, 2048] p slices_S4x4096x11264_S4x4096x512_0_0_2048)
    shapeCasts_S4x4096x512_S4x4096x4x128) transposes_S4x4096x4x128_S4x4x4096x128_0_2_1_3

/-- The heads normalised. -/
def nK (t : FVec Ideal S4x4x4096x128 .f32) (g : FVec Ideal S128 .f32) : FVec Ideal S4x4x4096x128 .f32 :=
  mulf (mulf t (broadcastInDim S4x4x4096x128 ![0, 1, 2, 3] bcast_S4x4x4096x1_S4x4x4096x128_0_1_2_3
    (Host.rsqrt (addf (Host.divf (broadcastInDim S4x4x4096x1 ![0, 1, 2] bcast_S4x4x4096_S4x4x4096x1_0_1_2
        (Host.reduceAdd (mulf t t) (constant S_ .f32 0x00000000#32) reducesTo_S4x4x4096x128_S4x4x4096_d3 h_S_))
      (broadcastInDim S4x4x4096x1 ![] bcast_S_S4x4x4096x1 (constant S_ .f32 0x43000000#32)))
      (broadcastInDim S4x4x4096x1 ![] bcast_S_S4x4x4096x1 (constant S_ .f32 0x358637BD#32))))))
    (broadcastInDim S4x4x4096x128 ![0, 1, 2, 3] bcast_S1x1x1x128_S4x4x4096x128_0_1_2_3 (broadcastInDim S1x1x1x128 ![3] bcast_S128_S1x1x1x128_3 g))

/-- A table along the heads. -/
def bK (c : FVec Ideal S4096x64 .f32) : FVec Ideal S4x4x4096x64 .f32 :=
  broadcastInDim S4x4x4096x64 ![0, 1, 2, 3] bcast_S1x1x4096x64_S4x4x4096x64_0_1_2_3 (broadcastInDim S1x1x4096x64 ![2, 3] bcast_S4096x64_S1x1x4096x64_2_3 c)

/-- The pairs of a head. -/
def prK (y : FVec Ideal S4x4x4096x128 .f32) : FVec Ideal S4x4x4096x64x2 .f32 :=
  shapeCast S4x4x4096x64x2 y shapeCasts_S4x4x4096x128_S4x4x4096x64x2

def loK (y : FVec Ideal S4x4x4096x128 .f32) : FVec Ideal S4x4x4096x64 .f32 :=
  shapeCast S4x4x4096x64 (extractStridedSlice S4x4x4096x64x1 ![0, 0, 0, 0, 0] (prK y) slices_S4x4x4096x64x2_S4x4x4096x64x1_0_0_0_0_0) shapeCasts_S4x4x4096x64x1_S4x4x4096x64

def hiK (y : FVec Ideal S4x4x4096x128 .f32) : FVec Ideal S4x4x4096x64 .f32 :=
  shapeCast S4x4x4096x64 (extractStridedSlice S4x4x4096x64x1 ![0, 0, 0, 0, 1] (prK y) slices_S4x4x4096x64x2_S4x4x4096x64x1_0_0_0_0_1) shapeCasts_S4x4x4096x64x1_S4x4x4096x64

def upK (u : FVec Ideal S4x4x4096x64 .f32) : FVec Ideal S4x4x4096x64x1 .f32 :=
  broadcastInDim S4x4x4096x64x1 ![0, 1, 2, 3] bcast_S4x4x4096x64_S4x4x4096x64x1_0_1_2_3 u

/-- The heads turned. -/
def rK (y : FVec Ideal S4x4x4096x128 .f32) (cs sn : FVec Ideal S4096x64 .f32) : FVec Ideal S4x4x4096x128 .f32 :=
  shapeCast S4x4x4096x128 (concatenate S4x4x4096x64x2 4 [⟨S4x4x4096x64x1, upK (subf (mulf (loK y) (bK cs)) (mulf (hiK y) (bK sn)))⟩,
    ⟨S4x4x4096x64x1, upK (addf (mulf (loK y) (bK sn)) (mulf (hiK y) (bK cs)))⟩] concatenates_S4x4x4096x64x1_S4x4x4096x64x1_S4x4x4096x64x2_d4)
    shapeCasts_S4x4x4096x64x2_S4x4x4096x128

/-- The heads side by side, each in halves. -/
def fK (y : FVec Ideal S4x4x4096x128 .f32) : FVec Ideal S4x4096x512 .f32 :=
  shapeCast S4x4096x512 (transpose S4x4096x4x2x64 [0, 2, 1, 4, 3] (prK y) transposes_S4x4x4096x64x2_S4x4096x4x2x64_0_2_1_4_3) shapeCasts_S4x4096x4x2x64_S4x4096x512

/-- The result of the arguments. -/
def resR (x : FVec Ideal S4x4096x2048 .f32) (mod : FVec Ideal S8x9x2048 .f32) (g : FVec Ideal S2048 .f32) (w : FVec Ideal S2048x11264 .bf16)
    (qg kg : FVec Ideal S128 .f32) (cs sn : FVec Ideal S4096x64 .f32) : FVec Ideal S4x4096x11264 .bf16 :=
  truncf .bf16 (concatenate S4x4096x11264 2 [⟨S4x4096x2048, fQ (rQ (nQ (tQ (pR (hR x g mod) (wR w))) qg) cs sn)⟩,
    ⟨S4x4096x512, fK (rK (nK (tK (pR (hR x g mod) (wR w))) kg) cs sn)⟩,
    ⟨S4x4096x8704, extractStridedSlice S4x4096x8704 ![0, 0, 2560] (pR (hR x g mod) (wR w)) slices_S4x4096x11264_S4x4096x8704_0_0_2560⟩]
    concatenates_S4x4096x2048_S4x4096x512_S4x4096x8704_S4x4096x11264_d2) bitsLt_bf16_f32

set_option maxHeartbeats 8000000 in
theorem res_eq (m : (ℓ : Loc nD τ sig) → Buf (Elt Ideal) ℓ) (c : Dev nD) : Value.res_main_v119 m c
    = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v119
  rfl

section
variable (b : Fin 4) (h : Fin 16) (r : Fin 4096) (d : Fin 128)

theorem tQ_apply (p : FVec Ideal S4x4096x11264 .f32) : tQ p (ix4 b h r d) = p (ix3 b r ⟨0 + (h.val * 128 + d.val), by omega⟩) := by
  unfold tQ
  refine (transpose_apply _ _ _ _ (ix4 b r h d) fun a => by fin_cases a <;> rfl).trans ?_
  refine (shapeCast_apply _ _ _ (ix3 b r (⟨h.val * 128 + d.val, by omega⟩ : Fin 2048)) (by
    rw [Shape.rowMajor_val_three, Shape.rowMajor_val_four]
    change (b.val * 4096 + r.val) * 2048 + (h.val * 128 + d.val) = ((b.val * 4096 + r.val) * 16 + h.val) * 128 + d.val
    omega)).trans ?_
  exact extractStridedSlice_apply _ _ _ _ _ fun a => by
    fin_cases a
    · exact (Nat.zero_add _).symm
    · exact (Nat.zero_add _).symm
    · rfl

theorem nQ_apply (t : FVec Ideal S4x16x4096x128 .f32) (g : FVec Ideal S128 .f32) :
    nQ t g (ix4 b h r d) = ProjSpec.hn (fun k => t (ix4 b h r k)) (fun k => g (ix1 k)) d := by
  unfold ProjSpec.hn
  pointwise [nQ]

theorem bQ_apply (c : FVec Ideal S4096x64 .f32) (k : Fin 64) : bQ c (ix4 b h r k) = c (ix2 r k) := by
  pointwise [bQ]

theorem prQ_apply (y : FVec Ideal S4x16x4096x128 .f32) (k : Fin 64) (e : Fin 2) : prQ y (ix5 b h r k e) = y (ix4 b h r ⟨2 * k.val + e.val, by omega⟩) :=
  shapeCast_apply _ _ _ (ix4 b h r (⟨2 * k.val + e.val, by omega⟩ : Fin 128)) (by
    rw [Shape.rowMajor_val_five, Shape.rowMajor_val_four]
    change ((b.val * 16 + h.val) * 4096 + r.val) * 128 + (2 * k.val + e.val) = (((b.val * 16 + h.val) * 4096 + r.val) * 64 + k.val) * 2 + e.val
    omega)

theorem dropQ_apply (u : FVec Ideal S4x16x4096x64x1 .f32) (k : Fin 64) :
    shapeCast S4x16x4096x64 u shapeCasts_S4x16x4096x64x1_S4x16x4096x64 (ix4 b h r k) = u (ix5 b h r k 0) :=
  shapeCast_apply _ _ _ (ix5 b h r k (0 : Fin 1)) (by
    rw [Shape.rowMajor_val_five, Shape.rowMajor_val_four]
    change (((b.val * 16 + h.val) * 4096 + r.val) * 64 + k.val) * 1 + 0 = ((b.val * 16 + h.val) * 4096 + r.val) * 64 + k.val
    omega)

theorem loQ_apply (y : FVec Ideal S4x16x4096x128 .f32) (k : Fin 64) : loQ y (ix4 b h r k) = y (ix4 b h r ⟨2 * k.val, by omega⟩) := by
  unfold loQ
  refine (dropQ_apply b h r _ k).trans ((extractStridedSlice_apply _ _ _ _ (ix5 b h r k (0 : Fin 2)) fun a => ?_).trans (prQ_apply b h r y k 0))
  fin_cases a <;> exact (Nat.zero_add _).symm

theorem hiQ_apply (y : FVec Ideal S4x16x4096x128 .f32) (k : Fin 64) : hiQ y (ix4 b h r k) = y (ix4 b h r ⟨2 * k.val + 1, by omega⟩) := by
  unfold hiQ
  refine (dropQ_apply b h r _ k).trans ((extractStridedSlice_apply _ _ _ _ (ix5 b h r k (1 : Fin 2)) fun a => ?_).trans (prQ_apply b h r y k 1))
  fin_cases a <;> first | exact (Nat.zero_add _).symm | rfl

theorem upQ_apply (u : FVec Ideal S4x16x4096x64 .f32) (k : Fin 64) : upQ u (ix5 b h r k 0) = u (ix4 b h r k) := by
  pointwise [upQ]

theorem rQ_apply (y : FVec Ideal S4x16x4096x128 .f32) (cs sn : FVec Ideal S4096x64 .f32) :
    rQ y cs sn (ix4 b h r (inPair d)) = ProjSpec.turn (fun k => y (ix4 b h r (inPair k))) (fun k => cs (ix2 r k)) (fun k => sn (ix2 r k)) d := by
  unfold rQ ProjSpec.turn
  have hl := d.isLt
  by_cases hd : d.val < 64
  · rw [dif_pos hd]
    refine (shapeCast_apply _ _ _ (ix5 b h r (⟨d.val, hd⟩ : Fin 64) (0 : Fin 2)) (by
      rw [Shape.rowMajor_val_five, Shape.rowMajor_val_four]
      change (((b.val * 16 + h.val) * 4096 + r.val) * 64 + d.val) * 2 + 0 = ((b.val * 16 + h.val) * 4096 + r.val) * 128 + (2 * (d.val % 64) + d.val / 64)
      omega)).trans ?_
    refine (concatenate_pair_apply_left (t := S4x16x4096x64x2) (s₁ := S4x16x4096x64x1) (s₂ := S4x16x4096x64x1) (4 : Fin 5) _ _ _ _ rfl
      (ix5 b h r (⟨d.val, hd⟩ : Fin 64) (0 : Fin 1)) fun a => by fin_cases a <;> rfl).trans ?_
    rw [upQ_apply, subf_apply, mulf_apply, mulf_apply, loQ_apply, hiQ_apply, bQ_apply, bQ_apply]
    have e1 : inPair d = ⟨2 * d.val, by omega⟩ := Fin.ext (by unfold inPair; dsimp only; omega)
    have e2 : inPair ⟨d.val + 64, by omega⟩ = ⟨2 * d.val + 1, by omega⟩ := Fin.ext (by unfold inPair; dsimp only; omega)
    simp only [e1, e2]
    rfl
  · rw [dif_neg hd]
    refine (shapeCast_apply _ _ _ (ix5 b h r (⟨d.val - 64, by omega⟩ : Fin 64) (1 : Fin 2)) (by
      rw [Shape.rowMajor_val_five, Shape.rowMajor_val_four]
      change (((b.val * 16 + h.val) * 4096 + r.val) * 64 + (d.val - 64)) * 2 + 1 = ((b.val * 16 + h.val) * 4096 + r.val) * 128 + (2 * (d.val % 64) + d.val / 64)
      omega)).trans ?_
    refine (concatenate_pair_apply_right (t := S4x16x4096x64x2) (s₁ := S4x16x4096x64x1) (s₂ := S4x16x4096x64x1) (4 : Fin 5) _ _ _ _ rfl rfl
      (ix5 b h r (⟨d.val - 64, by omega⟩ : Fin 64) (0 : Fin 1)) (fun a ha => by fin_cases a <;> first | rfl | exact absurd rfl ha) rfl).trans ?_
    rw [upQ_apply, addf_apply, mulf_apply, mulf_apply, loQ_apply, hiQ_apply, bQ_apply, bQ_apply]
    have e1 : inPair ⟨d.val - 64, by omega⟩ = ⟨2 * (d.val - 64), by omega⟩ := Fin.ext (by unfold inPair; dsimp only; omega)
    have e2 : inPair d = ⟨2 * (d.val - 64) + 1, by omega⟩ := Fin.ext (by unfold inPair; dsimp only; omega)
    simp only [e1, e2]
    rfl

theorem fQ_apply (y : FVec Ideal S4x16x4096x128 .f32) (j : Fin 2048) :
    fQ y (ix3 b r j) = y (ix4 b (⟨j.val / 128, by omega⟩ : Fin 16) r (inPair ⟨j.val % 128, Nat.mod_lt _ (by norm_num)⟩)) := by
  unfold fQ
  refine (shapeCast_apply _ _ _ (ix5 b r (⟨j.val / 128, by omega⟩ : Fin 16) (⟨j.val % 128 / 64, by omega⟩ : Fin 2) (⟨j.val % 64, by omega⟩ : Fin 64)) (by
    rw [Shape.rowMajor_val_three, Shape.rowMajor_val_five]
    change (((b.val * 4096 + r.val) * 16 + j.val / 128) * 2 + j.val % 128 / 64) * 64 + j.val % 64 = (b.val * 4096 + r.val) * 2048 + j.val
    omega)).trans ?_
  refine (transpose_apply _ _ _ (ix5 b r (⟨j.val / 128, by omega⟩ : Fin 16) (⟨j.val % 128 / 64, by omega⟩ : Fin 2) (⟨j.val % 64, by omega⟩ : Fin 64))
    (ix5 b (⟨j.val / 128, by omega⟩ : Fin 16) r (⟨j.val % 64, by omega⟩ : Fin 64) (⟨j.val % 128 / 64, by omega⟩ : Fin 2)) fun a => by fin_cases a <;> rfl).trans ?_
  refine (prQ_apply b _ r y _ _).trans (congrArg (fun i => y (ix4 b _ r i)) (Fin.ext ?_))
  unfold inPair
  dsimp only
  omega
end

section
variable (b : Fin 4) (h : Fin 4) (r : Fin 4096) (d : Fin 128)

theorem tK_apply (p : FVec Ideal S4x4096x11264 .f32) : tK p (ix4 b h r d) = p (ix3 b r ⟨2048 + (h.val * 128 + d.val), by omega⟩) := by
  unfold tK
  refine (transpose_apply _ _ _ _ (ix4 b r h d) fun a => by fin_cases a <;> rfl).trans ?_
  refine (shapeCast_apply _ _ _ (ix3 b r (⟨h.val * 128 + d.val, by omega⟩ : Fin 512)) (by
    rw [Shape.rowMajor_val_three, Shape.rowMajor_val_four]
    change (b.val * 4096 + r.val) * 512 + (h.val * 128 + d.val) = ((b.val * 4096 + r.val) * 4 + h.val) * 128 + d.val
    omega)).trans ?_
  exact extractStridedSlice_apply _ _ _ _ _ fun a => by
    fin_cases a
    · exact (Nat.zero_add _).symm
    · exact (Nat.zero_add _).symm
    · rfl

theorem nK_apply (t : FVec Ideal S4x4x4096x128 .f32) (g : FVec Ideal S128 .f32) :
    nK t g (ix4 b h r d) = ProjSpec.hn (fun k => t (ix4 b h r k)) (fun k => g (ix1 k)) d := by
  unfold ProjSpec.hn
  pointwise [nK]

theorem bK_apply (c : FVec Ideal S4096x64 .f32) (k : Fin 64) : bK c (ix4 b h r k) = c (ix2 r k) := by
  pointwise [bK]

theorem prK_apply (y : FVec Ideal S4x4x4096x128 .f32) (k : Fin 64) (e : Fin 2) : prK y (ix5 b h r k e) = y (ix4 b h r ⟨2 * k.val + e.val, by omega⟩) :=
  shapeCast_apply _ _ _ (ix4 b h r (⟨2 * k.val + e.val, by omega⟩ : Fin 128)) (by
    rw [Shape.rowMajor_val_five, Shape.rowMajor_val_four]
    change ((b.val * 4 + h.val) * 4096 + r.val) * 128 + (2 * k.val + e.val) = (((b.val * 4 + h.val) * 4096 + r.val) * 64 + k.val) * 2 + e.val
    omega)

theorem dropK_apply (u : FVec Ideal S4x4x4096x64x1 .f32) (k : Fin 64) :
    shapeCast S4x4x4096x64 u shapeCasts_S4x4x4096x64x1_S4x4x4096x64 (ix4 b h r k) = u (ix5 b h r k 0) :=
  shapeCast_apply _ _ _ (ix5 b h r k (0 : Fin 1)) (by
    rw [Shape.rowMajor_val_five, Shape.rowMajor_val_four]
    change (((b.val * 4 + h.val) * 4096 + r.val) * 64 + k.val) * 1 + 0 = ((b.val * 4 + h.val) * 4096 + r.val) * 64 + k.val
    omega)

theorem loK_apply (y : FVec Ideal S4x4x4096x128 .f32) (k : Fin 64) : loK y (ix4 b h r k) = y (ix4 b h r ⟨2 * k.val, by omega⟩) := by
  unfold loK
  refine (dropK_apply b h r _ k).trans ((extractStridedSlice_apply _ _ _ _ (ix5 b h r k (0 : Fin 2)) fun a => ?_).trans (prK_apply b h r y k 0))
  fin_cases a <;> exact (Nat.zero_add _).symm

theorem hiK_apply (y : FVec Ideal S4x4x4096x128 .f32) (k : Fin 64) : hiK y (ix4 b h r k) = y (ix4 b h r ⟨2 * k.val + 1, by omega⟩) := by
  unfold hiK
  refine (dropK_apply b h r _ k).trans ((extractStridedSlice_apply _ _ _ _ (ix5 b h r k (1 : Fin 2)) fun a => ?_).trans (prK_apply b h r y k 1))
  fin_cases a <;> first | exact (Nat.zero_add _).symm | rfl

theorem upK_apply (u : FVec Ideal S4x4x4096x64 .f32) (k : Fin 64) : upK u (ix5 b h r k 0) = u (ix4 b h r k) := by
  pointwise [upK]

theorem rK_apply (y : FVec Ideal S4x4x4096x128 .f32) (cs sn : FVec Ideal S4096x64 .f32) :
    rK y cs sn (ix4 b h r (inPair d)) = ProjSpec.turn (fun k => y (ix4 b h r (inPair k))) (fun k => cs (ix2 r k)) (fun k => sn (ix2 r k)) d := by
  unfold rK ProjSpec.turn
  have hl := d.isLt
  by_cases hd : d.val < 64
  · rw [dif_pos hd]
    refine (shapeCast_apply _ _ _ (ix5 b h r (⟨d.val, hd⟩ : Fin 64) (0 : Fin 2)) (by
      rw [Shape.rowMajor_val_five, Shape.rowMajor_val_four]
      change (((b.val * 4 + h.val) * 4096 + r.val) * 64 + d.val) * 2 + 0 = ((b.val * 4 + h.val) * 4096 + r.val) * 128 + (2 * (d.val % 64) + d.val / 64)
      omega)).trans ?_
    refine (concatenate_pair_apply_left (t := S4x4x4096x64x2) (s₁ := S4x4x4096x64x1) (s₂ := S4x4x4096x64x1) (4 : Fin 5) _ _ _ _ rfl
      (ix5 b h r (⟨d.val, hd⟩ : Fin 64) (0 : Fin 1)) fun a => by fin_cases a <;> rfl).trans ?_
    rw [upK_apply, subf_apply, mulf_apply, mulf_apply, loK_apply, hiK_apply, bK_apply, bK_apply]
    have e1 : inPair d = ⟨2 * d.val, by omega⟩ := Fin.ext (by unfold inPair; dsimp only; omega)
    have e2 : inPair ⟨d.val + 64, by omega⟩ = ⟨2 * d.val + 1, by omega⟩ := Fin.ext (by unfold inPair; dsimp only; omega)
    simp only [e1, e2]
    rfl
  · rw [dif_neg hd]
    refine (shapeCast_apply _ _ _ (ix5 b h r (⟨d.val - 64, by omega⟩ : Fin 64) (1 : Fin 2)) (by
      rw [Shape.rowMajor_val_five, Shape.rowMajor_val_four]
      change (((b.val * 4 + h.val) * 4096 + r.val) * 64 + (d.val - 64)) * 2 + 1 = ((b.val * 4 + h.val) * 4096 + r.val) * 128 + (2 * (d.val % 64) + d.val / 64)
      omega)).trans ?_
    refine (concatenate_pair_apply_right (t := S4x4x4096x64x2) (s₁ := S4x4x4096x64x1) (s₂ := S4x4x4096x64x1) (4 : Fin 5) _ _ _ _ rfl rfl
      (ix5 b h r (⟨d.val - 64, by omega⟩ : Fin 64) (0 : Fin 1)) (fun a ha => by fin_cases a <;> first | rfl | exact absurd rfl ha) rfl).trans ?_
    rw [upK_apply, addf_apply, mulf_apply, mulf_apply, loK_apply, hiK_apply, bK_apply, bK_apply]
    have e1 : inPair ⟨d.val - 64, by omega⟩ = ⟨2 * (d.val - 64), by omega⟩ := Fin.ext (by unfold inPair; dsimp only; omega)
    have e2 : inPair d = ⟨2 * (d.val - 64) + 1, by omega⟩ := Fin.ext (by unfold inPair; dsimp only; omega)
    simp only [e1, e2]
    rfl

theorem fK_apply (y : FVec Ideal S4x4x4096x128 .f32) (j : Fin 512) :
    fK y (ix3 b r j) = y (ix4 b (⟨j.val / 128, by omega⟩ : Fin 4) r (inPair ⟨j.val % 128, Nat.mod_lt _ (by norm_num)⟩)) := by
  unfold fK
  refine (shapeCast_apply _ _ _ (ix5 b r (⟨j.val / 128, by omega⟩ : Fin 4) (⟨j.val % 128 / 64, by omega⟩ : Fin 2) (⟨j.val % 64, by omega⟩ : Fin 64)) (by
    rw [Shape.rowMajor_val_three, Shape.rowMajor_val_five]
    change (((b.val * 4096 + r.val) * 4 + j.val / 128) * 2 + j.val % 128 / 64) * 64 + j.val % 64 = (b.val * 4096 + r.val) * 512 + j.val
    omega)).trans ?_
  refine (transpose_apply _ _ _ (ix5 b r (⟨j.val / 128, by omega⟩ : Fin 4) (⟨j.val % 128 / 64, by omega⟩ : Fin 2) (⟨j.val % 64, by omega⟩ : Fin 64))
    (ix5 b (⟨j.val / 128, by omega⟩ : Fin 4) r (⟨j.val % 64, by omega⟩ : Fin 64) (⟨j.val % 128 / 64, by omega⟩ : Fin 2)) fun a => by fin_cases a <;> rfl).trans ?_
  refine (prK_apply b _ r y _ _).trans (congrArg (fun i => y (ix4 b _ r i)) (Fin.ext ?_))
  unfold inPair
  dsimp only
  omega
end

section
variable (b : Fin 4) (r : Fin 4096) (e : Fin 2048)

theorem shR_apply (mod : FVec Ideal S8x9x2048 .f32) : shR mod (ix3 b 0 e) = mod (ix3 ⟨b.val, by omega⟩ 3 e) := by
  pointwise [shR]

theorem scR_apply (mod : FVec Ideal S8x9x2048 .f32) : scR mod (ix3 b 0 e) = mod (ix3 ⟨b.val, by omega⟩ 4 e) := by
  pointwise [scR]

theorem hR_apply (y : FVec Ideal S4x4096x2048 .f32) (g : FVec Ideal S2048 .f32) (mod : FVec Ideal S8x9x2048 .f32) :
    hR y g mod (ix3 b r e) = FfnSpec.hid (fun k => y (ix3 b r k)) (fun k => g (ix1 k)) (fun k => mod (ix3 ⟨b.val, by omega⟩ 3 k))
      (fun k => mod (ix3 ⟨b.val, by omega⟩ 4 k)) e := by
  have h1 := nR_apply b r e y g
  unfold FfnSpec.nrm at h1
  dsimp only at h1
  unfold FfnSpec.hid
  dsimp only
  rw [← h1, ← shR_apply b e mod, ← scR_apply b e mod]
  pointwise [hR, perB]

theorem wR_apply (w : FVec Ideal S2048x11264 .bf16) (k : Fin 2048) (j : Fin 11264) : wR w (ix2 k j) = w (ix2 k (colR j)) := by
  have hj := j.isLt
  unfold wR colR
  by_cases h : j.val < 2560
  · rw [dif_pos h]
    refine (concatenate_pair_apply_left (t := S2048x11264) (s₁ := S2048x2560) (s₂ := S2048x8704) (1 : Fin 2) _ _ _ _ rfl (ix2 k (⟨j.val, h⟩ : Fin 2560))
      fun a => by fin_cases a <;> rfl).trans ?_
    refine (shapeCast_apply _ _ _ (ix4 k (⟨j.val / 128, by omega⟩ : Fin 20) (⟨j.val % 128 / 2, by omega⟩ : Fin 64) (⟨j.val % 2, by omega⟩ : Fin 2)) (by
      rw [Shape.rowMajor_val_two, Shape.rowMajor_val_four]
      change ((k.val * 20 + j.val / 128) * 64 + j.val % 128 / 2) * 2 + j.val % 2 = k.val * 2560 + j.val
      omega)).trans ?_
    refine (transpose_apply _ _ _ (ix4 k (⟨j.val / 128, by omega⟩ : Fin 20) (⟨j.val % 128 / 2, by omega⟩ : Fin 64) (⟨j.val % 2, by omega⟩ : Fin 2))
      (ix4 k (⟨j.val / 128, by omega⟩ : Fin 20) (⟨j.val % 2, by omega⟩ : Fin 2) (⟨j.val % 128 / 2, by omega⟩ : Fin 64)) fun a => by fin_cases a <;> rfl).trans ?_
    refine (shapeCast_apply _ _ _ (ix2 k (⟨128 * (j.val / 128) + (64 * (j.val % 2) + j.val % 128 / 2), by omega⟩ : Fin 2560)) (by
      rw [Shape.rowMajor_val_two, Shape.rowMajor_val_four]
      change k.val * 2560 + (128 * (j.val / 128) + (64 * (j.val % 2) + j.val % 128 / 2)) = ((k.val * 20 + j.val / 128) * 2 + j.val % 2) * 64 + j.val % 128 / 2
      omega)).trans ?_
    refine (extractStridedSlice_apply _ _ _ _ (ix2 k (⟨128 * (j.val / 128) + (64 * (j.val % 2) + j.val % 128 / 2), by omega⟩ : Fin 11264)) fun a => ?_).trans rfl
    fin_cases a <;> exact (Nat.zero_add _).symm
  · rw [dif_neg h]
    refine (concatenate_pair_apply_right (t := S2048x11264) (s₁ := S2048x2560) (s₂ := S2048x8704) (1 : Fin 2) _ _ _ _ rfl rfl (ix2 k (⟨j.val - 2560, by omega⟩ : Fin 8704))
      (fun a ha => by fin_cases a <;> first | rfl | exact absurd rfl ha) (by
        change j.val - 2560 + 2560 = j.val
        omega)).trans ?_
    refine (extractStridedSlice_apply _ _ _ _ (ix2 k j) fun a => ?_).trans rfl
    fin_cases a
    · exact (Nat.zero_add _).symm
    · change j.val = 2560 + (j.val - 2560)
      omega

theorem pR_apply (h : FVec Ideal S4x4096x2048 .f32) (w : FVec Ideal S2048x11264 .f32) (j : Fin 11264) :
    pR h w (ix3 b r j) = ∑ k : Fin 2048, h (ix3 b r k) * w (ix2 k j) := by
  pointwise [pR]
end

theorem colR_head (q : Fin 20) (i : Fin 128) : colR ⟨128 * q.val + i.val, by omega⟩ = ⟨128 * q.val + (fromPair i).val, by omega⟩ := by
  have hq := q.isLt
  have hi := i.isLt
  unfold colR fromPair
  rw [dif_pos (by dsimp only; omega)]
  refine Fin.ext ?_
  dsimp only
  omega

/-- The three parts of a row. -/
theorem cat_apply (u : FVec Ideal S4x4096x2048 .f32) (v : FVec Ideal S4x4096x512 .f32) (w : FVec Ideal S4x4096x8704 .f32) (b : Fin 4) (r : Fin 4096) (j : Fin 11264) :
    concatenate S4x4096x11264 2 [⟨S4x4096x2048, u⟩, ⟨S4x4096x512, v⟩, ⟨S4x4096x8704, w⟩] concatenates_S4x4096x2048_S4x4096x512_S4x4096x8704_S4x4096x11264_d2 (ix3 b r j)
      = if h1 : j.val < 2048 then u (ix3 b r ⟨j.val, h1⟩) else if h2 : j.val < 2560 then v (ix3 b r ⟨j.val - 2048, by omega⟩)
        else w (ix3 b r ⟨j.val - 2560, by omega⟩) := by
  have hj := j.isLt
  by_cases h1 : j.val < 2048
  · rw [dif_pos h1]
    exact concatenate_apply_piece (t := S4x4096x11264) (2 : Fin 3) [⟨S4x4096x2048, u⟩, ⟨S4x4096x512, v⟩, ⟨S4x4096x8704, w⟩] _ (ix3 b r j) 0
      (by show 0 < 3; norm_num) S4x4096x2048 u rfl rfl 0 rfl
      (ix3 b r (⟨j.val, h1⟩ : Fin 2048)) (fun a ha => by fin_cases a <;> first | rfl | exact absurd rfl ha) (Nat.zero_add _)
  · rw [dif_neg h1]
    by_cases h2 : j.val < 2560
    · rw [dif_pos h2]
      exact concatenate_apply_piece (t := S4x4096x11264) (2 : Fin 3) [⟨S4x4096x2048, u⟩, ⟨S4x4096x512, v⟩, ⟨S4x4096x8704, w⟩] _ (ix3 b r j) 1
        (by show 1 < 3; norm_num) S4x4096x512 v rfl rfl 2048 rfl
        (ix3 b r (⟨j.val - 2048, by omega⟩ : Fin 512)) (fun a ha => by fin_cases a <;> first | rfl | exact absurd rfl ha) (by
          change 2048 + (j.val - 2048) = j.val
          omega)
    · rw [dif_neg h2]
      exact concatenate_apply_piece (t := S4x4096x11264) (2 : Fin 3) [⟨S4x4096x2048, u⟩, ⟨S4x4096x512, v⟩, ⟨S4x4096x8704, w⟩] _ (ix3 b r j) 2
        (by show 2 < 3; norm_num) S4x4096x8704 w rfl rfl 2560 rfl
        (ix3 b r (⟨j.val - 2560, by omega⟩ : Fin 8704)) (fun a ha => by fin_cases a <;> first | rfl | exact absurd rfl ha) (by
          change 2560 + (j.val - 2560) = j.val
          omega)

/-- The reference, element by element. -/
theorem resR_apply (b : Fin 4) (r : Fin 4096) (j : Fin 11264) (x : FVec Ideal S4x4096x2048 .f32) (mod : FVec Ideal S8x9x2048 .f32) (g : FVec Ideal S2048 .f32)
    (w : FVec Ideal S2048x11264 .bf16) (qg kg : FVec Ideal S128 .f32) (cs sn : FVec Ideal S4096x64 .f32) :
    resR x mod g w qg kg cs sn (ix3 b r j) = ProjSpec.row (fun j => ∑ k : Fin 2048, FfnSpec.hid (fun k => x (ix3 b r k)) (fun k => g (ix1 k))
        (fun k => mod (ix3 ⟨b.val, by omega⟩ 3 k)) (fun k => mod (ix3 ⟨b.val, by omega⟩ 4 k)) k * w (ix2 k j))
      (fun k => qg (ix1 k)) (fun k => kg (ix1 k)) (fun k => cs (ix2 r k)) (fun k => sn (ix2 r k)) j := by
  obtain ⟨z, hzd⟩ : ∃ z : Fin 11264 → EReal, z = fun j => ∑ k : Fin 2048, FfnSpec.hid (fun k => x (ix3 b r k)) (fun k => g (ix1 k))
        (fun k => mod (ix3 ⟨b.val, by omega⟩ 3 k)) (fun k => mod (ix3 ⟨b.val, by omega⟩ 4 k)) k * w (ix2 k j) := ⟨_, rfl⟩
  have hz : ∀ j : Fin 11264, pR (hR x g mod) (wR w) (ix3 b r j) = z (colR j) := fun j => by
    rw [pR_apply, hzd]
    simp only [hR_apply, wR_apply]
  rw [← hzd]
  have hj := j.isLt
  have hd : j.val % 128 < 128 := Nat.mod_lt _ (by norm_num)
  unfold resR ProjSpec.row
  generalize pR (hR x g mod) (wR w) = p at hz ⊢
  refine (cat_apply _ _ _ b r j).trans ?_
  by_cases h1 : j.val < 2048
  · rw [if_pos h1, dif_pos h1, fQ_apply, rQ_apply]
    simp only [nQ_apply, tQ_apply, hz]
    have e : ∀ d : Fin 128, colR ⟨0 + (j.val / 128 * 128 + d.val), by omega⟩ = ⟨128 * (j.val / 128) + (fromPair d).val, by omega⟩ := fun d =>
      (congrArg colR (Fin.ext (by dsimp only; omega))).trans (colR_head ⟨j.val / 128, by omega⟩ d)
    simp only [e]
    refine congrArg (fun y => ProjSpec.turn y _ _ _) (funext fun d => ?_)
    exact hn_inPair (fun d => z ⟨128 * (j.val / 128) + d.val, by omega⟩) _ d
  · rw [if_neg h1, dif_neg h1]
    by_cases h2 : j.val < 2560
    · rw [if_pos h2, dif_pos h2, fK_apply, rK_apply]
      simp only [nK_apply, tK_apply, hz]
      have e : ∀ d : Fin 128, colR ⟨2048 + ((j.val - 2048) / 128 * 128 + d.val), by omega⟩ = ⟨128 * (j.val / 128) + (fromPair d).val, by omega⟩ := fun d =>
        (congrArg colR (Fin.ext (by dsimp only; omega))).trans (colR_head ⟨j.val / 128, by omega⟩ d)
      have e' : (⟨(j.val - 2048) % 128, Nat.mod_lt _ (by norm_num)⟩ : Fin 128) = ⟨j.val % 128, Nat.mod_lt _ (by norm_num)⟩ := Fin.ext (by dsimp only; omega)
      simp only [e, e']
      refine congrArg (fun y => ProjSpec.turn y _ _ _) (funext fun d => ?_)
      exact hn_inPair (fun d => z ⟨128 * (j.val / 128) + d.val, by omega⟩) _ d
    · rw [if_neg h2, dif_neg h2]
      refine Eq.trans (b := p (ix3 b r j)) (extractStridedSlice_apply _ _ _ _ _ fun a => ?_) ((hz j).trans (congrArg z (dif_neg h2)))
      fin_cases a
      · exact (Nat.zero_add _).symm
      · exact (Nat.zero_add _).symm
      · change j.val = 2560 + (j.val - 2560)
        omega

end Cert.ProjReferenceIdeal.Hand

end
-- ==== Proof.ProjAll.lean ====
/- The projection's claims: its three frames, and the kernel and the reference ending with equal results. -/
module

public import proofs.«01_k».proof.Defs
public import proofs.«01_k».proof.Proof.Gen.Proj
public import proofs.«01_k».proof.Proof.Gen.Proj.Skeleton
public import proofs.«01_k».proof.Proof.Gen.Proj.Loops
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Value
public import proofs.«01_k».proof.Proof.Gen.ProjReferenceIdeal
public import proofs.«01_k».proof.Proof.ProjArr
public import proofs.«01_k».proof.Proof.ProjRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.Tactic Idealize.SL.Sem

theorem proj_ref_frame : Cert.quiescent_ProjReferenceIdeal (hProjReferenceIdeal := Cert.ProjReferenceIdeal.Gen.facts) := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem proj : Cert.algebraic_ProjIdeal_ProjReferenceIdeal
    (hProjIdeal := Cert.ProjIdeal.Gen.facts) (hProjReferenceIdeal := Cert.ProjReferenceIdeal.Gen.facts) := by
  intro m g m' g' _ hm
  refine ⟨fun c => (Cert.ProjIdeal.Gen.dats m 0 c).arrAt 7 Cert.ProjIdeal.cfg0.N, Cert.ProjIdeal.Value.run_blocks m g, ?_⟩
  refine (θ_run Cert.ProjReferenceIdeal.defs _ _).mono (fun r h c => ⟨(h c).1.trans ?_, (h c).2⟩) (Cert.ProjReferenceIdeal.Value.run (F := Ideal) m' g')
  obtain ⟨h0, h1, h2, h3, h4, h5, h6, h7⟩ := hm c
  refine (Cert.ProjReferenceIdeal.Hand.res_eq m' c).trans ?_
  refine Eq.trans ?_ (Cert.ProjIdeal.Hand.arr_eq m c _ _ _ _ _ _ _ _ h0.symm h1.symm h2.symm h3.symm h4.symm h5.symm h6.symm h7.symm).symm
  funext i
  obtain ⟨b, r, e, rfl⟩ : ∃ (b : Fin 4) (r : Fin 4096) (e : Fin 11264), i = ix3 b r e := ⟨i 0, i 1, i 2, funext fun a => by fin_cases a <;> rfl⟩
  exact Cert.ProjReferenceIdeal.Hand.resR_apply b r e _ _ _ _ _ _ _ _

end Cert.Proof

end
-- ==== Proof.MergeSpec.lean ====
/- The merge of one token on the extended reals, and the kernel's order of it. -/
module

public import Idealize.ShloMosaic.PureOps.Ideal
public import Idealize.ShloMosaic.PureOps.Ideal.Laws
public import Idealize.ShloMosaic.Lib.IdealHost

@[expose] public section

noncomputable section

namespace Cert.MergeSpec

open Idealize.ShloMosaic

/-- The gate's gelu. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- A gate that is kept halved. -/
def gate (a : EReal) : EReal := Ideal.div 1 (1 + Ideal.exp (-(Ideal.ofBits .f32 0x40000000#32 * a)))

/-- The two branches, gated. -/
def mix (a h g ga gl : EReal) : EReal := gate ga * a + gate gl * (h * gelu g)

/-- The merge: the gated branches projected, times the modulation's gate. -/
def out (md : EReal) (a h g ga gl w : Fin 2048 → EReal) : EReal :=
  md * ∑ k, mix (a k) (h k) (g k) (ga k) (gl k) * w k

/-- The kernel's gelu. -/
def kgelu (x : EReal) : EReal :=
  Ideal.ofBits .f32 0x3F000000#32 * x * (1 + Ideal.tanh (Ideal.ofBits .f32 0x3F4C422A#32 * (x + Ideal.ofBits .f32 0x3D372713#32 * x * x * x)))

/-- The kernel's mixture, twice the reference's. -/
def kmix (a h g ga gl : EReal) : EReal := a * (1 + Ideal.tanh ga) + h * kgelu g * (1 + Ideal.tanh gl)

theorem lit_half : Ideal.ofBits .f32 0x3F000000#32 = ((1 / 2 : ℝ) : EReal) := by
  simp [Ideal.ofBits, Ideal.ieee, -EReal.coe_mul]; norm_num

theorem lit_2 : Ideal.ofBits .f32 0x40000000#32 = ((2 : ℝ) : EReal) := by
  simp [Ideal.ofBits, Ideal.ieee, -EReal.coe_mul]; norm_num

theorem gelu_eq (x : EReal) : kgelu x = gelu x := by
  unfold kgelu gelu
  simp only [mul_assoc]
  rw [mul_left_comm]

theorem real_half (r : ℝ) : 1 / 2 * (1 + Real.tanh r) = (1 + Real.exp (-(2 * r)))⁻¹ := by
  have h : Real.exp (-(2 * r)) = Real.exp (-r) * Real.exp (-r) := by rw [← Real.exp_add]; ring_nf
  have h1 : Real.exp r * Real.exp (-r) = 1 := by rw [← Real.exp_add]; simp
  have hp := Real.exp_pos r
  have hn := Real.exp_pos (-r)
  have h2 : Real.exp r = (Real.exp (-r))⁻¹ := eq_inv_of_mul_eq_one_left h1
  rw [h, Real.tanh_eq_sinh_div_cosh, Real.sinh_eq, Real.cosh_eq, h2]
  field_simp
  ring

theorem half_tanh (a : EReal) : Ideal.ofBits .f32 0x3F000000#32 * (1 + Ideal.tanh a) = gate a := by
  change _ = Ideal.logistic (Ideal.ofBits .f32 0x40000000#32 * a)
  rw [lit_half, lit_2]
  induction a with
  | bot =>
    rw [Ideal.tanh_bot, EReal.coe_mul_bot_of_pos (by norm_num), Ideal.logistic_bot,
      show (1 : EReal) + -1 = 0 from by rw [← EReal.coe_one, ← EReal.coe_neg, ← EReal.coe_add]; norm_num, mul_zero]
  | top =>
    rw [Ideal.tanh_top, EReal.coe_mul_top_of_pos (by norm_num), Ideal.logistic_top, ← EReal.coe_one, ← EReal.coe_add, ← EReal.coe_mul]
    norm_num
  | coe r =>
    rw [Ideal.tanh_coe, ← EReal.coe_mul, Ideal.logistic_coe, ← EReal.coe_one, ← EReal.coe_add, ← EReal.coe_mul, real_half]

/-- The kernel's mixture at a halved weight. -/
theorem kmix_eq (a h g ga gl w : EReal) : kmix a h g ga gl * (Ideal.ofBits .f32 0x3F000000#32 * w) = mix a h g ga gl * w := by
  have e : Ideal.ofBits .f32 0x3F000000#32 * kmix a h g ga gl = mix a h g ga gl := by
    unfold mix kmix
    rw [← half_tanh, ← half_tanh, gelu_eq, lit_half, EReal.left_distrib_of_nonneg_of_ne_top (by exact_mod_cast (by norm_num : (0 : ℝ) ≤ 1 / 2)) (EReal.coe_ne_top _)]
    congr 1
    · rw [mul_left_comm, mul_comm]
    · rw [mul_left_comm, mul_comm]
  rw [← e, mul_left_comm, mul_assoc]

end Cert.MergeSpec

end
-- ==== Proof.MergeBody.lean ====
/- The merge's body at its two kinds of points: what it leaves in the two buffers. -/
module

public import proofs.«01_k».proof.Proof.FfnRun
public import proofs.«01_k».proof.Proof.Gen.MergeIdeal.Skeleton
public import proofs.«01_k».proof.Proof.Gen.MergeIdeal.Points
public import proofs.«01_k».proof.Proof.Gen.MergeIdeal.Frame
public import Idealize.ShloMosaic.Lib.Pipeline.ValueKit
public import Idealize.ShloMosaic.Lib.Pipeline.ReadBack

@[expose] public section

set_option maxRecDepth 65536

noncomputable section

namespace Cert.MergeIdeal.Hand

open Idealize.ShloMosaic Idealize.ShloMosaic.TcCoe Idealize.ShloMosaic.Tactic
open Cert.FfnIdeal.Hand (mrow)
open Cert.MergeIdeal Cert.MergeIdeal.Gen

variable {F : FTy → Type} [FloatOps F]

/-- 128 rows of a block of 1024. -/
def rb (x : Vec F S1x1024x1024 .bf16) (n : Fin 8) : FVec F S128x1024 .bf16 :=
  shapeCast S128x1024 (View.ld x (Rect.unit ![0, 128 * n.val, 0] S1x128x1024.size (by
    intro a; fin_cases a <;> simp; omega)) : Vec F S1x128x1024 .bf16) shapeCasts_S1x128x1024_S128x1024

/-- Half of the weights' rows. -/
def wh (w : Vec F S2048x2048 .bf16) (k : Fin 2) : Vec F S1024x2048 .bf16 :=
  View.ld w (Rect.unit ![1024 * k.val, 0] S1024x2048.size (by intro a; fin_cases a <;> simp; omega))

/-- The gelu of the gate. -/
def geluT (x : FVec F S128x1024 .f32) : FVec F S128x1024 .f32 :=
  mulf (mulf (broadcast S128x1024 (Scalar.ofBits .f32 0x3F000000#32)) x)
    (addf (broadcast S128x1024 (Scalar.ofBits .f32 0x3F800000#32))
      (tanh (mulf (broadcast S128x1024 (Scalar.ofBits .f32 0x3F4C422A#32))
        (addf x (mulf (mulf (mulf (broadcast S128x1024 (Scalar.ofBits .f32 0x3D372713#32)) x) x) x)))))

/-- One and a hyperbolic tangent. -/
def opT (x : FVec F S128x1024 .bf16) : FVec F S128x1024 .bf16 :=
  addf (broadcast S128x1024 (Scalar.ofBits .bf16 0x3F80#16)) (tanh x)

/-- The two branches, each times its doubled gate. -/
def mixT (a h g ga gl : FVec F S128x1024 .bf16) : FVec F S128x1024 .bf16 :=
  addf (mulf a (opT ga))
    (mulf (truncf .bf16 (mulf (extf .f32 h bitsLt_bf16_f32) (geluT (extf .f32 g bitsLt_bf16_f32))) bitsLt_bf16_f32) (opT gl))

/-- 128 rows of the mixture times one half of the weights. -/
def partT (w : Vec F S1024x2048 .bf16) (x1 x2 x3 x4 x5 : Vec F S1x1024x1024 .bf16) (n : Fin 8) : FVec F S128x2048 .f32 :=
  matmul dot_S128x1024_S1024x2048_S128x2048_1_0_0_1_n_n none (mixT (rb x1 n) (rb x2 n) (rb x3 n) (rb x4 n) (rb x5 n))
    (shapeCast S1024x2048 w shapeCasts_S1024x2048_S1024x2048) (constant S128x2048 .f32 0x00000000#32)

/-- What one store of a first point writes. -/
def accT (w : Vec F S1024x2048 .bf16) (x1 x2 x3 x4 x5 : Vec F S1x1024x1024 .bf16) (n : Fin 8) : FVec F S128x2048 .f32 :=
  shapeCast S128x2048 (partT w x1 x2 x3 x4 x5 n) shapeCasts_S128x2048_S128x2048

/-- 128 rows of the scratch. -/
def sr (xs : Vec F S1024x2048 .f32) (n : Fin 8) : Vec F S128x2048 .f32 :=
  View.ld xs (Rect.unit ![128 * n.val, 0] S128x2048.size (by intro a; fin_cases a <;> simp; omega))

/-- What one store of a second point writes. -/
def endT (md : Vec F S1x1x2048 .f32) (w : Vec F S1024x2048 .bf16) (x1 x2 x3 x4 x5 : Vec F S1x1024x1024 .bf16) (xs : Vec F S1024x2048 .f32) (n : Fin 8) :
    FVec F S1x128x2048 .bf16 :=
  shapeCast S1x128x2048 (truncf .bf16 (mulf (broadcastTo S128x2048 (shapeCast S1x2048 md shapeCasts_S1x1x2048_S1x2048) broadcasts_S1x2048_S128x2048)
    (addf (sr xs n) (partT w x1 x2 x3 x4 x5 n))) bitsLt_bf16_f32) shapeCasts_S128x2048_S1x128x2048

/-- The stores of a first point. -/
def accs (w : Vec F S1024x2048 .bf16) (x1 x2 x3 x4 x5 : Vec F S1x1024x1024 .bf16) : List (View.Piece (Elt F) S1024x2048 .f32) :=
  [⟨Rect.unit ![896, 0] S128x2048.size inb_S1024x2048_S128x2048_896_0, accT w x1 x2 x3 x4 x5 7⟩,
   ⟨Rect.unit ![768, 0] S128x2048.size inb_S1024x2048_S128x2048_768_0, accT w x1 x2 x3 x4 x5 6⟩,
   ⟨Rect.unit ![640, 0] S128x2048.size inb_S1024x2048_S128x2048_640_0, accT w x1 x2 x3 x4 x5 5⟩,
   ⟨Rect.unit ![512, 0] S128x2048.size inb_S1024x2048_S128x2048_512_0, accT w x1 x2 x3 x4 x5 4⟩,
   ⟨Rect.unit ![384, 0] S128x2048.size inb_S1024x2048_S128x2048_384_0, accT w x1 x2 x3 x4 x5 3⟩,
   ⟨Rect.unit ![256, 0] S128x2048.size inb_S1024x2048_S128x2048_256_0, accT w x1 x2 x3 x4 x5 2⟩,
   ⟨Rect.unit ![128, 0] S128x2048.size inb_S1024x2048_S128x2048_128_0, accT w x1 x2 x3 x4 x5 1⟩,
   ⟨Rect.unit ![0, 0] S128x2048.size inb_S1024x2048_S128x2048_0_0, accT w x1 x2 x3 x4 x5 0⟩]

/-- The stores of a second point. -/
def ends (md : Vec F S1x1x2048 .f32) (w : Vec F S1024x2048 .bf16) (x1 x2 x3 x4 x5 : Vec F S1x1024x1024 .bf16) (xs : Vec F S1024x2048 .f32) :
    List (View.Piece (Elt F) S1x1024x2048 .bf16) :=
  [⟨Rect.unit ![0, 896, 0] S1x128x2048.size inb_S1x1024x2048_S1x128x2048_0_896_0, endT md w x1 x2 x3 x4 x5 xs 7⟩,
   ⟨Rect.unit ![0, 768, 0] S1x128x2048.size inb_S1x1024x2048_S1x128x2048_0_768_0, endT md w x1 x2 x3 x4 x5 xs 6⟩,
   ⟨Rect.unit ![0, 640, 0] S1x128x2048.size inb_S1x1024x2048_S1x128x2048_0_640_0, endT md w x1 x2 x3 x4 x5 xs 5⟩,
   ⟨Rect.unit ![0, 512, 0] S1x128x2048.size inb_S1x1024x2048_S1x128x2048_0_512_0, endT md w x1 x2 x3 x4 x5 xs 4⟩,
   ⟨Rect.unit ![0, 384, 0] S1x128x2048.size inb_S1x1024x2048_S1x128x2048_0_384_0, endT md w x1 x2 x3 x4 x5 xs 3⟩,
   ⟨Rect.unit ![0, 256, 0] S1x128x2048.size inb_S1x1024x2048_S1x128x2048_0_256_0, endT md w x1 x2 x3 x4 x5 xs 2⟩,
   ⟨Rect.unit ![0, 128, 0] S1x128x2048.size inb_S1x1024x2048_S1x128x2048_0_128_0, endT md w x1 x2 x3 x4 x5 xs 1⟩,
   ⟨Rect.unit ![0, 0, 0] S1x128x2048.size inb_S1x1024x2048_S1x128x2048_0_0_0, endT md w x1 x2 x3 x4 x5 xs 0⟩]

section
variable (c : Dev nD) (i : grid0.Coords)
  (arg3 : Memref sig .tc .vmem S1x9x2048 .f32) (harg3 : arg3.IsWhole)
  (arg4 : Memref sig .tc .vmem S1x1024x1024 .bf16) (harg4 : arg4.IsWhole)
  (arg5 : Memref sig .tc .vmem S1x1024x1024 .bf16) (harg5 : arg5.IsWhole)
  (arg6 : Memref sig .tc .vmem S1x1024x1024 .bf16) (harg6 : arg6.IsWhole)
  (arg7 : Memref sig .tc .vmem S1x1024x1024 .bf16) (harg7 : arg7.IsWhole)
  (arg8 : Memref sig .tc .vmem S1x1024x1024 .bf16) (harg8 : arg8.IsWhole)
  (arg9 : Memref sig .tc .vmem S2048x2048 .bf16) (harg9 : arg9.IsWhole)
  (arg10 : Memref sig .tc .vmem S1x1024x2048 .bf16) (harg10 : arg10.IsWhole)
  (arg11 : Memref sig .tc .vmem S1024x2048 .f32) (harg11 : arg11.IsWhole)
  (x0 : Vec F S1x9x2048 .f32) (x1 x2 x3 x4 x5 : Vec F S1x1024x1024 .bf16) (x6 : Vec F S2048x2048 .bf16)

theorem sout_A (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 x4 x5 x6 = View.canon (accs (wh x6 0) x1 x2 x3 x4 x5) := by
  frame_open
  simp (disch := decide) only [View.read_writes_junk_eq_canon, View.readAt_eq_ld, Memref.IsWhole.read_unread, View.ld_unit_lit']
  refine congrArg View.canon ?_
  simp only [accs]
  iterate 8
    refine congr (congrArg List.cons (congrArg (Sigma.mk _) ?_)) ?_
    · open_payloads
      simp only [accT, partT, mixT, opT, geluT, rb, wh]
      rfl
  rfl

theorem out_B (hc0 : ¬cond0_0 i) (hc1 : cond0_1 i) (xs : Vec F S1024x2048 .f32) :
    out0_B_7 c i arg3 harg3 arg4 harg4 arg5 harg5 arg6 harg6 arg7 harg7 arg8 harg8 arg9 harg9 arg10 harg10 arg11 harg11 hc0 hc1 x0 x1 x2 x3 x4 x5 x6 xs = View.canon (ends (mrow x0 5) (wh x6 1) x1 x2 x3 x4 x5 xs) := by
  frame_open
  simp (disch := decide) only [View.read_writes_junk_eq_canon, View.readAt_eq_ld, Memref.IsWhole.read_unread, View.ld_unit_lit']
  refine congrArg View.canon ?_
  simp only [ends]
  iterate 8
    refine congr (congrArg List.cons (congrArg (Sigma.mk _) ?_)) ?_
    · open_payloads
      simp only [endT, partT, mixT, opT, geluT, rb, wh, sr, mrow]
      rfl
  rfl

end

end Cert.MergeIdeal.Hand

end
-- ==== Proof.MergeVal.lean ====
/- The merge's body on the extended reals: each buffer's contents, element by element. -/
module

public import proofs.«01_k».proof.Proof.MergeSpec
public import proofs.«01_k».proof.Proof.FfnVal
public import proofs.«01_k».proof.Proof.MergeBody
public import Idealize.ShloMosaic.Lib.IdealHost
public import Idealize.ShloMosaic.Lib.KernelVsHost

@[expose] public section

set_option maxRecDepth 16384

noncomputable section

namespace Cert.MergeIdeal.Hand

open Idealize.ShloMosaic Idealize.ShloMosaic.TcCoe Idealize.ShloMosaic.Tactic
open Cert.FfnIdeal.Hand (mrow mrow_apply)
open Cert Cert.MergeIdeal Cert.MergeIdeal.Gen

theorem rb_apply (x : Vec Ideal S1x1024x1024 .bf16) (n : Fin 8) (a : Fin 128) (k : Fin 1024) :
    rb x n (ix2 a k) = x (ix3 0 ⟨128 * n.val + a.val, by omega⟩ k) := by
  unfold rb
  refine (shapeCast_apply _ _ _ (ix3 (0 : Fin 1) a k) (by
    rw [Shape.rowMajor_val_two, Shape.rowMajor_val_three]
    change (0 * 128 + a.val) * 1024 + k.val = a.val * 1024 + k.val
    omega)).trans ?_
  pointwise

theorem wh_apply (w : Vec Ideal S2048x2048 .bf16) (h : Fin 2) (k : Fin 1024) (e : Fin 2048) :
    wh w h (ix2 k e) = w (ix2 ⟨1024 * h.val + k.val, by omega⟩ e) := by
  pointwise [wh]

theorem sr_apply (xs : Vec Ideal S1024x2048 .f32) (n : Fin 8) (a : Fin 128) (e : Fin 2048) :
    sr xs n (ix2 a e) = xs (ix2 ⟨128 * n.val + a.val, by omega⟩ e) := by
  pointwise [sr]

theorem mixT_apply (a h g ga gl : FVec Ideal S128x1024 .bf16) (r : Fin 128) (k : Fin 1024) :
    mixT a h g ga gl (ix2 r k) = MergeSpec.kmix (a (ix2 r k)) (h (ix2 r k)) (g (ix2 r k)) (ga (ix2 r k)) (gl (ix2 r k)) := by
  unfold MergeSpec.kmix MergeSpec.kgelu
  pointwise [mixT, opT, geluT]

/-- A row's product with one half of the weights. -/
def partF (w : Vec Ideal S1024x2048 .bf16) (x1 x2 x3 x4 x5 : Vec Ideal S1x1024x1024 .bf16) (r : Fin 1024) (e : Fin 2048) : EReal :=
  ∑ k : Fin 1024, MergeSpec.kmix (x1 (ix3 0 r k)) (x2 (ix3 0 r k)) (x3 (ix3 0 r k)) (x4 (ix3 0 r k)) (x5 (ix3 0 r k)) * w (ix2 k e)

theorem partT_apply (w : Vec Ideal S1024x2048 .bf16) (x1 x2 x3 x4 x5 : Vec Ideal S1x1024x1024 .bf16) (n : Fin 8) (a : Fin 128) (e : Fin 2048) :
    partT w x1 x2 x3 x4 x5 n (ix2 a e) = partF w x1 x2 x3 x4 x5 ⟨128 * n.val + a.val, by omega⟩ e := by
  unfold partF
  simp only [← rb_apply, ← mixT_apply]
  pointwise [partT]

theorem accT_apply (w : Vec Ideal S1024x2048 .bf16) (x1 x2 x3 x4 x5 : Vec Ideal S1x1024x1024 .bf16) (n : Fin 8) (a : Fin 128) (e : Fin 2048) :
    accT w x1 x2 x3 x4 x5 n (ix2 a e) = partF w x1 x2 x3 x4 x5 ⟨128 * n.val + a.val, by omega⟩ e := by
  rw [← partT_apply]
  pointwise [accT]

theorem endT_apply (md : Vec Ideal S1x1x2048 .f32) (w : Vec Ideal S1024x2048 .bf16) (x1 x2 x3 x4 x5 : Vec Ideal S1x1024x1024 .bf16)
    (xs : Vec Ideal S1024x2048 .f32) (n : Fin 8) (a : Fin 128) (e : Fin 2048) :
    endT md w x1 x2 x3 x4 x5 xs n (ix3 0 a e) = md (ix3 0 0 e) * (xs (ix2 ⟨128 * n.val + a.val, by omega⟩ e)
      + partF w x1 x2 x3 x4 x5 ⟨128 * n.val + a.val, by omega⟩ e) := by
  rw [← partT_apply, ← sr_apply xs n a e]
  pointwise [endT]

/-- What a first point leaves in the scratch. -/
def accF (w : Vec Ideal S1024x2048 .bf16) (x1 x2 x3 x4 x5 : Vec Ideal S1x1024x1024 .bf16) (y : S1024x2048.Idx) : EReal :=
  partF w x1 x2 x3 x4 x5 (y 0) (y 1)

/-- What a second point writes. -/
def endF (md : Vec Ideal S1x1x2048 .f32) (w : Vec Ideal S1024x2048 .bf16) (x1 x2 x3 x4 x5 : Vec Ideal S1x1024x1024 .bf16)
    (xs : Vec Ideal S1024x2048 .f32) (y : S1x1024x2048.Idx) : EReal :=
  md (ix3 0 0 (y 2)) * (xs (ix2 (y 1) (y 2)) + partF w x1 x2 x3 x4 x5 (y 1) (y 2))

theorem piece_acc (w : Vec Ideal S1024x2048 .bf16) (x1 x2 x3 x4 x5 : Vec Ideal S1x1024x1024 .bf16) (n : Fin 8)
    (hi : ∀ a, (![128 * n.val, 0] : Fin 2 → ℕ) a + S128x2048.size a ≤ S1024x2048.size a) (x : S128x2048.Idx) :
    accT w x1 x2 x3 x4 x5 n x = accF w x1 x2 x3 x4 x5 ((Rect.unit (s := S1024x2048) ![128 * n.val, 0] S128x2048.size hi).emb x) := by
  obtain ⟨a, e, rfl⟩ : ∃ (a : Fin 128) (e : Fin 2048), x = ix2 a e := ⟨x 0, x 1, funext fun b => by fin_cases b <;> rfl⟩
  have he : (Rect.unit (s := S1024x2048) ![128 * n.val, 0] S128x2048.size hi).emb (ix2 a e) = ix2 ⟨128 * n.val + a.val, by omega⟩ e :=
    funext fun b => Fin.ext (by fin_cases b <;> simp [Rect.emb, Rect.unit, ix2])
  rw [he, accT_apply]
  rfl

theorem piece_end (md : Vec Ideal S1x1x2048 .f32) (w : Vec Ideal S1024x2048 .bf16) (x1 x2 x3 x4 x5 : Vec Ideal S1x1024x1024 .bf16)
    (xs : Vec Ideal S1024x2048 .f32) (n : Fin 8)
    (hi : ∀ a, (![0, 128 * n.val, 0] : Fin 3 → ℕ) a + S1x128x2048.size a ≤ S1x1024x2048.size a) (x : S1x128x2048.Idx) :
    endT md w x1 x2 x3 x4 x5 xs n x = endF md w x1 x2 x3 x4 x5 xs ((Rect.unit (s := S1x1024x2048) ![0, 128 * n.val, 0] S1x128x2048.size hi).emb x) := by
  obtain ⟨a, e, rfl⟩ : ∃ (a : Fin 128) (e : Fin 2048), x = ix3 0 a e :=
    ⟨x 1, x 2, funext fun b => by
      fin_cases b <;> first | rfl | exact Fin.ext (by have := (x 0).isLt; change (x 0).val < 1 at this; change (x 0).val = 0; omega)⟩
  have he : (Rect.unit (s := S1x1024x2048) ![0, 128 * n.val, 0] S1x128x2048.size hi).emb (ix3 0 a e) = ix3 0 ⟨128 * n.val + a.val, by omega⟩ e :=
    funext fun b => Fin.ext (by fin_cases b <;> simp [Rect.emb, Rect.unit, ix3])
  rw [he, endT_apply]
  rfl

theorem accs_apply (w : Vec Ideal S1024x2048 .bf16) (x1 x2 x3 x4 x5 : Vec Ideal S1x1024x1024 .bf16) (y : S1024x2048.Idx) :
    View.canon (accs w x1 x2 x3 x4 x5) y = accF w x1 x2 x3 x4 x5 y := by
  have h : View.PiecesOf (accF w x1 x2 x3 x4 x5) (accs w x1 x2 x3 x4 x5) :=
    ⟨piece_acc w x1 x2 x3 x4 x5 7 inb_S1024x2048_S128x2048_896_0,
      piece_acc w x1 x2 x3 x4 x5 6 inb_S1024x2048_S128x2048_768_0,
      piece_acc w x1 x2 x3 x4 x5 5 inb_S1024x2048_S128x2048_640_0,
      piece_acc w x1 x2 x3 x4 x5 4 inb_S1024x2048_S128x2048_512_0,
      piece_acc w x1 x2 x3 x4 x5 3 inb_S1024x2048_S128x2048_384_0,
      piece_acc w x1 x2 x3 x4 x5 2 inb_S1024x2048_S128x2048_256_0,
      piece_acc w x1 x2 x3 x4 x5 1 inb_S1024x2048_S128x2048_128_0,
      piece_acc w x1 x2 x3 x4 x5 0 inb_S1024x2048_S128x2048_0_0, trivial⟩
  exact View.canon_apply_of_pieces _ _ h.mem y (View.cover_of_tiledL (accs w x1 x2 x3 x4 x5) S128x2048.size (by sl_kernel_rfl) y)

theorem ends_apply (md : Vec Ideal S1x1x2048 .f32) (w : Vec Ideal S1024x2048 .bf16) (x1 x2 x3 x4 x5 : Vec Ideal S1x1024x1024 .bf16)
    (xs : Vec Ideal S1024x2048 .f32) (y : S1x1024x2048.Idx) : View.canon (ends md w x1 x2 x3 x4 x5 xs) y = endF md w x1 x2 x3 x4 x5 xs y := by
  have h : View.PiecesOf (endF md w x1 x2 x3 x4 x5 xs) (ends md w x1 x2 x3 x4 x5 xs) :=
    ⟨piece_end md w x1 x2 x3 x4 x5 xs 7 inb_S1x1024x2048_S1x128x2048_0_896_0,
      piece_end md w x1 x2 x3 x4 x5 xs 6 inb_S1x1024x2048_S1x128x2048_0_768_0,
      piece_end md w x1 x2 x3 x4 x5 xs 5 inb_S1x1024x2048_S1x128x2048_0_640_0,
      piece_end md w x1 x2 x3 x4 x5 xs 4 inb_S1x1024x2048_S1x128x2048_0_512_0,
      piece_end md w x1 x2 x3 x4 x5 xs 3 inb_S1x1024x2048_S1x128x2048_0_384_0,
      piece_end md w x1 x2 x3 x4 x5 xs 2 inb_S1x1024x2048_S1x128x2048_0_256_0,
      piece_end md w x1 x2 x3 x4 x5 xs 1 inb_S1x1024x2048_S1x128x2048_0_128_0,
      piece_end md w x1 x2 x3 x4 x5 xs 0 inb_S1x1024x2048_S1x128x2048_0_0_0, trivial⟩
  exact View.canon_apply_of_pieces _ _ h.mem y (View.cover_of_tiledL (ends md w x1 x2 x3 x4 x5 xs) S1x128x2048.size (by sl_kernel_rfl) y)

end Cert.MergeIdeal.Hand

end
-- ==== Proof.MergeArr.lean ====
/- The merge's array after the run, element by element. -/
module

public import proofs.«01_k».proof.Proof.MergeVal
public import proofs.«01_k».proof.Proof.Gen.MergeIdeal.Frame
public import Idealize.ShloMosaic.Lib.Pipeline.ValueKit

@[expose] public section

set_option maxRecDepth 16384

noncomputable section

namespace Cert.MergeIdeal.Hand

open Idealize.ShloMosaic Idealize.ShloMosaic.TcCoe Idealize.ShloMosaic.Tactic
open Cert.FfnIdeal.Hand (mrow mrow_apply)
open Cert Cert.MergeIdeal Cert.MergeIdeal.Gen

/-- The blocks that grid point `t` uses. -/
theorem idx : ∀ t : Fin cfg0.N, win0_0.index t = ![t.val / 8, 0, 0]
    ∧ win0_1.index t = ![t.val / 8, t.val / 2 % 4, t.val % 2] ∧ win0_2.index t = ![t.val / 8, t.val / 2 % 4, t.val % 2]
    ∧ win0_3.index t = ![t.val / 8, t.val / 2 % 4, 5 + t.val % 2] ∧ win0_4.index t = ![t.val / 8, t.val / 2 % 4, 7 + t.val % 2]
    ∧ win0_5.index t = ![t.val / 8, t.val / 2 % 4, 9 + t.val % 2] ∧ win0_6.index t = ![0, 0]
    ∧ win0_7.index t = ![t.val / 8, t.val / 2 % 4, 0] := by
  decide +kernel

variable (m : (ℓ : Loc nD τ sig) → Buf (Elt Ideal) ℓ) (c : Dev nD)

/-- The halved weights. -/
def hw (w : FVec Ideal S2048x2048 .f32) : FVec Ideal S2048x2048 .bf16 :=
  truncf .bf16 (mulf (broadcastInDim S2048x2048 ![] bcast_S_S2048x2048 (constant S_ .f32 0x3F000000#32)) w) bitsLt_bf16_f32

theorem hw_apply (w : FVec Ideal S2048x2048 .f32) (k e : Fin 2048) : hw w (ix2 k e) = Ideal.ofBits .f32 0x3F000000#32 * w (ix2 k e) := by
  pointwise [hw]

theorem V_main_v2 : V m c main_v2 = hw (m ((c : Thread nD τ).loc main_arg4)) := by
  unfold_abbrev_sides
  after_results
  rfl

/-! ## The blocks' places -/

section
variable (t : Fin cfg0.N)

theorem batch_lt : t.val / 8 < 4 := by
  have h : t.val < 32 := Nat.lt_of_lt_of_eq t.isLt N_0
  omega

theorem mod_apply (k : Fin 9) (e : Fin 2048) : iblk m c 0 t (ix3 0 k e)
    = m ((c : Thread nD τ).loc main_arg0) (ix3 ⟨t.val / 8, Nat.lt_of_lt_of_le (batch_lt t) (by norm_num)⟩ k e) := by
  obtain ⟨h0, h1, h2, h3, h4, h5, h6, h7⟩ := idx t
  rw [← V_main_arg0 m c]
  blk_ext [iblk, h0]

theorem a_apply (r k : Fin 1024) : iblk m c 1 t (ix3 0 r k)
    = m ((c : Thread nD τ).loc main_arg1) (ix3 ⟨t.val / 8, batch_lt t⟩ ⟨1024 * (t.val / 2 % 4) + r.val, by omega⟩ ⟨1024 * (t.val % 2) + k.val, by omega⟩) := by
  obtain ⟨h0, h1, h2, h3, h4, h5, h6, h7⟩ := idx t
  rw [← V_main_arg1 m c]
  blk_ext [iblk, h1]

theorem h_apply (r k : Fin 1024) : iblk m c 2 t (ix3 0 r k)
    = m ((c : Thread nD τ).loc main_arg2) (ix3 ⟨t.val / 8, batch_lt t⟩ ⟨1024 * (t.val / 2 % 4) + r.val, by omega⟩ ⟨1024 * (t.val % 2) + k.val, by omega⟩) := by
  obtain ⟨h0, h1, h2, h3, h4, h5, h6, h7⟩ := idx t
  rw [← V_main_arg2 m c]
  blk_ext [iblk, h2]

theorem g_apply (r k : Fin 1024) : iblk m c 3 t (ix3 0 r k)
    = m ((c : Thread nD τ).loc main_arg3) (ix3 ⟨t.val / 8, batch_lt t⟩ ⟨1024 * (t.val / 2 % 4) + r.val, by omega⟩ ⟨5120 + (1024 * (t.val % 2) + k.val), by omega⟩) := by
  obtain ⟨h0, h1, h2, h3, h4, h5, h6, h7⟩ := idx t
  rw [← V_main_arg3 m c, show (⟨5120 + (1024 * (t.val % 2) + k.val), by omega⟩ : Fin 11264) = ⟨1024 * (5 + t.val % 2) + k.val, by omega⟩ from
    Fin.ext (by dsimp only; omega)]
  blk_ext [iblk, h3]

theorem ga_apply (r k : Fin 1024) : iblk m c 4 t (ix3 0 r k)
    = m ((c : Thread nD τ).loc main_arg3) (ix3 ⟨t.val / 8, batch_lt t⟩ ⟨1024 * (t.val / 2 % 4) + r.val, by omega⟩ ⟨7168 + (1024 * (t.val % 2) + k.val), by omega⟩) := by
  obtain ⟨h0, h1, h2, h3, h4, h5, h6, h7⟩ := idx t
  rw [← V_main_arg3 m c, show (⟨7168 + (1024 * (t.val % 2) + k.val), by omega⟩ : Fin 11264) = ⟨1024 * (7 + t.val % 2) + k.val, by omega⟩ from
    Fin.ext (by dsimp only; omega)]
  blk_ext [iblk, h4]

theorem gl_apply (r k : Fin 1024) : iblk m c 5 t (ix3 0 r k)
    = m ((c : Thread nD τ).loc main_arg3) (ix3 ⟨t.val / 8, batch_lt t⟩ ⟨1024 * (t.val / 2 % 4) + r.val, by omega⟩ ⟨9216 + (1024 * (t.val % 2) + k.val), by omega⟩) := by
  obtain ⟨h0, h1, h2, h3, h4, h5, h6, h7⟩ := idx t
  rw [← V_main_arg3 m c, show (⟨9216 + (1024 * (t.val % 2) + k.val), by omega⟩ : Fin 11264) = ⟨1024 * (9 + t.val % 2) + k.val, by omega⟩ from
    Fin.ext (by dsimp only; omega)]
  blk_ext [iblk, h5]

theorem w_apply (k e : Fin 2048) : iblk m c 6 t (ix2 k e)
    = Ideal.ofBits .f32 0x3F000000#32 * m ((c : Thread nD τ).loc main_arg4) (ix2 k e) := by
  obtain ⟨h0, h1, h2, h3, h4, h5, h6, h7⟩ := idx t
  have h : iblk m c 6 t (ix2 k e) = V m c main_v2 (ix2 k e) := by blk_ext [iblk, h6]
  rw [h, V_main_v2, hw_apply]

end

/-! ## The result -/

/-- One term of a result's sum. -/
def term (a h : Vec Ideal S4x4096x2048 .bf16) (p : Vec Ideal S4x4096x11264 .bf16) (w : Vec Ideal S2048x2048 .f32)
    (b : Fin 4) (r : Fin 4096) (e k : Fin 2048) : EReal :=
  MergeSpec.mix (a (ix3 b r k)) (h (ix3 b r k)) (p (ix3 b r ⟨5120 + k.val, by omega⟩)) (p (ix3 b r ⟨7168 + k.val, by omega⟩))
    (p (ix3 b r ⟨9216 + k.val, by omega⟩)) * w (ix2 k e)

/-- The result, element by element. -/
def outArr (mod : Vec Ideal S8x9x2048 .f32) (a h : Vec Ideal S4x4096x2048 .bf16) (p : Vec Ideal S4x4096x11264 .bf16) (w : Vec Ideal S2048x2048 .f32)
    (i : S4x4096x2048.Idx) : EReal :=
  MergeSpec.out (mod (ix3 ⟨(i 0).val, Nat.lt_of_lt_of_le (i 0).isLt (by decide)⟩ 5 (i 2))) (fun k => a (ix3 (i 0) (i 1) k)) (fun k => h (ix3 (i 0) (i 1) k))
    (fun k => p (ix3 (i 0) (i 1) ⟨5120 + k.val, by omega⟩)) (fun k => p (ix3 (i 0) (i 1) ⟨7168 + k.val, by omega⟩))
    (fun k => p (ix3 (i 0) (i 1) ⟨9216 + k.val, by omega⟩)) fun k => w (ix2 k (i 2))

/-- A point's half of the sum. -/
theorem part_at (t : Fin cfg0.N) (q : Fin 2) (hq : t.val % 2 = q.val) (r : Fin 1024) (e : Fin 2048) :
    partF (wh (iblk m c 6 t) q) (iblk m c 1 t) (iblk m c 2 t) (iblk m c 3 t) (iblk m c 4 t) (iblk m c 5 t) r e
      = ∑ k : Fin 1024, term (m ((c : Thread nD τ).loc main_arg1)) (m ((c : Thread nD τ).loc main_arg2)) (m ((c : Thread nD τ).loc main_arg3))
          (m ((c : Thread nD τ).loc main_arg4)) ⟨t.val / 8, batch_lt t⟩ ⟨1024 * (t.val / 2 % 4) + r.val, by omega⟩ e ⟨1024 * q.val + k.val, by omega⟩ := by
  unfold partF term
  refine Finset.sum_congr rfl fun k _ => ?_
  rw [wh_apply, w_apply, MergeSpec.kmix_eq, a_apply, h_apply, g_apply, ga_apply, gl_apply]
  simp only [hq]

/-- The point before. -/
def prev (t : Fin cfg0.N) : Fin cfg0.N := ⟨t.val - 1, Nat.lt_of_le_of_lt (Nat.sub_le _ _) t.isLt⟩

theorem st_first (t : Fin cfg0.N) (h0 : t.val % 2 = 0) (h1 : ¬t.val % 2 = 1) : (outsAt0 m c t.val t.isLt).2
    = View.canon (accs (wh (iblk m c 6 t) 0) (iblk m c 1 t) (iblk m c 2 t) (iblk m c 3 t) (iblk m c 4 t) (iblk m c 5 t)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) ((hcond0_0 t).mpr h0) (fun h => h1 ((hcond0_1 t).mp h))

theorem out_b (t : Fin cfg0.N) (h0 : ¬t.val % 2 = 0) (h1 : t.val % 2 = 1) : (outsAt0 m c t.val t.isLt).1
    = View.canon (ends (mrow (iblk m c 0 t) 5) (wh (iblk m c 6 t) 1) (iblk m c 1 t) (iblk m c 2 t) (iblk m c 3 t) (iblk m c 4 t) (iblk m c 5 t)
        (outsAt0 m c (t.val - 1) (Nat.lt_of_le_of_lt (Nat.sub_le _ _) t.isLt)).2) := by
  rw [outsAt0_B m c t h0 h1]
  dsimp only
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (fun h => h0 ((hcond0_0 t).mp h)) ((hcond0_1 t).mpr h1) (outsAt0 m c (t.val - 1) (Nat.lt_of_le_of_lt (Nat.sub_le _ _) t.isLt)).2

/-- What the second of a tile's points finds in the scratch. -/
theorem scr_apply (t : Fin cfg0.N) (h1 : t.val % 2 = 1) (r : Fin 1024) (e : Fin 2048) :
    (outsAt0 m c (t.val - 1) (Nat.lt_of_le_of_lt (Nat.sub_le _ _) t.isLt)).2 (ix2 r e)
      = ∑ k : Fin 1024, term (m ((c : Thread nD τ).loc main_arg1)) (m ((c : Thread nD τ).loc main_arg2)) (m ((c : Thread nD τ).loc main_arg3))
          (m ((c : Thread nD τ).loc main_arg4)) ⟨t.val / 8, batch_lt t⟩ ⟨1024 * (t.val / 2 % 4) + r.val, by omega⟩ e ⟨1024 * (0 : Fin 2).val + k.val, by omega⟩ := by
  have hp : (prev t).val = t.val - 1 := rfl
  have e8 : (prev t).val / 8 = t.val / 8 := by rw [hp]; omega
  have e2 : (prev t).val / 2 = t.val / 2 := by rw [hp]; omega
  refine (congrFun (st_first m c (prev t) (by rw [hp]; omega) (by rw [hp]; omega)) (ix2 r e)).trans ?_
  refine (accs_apply _ _ _ _ _ _ _).trans ?_
  refine (part_at m c (prev t) 0 (by rw [hp]; change (t.val - 1) % 2 = 0; omega) r e).trans ?_
  simp only [e8, e2]

/-- The array after the run. -/
theorem arr_eq (mod : Vec Ideal S8x9x2048 .f32) (a h : Vec Ideal S4x4096x2048 .bf16) (p : Vec Ideal S4x4096x11264 .bf16) (w : Vec Ideal S2048x2048 .f32)
    (hmod : m ((c : Thread nD τ).loc main_arg0) = mod) (ha : m ((c : Thread nD τ).loc main_arg1) = a)
    (hh : m ((c : Thread nD τ).loc main_arg2) = h) (hp : m ((c : Thread nD τ).loc main_arg3) = p) (hw : m ((c : Thread nD τ).loc main_arg4) = w) :
    (dats m 0 c).arrAt 7 cfg0.N = outArr mod a h p w := by
  subst hmod ha hh hp hw
  refine (dats m 0 c).arrAt_eq_of_covers 7 _ (by decide +kernel) fun t hf z => ?_
  have h1 : t.val % 2 = 1 := (flush0_7 t).mp hf
  obtain ⟨r, e, rfl⟩ : ∃ (r : Fin 1024) (e : Fin 2048), z = ix3 0 r e :=
    ⟨z 1, z 2, funext fun a => by
      fin_cases a <;> first | rfl | exact Fin.ext (by have := (z 0).isLt; change (z 0).val < 1 at this; change (z 0).val = 0; omega)⟩
  blk_simp
  rw [after0_7]
  have he : (win0_7.blk t).view.emb (ix3 0 r e)
      = ix3 ⟨t.val / 8, batch_lt t⟩ ⟨1024 * (t.val / 2 % 4) + r.val, by omega⟩ e := by
    obtain ⟨h0, h1, h2, h3, h4, h5, h6, h7⟩ := idx t
    blk_ext [h7]
  rw [he, out_b m c t (by omega) h1, ends_apply]
  unfold endF
  dsimp only [ix3]
  refine (congr (congrArg HMul.hMul ((mrow_apply (iblk m c 0 t) 5 e).trans (mod_apply m c t 5 e)))
    (congr (congrArg HAdd.hAdd (scr_apply m c t h1 r e)) (part_at m c t 1 h1 r e))).trans ?_
  unfold outArr MergeSpec.out
  refine congrArg (HMul.hMul _) ?_
  refine Eq.trans ?_ (Fin.sum_univ_add (a := 1024) (b := 1024) (term (m ((c : Thread nD τ).loc main_arg1)) (m ((c : Thread nD τ).loc main_arg2))
    (m ((c : Thread nD τ).loc main_arg3)) (m ((c : Thread nD τ).loc main_arg4)) ⟨t.val / 8, batch_lt t⟩ ⟨1024 * (t.val / 2 % 4) + r.val, by omega⟩ e)).symm
  refine congr (congrArg HAdd.hAdd (Finset.sum_congr rfl fun k _ => ?_)) (Finset.sum_congr rfl fun k _ => ?_)
  · exact congrArg _ (Fin.ext (Nat.zero_add k.val))
  · exact congrArg _ (Fin.ext rfl)

end Cert.MergeIdeal.Hand

end
-- ==== Proof.MergeRef.lean ====
/- The merge's reference, element by element. -/
module

public import proofs.«01_k».proof.Proof.MergeSpec
public import proofs.«01_k».proof.Proof.FfnRef
public import proofs.«01_k».proof.Proof.Gen.MergeReferenceIdeal.Run
public import Idealize.ShloMosaic.Lib.IdealHost
public import Idealize.ShloMosaic.Lib.Pipeline.ValueKit

@[expose] public section

set_option maxRecDepth 16384

noncomputable section

namespace Cert.MergeReferenceIdeal.Hand

open Idealize.ShloMosaic Idealize.ShloMosaic.TcCoe Idealize.ShloMosaic.Tactic
open Cert Cert.MergeReferenceIdeal Cert.MergeReferenceIdeal.Gen

/-- One number everywhere. -/
def lit (w : BitVec 32) : FVec Ideal S4x4096x2048 .f32 := broadcastInDim S4x4096x2048 ![] bcast_S_S4x4096x2048 (constant S_ .f32 w)

/-- The modulation's gate along the rows. -/
def mdR (mod : FVec Ideal S8x9x2048 .f32) : FVec Ideal S4x4096x2048 .f32 :=
  broadcastInDim S4x4096x2048 ![0, 1, 2] bcast_S4x1x2048_S4x4096x2048_0_1_2 (broadcastInDim S4x1x2048 ![0, 2] bcast_S4x2048_S4x1x2048_0_2
    (shapeCast S4x2048 (extractStridedSlice S4x1x2048 ![0, 5, 0] mod slices_S8x9x2048_S4x1x2048_0_5_0) shapeCasts_S4x1x2048_S4x2048))

def lgR (p : FVec Ideal S4x4096x11264 .bf16) : FVec Ideal S4x4096x2048 .f32 :=
  extractStridedSlice S4x4096x2048 ![0, 0, 5120] (extf .f32 p bitsLt_bf16_f32) slices_S4x4096x11264_S4x4096x2048_0_0_5120

def gaR (p : FVec Ideal S4x4096x11264 .bf16) : FVec Ideal S4x4096x2048 .f32 :=
  extractStridedSlice S4x4096x2048 ![0, 0, 7168] (extf .f32 p bitsLt_bf16_f32) slices_S4x4096x11264_S4x4096x2048_0_0_7168

def glR (p : FVec Ideal S4x4096x11264 .bf16) : FVec Ideal S4x4096x2048 .f32 :=
  extractStridedSlice S4x4096x2048 ![0, 0, 9216] (extf .f32 p bitsLt_bf16_f32) slices_S4x4096x11264_S4x4096x2048_0_0_9216

/-- The gate's gelu. -/
def geluR (x : FVec Ideal S4x4096x2048 .f32) : FVec Ideal S4x4096x2048 .f32 :=
  mulf x (mulf (lit 0x3F000000#32) (addf (lit 0x3F800000#32) (Host.tanh (mulf (lit 0x3F4C422A#32) (addf x (mulf (lit 0x3D372713#32) (mulf (mulf x x) x)))))))

/-- The logistic function of a doubled gate. -/
def gateR (x : FVec Ideal S4x4096x2048 .f32) : FVec Ideal S4x4096x2048 .f32 :=
  Host.divf (lit 0x3F800000#32) (addf (lit 0x3F800000#32) (Host.exp (Host.negf (mulf (lit 0x40000000#32) x))))

/-- The gated branches. -/
def mixR (a h : FVec Ideal S4x4096x2048 .bf16) (p : FVec Ideal S4x4096x11264 .bf16) : FVec Ideal S4x4096x2048 .f32 :=
  addf (mulf (gateR (gaR p)) (extf .f32 a bitsLt_bf16_f32)) (mulf (gateR (glR p)) (mulf (extf .f32 h bitsLt_bf16_f32) (geluR (lgR p))))

/-- The result of the arguments. -/
def resR (mod : FVec Ideal S8x9x2048 .f32) (a h : FVec Ideal S4x4096x2048 .bf16) (p : FVec Ideal S4x4096x11264 .bf16) (w : FVec Ideal S2048x2048 .f32) :
    FVec Ideal S4x4096x2048 .bf16 :=
  truncf .bf16 (mulf (mdR mod) (Host.dotGeneral dot_S4x4096x2048_S2048x2048_S4x4096x2048_2_0_01_1_n_n none (mixR a h p) w)) bitsLt_bf16_f32

section
variable (b : Fin 4) (r : Fin 4096) (k : Fin 2048)

theorem mdR_apply (mod : FVec Ideal S8x9x2048 .f32) : mdR mod (ix3 b r k) = mod (ix3 ⟨b.val, by omega⟩ 5 k) := by
  pointwise [mdR]

theorem lgR_apply (p : FVec Ideal S4x4096x11264 .bf16) : lgR p (ix3 b r k) = p (ix3 b r ⟨5120 + k.val, by omega⟩) := by
  pointwise [lgR]

theorem gaR_apply (p : FVec Ideal S4x4096x11264 .bf16) : gaR p (ix3 b r k) = p (ix3 b r ⟨7168 + k.val, by omega⟩) := by
  pointwise [gaR]

theorem glR_apply (p : FVec Ideal S4x4096x11264 .bf16) : glR p (ix3 b r k) = p (ix3 b r ⟨9216 + k.val, by omega⟩) := by
  pointwise [glR]

theorem geluR_apply (x : FVec Ideal S4x4096x2048 .f32) : geluR x (ix3 b r k) = MergeSpec.gelu (x (ix3 b r k)) := by
  unfold MergeSpec.gelu
  pointwise [geluR, lit]

theorem gateR_apply (x : FVec Ideal S4x4096x2048 .f32) : gateR x (ix3 b r k) = MergeSpec.gate (x (ix3 b r k)) := by
  unfold MergeSpec.gate
  pointwise [gateR, lit]

theorem mixR_apply (a h : FVec Ideal S4x4096x2048 .bf16) (p : FVec Ideal S4x4096x11264 .bf16) : mixR a h p (ix3 b r k)
    = MergeSpec.mix (a (ix3 b r k)) (h (ix3 b r k)) (p (ix3 b r ⟨5120 + k.val, by omega⟩)) (p (ix3 b r ⟨7168 + k.val, by omega⟩))
        (p (ix3 b r ⟨9216 + k.val, by omega⟩)) := by
  unfold MergeSpec.mix
  rw [← lgR_apply b r k p, ← gaR_apply b r k p, ← glR_apply b r k p, ← gateR_apply, ← gateR_apply, ← geluR_apply]
  pointwise [mixR]

theorem resR_apply (mod : FVec Ideal S8x9x2048 .f32) (a h : FVec Ideal S4x4096x2048 .bf16) (p : FVec Ideal S4x4096x11264 .bf16)
    (w : FVec Ideal S2048x2048 .f32) : resR mod a h p w (ix3 b r k)
    = MergeSpec.out (mod (ix3 ⟨b.val, by omega⟩ 5 k)) (fun k => a (ix3 b r k)) (fun k => h (ix3 b r k)) (fun k => p (ix3 b r ⟨5120 + k.val, by omega⟩))
        (fun k => p (ix3 b r ⟨7168 + k.val, by omega⟩)) (fun k => p (ix3 b r ⟨9216 + k.val, by omega⟩)) fun j => w (ix2 j k) := by
  unfold MergeSpec.out
  rw [← mdR_apply b r k mod]
  simp only [← mixR_apply]
  pointwise [resR]

end

end Cert.MergeReferenceIdeal.Hand

end
-- ==== Proof.MergeAll.lean ====
/- The merge's claims: its three frames, and the kernel and the reference ending with equal results. -/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Value
public import proofs.«01_k».proof.Proof.Gen.MergeReferenceIdeal
public import proofs.«01_k».proof.Proof.MergeArr
public import proofs.«01_k».proof.Proof.MergeRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.Tactic Idealize.SL.Sem

theorem merge_ref_frame : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem merge : Cert.algebraic_MergeIdeal_MergeReferenceIdeal
    (hMergeIdeal := Cert.MergeIdeal.Gen.facts) (hMergeReferenceIdeal := Cert.MergeReferenceIdeal.Gen.facts) := by
  intro m g m' g' _ hm
  refine ⟨fun c => (Cert.MergeIdeal.Gen.dats m 0 c).arrAt 7 Cert.MergeIdeal.cfg0.N, Cert.MergeIdeal.Value.run_blocks m g, ?_⟩
  refine (θ_run Cert.MergeReferenceIdeal.defs _ _).mono (fun r h c => ⟨(h c).1.trans ?_, (h c).2⟩) (Cert.MergeReferenceIdeal.Value.run (F := Ideal) m' g')
  obtain ⟨h0, h1, h2, h3, h4⟩ := hm c
  change Cert.MergeReferenceIdeal.Hand.resR _ _ _ _ _ = _
  refine Eq.trans ?_ (Cert.MergeIdeal.Hand.arr_eq m c _ _ _ _ _ h0.symm h1.symm h2.symm h3.symm h4.symm).symm
  funext i
  obtain ⟨b, r, e, rfl⟩ : ∃ (b : Fin 4) (r : Fin 4096) (e : Fin 2048), i = ix3 b r e := ⟨i 0, i 1, i 2, funext fun a => by fin_cases a <;> rfl⟩
  exact Cert.MergeReferenceIdeal.Hand.resR_apply b r e _ _ _ _ _

end Cert.Proof

end
-- ==== Proof.lean ====
/- The claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attn
public import proofs.«01_k».proof.Proof.FfnAll
public import proofs.«01_k».proof.Proof.FfnFirstAll
public import proofs.«01_k».proof.Proof.FfnCtxAll
public import proofs.«01_k».proof.Proof.ProjAll
public import proofs.«01_k».proof.Proof.MergeAll
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments, and uses no semaphore. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The frames of the programs, and the values of the attention, of the three feed-forwards, of the projection and of the merge; the idealizations rewrite nothing. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.FfnFirst.Gen.facts, Cert.FfnFirstIdeal.Gen.facts, Cert.FfnFirstReferenceIdeal.Gen.facts,
    Cert.FfnCtx.Gen.facts, Cert.FfnCtxIdeal.Gen.facts, Cert.FfnCtxReferenceIdeal.Gen.facts,
    Cert.Proj.Gen.facts, Cert.ProjIdeal.Gen.facts, Cert.ProjReferenceIdeal.Gen.facts,
    Cert.Merge.Gen.facts, Cert.MergeIdeal.Gen.facts, Cert.MergeReferenceIdeal.Gen.facts, Cert.Pre_finite_scores.Att.facts,
    fun m ρ _ => Cert.Kernel.Gen.frame m ρ, fun m ρ _ => Cert.KernelIdeal.Gen.frame m ρ, fun m ρ _ => Cert.KernelIdeal.Gen.frame m ρ,
    fun m ρ _ => ref_frame m ρ, fun m ρ _ => ref_frame m ρ,
    ffn_frame, ffn_frame_ideal, ffn_ref_frame, ffnFirst_frame, ffnFirst_frame_ideal, ffnFirst_ref_frame,
    ffnCtx_frame, ffnCtx_frame_ideal, ffnCtx_ref_frame,
    fun m ρ _ => Cert.Proj.Gen.frame m ρ, fun m ρ _ => Cert.ProjIdeal.Gen.frame m ρ, proj_ref_frame,
    fun m ρ _ => Cert.Merge.Gen.frame m ρ, fun m ρ _ => Cert.MergeIdeal.Gen.frame m ρ, merge_ref_frame,
    trivial, attn _, trivial, ffn, trivial, ffnFirst, trivial, ffnCtx, trivial, proj, trivial, merge⟩

end Cert.Proof

end
